-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradXFirst (m : (ℓ : Loc Cert.GradXFirst.nD Cert.GradXFirst.τ Cert.GradXFirst.sig) → Buf (Elt Bits) ℓ) : Prop :=
  True

def Pre_GradXFirstIdeal (m : (ℓ : Loc Cert.GradXFirstIdeal.nD Cert.GradXFirstIdeal.τ Cert.GradXFirstIdeal.sig) → Buf (Elt Ideal) ℓ) : Prop :=
  True

def Pre_GradXFirstRefIdeal (m : (ℓ : Loc Cert.GradXFirstRefIdeal.nD Cert.GradXFirstRefIdeal.τ Cert.GradXFirstRefIdeal.sig) → Buf (Elt Ideal) ℓ) : Prop :=
  True

def Pre_GradXSecond (m : (ℓ : Loc Cert.GradXSecond.nD Cert.GradXSecond.τ Cert.GradXSecond.sig) → Buf (Elt Bits) ℓ) : Prop :=
  True

def Pre_GradXSecondIdeal (m : (ℓ : Loc Cert.GradXSecondIdeal.nD Cert.GradXSecondIdeal.τ Cert.GradXSecondIdeal.sig) → Buf (Elt Ideal) ℓ) : Prop :=
  True

def Pre_GradXSecondRefIdeal (m : (ℓ : Loc Cert.GradXSecondRefIdeal.nD Cert.GradXSecondRefIdeal.τ Cert.GradXSecondRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_GradWFfnIn (m : (ℓ : Loc Cert.GradWFfnIn.nD Cert.GradWFfnIn.τ Cert.GradWFfnIn.sig) → Buf (Elt Bits) ℓ) : Prop :=
  True

def Pre_GradWFfnInIdeal (m : (ℓ : Loc Cert.GradWFfnInIdeal.nD Cert.GradWFfnInIdeal.τ Cert.GradWFfnInIdeal.sig) → Buf (Elt Ideal) ℓ) : Prop :=
  True

def Pre_GradWFfnInRefIdeal (m : (ℓ : Loc Cert.GradWFfnInRefIdeal.nD Cert.GradWFfnInRefIdeal.τ Cert.GradWFfnInRefIdeal.sig) → Buf (Elt Ideal) ℓ) : Prop :=
  True

def Pre_GradWFfnOut (m : (ℓ : Loc Cert.GradWFfnOut.nD Cert.GradWFfnOut.τ Cert.GradWFfnOut.sig) → Buf (Elt Bits) ℓ) : Prop :=
  True

def Pre_GradWFfnOutIdeal (m : (ℓ : Loc Cert.GradWFfnOutIdeal.nD Cert.GradWFfnOutIdeal.τ Cert.GradWFfnOutIdeal.sig) → Buf (Elt Ideal) ℓ) : Prop :=
  True

def Pre_GradWFfnOutRefIdeal (m : (ℓ : Loc Cert.GradWFfnOutRefIdeal.nD Cert.GradWFfnOutRefIdeal.τ Cert.GradWFfnOutRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradWConvOut (m : (ℓ : Loc Cert.GradWConvOut.nD Cert.GradWConvOut.τ Cert.GradWConvOut.sig) → Buf (Elt Bits) ℓ) : Prop :=
  True

def Pre_GradWConvOutIdeal (m : (ℓ : Loc Cert.GradWConvOutIdeal.nD Cert.GradWConvOutIdeal.τ Cert.GradWConvOutIdeal.sig) → Buf (Elt Ideal) ℓ) : Prop :=
  True

def Pre_GradWConvOutRefIdeal (m : (ℓ : Loc Cert.GradWConvOutRefIdeal.nD Cert.GradWConvOutRefIdeal.τ Cert.GradWConvOutRefIdeal.sig) → Buf (Elt Ideal) ℓ) : Prop :=
  True

def Pre_GradWHgrnOut (m : (ℓ : Loc Cert.GradWHgrnOut.nD Cert.GradWHgrnOut.τ Cert.GradWHgrnOut.sig) → Buf (Elt Bits) ℓ) : Prop :=
  True

def Pre_GradWHgrnOutIdeal (m : (ℓ : Loc Cert.GradWHgrnOutIdeal.nD Cert.GradWHgrnOutIdeal.τ Cert.GradWHgrnOutIdeal.sig) → Buf (Elt Ideal) ℓ) : Prop :=
  True

def Pre_GradWHgrnOutRefIdeal (m : (ℓ : Loc Cert.GradWHgrnOutRefIdeal.nD Cert.GradWHgrnOutRefIdeal.τ Cert.GradWHgrnOutRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdIdeal_inputs_finite [hPre_inputs_finite : Cert.Pre_inputs_finite.Facts] (m : (ℓ : Loc Cert.FfnInBwdIdeal.nD Cert.FfnInBwdIdeal.τ Cert.FfnInBwdIdeal.sig) → Buf (Elt Ideal) ℓ) : Prop :=
  ∀ c : Dev Cert.FfnInBwdIdeal.nD,
    (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).1 = (fun _ => 1#1)
    ∧ (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.1 = (fun _ => 1#1)
    ∧ (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.1 = (fun _ => 1#1)
    ∧ (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.2.1 = (fun _ => 1#1)
    ∧ (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.2.2.1 = (fun _ => 1#1)
    ∧ (Cert.Pre_inputs_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.2.2.2 = (fun _ => 1#1)

def Pre_FfnInBwdRefIdeal (m : (ℓ : Loc Cert.FfnInBwdRefIdeal.nD Cert.FfnInBwdRefIdeal.τ Cert.FfnInBwdRefIdeal.sig) → Buf (Elt Ideal) ℓ) : Prop :=
  True

def Pre_FfnInBwdRefIdeal_inputs_finite [hPre_inputs_finite : Cert.Pre_inputs_finite.Facts] (m : (ℓ : Loc Cert.FfnInBwdRefIdeal.nD Cert.FfnInBwdRefIdeal.τ Cert.FfnInBwdRefIdeal.sig) → Buf (Elt Ideal) ℓ) : Prop :=
  ∀ c : Dev Cert.FfnInBwdRefIdeal.nD,
    (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).1 = (fun _ => 1#1)
    ∧ (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).2.1 = (fun _ => 1#1)
    ∧ (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).2.2.1 = (fun _ => 1#1)
    ∧ (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).2.2.2.1 = (fun _ => 1#1)
    ∧ (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).2.2.2.2.1 = (fun _ => 1#1)
    ∧ (Cert.Pre_inputs_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5))).2.2.2.2.2 = (fun _ => 1#1)

def Pre_FfnOutLoss (m : (ℓ : Loc Cert.FfnOutLoss.nD Cert.FfnOutLoss.τ Cert.FfnOutLoss.sig) → Buf (Elt Bits) ℓ) : Prop :=
  True

def Pre_FfnOutLossIdeal (m : (ℓ : Loc Cert.FfnOutLossIdeal.nD Cert.FfnOutLossIdeal.τ Cert.FfnOutLossIdeal.sig) → Buf (Elt Ideal) ℓ) : Prop :=
  True

def Pre_FfnOutLossIdeal_head_inputs_finite [hPre_head_inputs_finite : Cert.Pre_head_inputs_finite.Facts] (m : (ℓ : Loc Cert.FfnOutLossIdeal.nD Cert.FfnOutLossIdeal.τ Cert.FfnOutLossIdeal.sig) → Buf (Elt Ideal) ℓ) : Prop :=
  ∀ c : Dev Cert.FfnOutLossIdeal.nD,
    (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).1 = (fun _ => 1#1)
    ∧ (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).2.1 = (fun _ => 1#1)
    ∧ (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).2.2.1 = (fun _ => 1#1)
    ∧ (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).2.2.2.1 = (fun _ => 1#1)
    ∧ (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).2.2.2.2.1 = (fun _ => 1#1)
    ∧ (Cert.Pre_head_inputs_finite.fn (F := Ideal) (m ((c.tc : Thread Cert.FfnOutLossIdeal.nD Cert.FfnOutLossIdeal.τ).loc Cert.FfnOutLossIdeal.main_arg0)) (m ((c.tc : Thread Cert.FfnOutLossIdeal.nD Cert.FfnOutLossIdeal.τ).loc Cert.FfnOutLossIdeal.main_arg1)) (m ((c.tc : Thread Cert.FfnOutLossIdeal.nD Cert.FfnOutLossIdeal.τ).loc Cert.FfnOutLossIdeal.main_arg2)) (m ((c.tc : Thread Cert.FfnOutLossIdeal.nD Cert.FfnOutLossIdeal.τ).loc Cert.FfnOutLossIdeal.main_arg3)) (m ((c.tc : Thread Cert.FfnOutLossIdeal.nD Cert.FfnOutLossIdeal.τ).loc Cert.FfnOutLossIdeal.main_arg4)) (m ((c.tc : Thread Cert.FfnOutLossIdeal.nD Cert.FfnOutLossIdeal.τ).loc Cert.FfnOutLossIdeal.main_arg5))).2.2.2.2.2 = (fun _ => 1#1)

def Pre_FfnOutLossRefIdeal (m : (ℓ : Loc Cert.FfnOutLossRefIdeal.nD Cert.FfnOutLossRefIdeal.τ Cert.FfnOutLossRefIdeal.sig) → Buf (Elt Ideal) ℓ) : Prop :=
  True

def Pre_FfnOutLossRefIdeal_head_inputs_finite [hPre_head_inputs_finite : Cert.Pre_head_inputs_finite.Facts] (m : (ℓ : Loc Cert.FfnOutLossRefIdeal.nD Cert.FfnOutLossRefIdeal.τ Cert.FfnOutLossRefIdeal.sig) → Buf (Elt Ideal) ℓ) : Prop :=
  ∀ c : Dev Cert.FfnOutLossRefIdeal.nD,
    (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).1 = (fun _ => 1#1)
    ∧ (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).2.1 = (fun _ => 1#1)
    ∧ (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).2.2.1 = (fun _ => 1#1)
    ∧ (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).2.2.2.1 = (fun _ => 1#1)
    ∧ (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).2.2.2.2.1 = (fun _ => 1#1)
    ∧ (Cert.Pre_head_inputs_finite.fn (F := Ideal) (m ((c.tc : Thread Cert.FfnOutLossRefIdeal.nD Cert.FfnOutLossRefIdeal.τ).loc Cert.FfnOutLossRefIdeal.main_arg0)) (m ((c.tc : Thread Cert.FfnOutLossRefIdeal.nD Cert.FfnOutLossRefIdeal.τ).loc Cert.FfnOutLossRefIdeal.main_arg1)) (m ((c.tc : Thread Cert.FfnOutLossRefIdeal.nD Cert.FfnOutLossRefIdeal.τ).loc Cert.FfnOutLossRefIdeal.main_arg2)) (m ((c.tc : Thread Cert.FfnOutLossRefIdeal.nD Cert.FfnOutLossRefIdeal.τ).loc Cert.FfnOutLossRefIdeal.main_arg3)) (m ((c.tc : Thread Cert.FfnOutLossRefIdeal.nD Cert.FfnOutLossRefIdeal.τ).loc Cert.FfnOutLossRefIdeal.main_arg4)) (m ((c.tc : Thread Cert.FfnOutLossRefIdeal.nD Cert.FfnOutLossRefIdeal.τ).loc Cert.FfnOutLossRefIdeal.main_arg5))).2.2.2.2.2 = (fun _ => 1#1)

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInRefIdeal (m : (ℓ : Loc Cert.AdamwWInRefIdeal.nD Cert.AdamwWInRefIdeal.τ Cert.AdamwWInRefIdeal.sig) → Buf (Elt Ideal) ℓ) : Prop :=
  True

def Pre_AdamwWConvDw (m : (ℓ : Loc Cert.AdamwWConvDw.nD Cert.AdamwWConvDw.τ Cert.AdamwWConvDw.sig) → Buf (Elt Bits) ℓ) : Prop :=
  True

def Pre_AdamwWConvDwIdeal (m : (ℓ : Loc Cert.AdamwWConvDwIdeal.nD Cert.AdamwWConvDwIdeal.τ Cert.AdamwWConvDwIdeal.sig) → Buf (Elt Ideal) ℓ) : Prop :=
  True

def Pre_AdamwWConvDwRefIdeal (m : (ℓ : Loc Cert.AdamwWConvDwRefIdeal.nD Cert.AdamwWConvDwRefIdeal.τ Cert.AdamwWConvDwRefIdeal.sig) → Buf (Elt Ideal) ℓ) : Prop :=
  True

def Pre_AdamwWConvOut (m : (ℓ : Loc Cert.AdamwWConvOut.nD Cert.AdamwWConvOut.τ Cert.AdamwWConvOut.sig) → Buf (Elt Bits) ℓ) : Prop :=
  True

def Pre_AdamwWConvOutIdeal (m : (ℓ : Loc Cert.AdamwWConvOutIdeal.nD Cert.AdamwWConvOutIdeal.τ Cert.AdamwWConvOutIdeal.sig) → Buf (Elt Ideal) ℓ) : Prop :=
  True

def Pre_AdamwWConvOutRefIdeal (m : (ℓ : Loc Cert.AdamwWConvOutRefIdeal.nD Cert.AdamwWConvOutRefIdeal.τ Cert.AdamwWConvOutRefIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_AdamwWFfnIn (m : (ℓ : Loc Cert.AdamwWFfnIn.nD Cert.AdamwWFfnIn.τ Cert.AdamwWFfnIn.sig) → Buf (Elt Bits) ℓ) : Prop :=
  True

def Pre_AdamwWFfnInIdeal (m : (ℓ : Loc Cert.AdamwWFfnInIdeal.nD Cert.AdamwWFfnInIdeal.τ Cert.AdamwWFfnInIdeal.sig) → Buf (Elt Ideal) ℓ) : Prop :=
  True

def Pre_AdamwWFfnInRefIdeal (m : (ℓ : Loc Cert.AdamwWFfnInRefIdeal.nD Cert.AdamwWFfnInRefIdeal.τ Cert.AdamwWFfnInRefIdeal.sig) → Buf (Elt Ideal) ℓ) : Prop :=
  True

def Pre_AdamwWFfnDw (m : (ℓ : Loc Cert.AdamwWFfnDw.nD Cert.AdamwWFfnDw.τ Cert.AdamwWFfnDw.sig) → Buf (Elt Bits) ℓ) : Prop :=
  True

def Pre_AdamwWFfnDwIdeal (m : (ℓ : Loc Cert.AdamwWFfnDwIdeal.nD Cert.AdamwWFfnDwIdeal.τ Cert.AdamwWFfnDwIdeal.sig) → Buf (Elt Ideal) ℓ) : Prop :=
  True

def Pre_AdamwWFfnDwRefIdeal (m : (ℓ : Loc Cert.AdamwWFfnDwRefIdeal.nD Cert.AdamwWFfnDwRefIdeal.τ Cert.AdamwWFfnDwRefIdeal.sig) → Buf (Elt Ideal) ℓ) : Prop :=
  True

def Pre_AdamwWFfnOut (m : (ℓ : Loc Cert.AdamwWFfnOut.nD Cert.AdamwWFfnOut.τ Cert.AdamwWFfnOut.sig) → Buf (Elt Bits) ℓ) : Prop :=
  True

def Pre_AdamwWFfnOutIdeal (m : (ℓ : Loc Cert.AdamwWFfnOutIdeal.nD Cert.AdamwWFfnOutIdeal.τ Cert.AdamwWFfnOutIdeal.sig) → Buf (Elt Ideal) ℓ) : Prop :=
  True

def Pre_AdamwWFfnOutRefIdeal (m : (ℓ : Loc Cert.AdamwWFfnOutRefIdeal.nD Cert.AdamwWFfnOutRefIdeal.τ Cert.AdamwWFfnOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnBwdB (m : (ℓ : Loc Cert.FfnBwdB.nD Cert.FfnBwdB.τ Cert.FfnBwdB.sig) → Buf (Elt Bits) ℓ) : Prop :=
  True

def Pre_FfnBwdBIdeal (m : (ℓ : Loc Cert.FfnBwdBIdeal.nD Cert.FfnBwdBIdeal.τ Cert.FfnBwdBIdeal.sig) → Buf (Elt Ideal) ℓ) : Prop :=
  True

def Pre_FfnBwdBRefIdeal (m : (ℓ : Loc Cert.FfnBwdBRefIdeal.nD Cert.FfnBwdBRefIdeal.τ Cert.FfnBwdBRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1))
      ∧ r.2.sem = fun _ => 0)

def quiescent_GradXFirst [hGradXFirst : Cert.GradXFirst.Facts] : Prop :=
  ∀ (m : (ℓ : Loc Cert.GradXFirst.nD Cert.GradXFirst.τ Cert.GradXFirst.sig) → Buf (Elt Bits) ℓ) (g : Dev Cert.GradXFirst.nD → PrngReg), Pre_GradXFirst m →
    θ_run (Cert.GradXFirst.defs (F := Bits)) (onTc (τ := Cert.GradXFirst.τ) (Cert.GradXFirst.main (F := Bits))) ⟨m, fun _ => 0, g⟩ (fun r => (∀ c : Dev Cert.GradXFirst.nD,
      r.2.mem ((c.tc : Thread Cert.GradXFirst.nD Cert.GradXFirst.τ).loc Cert.GradXFirst.main_arg0) = m ((c.tc : Thread Cert.GradXFirst.nD Cert.GradXFirst.τ).loc Cert.GradXFirst.main_arg0)
      ∧ r.2.mem ((c.tc : Thread Cert.GradXFirst.nD Cert.GradXFirst.τ).loc Cert.GradXFirst.main_arg1) = m ((c.tc : Thread Cert.GradXFirst.nD Cert.GradXFirst.τ).loc Cert.GradXFirst.main_arg1)
      ∧ r.2.mem ((c.tc : Thread Cert.GradXFirst.nD Cert.GradXFirst.τ).loc Cert.GradXFirst.main_arg2) = m ((c.tc : Thread Cert.GradXFirst.nD Cert.GradXFirst.τ).loc Cert.GradXFirst.main_arg2))
      ∧ r.2.sem = fun _ => 0)

def quiescent_GradXFirstIdeal [hGradXFirstIdeal : Cert.GradXFirstIdeal.Facts] : Prop :=
  ∀ (m : (ℓ : Loc Cert.GradXFirstIdeal.nD Cert.GradXFirstIdeal.τ Cert.GradXFirstIdeal.sig) → Buf (Elt Ideal) ℓ) (g : Dev Cert.GradXFirstIdeal.nD → PrngReg), Pre_GradXFirstIdeal m →
    θ_run (Cert.GradXFirstIdeal.defs (F := Ideal)) (onTc (τ := Cert.GradXFirstIdeal.τ) (Cert.GradXFirstIdeal.main (F := Ideal))) ⟨m, fun _ => 0, g⟩ (fun r => (∀ c : Dev Cert.GradXFirstIdeal.nD,
      r.2.mem ((c.tc : Thread Cert.GradXFirstIdeal.nD Cert.GradXFirstIdeal.τ).loc Cert.GradXFirstIdeal.main_arg0) = m ((c.tc : Thread Cert.GradXFirstIdeal.nD Cert.GradXFirstIdeal.τ).loc Cert.GradXFirstIdeal.main_arg0)
      ∧ r.2.mem ((c.tc : Thread Cert.GradXFirstIdeal.nD Cert.GradXFirstIdeal.τ).loc Cert.GradXFirstIdeal.main_arg1) = m ((c.tc : Thread Cert.GradXFirstIdeal.nD Cert.GradXFirstIdeal.τ).loc Cert.GradXFirstIdeal.main_arg1)
      ∧ r.2.mem ((c.tc : Thread Cert.GradXFirstIdeal.nD Cert.GradXFirstIdeal.τ).loc Cert.GradXFirstIdeal.main_arg2) = m ((c.tc : Thread Cert.GradXFirstIdeal.nD Cert.GradXFirstIdeal.τ).loc Cert.GradXFirstIdeal.main_arg2))
      ∧ r.2.sem = fun _ => 0)

def quiescent_GradXFirstRefIdeal [hGradXFirstRefIdeal : Cert.GradXFirstRefIdeal.Facts] : Prop :=
  ∀ (m : (ℓ : Loc Cert.GradXFirstRefIdeal.nD Cert.GradXFirstRefIdeal.τ Cert.GradXFirstRefIdeal.sig) → Buf (Elt Ideal) ℓ) (g : Dev Cert.GradXFirstRefIdeal.nD → PrngReg), Pre_GradXFirstRefIdeal m →
    θ_run (Cert.GradXFirstRefIdeal.defs (F := Ideal)) (onTc (τ := Cert.GradXFirstRefIdeal.τ) (Cert.GradXFirstRefIdeal.main (F := Ideal))) ⟨m, fun _ => 0, g⟩ (fun r => (∀ c : Dev Cert.GradXFirstRefIdeal.nD,
      r.2.mem ((c.tc : Thread Cert.GradXFirstRefIdeal.nD Cert.GradXFirstRefIdeal.τ).loc Cert.GradXFirstRefIdeal.main_arg0) = m ((c.tc : Thread Cert.GradXFirstRefIdeal.nD Cert.GradXFirstRefIdeal.τ).loc Cert.GradXFirstRefIdeal.main_arg0)
      ∧ r.2.mem ((c.tc : Thread Cert.GradXFirstRefIdeal.nD Cert.GradXFirstRefIdeal.τ).loc Cert.GradXFirstRefIdeal.main_arg1) = m ((c.tc : Thread Cert.GradXFirstRefIdeal.nD Cert.GradXFirstRefIdeal.τ).loc Cert.GradXFirstRefIdeal.main_arg1)
      ∧ r.2.mem ((c.tc : Thread Cert.GradXFirstRefIdeal.nD Cert.GradXFirstRefIdeal.τ).loc Cert.GradXFirstRefIdeal.main_arg2) = m ((c.tc : Thread Cert.GradXFirstRefIdeal.nD Cert.GradXFirstRefIdeal.τ).loc Cert.GradXFirstRefIdeal.main_arg2))
      ∧ r.2.sem = fun _ => 0)

def quiescent_GradXSecond [hGradXSecond : Cert.GradXSecond.Facts] : Prop :=
  ∀ (m : (ℓ : Loc Cert.GradXSecond.nD Cert.GradXSecond.τ Cert.GradXSecond.sig) → Buf (Elt Bits) ℓ) (g : Dev Cert.GradXSecond.nD → PrngReg), Pre_GradXSecond m →
    θ_run (Cert.GradXSecond.defs (F := Bits)) (onTc (τ := Cert.GradXSecond.τ) (Cert.GradXSecond.main (F := Bits))) ⟨m, fun _ => 0, g⟩ (fun r => (∀ c : Dev Cert.GradXSecond.nD,
      r.2.mem ((c.tc : Thread Cert.GradXSecond.nD Cert.GradXSecond.τ).loc Cert.GradXSecond.main_arg0) = m ((c.tc : Thread Cert.GradXSecond.nD Cert.GradXSecond.τ).loc Cert.GradXSecond.main_arg0)
      ∧ r.2.mem ((c.tc : Thread Cert.GradXSecond.nD Cert.GradXSecond.τ).loc Cert.GradXSecond.main_arg1) = m ((c.tc : Thread Cert.GradXSecond.nD Cert.GradXSecond.τ).loc Cert.GradXSecond.main_arg1)
      ∧ r.2.mem ((c.tc : Thread Cert.GradXSecond.nD Cert.GradXSecond.τ).loc Cert.GradXSecond.main_arg2) = m ((c.tc : Thread Cert.GradXSecond.nD Cert.GradXSecond.τ).loc Cert.GradXSecond.main_arg2)
      ∧ r.2.mem ((c.tc : Thread Cert.GradXSecond.nD Cert.GradXSecond.τ).loc Cert.GradXSecond.main_arg3) = m ((c.tc : Thread Cert.GradXSecond.nD Cert.GradXSecond.τ).loc Cert.GradXSecond.main_arg3))
      ∧ r.2.sem = fun _ => 0)

def quiescent_GradXSecondIdeal [hGradXSecondIdeal : Cert.GradXSecondIdeal.Facts] : Prop :=
  ∀ (m : (ℓ : Loc Cert.GradXSecondIdeal.nD Cert.GradXSecondIdeal.τ Cert.GradXSecondIdeal.sig) → Buf (Elt Ideal) ℓ) (g : Dev Cert.GradXSecondIdeal.nD → PrngReg), Pre_GradXSecondIdeal m →
    θ_run (Cert.GradXSecondIdeal.defs (F := Ideal)) (onTc (τ := Cert.GradXSecondIdeal.τ) (Cert.GradXSecondIdeal.main (F := Ideal))) ⟨m, fun _ => 0, g⟩ (fun r => (∀ c : Dev Cert.GradXSecondIdeal.nD,
      r.2.mem ((c.tc : Thread Cert.GradXSecondIdeal.nD Cert.GradXSecondIdeal.τ).loc Cert.GradXSecondIdeal.main_arg0) = m ((c.tc : Thread Cert.GradXSecondIdeal.nD Cert.GradXSecondIdeal.τ).loc Cert.GradXSecondIdeal.main_arg0)
      ∧ r.2.mem ((c.tc : Thread Cert.GradXSecondIdeal.nD Cert.GradXSecondIdeal.τ).loc Cert.GradXSecondIdeal.main_arg1) = m ((c.tc : Thread Cert.GradXSecondIdeal.nD Cert.GradXSecondIdeal.τ).loc Cert.GradXSecondIdeal.main_arg1)
      ∧ r.2.mem ((c.tc : Thread Cert.GradXSecondIdeal.nD Cert.GradXSecondIdeal.τ).loc Cert.GradXSecondIdeal.main_arg2) = m ((c.tc : Thread Cert.GradXSecondIdeal.nD Cert.GradXSecondIdeal.τ).loc Cert.GradXSecondIdeal.main_arg2)
      ∧ r.2.mem ((c.tc : Thread Cert.GradXSecondIdeal.nD Cert.GradXSecondIdeal.τ).loc Cert.GradXSecondIdeal.main_arg3) = m ((c.tc : Thread Cert.GradXSecondIdeal.nD Cert.GradXSecondIdeal.τ).loc Cert.GradXSecondIdeal.main_arg3))
      ∧ r.2.sem = fun _ => 0)

def quiescent_GradXSecondRefIdeal [hGradXSecondRefIdeal : Cert.GradXSecondRefIdeal.Facts] : Prop :=
  ∀ (m : (ℓ : Loc Cert.GradXSecondRefIdeal.nD Cert.GradXSecondRefIdeal.τ Cert.GradXSecondRefIdeal.sig) → Buf (Elt Ideal) ℓ) (g : Dev Cert.GradXSecondRefIdeal.nD → PrngReg), Pre_GradXSecondRefIdeal m →
    θ_run (Cert.GradXSecondRefIdeal.defs (F := Ideal)) (onTc (τ := Cert.GradXSecondRefIdeal.τ) (Cert.GradXSecondRefIdeal.main (F := Ideal))) ⟨m, fun _ => 0, g⟩ (fun r => (∀ c : Dev Cert.GradXSecondRefIdeal.nD,
      r.2.mem ((c.tc : Thread Cert.GradXSecondRefIdeal.nD Cert.GradXSecondRefIdeal.τ).loc Cert.GradXSecondRefIdeal.main_arg0) = m ((c.tc : Thread Cert.GradXSecondRefIdeal.nD Cert.GradXSecondRefIdeal.τ).loc Cert.GradXSecondRefIdeal.main_arg0)
      ∧ r.2.mem ((c.tc : Thread Cert.GradXSecondRefIdeal.nD Cert.GradXSecondRefIdeal.τ).loc Cert.GradXSecondRefIdeal.main_arg1) = m ((c.tc : Thread Cert.GradXSecondRefIdeal.nD Cert.GradXSecondRefIdeal.τ).loc Cert.GradXSecondRefIdeal.main_arg1)
      ∧ r.2.mem ((c.tc : Thread Cert.GradXSecondRefIdeal.nD Cert.GradXSecondRefIdeal.τ).loc Cert.GradXSecondRefIdeal.main_arg2) = m ((c.tc : Thread Cert.GradXSecondRefIdeal.nD Cert.GradXSecondRefIdeal.τ).loc Cert.GradXSecondRefIdeal.main_arg2)
      ∧ r.2.mem ((c.tc : Thread Cert.GradXSecondRefIdeal.nD Cert.GradXSecondRefIdeal.τ).loc Cert.GradXSecondRefIdeal.main_arg3) = m ((c.tc : Thread Cert.GradXSecondRefIdeal.nD Cert.GradXSecondRefIdeal.τ).loc Cert.GradXSecondRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_GradWFfnIn [hGradWFfnIn : Cert.GradWFfnIn.Facts] : Prop :=
  ∀ (m : (ℓ : Loc Cert.GradWFfnIn.nD Cert.GradWFfnIn.τ Cert.GradWFfnIn.sig) → Buf (Elt Bits) ℓ) (g : Dev Cert.GradWFfnIn.nD → PrngReg), Pre_GradWFfnIn m →
    θ_run (Cert.GradWFfnIn.defs (F := Bits)) (onTc (τ := Cert.GradWFfnIn.τ) (Cert.GradWFfnIn.main (F := Bits))) ⟨m, fun _ => 0, g⟩ (fun r => (∀ c : Dev Cert.GradWFfnIn.nD,
      r.2.mem ((c.tc : Thread Cert.GradWFfnIn.nD Cert.GradWFfnIn.τ).loc Cert.GradWFfnIn.main_arg0) = m ((c.tc : Thread Cert.GradWFfnIn.nD Cert.GradWFfnIn.τ).loc Cert.GradWFfnIn.main_arg0)
      ∧ r.2.mem ((c.tc : Thread Cert.GradWFfnIn.nD Cert.GradWFfnIn.τ).loc Cert.GradWFfnIn.main_arg1) = m ((c.tc : Thread Cert.GradWFfnIn.nD Cert.GradWFfnIn.τ).loc Cert.GradWFfnIn.main_arg1)
      ∧ r.2.mem ((c.tc : Thread Cert.GradWFfnIn.nD Cert.GradWFfnIn.τ).loc Cert.GradWFfnIn.main_arg2) = m ((c.tc : Thread Cert.GradWFfnIn.nD Cert.GradWFfnIn.τ).loc Cert.GradWFfnIn.main_arg2))
      ∧ r.2.sem = fun _ => 0)

def quiescent_GradWFfnInIdeal [hGradWFfnInIdeal : Cert.GradWFfnInIdeal.Facts] : Prop :=
  ∀ (m : (ℓ : Loc Cert.GradWFfnInIdeal.nD Cert.GradWFfnInIdeal.τ Cert.GradWFfnInIdeal.sig) → Buf (Elt Ideal) ℓ) (g : Dev Cert.GradWFfnInIdeal.nD → PrngReg), Pre_GradWFfnInIdeal m →
    θ_run (Cert.GradWFfnInIdeal.defs (F := Ideal)) (onTc (τ := Cert.GradWFfnInIdeal.τ) (Cert.GradWFfnInIdeal.main (F := Ideal))) ⟨m, fun _ => 0, g⟩ (fun r => (∀ c : Dev Cert.GradWFfnInIdeal.nD,
      r.2.mem ((c.tc : Thread Cert.GradWFfnInIdeal.nD Cert.GradWFfnInIdeal.τ).loc Cert.GradWFfnInIdeal.main_arg0) = m ((c.tc : Thread Cert.GradWFfnInIdeal.nD Cert.GradWFfnInIdeal.τ).loc Cert.GradWFfnInIdeal.main_arg0)
      ∧ r.2.mem ((c.tc : Thread Cert.GradWFfnInIdeal.nD Cert.GradWFfnInIdeal.τ).loc Cert.GradWFfnInIdeal.main_arg1) = m ((c.tc : Thread Cert.GradWFfnInIdeal.nD Cert.GradWFfnInIdeal.τ).loc Cert.GradWFfnInIdeal.main_arg1)
      ∧ r.2.mem ((c.tc : Thread Cert.GradWFfnInIdeal.nD Cert.GradWFfnInIdeal.τ).loc Cert.GradWFfnInIdeal.main_arg2) = m ((c.tc : Thread Cert.GradWFfnInIdeal.nD Cert.GradWFfnInIdeal.τ).loc Cert.GradWFfnInIdeal.main_arg2))
      ∧ r.2.sem = fun _ => 0)

def quiescent_GradWFfnInRefIdeal [hGradWFfnInRefIdeal : Cert.GradWFfnInRefIdeal.Facts] : Prop :=
  ∀ (m : (ℓ : Loc Cert.GradWFfnInRefIdeal.nD Cert.GradWFfnInRefIdeal.τ Cert.GradWFfnInRefIdeal.sig) → Buf (Elt Ideal) ℓ) (g : Dev Cert.GradWFfnInRefIdeal.nD → PrngReg), Pre_GradWFfnInRefIdeal m →
    θ_run (Cert.GradWFfnInRefIdeal.defs (F := Ideal)) (onTc (τ := Cert.GradWFfnInRefIdeal.τ) (Cert.GradWFfnInRefIdeal.main (F := Ideal))) ⟨m, fun _ => 0, g⟩ (fun r => (∀ c : Dev Cert.GradWFfnInRefIdeal.nD,
      r.2.mem ((c.tc : Thread Cert.GradWFfnInRefIdeal.nD Cert.GradWFfnInRefIdeal.τ).loc Cert.GradWFfnInRefIdeal.main_arg0) = m ((c.tc : Thread Cert.GradWFfnInRefIdeal.nD Cert.GradWFfnInRefIdeal.τ).loc Cert.GradWFfnInRefIdeal.main_arg0)
      ∧ r.2.mem ((c.tc : Thread Cert.GradWFfnInRefIdeal.nD Cert.GradWFfnInRefIdeal.τ).loc Cert.GradWFfnInRefIdeal.main_arg1) = m ((c.tc : Thread Cert.GradWFfnInRefIdeal.nD Cert.GradWFfnInRefIdeal.τ).loc Cert.GradWFfnInRefIdeal.main_arg1)
      ∧ r.2.mem ((c.tc : Thread Cert.GradWFfnInRefIdeal.nD Cert.GradWFfnInRefIdeal.τ).loc Cert.GradWFfnInRefIdeal.main_arg2) = m ((c.tc : Thread Cert.GradWFfnInRefIdeal.nD Cert.GradWFfnInRefIdeal.τ).loc Cert.GradWFfnInRefIdeal.main_arg2))
      ∧ r.2.sem = fun _ => 0)

def quiescent_GradWFfnOut [hGradWFfnOut : Cert.GradWFfnOut.Facts] : Prop :=
  ∀ (m : (ℓ : Loc Cert.GradWFfnOut.nD Cert.GradWFfnOut.τ Cert.GradWFfnOut.sig) → Buf (Elt Bits) ℓ) (g : Dev Cert.GradWFfnOut.nD → PrngReg), Pre_GradWFfnOut m →
    θ_run (Cert.GradWFfnOut.defs (F := Bits)) (onTc (τ := Cert.GradWFfnOut.τ) (Cert.GradWFfnOut.main (F := Bits))) ⟨m, fun _ => 0, g⟩ (fun r => (∀ c : Dev Cert.GradWFfnOut.nD,
      r.2.mem ((c.tc : Thread Cert.GradWFfnOut.nD Cert.GradWFfnOut.τ).loc Cert.GradWFfnOut.main_arg0) = m ((c.tc : Thread Cert.GradWFfnOut.nD Cert.GradWFfnOut.τ).loc Cert.GradWFfnOut.main_arg0)
      ∧ r.2.mem ((c.tc : Thread Cert.GradWFfnOut.nD Cert.GradWFfnOut.τ).loc Cert.GradWFfnOut.main_arg1) = m ((c.tc : Thread Cert.GradWFfnOut.nD Cert.GradWFfnOut.τ).loc Cert.GradWFfnOut.main_arg1))
      ∧ r.2.sem = fun _ => 0)

def quiescent_GradWFfnOutIdeal [hGradWFfnOutIdeal : Cert.GradWFfnOutIdeal.Facts] : Prop :=
  ∀ (m : (ℓ : Loc Cert.GradWFfnOutIdeal.nD Cert.GradWFfnOutIdeal.τ Cert.GradWFfnOutIdeal.sig) → Buf (Elt Ideal) ℓ) (g : Dev Cert.GradWFfnOutIdeal.nD → PrngReg), Pre_GradWFfnOutIdeal m →
    θ_run (Cert.GradWFfnOutIdeal.defs (F := Ideal)) (onTc (τ := Cert.GradWFfnOutIdeal.τ) (Cert.GradWFfnOutIdeal.main (F := Ideal))) ⟨m, fun _ => 0, g⟩ (fun r => (∀ c : Dev Cert.GradWFfnOutIdeal.nD,
      r.2.mem ((c.tc : Thread Cert.GradWFfnOutIdeal.nD Cert.GradWFfnOutIdeal.τ).loc Cert.GradWFfnOutIdeal.main_arg0) = m ((c.tc : Thread Cert.GradWFfnOutIdeal.nD Cert.GradWFfnOutIdeal.τ).loc Cert.GradWFfnOutIdeal.main_arg0)
      ∧ r.2.mem ((c.tc : Thread Cert.GradWFfnOutIdeal.nD Cert.GradWFfnOutIdeal.τ).loc Cert.GradWFfnOutIdeal.main_arg1) = m ((c.tc : Thread Cert.GradWFfnOutIdeal.nD Cert.GradWFfnOutIdeal.τ).loc Cert.GradWFfnOutIdeal.main_arg1))
      ∧ r.2.sem = fun _ => 0)

def quiescent_GradWFfnOutRefIdeal [hGradWFfnOutRefIdeal : Cert.GradWFfnOutRefIdeal.Facts] : Prop :=
  ∀ (m : (ℓ : Loc Cert.GradWFfnOutRefIdeal.nD Cert.GradWFfnOutRefIdeal.τ Cert.GradWFfnOutRefIdeal.sig) → Buf (Elt Ideal) ℓ) (g : Dev Cert.GradWFfnOutRefIdeal.nD → PrngReg), Pre_GradWFfnOutRefIdeal m →
    θ_run (Cert.GradWFfnOutRefIdeal.defs (F := Ideal)) (onTc (τ := Cert.GradWFfnOutRefIdeal.τ) (Cert.GradWFfnOutRefIdeal.main (F := Ideal))) ⟨m, fun _ => 0, g⟩ (fun r => (∀ c : Dev Cert.GradWFfnOutRefIdeal.nD,
      r.2.mem ((c.tc : Thread Cert.GradWFfnOutRefIdeal.nD Cert.GradWFfnOutRefIdeal.τ).loc Cert.GradWFfnOutRefIdeal.main_arg0) = m ((c.tc : Thread Cert.GradWFfnOutRefIdeal.nD Cert.GradWFfnOutRefIdeal.τ).loc Cert.GradWFfnOutRefIdeal.main_arg0)
      ∧ r.2.mem ((c.tc : Thread Cert.GradWFfnOutRefIdeal.nD Cert.GradWFfnOutRefIdeal.τ).loc Cert.GradWFfnOutRefIdeal.main_arg1) = m ((c.tc : Thread Cert.GradWFfnOutRefIdeal.nD Cert.GradWFfnOutRefIdeal.τ).loc Cert.GradWFfnOutRefIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_GradWConvOut [hGradWConvOut : Cert.GradWConvOut.Facts] : Prop :=
  ∀ (m : (ℓ : Loc Cert.GradWConvOut.nD Cert.GradWConvOut.τ Cert.GradWConvOut.sig) → Buf (Elt Bits) ℓ) (g : Dev Cert.GradWConvOut.nD → PrngReg), Pre_GradWConvOut m →
    θ_run (Cert.GradWConvOut.defs (F := Bits)) (onTc (τ := Cert.GradWConvOut.τ) (Cert.GradWConvOut.main (F := Bits))) ⟨m, fun _ => 0, g⟩ (fun r => (∀ c : Dev Cert.GradWConvOut.nD,
      r.2.mem ((c.tc : Thread Cert.GradWConvOut.nD Cert.GradWConvOut.τ).loc Cert.GradWConvOut.main_arg0) = m ((c.tc : Thread Cert.GradWConvOut.nD Cert.GradWConvOut.τ).loc Cert.GradWConvOut.main_arg0)
      ∧ r.2.mem ((c.tc : Thread Cert.GradWConvOut.nD Cert.GradWConvOut.τ).loc Cert.GradWConvOut.main_arg1) = m ((c.tc : Thread Cert.GradWConvOut.nD Cert.GradWConvOut.τ).loc Cert.GradWConvOut.main_arg1))
      ∧ r.2.sem = fun _ => 0)

def quiescent_GradWConvOutIdeal [hGradWConvOutIdeal : Cert.GradWConvOutIdeal.Facts] : Prop :=
  ∀ (m : (ℓ : Loc Cert.GradWConvOutIdeal.nD Cert.GradWConvOutIdeal.τ Cert.GradWConvOutIdeal.sig) → Buf (Elt Ideal) ℓ) (g : Dev Cert.GradWConvOutIdeal.nD → PrngReg), Pre_GradWConvOutIdeal m →
    θ_run (Cert.GradWConvOutIdeal.defs (F := Ideal)) (onTc (τ := Cert.GradWConvOutIdeal.τ) (Cert.GradWConvOutIdeal.main (F := Ideal))) ⟨m, fun _ => 0, g⟩ (fun r => (∀ c : Dev Cert.GradWConvOutIdeal.nD,
      r.2.mem ((c.tc : Thread Cert.GradWConvOutIdeal.nD Cert.GradWConvOutIdeal.τ).loc Cert.GradWConvOutIdeal.main_arg0) = m ((c.tc : Thread Cert.GradWConvOutIdeal.nD Cert.GradWConvOutIdeal.τ).loc Cert.GradWConvOutIdeal.main_arg0)
      ∧ r.2.mem ((c.tc : Thread Cert.GradWConvOutIdeal.nD Cert.GradWConvOutIdeal.τ).loc Cert.GradWConvOutIdeal.main_arg1) = m ((c.tc : Thread Cert.GradWConvOutIdeal.nD Cert.GradWConvOutIdeal.τ).loc Cert.GradWConvOutIdeal.main_arg1))
      ∧ r.2.sem = fun _ => 0)

def quiescent_GradWConvOutRefIdeal [hGradWConvOutRefIdeal : Cert.GradWConvOutRefIdeal.Facts] : Prop :=
  ∀ (m : (ℓ : Loc Cert.GradWConvOutRefIdeal.nD Cert.GradWConvOutRefIdeal.τ Cert.GradWConvOutRefIdeal.sig) → Buf (Elt Ideal) ℓ) (g : Dev Cert.GradWConvOutRefIdeal.nD → PrngReg), Pre_GradWConvOutRefIdeal m →
    θ_run (Cert.GradWConvOutRefIdeal.defs (F := Ideal)) (onTc (τ := Cert.GradWConvOutRefIdeal.τ) (Cert.GradWConvOutRefIdeal.main (F := Ideal))) ⟨m, fun _ => 0, g⟩ (fun r => (∀ c : Dev Cert.GradWConvOutRefIdeal.nD,
      r.2.mem ((c.tc : Thread Cert.GradWConvOutRefIdeal.nD Cert.GradWConvOutRefIdeal.τ).loc Cert.GradWConvOutRefIdeal.main_arg0) = m ((c.tc : Thread Cert.GradWConvOutRefIdeal.nD Cert.GradWConvOutRefIdeal.τ).loc Cert.GradWConvOutRefIdeal.main_arg0)
      ∧ r.2.mem ((c.tc : Thread Cert.GradWConvOutRefIdeal.nD Cert.GradWConvOutRefIdeal.τ).loc Cert.GradWConvOutRefIdeal.main_arg1) = m ((c.tc : Thread Cert.GradWConvOutRefIdeal.nD Cert.GradWConvOutRefIdeal.τ).loc Cert.GradWConvOutRefIdeal.main_arg1))
      ∧ r.2.sem = fun _ => 0)

def quiescent_GradWHgrnOut [hGradWHgrnOut : Cert.GradWHgrnOut.Facts] : Prop :=
  ∀ (m : (ℓ : Loc Cert.GradWHgrnOut.nD Cert.GradWHgrnOut.τ Cert.GradWHgrnOut.sig) → Buf (Elt Bits) ℓ) (g : Dev Cert.GradWHgrnOut.nD → PrngReg), Pre_GradWHgrnOut m →
    θ_run (Cert.GradWHgrnOut.defs (F := Bits)) (onTc (τ := Cert.GradWHgrnOut.τ) (Cert.GradWHgrnOut.main (F := Bits))) ⟨m, fun _ => 0, g⟩ (fun r => (∀ c : Dev Cert.GradWHgrnOut.nD,
      r.2.mem ((c.tc : Thread Cert.GradWHgrnOut.nD Cert.GradWHgrnOut.τ).loc Cert.GradWHgrnOut.main_arg0) = m ((c.tc : Thread Cert.GradWHgrnOut.nD Cert.GradWHgrnOut.τ).loc Cert.GradWHgrnOut.main_arg0)
      ∧ r.2.mem ((c.tc : Thread Cert.GradWHgrnOut.nD Cert.GradWHgrnOut.τ).loc Cert.GradWHgrnOut.main_arg1) = m ((c.tc : Thread Cert.GradWHgrnOut.nD Cert.GradWHgrnOut.τ).loc Cert.GradWHgrnOut.main_arg1))
      ∧ r.2.sem = fun _ => 0)

def quiescent_GradWHgrnOutIdeal [hGradWHgrnOutIdeal : Cert.GradWHgrnOutIdeal.Facts] : Prop :=
  ∀ (m : (ℓ : Loc Cert.GradWHgrnOutIdeal.nD Cert.GradWHgrnOutIdeal.τ Cert.GradWHgrnOutIdeal.sig) → Buf (Elt Ideal) ℓ) (g : Dev Cert.GradWHgrnOutIdeal.nD → PrngReg), Pre_GradWHgrnOutIdeal m →
    θ_run (Cert.GradWHgrnOutIdeal.defs (F := Ideal)) (onTc (τ := Cert.GradWHgrnOutIdeal.τ) (Cert.GradWHgrnOutIdeal.main (F := Ideal))) ⟨m, fun _ => 0, g⟩ (fun r => (∀ c : Dev Cert.GradWHgrnOutIdeal.nD,
      r.2.mem ((c.tc : Thread Cert.GradWHgrnOutIdeal.nD Cert.GradWHgrnOutIdeal.τ).loc Cert.GradWHgrnOutIdeal.main_arg0) = m ((c.tc : Thread Cert.GradWHgrnOutIdeal.nD Cert.GradWHgrnOutIdeal.τ).loc Cert.GradWHgrnOutIdeal.main_arg0)
      ∧ r.2.mem ((c.tc : Thread Cert.GradWHgrnOutIdeal.nD Cert.GradWHgrnOutIdeal.τ).loc Cert.GradWHgrnOutIdeal.main_arg1) = m ((c.tc : Thread Cert.GradWHgrnOutIdeal.nD Cert.GradWHgrnOutIdeal.τ).loc Cert.GradWHgrnOutIdeal.main_arg1))
      ∧ r.2.sem = fun _ => 0)

def quiescent_GradWHgrnOutRefIdeal [hGradWHgrnOutRefIdeal : Cert.GradWHgrnOutRefIdeal.Facts] : Prop :=
  ∀ (m : (ℓ : Loc Cert.GradWHgrnOutRefIdeal.nD Cert.GradWHgrnOutRefIdeal.τ Cert.GradWHgrnOutRefIdeal.sig) → Buf (Elt Ideal) ℓ) (g : Dev Cert.GradWHgrnOutRefIdeal.nD → PrngReg), Pre_GradWHgrnOutRefIdeal m →
    θ_run (Cert.GradWHgrnOutRefIdeal.defs (F := Ideal)) (onTc (τ := Cert.GradWHgrnOutRefIdeal.τ) (Cert.GradWHgrnOutRefIdeal.main (F := Ideal))) ⟨m, fun _ => 0, g⟩ (fun r => (∀ c : Dev Cert.GradWHgrnOutRefIdeal.nD,
      r.2.mem ((c.tc : Thread Cert.GradWHgrnOutRefIdeal.nD Cert.GradWHgrnOutRefIdeal.τ).loc Cert.GradWHgrnOutRefIdeal.main_arg0) = m ((c.tc : Thread Cert.GradWHgrnOutRefIdeal.nD Cert.GradWHgrnOutRefIdeal.τ).loc Cert.GradWHgrnOutRefIdeal.main_arg0)
      ∧ r.2.mem ((c.tc : Thread Cert.GradWHgrnOutRefIdeal.nD Cert.GradWHgrnOutRefIdeal.τ).loc Cert.GradWHgrnOutRefIdeal.main_arg1) = m ((c.tc : Thread Cert.GradWHgrnOutRefIdeal.nD Cert.GradWHgrnOutRefIdeal.τ).loc Cert.GradWHgrnOutRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4)
      ∧ r.2.mem ((c.tc : Thread Cert.FfnInBwd.nD Cert.FfnInBwd.τ).loc Cert.FfnInBwd.main_arg5) = m ((c.tc : Thread Cert.FfnInBwd.nD Cert.FfnInBwd.τ).loc Cert.FfnInBwd.main_arg5))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ r.2.sem = fun _ => 0)

def quiescent_FfnInBwdIdeal_pre_inputs_finite [hFfnInBwdIdeal : Cert.FfnInBwdIdeal.Facts] [hPre_inputs_finite : Cert.Pre_inputs_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal_inputs_finite m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ r.2.sem = fun _ => 0)

def quiescent_FfnInBwdRefIdeal [hFfnInBwdRefIdeal : Cert.FfnInBwdRefIdeal.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4)
      ∧ r.2.mem ((c.tc : Thread Cert.FfnInBwdRefIdeal.nD Cert.FfnInBwdRefIdeal.τ).loc Cert.FfnInBwdRefIdeal.main_arg5) = m ((c.tc : Thread Cert.FfnInBwdRefIdeal.nD Cert.FfnInBwdRefIdeal.τ).loc Cert.FfnInBwdRefIdeal.main_arg5))
      ∧ r.2.sem = fun _ => 0)

def quiescent_FfnInBwdRefIdeal_pre_inputs_finite [hFfnInBwdRefIdeal : Cert.FfnInBwdRefIdeal.Facts] [hPre_inputs_finite : Cert.Pre_inputs_finite.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal_inputs_finite m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4)
      ∧ r.2.mem ((c.tc : Thread Cert.FfnInBwdRefIdeal.nD Cert.FfnInBwdRefIdeal.τ).loc Cert.FfnInBwdRefIdeal.main_arg5) = m ((c.tc : Thread Cert.FfnInBwdRefIdeal.nD Cert.FfnInBwdRefIdeal.τ).loc Cert.FfnInBwdRefIdeal.main_arg5))
      ∧ r.2.sem = fun _ => 0)

def quiescent_FfnOutLoss [hFfnOutLoss : Cert.FfnOutLoss.Facts] : Prop :=
  ∀ (m : (ℓ : Loc Cert.FfnOutLoss.nD Cert.FfnOutLoss.τ Cert.FfnOutLoss.sig) → Buf (Elt Bits) ℓ) (g : Dev Cert.FfnOutLoss.nD → PrngReg), Pre_FfnOutLoss m →
    θ_run (Cert.FfnOutLoss.defs (F := Bits)) (onTc (τ := Cert.FfnOutLoss.τ) (Cert.FfnOutLoss.main (F := Bits))) ⟨m, fun _ => 0, g⟩ (fun r => (∀ c : Dev Cert.FfnOutLoss.nD,
      r.2.mem ((c.tc : Thread Cert.FfnOutLoss.nD Cert.FfnOutLoss.τ).loc Cert.FfnOutLoss.main_arg0) = m ((c.tc : Thread Cert.FfnOutLoss.nD Cert.FfnOutLoss.τ).loc Cert.FfnOutLoss.main_arg0)
      ∧ r.2.mem ((c.tc : Thread Cert.FfnOutLoss.nD Cert.FfnOutLoss.τ).loc Cert.FfnOutLoss.main_arg1) = m ((c.tc : Thread Cert.FfnOutLoss.nD Cert.FfnOutLoss.τ).loc Cert.FfnOutLoss.main_arg1)
      ∧ r.2.mem ((c.tc : Thread Cert.FfnOutLoss.nD Cert.FfnOutLoss.τ).loc Cert.FfnOutLoss.main_arg2) = m ((c.tc : Thread Cert.FfnOutLoss.nD Cert.FfnOutLoss.τ).loc Cert.FfnOutLoss.main_arg2)
      ∧ r.2.mem ((c.tc : Thread Cert.FfnOutLoss.nD Cert.FfnOutLoss.τ).loc Cert.FfnOutLoss.main_arg3) = m ((c.tc : Thread Cert.FfnOutLoss.nD Cert.FfnOutLoss.τ).loc Cert.FfnOutLoss.main_arg3)
      ∧ r.2.mem ((c.tc : Thread Cert.FfnOutLoss.nD Cert.FfnOutLoss.τ).loc Cert.FfnOutLoss.main_arg4) = m ((c.tc : Thread Cert.FfnOutLoss.nD Cert.FfnOutLoss.τ).loc Cert.FfnOutLoss.main_arg4)
      ∧ r.2.mem ((c.tc : Thread Cert.FfnOutLoss.nD Cert.FfnOutLoss.τ).loc Cert.FfnOutLoss.main_arg5) = m ((c.tc : Thread Cert.FfnOutLoss.nD Cert.FfnOutLoss.τ).loc Cert.FfnOutLoss.main_arg5))
      ∧ r.2.sem = fun _ => 0)

def quiescent_FfnOutLossIdeal [hFfnOutLossIdeal : Cert.FfnOutLossIdeal.Facts] : Prop :=
  ∀ (m : (ℓ : Loc Cert.FfnOutLossIdeal.nD Cert.FfnOutLossIdeal.τ Cert.FfnOutLossIdeal.sig) → Buf (Elt Ideal) ℓ) (g : Dev Cert.FfnOutLossIdeal.nD → PrngReg), Pre_FfnOutLossIdeal m →
    θ_run (Cert.FfnOutLossIdeal.defs (F := Ideal)) (onTc (τ := Cert.FfnOutLossIdeal.τ) (Cert.FfnOutLossIdeal.main (F := Ideal))) ⟨m, fun _ => 0, g⟩ (fun r => (∀ c : Dev Cert.FfnOutLossIdeal.nD,
      r.2.mem ((c.tc : Thread Cert.FfnOutLossIdeal.nD Cert.FfnOutLossIdeal.τ).loc Cert.FfnOutLossIdeal.main_arg0) = m ((c.tc : Thread Cert.FfnOutLossIdeal.nD Cert.FfnOutLossIdeal.τ).loc Cert.FfnOutLossIdeal.main_arg0)
      ∧ r.2.mem ((c.tc : Thread Cert.FfnOutLossIdeal.nD Cert.FfnOutLossIdeal.τ).loc Cert.FfnOutLossIdeal.main_arg1) = m ((c.tc : Thread Cert.FfnOutLossIdeal.nD Cert.FfnOutLossIdeal.τ).loc Cert.FfnOutLossIdeal.main_arg1)
      ∧ r.2.mem ((c.tc : Thread Cert.FfnOutLossIdeal.nD Cert.FfnOutLossIdeal.τ).loc Cert.FfnOutLossIdeal.main_arg2) = m ((c.tc : Thread Cert.FfnOutLossIdeal.nD Cert.FfnOutLossIdeal.τ).loc Cert.FfnOutLossIdeal.main_arg2)
      ∧ r.2.mem ((c.tc : Thread Cert.FfnOutLossIdeal.nD Cert.FfnOutLossIdeal.τ).loc Cert.FfnOutLossIdeal.main_arg3) = m ((c.tc : Thread Cert.FfnOutLossIdeal.nD Cert.FfnOutLossIdeal.τ).loc Cert.FfnOutLossIdeal.main_arg3)
      ∧ r.2.mem ((c.tc : Thread Cert.FfnOutLossIdeal.nD Cert.FfnOutLossIdeal.τ).loc Cert.FfnOutLossIdeal.main_arg4) = m ((c.tc : Thread Cert.FfnOutLossIdeal.nD Cert.FfnOutLossIdeal.τ).loc Cert.FfnOutLossIdeal.main_arg4)
      ∧ r.2.mem ((c.tc : Thread Cert.FfnOutLossIdeal.nD Cert.FfnOutLossIdeal.τ).loc Cert.FfnOutLossIdeal.main_arg5) = m ((c.tc : Thread Cert.FfnOutLossIdeal.nD Cert.FfnOutLossIdeal.τ).loc Cert.FfnOutLossIdeal.main_arg5))
      ∧ r.2.sem = fun _ => 0)

def quiescent_FfnOutLossIdeal_pre_head_inputs_finite [hFfnOutLossIdeal : Cert.FfnOutLossIdeal.Facts] [hPre_head_inputs_finite : Cert.Pre_head_inputs_finite.Facts] : Prop :=
  ∀ (m : (ℓ : Loc Cert.FfnOutLossIdeal.nD Cert.FfnOutLossIdeal.τ Cert.FfnOutLossIdeal.sig) → Buf (Elt Ideal) ℓ) (g : Dev Cert.FfnOutLossIdeal.nD → PrngReg), Pre_FfnOutLossIdeal_head_inputs_finite m →
    θ_run (Cert.FfnOutLossIdeal.defs (F := Ideal)) (onTc (τ := Cert.FfnOutLossIdeal.τ) (Cert.FfnOutLossIdeal.main (F := Ideal))) ⟨m, fun _ => 0, g⟩ (fun r => (∀ c : Dev Cert.FfnOutLossIdeal.nD,
      r.2.mem ((c.tc : Thread Cert.FfnOutLossIdeal.nD Cert.FfnOutLossIdeal.τ).loc Cert.FfnOutLossIdeal.main_arg0) = m ((c.tc : Thread Cert.FfnOutLossIdeal.nD Cert.FfnOutLossIdeal.τ).loc Cert.FfnOutLossIdeal.main_arg0)
      ∧ r.2.mem ((c.tc : Thread Cert.FfnOutLossIdeal.nD Cert.FfnOutLossIdeal.τ).loc Cert.FfnOutLossIdeal.main_arg1) = m ((c.tc : Thread Cert.FfnOutLossIdeal.nD Cert.FfnOutLossIdeal.τ).loc Cert.FfnOutLossIdeal.main_arg1)
      ∧ r.2.mem ((c.tc : Thread Cert.FfnOutLossIdeal.nD Cert.FfnOutLossIdeal.τ).loc Cert.FfnOutLossIdeal.main_arg2) = m ((c.tc : Thread Cert.FfnOutLossIdeal.nD Cert.FfnOutLossIdeal.τ).loc Cert.FfnOutLossIdeal.main_arg2)
      ∧ r.2.mem ((c.tc : Thread Cert.FfnOutLossIdeal.nD Cert.FfnOutLossIdeal.τ).loc Cert.FfnOutLossIdeal.main_arg3) = m ((c.tc : Thread Cert.FfnOutLossIdeal.nD Cert.FfnOutLossIdeal.τ).loc Cert.FfnOutLossIdeal.main_arg3)
      ∧ r.2.mem ((c.tc : Thread Cert.FfnOutLossIdeal.nD Cert.FfnOutLossIdeal.τ).loc Cert.FfnOutLossIdeal.main_arg4) = m ((c.tc : Thread Cert.FfnOutLossIdeal.nD Cert.FfnOutLossIdeal.τ).loc Cert.FfnOutLossIdeal.main_arg4)
      ∧ r.2.mem ((c.tc : Thread Cert.FfnOutLossIdeal.nD Cert.FfnOutLossIdeal.τ).loc Cert.FfnOutLossIdeal.main_arg5) = m ((c.tc : Thread Cert.FfnOutLossIdeal.nD Cert.FfnOutLossIdeal.τ).loc Cert.FfnOutLossIdeal.main_arg5))
      ∧ r.2.sem = fun _ => 0)

def quiescent_FfnOutLossRefIdeal [hFfnOutLossRefIdeal : Cert.FfnOutLossRefIdeal.Facts] : Prop :=
  ∀ (m : (ℓ : Loc Cert.FfnOutLossRefIdeal.nD Cert.FfnOutLossRefIdeal.τ Cert.FfnOutLossRefIdeal.sig) → Buf (Elt Ideal) ℓ) (g : Dev Cert.FfnOutLossRefIdeal.nD → PrngReg), Pre_FfnOutLossRefIdeal m →
    θ_run (Cert.FfnOutLossRefIdeal.defs (F := Ideal)) (onTc (τ := Cert.FfnOutLossRefIdeal.τ) (Cert.FfnOutLossRefIdeal.main (F := Ideal))) ⟨m, fun _ => 0, g⟩ (fun r => (∀ c : Dev Cert.FfnOutLossRefIdeal.nD,
      r.2.mem ((c.tc : Thread Cert.FfnOutLossRefIdeal.nD Cert.FfnOutLossRefIdeal.τ).loc Cert.FfnOutLossRefIdeal.main_arg0) = m ((c.tc : Thread Cert.FfnOutLossRefIdeal.nD Cert.FfnOutLossRefIdeal.τ).loc Cert.FfnOutLossRefIdeal.main_arg0)
      ∧ r.2.mem ((c.tc : Thread Cert.FfnOutLossRefIdeal.nD Cert.FfnOutLossRefIdeal.τ).loc Cert.FfnOutLossRefIdeal.main_arg1) = m ((c.tc : Thread Cert.FfnOutLossRefIdeal.nD Cert.FfnOutLossRefIdeal.τ).loc Cert.FfnOutLossRefIdeal.main_arg1)
      ∧ r.2.mem ((c.tc : Thread Cert.FfnOutLossRefIdeal.nD Cert.FfnOutLossRefIdeal.τ).loc Cert.FfnOutLossRefIdeal.main_arg2) = m ((c.tc : Thread Cert.FfnOutLossRefIdeal.nD Cert.FfnOutLossRefIdeal.τ).loc Cert.FfnOutLossRefIdeal.main_arg2)
      ∧ r.2.mem ((c.tc : Thread Cert.FfnOutLossRefIdeal.nD Cert.FfnOutLossRefIdeal.τ).loc Cert.FfnOutLossRefIdeal.main_arg3) = m ((c.tc : Thread Cert.FfnOutLossRefIdeal.nD Cert.FfnOutLossRefIdeal.τ).loc Cert.FfnOutLossRefIdeal.main_arg3)
      ∧ r.2.mem ((c.tc : Thread Cert.FfnOutLossRefIdeal.nD Cert.FfnOutLossRefIdeal.τ).loc Cert.FfnOutLossRefIdeal.main_arg4) = m ((c.tc : Thread Cert.FfnOutLossRefIdeal.nD Cert.FfnOutLossRefIdeal.τ).loc Cert.FfnOutLossRefIdeal.main_arg4)
      ∧ r.2.mem ((c.tc : Thread Cert.FfnOutLossRefIdeal.nD Cert.FfnOutLossRefIdeal.τ).loc Cert.FfnOutLossRefIdeal.main_arg5) = m ((c.tc : Thread Cert.FfnOutLossRefIdeal.nD Cert.FfnOutLossRefIdeal.τ).loc Cert.FfnOutLossRefIdeal.main_arg5))
      ∧ r.2.sem = fun _ => 0)

def quiescent_FfnOutLossRefIdeal_pre_head_inputs_finite [hFfnOutLossRefIdeal : Cert.FfnOutLossRefIdeal.Facts] [hPre_head_inputs_finite : Cert.Pre_head_inputs_finite.Facts] : Prop :=
  ∀ (m : (ℓ : Loc Cert.FfnOutLossRefIdeal.nD Cert.FfnOutLossRefIdeal.τ Cert.FfnOutLossRefIdeal.sig) → Buf (Elt Ideal) ℓ) (g : Dev Cert.FfnOutLossRefIdeal.nD → PrngReg), Pre_FfnOutLossRefIdeal_head_inputs_finite m →
    θ_run (Cert.FfnOutLossRefIdeal.defs (F := Ideal)) (onTc (τ := Cert.FfnOutLossRefIdeal.τ) (Cert.FfnOutLossRefIdeal.main (F := Ideal))) ⟨m, fun _ => 0, g⟩ (fun r => (∀ c : Dev Cert.FfnOutLossRefIdeal.nD,
      r.2.mem ((c.tc : Thread Cert.FfnOutLossRefIdeal.nD Cert.FfnOutLossRefIdeal.τ).loc Cert.FfnOutLossRefIdeal.main_arg0) = m ((c.tc : Thread Cert.FfnOutLossRefIdeal.nD Cert.FfnOutLossRefIdeal.τ).loc Cert.FfnOutLossRefIdeal.main_arg0)
      ∧ r.2.mem ((c.tc : Thread Cert.FfnOutLossRefIdeal.nD Cert.FfnOutLossRefIdeal.τ).loc Cert.FfnOutLossRefIdeal.main_arg1) = m ((c.tc : Thread Cert.FfnOutLossRefIdeal.nD Cert.FfnOutLossRefIdeal.τ).loc Cert.FfnOutLossRefIdeal.main_arg1)
      ∧ r.2.mem ((c.tc : Thread Cert.FfnOutLossRefIdeal.nD Cert.FfnOutLossRefIdeal.τ).loc Cert.FfnOutLossRefIdeal.main_arg2) = m ((c.tc : Thread Cert.FfnOutLossRefIdeal.nD Cert.FfnOutLossRefIdeal.τ).loc Cert.FfnOutLossRefIdeal.main_arg2)
      ∧ r.2.mem ((c.tc : Thread Cert.FfnOutLossRefIdeal.nD Cert.FfnOutLossRefIdeal.τ).loc Cert.FfnOutLossRefIdeal.main_arg3) = m ((c.tc : Thread Cert.FfnOutLossRefIdeal.nD Cert.FfnOutLossRefIdeal.τ).loc Cert.FfnOutLossRefIdeal.main_arg3)
      ∧ r.2.mem ((c.tc : Thread Cert.FfnOutLossRefIdeal.nD Cert.FfnOutLossRefIdeal.τ).loc Cert.FfnOutLossRefIdeal.main_arg4) = m ((c.tc : Thread Cert.FfnOutLossRefIdeal.nD Cert.FfnOutLossRefIdeal.τ).loc Cert.FfnOutLossRefIdeal.main_arg4)
      ∧ r.2.mem ((c.tc : Thread Cert.FfnOutLossRefIdeal.nD Cert.FfnOutLossRefIdeal.τ).loc Cert.FfnOutLossRefIdeal.main_arg5) = m ((c.tc : Thread Cert.FfnOutLossRefIdeal.nD Cert.FfnOutLossRefIdeal.τ).loc Cert.FfnOutLossRefIdeal.main_arg5))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInRefIdeal [hAdamwWInRefIdeal : Cert.AdamwWInRefIdeal.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3))
      ∧ r.2.sem = fun _ => 0)

def quiescent_AdamwWConvDw [hAdamwWConvDw : Cert.AdamwWConvDw.Facts] : Prop :=
  ∀ (m : (ℓ : Loc Cert.AdamwWConvDw.nD Cert.AdamwWConvDw.τ Cert.AdamwWConvDw.sig) → Buf (Elt Bits) ℓ) (g : Dev Cert.AdamwWConvDw.nD → PrngReg), Pre_AdamwWConvDw m →
    θ_run (Cert.AdamwWConvDw.defs (F := Bits)) (onTc (τ := Cert.AdamwWConvDw.τ) (Cert.AdamwWConvDw.main (F := Bits))) ⟨m, fun _ => 0, g⟩ (fun r => (∀ c : Dev Cert.AdamwWConvDw.nD,
      r.2.mem ((c.tc : Thread Cert.AdamwWConvDw.nD Cert.AdamwWConvDw.τ).loc Cert.AdamwWConvDw.main_arg0) = m ((c.tc : Thread Cert.AdamwWConvDw.nD Cert.AdamwWConvDw.τ).loc Cert.AdamwWConvDw.main_arg0)
      ∧ r.2.mem ((c.tc : Thread Cert.AdamwWConvDw.nD Cert.AdamwWConvDw.τ).loc Cert.AdamwWConvDw.main_arg1) = m ((c.tc : Thread Cert.AdamwWConvDw.nD Cert.AdamwWConvDw.τ).loc Cert.AdamwWConvDw.main_arg1)
      ∧ r.2.mem ((c.tc : Thread Cert.AdamwWConvDw.nD Cert.AdamwWConvDw.τ).loc Cert.AdamwWConvDw.main_arg2) = m ((c.tc : Thread Cert.AdamwWConvDw.nD Cert.AdamwWConvDw.τ).loc Cert.AdamwWConvDw.main_arg2)
      ∧ r.2.mem ((c.tc : Thread Cert.AdamwWConvDw.nD Cert.AdamwWConvDw.τ).loc Cert.AdamwWConvDw.main_arg3) = m ((c.tc : Thread Cert.AdamwWConvDw.nD Cert.AdamwWConvDw.τ).loc Cert.AdamwWConvDw.main_arg3))
      ∧ r.2.sem = fun _ => 0)

def quiescent_AdamwWConvDwIdeal [hAdamwWConvDwIdeal : Cert.AdamwWConvDwIdeal.Facts] : Prop :=
  ∀ (m : (ℓ : Loc Cert.AdamwWConvDwIdeal.nD Cert.AdamwWConvDwIdeal.τ Cert.AdamwWConvDwIdeal.sig) → Buf (Elt Ideal) ℓ) (g : Dev Cert.AdamwWConvDwIdeal.nD → PrngReg), Pre_AdamwWConvDwIdeal m →
    θ_run (Cert.AdamwWConvDwIdeal.defs (F := Ideal)) (onTc (τ := Cert.AdamwWConvDwIdeal.τ) (Cert.AdamwWConvDwIdeal.main (F := Ideal))) ⟨m, fun _ => 0, g⟩ (fun r => (∀ c : Dev Cert.AdamwWConvDwIdeal.nD,
      r.2.mem ((c.tc : Thread Cert.AdamwWConvDwIdeal.nD Cert.AdamwWConvDwIdeal.τ).loc Cert.AdamwWConvDwIdeal.main_arg0) = m ((c.tc : Thread Cert.AdamwWConvDwIdeal.nD Cert.AdamwWConvDwIdeal.τ).loc Cert.AdamwWConvDwIdeal.main_arg0)
      ∧ r.2.mem ((c.tc : Thread Cert.AdamwWConvDwIdeal.nD Cert.AdamwWConvDwIdeal.τ).loc Cert.AdamwWConvDwIdeal.main_arg1) = m ((c.tc : Thread Cert.AdamwWConvDwIdeal.nD Cert.AdamwWConvDwIdeal.τ).loc Cert.AdamwWConvDwIdeal.main_arg1)
      ∧ r.2.mem ((c.tc : Thread Cert.AdamwWConvDwIdeal.nD Cert.AdamwWConvDwIdeal.τ).loc Cert.AdamwWConvDwIdeal.main_arg2) = m ((c.tc : Thread Cert.AdamwWConvDwIdeal.nD Cert.AdamwWConvDwIdeal.τ).loc Cert.AdamwWConvDwIdeal.main_arg2)
      ∧ r.2.mem ((c.tc : Thread Cert.AdamwWConvDwIdeal.nD Cert.AdamwWConvDwIdeal.τ).loc Cert.AdamwWConvDwIdeal.main_arg3) = m ((c.tc : Thread Cert.AdamwWConvDwIdeal.nD Cert.AdamwWConvDwIdeal.τ).loc Cert.AdamwWConvDwIdeal.main_arg3))
      ∧ r.2.sem = fun _ => 0)

def quiescent_AdamwWConvDwRefIdeal [hAdamwWConvDwRefIdeal : Cert.AdamwWConvDwRefIdeal.Facts] : Prop :=
  ∀ (m : (ℓ : Loc Cert.AdamwWConvDwRefIdeal.nD Cert.AdamwWConvDwRefIdeal.τ Cert.AdamwWConvDwRefIdeal.sig) → Buf (Elt Ideal) ℓ) (g : Dev Cert.AdamwWConvDwRefIdeal.nD → PrngReg), Pre_AdamwWConvDwRefIdeal m →
    θ_run (Cert.AdamwWConvDwRefIdeal.defs (F := Ideal)) (onTc (τ := Cert.AdamwWConvDwRefIdeal.τ) (Cert.AdamwWConvDwRefIdeal.main (F := Ideal))) ⟨m, fun _ => 0, g⟩ (fun r => (∀ c : Dev Cert.AdamwWConvDwRefIdeal.nD,
      r.2.mem ((c.tc : Thread Cert.AdamwWConvDwRefIdeal.nD Cert.AdamwWConvDwRefIdeal.τ).loc Cert.AdamwWConvDwRefIdeal.main_arg0) = m ((c.tc : Thread Cert.AdamwWConvDwRefIdeal.nD Cert.AdamwWConvDwRefIdeal.τ).loc Cert.AdamwWConvDwRefIdeal.main_arg0)
      ∧ r.2.mem ((c.tc : Thread Cert.AdamwWConvDwRefIdeal.nD Cert.AdamwWConvDwRefIdeal.τ).loc Cert.AdamwWConvDwRefIdeal.main_arg1) = m ((c.tc : Thread Cert.AdamwWConvDwRefIdeal.nD Cert.AdamwWConvDwRefIdeal.τ).loc Cert.AdamwWConvDwRefIdeal.main_arg1)
      ∧ r.2.mem ((c.tc : Thread Cert.AdamwWConvDwRefIdeal.nD Cert.AdamwWConvDwRefIdeal.τ).loc Cert.AdamwWConvDwRefIdeal.main_arg2) = m ((c.tc : Thread Cert.AdamwWConvDwRefIdeal.nD Cert.AdamwWConvDwRefIdeal.τ).loc Cert.AdamwWConvDwRefIdeal.main_arg2)
      ∧ r.2.mem ((c.tc : Thread Cert.AdamwWConvDwRefIdeal.nD Cert.AdamwWConvDwRefIdeal.τ).loc Cert.AdamwWConvDwRefIdeal.main_arg3) = m ((c.tc : Thread Cert.AdamwWConvDwRefIdeal.nD Cert.AdamwWConvDwRefIdeal.τ).loc Cert.AdamwWConvDwRefIdeal.main_arg3))
      ∧ r.2.sem = fun _ => 0)

def quiescent_AdamwWConvOut [hAdamwWConvOut : Cert.AdamwWConvOut.Facts] : Prop :=
  ∀ (m : (ℓ : Loc Cert.AdamwWConvOut.nD Cert.AdamwWConvOut.τ Cert.AdamwWConvOut.sig) → Buf (Elt Bits) ℓ) (g : Dev Cert.AdamwWConvOut.nD → PrngReg), Pre_AdamwWConvOut m →
    θ_run (Cert.AdamwWConvOut.defs (F := Bits)) (onTc (τ := Cert.AdamwWConvOut.τ) (Cert.AdamwWConvOut.main (F := Bits))) ⟨m, fun _ => 0, g⟩ (fun r => (∀ c : Dev Cert.AdamwWConvOut.nD,
      r.2.mem ((c.tc : Thread Cert.AdamwWConvOut.nD Cert.AdamwWConvOut.τ).loc Cert.AdamwWConvOut.main_arg0) = m ((c.tc : Thread Cert.AdamwWConvOut.nD Cert.AdamwWConvOut.τ).loc Cert.AdamwWConvOut.main_arg0)
      ∧ r.2.mem ((c.tc : Thread Cert.AdamwWConvOut.nD Cert.AdamwWConvOut.τ).loc Cert.AdamwWConvOut.main_arg1) = m ((c.tc : Thread Cert.AdamwWConvOut.nD Cert.AdamwWConvOut.τ).loc Cert.AdamwWConvOut.main_arg1)
      ∧ r.2.mem ((c.tc : Thread Cert.AdamwWConvOut.nD Cert.AdamwWConvOut.τ).loc Cert.AdamwWConvOut.main_arg2) = m ((c.tc : Thread Cert.AdamwWConvOut.nD Cert.AdamwWConvOut.τ).loc Cert.AdamwWConvOut.main_arg2)
      ∧ r.2.mem ((c.tc : Thread Cert.AdamwWConvOut.nD Cert.AdamwWConvOut.τ).loc Cert.AdamwWConvOut.main_arg3) = m ((c.tc : Thread Cert.AdamwWConvOut.nD Cert.AdamwWConvOut.τ).loc Cert.AdamwWConvOut.main_arg3))
      ∧ r.2.sem = fun _ => 0)

def quiescent_AdamwWConvOutIdeal [hAdamwWConvOutIdeal : Cert.AdamwWConvOutIdeal.Facts] : Prop :=
  ∀ (m : (ℓ : Loc Cert.AdamwWConvOutIdeal.nD Cert.AdamwWConvOutIdeal.τ Cert.AdamwWConvOutIdeal.sig) → Buf (Elt Ideal) ℓ) (g : Dev Cert.AdamwWConvOutIdeal.nD → PrngReg), Pre_AdamwWConvOutIdeal m →
    θ_run (Cert.AdamwWConvOutIdeal.defs (F := Ideal)) (onTc (τ := Cert.AdamwWConvOutIdeal.τ) (Cert.AdamwWConvOutIdeal.main (F := Ideal))) ⟨m, fun _ => 0, g⟩ (fun r => (∀ c : Dev Cert.AdamwWConvOutIdeal.nD,
      r.2.mem ((c.tc : Thread Cert.AdamwWConvOutIdeal.nD Cert.AdamwWConvOutIdeal.τ).loc Cert.AdamwWConvOutIdeal.main_arg0) = m ((c.tc : Thread Cert.AdamwWConvOutIdeal.nD Cert.AdamwWConvOutIdeal.τ).loc Cert.AdamwWConvOutIdeal.main_arg0)
      ∧ r.2.mem ((c.tc : Thread Cert.AdamwWConvOutIdeal.nD Cert.AdamwWConvOutIdeal.τ).loc Cert.AdamwWConvOutIdeal.main_arg1) = m ((c.tc : Thread Cert.AdamwWConvOutIdeal.nD Cert.AdamwWConvOutIdeal.τ).loc Cert.AdamwWConvOutIdeal.main_arg1)
      ∧ r.2.mem ((c.tc : Thread Cert.AdamwWConvOutIdeal.nD Cert.AdamwWConvOutIdeal.τ).loc Cert.AdamwWConvOutIdeal.main_arg2) = m ((c.tc : Thread Cert.AdamwWConvOutIdeal.nD Cert.AdamwWConvOutIdeal.τ).loc Cert.AdamwWConvOutIdeal.main_arg2)
      ∧ r.2.mem ((c.tc : Thread Cert.AdamwWConvOutIdeal.nD Cert.AdamwWConvOutIdeal.τ).loc Cert.AdamwWConvOutIdeal.main_arg3) = m ((c.tc : Thread Cert.AdamwWConvOutIdeal.nD Cert.AdamwWConvOutIdeal.τ).loc Cert.AdamwWConvOutIdeal.main_arg3))
      ∧ r.2.sem = fun _ => 0)

def quiescent_AdamwWConvOutRefIdeal [hAdamwWConvOutRefIdeal : Cert.AdamwWConvOutRefIdeal.Facts] : Prop :=
  ∀ (m : (ℓ : Loc Cert.AdamwWConvOutRefIdeal.nD Cert.AdamwWConvOutRefIdeal.τ Cert.AdamwWConvOutRefIdeal.sig) → Buf (Elt Ideal) ℓ) (g : Dev Cert.AdamwWConvOutRefIdeal.nD → PrngReg), Pre_AdamwWConvOutRefIdeal m →
    θ_run (Cert.AdamwWConvOutRefIdeal.defs (F := Ideal)) (onTc (τ := Cert.AdamwWConvOutRefIdeal.τ) (Cert.AdamwWConvOutRefIdeal.main (F := Ideal))) ⟨m, fun _ => 0, g⟩ (fun r => (∀ c : Dev Cert.AdamwWConvOutRefIdeal.nD,
      r.2.mem ((c.tc : Thread Cert.AdamwWConvOutRefIdeal.nD Cert.AdamwWConvOutRefIdeal.τ).loc Cert.AdamwWConvOutRefIdeal.main_arg0) = m ((c.tc : Thread Cert.AdamwWConvOutRefIdeal.nD Cert.AdamwWConvOutRefIdeal.τ).loc Cert.AdamwWConvOutRefIdeal.main_arg0)
      ∧ r.2.mem ((c.tc : Thread Cert.AdamwWConvOutRefIdeal.nD Cert.AdamwWConvOutRefIdeal.τ).loc Cert.AdamwWConvOutRefIdeal.main_arg1) = m ((c.tc : Thread Cert.AdamwWConvOutRefIdeal.nD Cert.AdamwWConvOutRefIdeal.τ).loc Cert.AdamwWConvOutRefIdeal.main_arg1)
      ∧ r.2.mem ((c.tc : Thread Cert.AdamwWConvOutRefIdeal.nD Cert.AdamwWConvOutRefIdeal.τ).loc Cert.AdamwWConvOutRefIdeal.main_arg2) = m ((c.tc : Thread Cert.AdamwWConvOutRefIdeal.nD Cert.AdamwWConvOutRefIdeal.τ).loc Cert.AdamwWConvOutRefIdeal.main_arg2)
      ∧ r.2.mem ((c.tc : Thread Cert.AdamwWConvOutRefIdeal.nD Cert.AdamwWConvOutRefIdeal.τ).loc Cert.AdamwWConvOutRefIdeal.main_arg3) = m ((c.tc : Thread Cert.AdamwWConvOutRefIdeal.nD Cert.AdamwWConvOutRefIdeal.τ).loc Cert.AdamwWConvOutRefIdeal.main_arg3))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3))
      ∧ r.2.sem = fun _ => 0)

def quiescent_AdamwWFfnIn [hAdamwWFfnIn : Cert.AdamwWFfnIn.Facts] : Prop :=
  ∀ (m : (ℓ : Loc Cert.AdamwWFfnIn.nD Cert.AdamwWFfnIn.τ Cert.AdamwWFfnIn.sig) → Buf (Elt Bits) ℓ) (g : Dev Cert.AdamwWFfnIn.nD → PrngReg), Pre_AdamwWFfnIn m →
    θ_run (Cert.AdamwWFfnIn.defs (F := Bits)) (onTc (τ := Cert.AdamwWFfnIn.τ) (Cert.AdamwWFfnIn.main (F := Bits))) ⟨m, fun _ => 0, g⟩ (fun r => (∀ c : Dev Cert.AdamwWFfnIn.nD,
      r.2.mem ((c.tc : Thread Cert.AdamwWFfnIn.nD Cert.AdamwWFfnIn.τ).loc Cert.AdamwWFfnIn.main_arg0) = m ((c.tc : Thread Cert.AdamwWFfnIn.nD Cert.AdamwWFfnIn.τ).loc Cert.AdamwWFfnIn.main_arg0)
      ∧ r.2.mem ((c.tc : Thread Cert.AdamwWFfnIn.nD Cert.AdamwWFfnIn.τ).loc Cert.AdamwWFfnIn.main_arg1) = m ((c.tc : Thread Cert.AdamwWFfnIn.nD Cert.AdamwWFfnIn.τ).loc Cert.AdamwWFfnIn.main_arg1)
      ∧ r.2.mem ((c.tc : Thread Cert.AdamwWFfnIn.nD Cert.AdamwWFfnIn.τ).loc Cert.AdamwWFfnIn.main_arg2) = m ((c.tc : Thread Cert.AdamwWFfnIn.nD Cert.AdamwWFfnIn.τ).loc Cert.AdamwWFfnIn.main_arg2)
      ∧ r.2.mem ((c.tc : Thread Cert.AdamwWFfnIn.nD Cert.AdamwWFfnIn.τ).loc Cert.AdamwWFfnIn.main_arg3) = m ((c.tc : Thread Cert.AdamwWFfnIn.nD Cert.AdamwWFfnIn.τ).loc Cert.AdamwWFfnIn.main_arg3))
      ∧ r.2.sem = fun _ => 0)

def quiescent_AdamwWFfnInIdeal [hAdamwWFfnInIdeal : Cert.AdamwWFfnInIdeal.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg), Pre_AdamwWFfnInIdeal m →
    θ_run (Cert.AdamwWFfnInIdeal.defs (F := Ideal)) (onTc (τ := Cert.AdamwWFfnInIdeal.τ) (Cert.AdamwWFfnInIdeal.main (F := Ideal))) ⟨m, fun _ => 0, g⟩ (fun r => (∀ c : Dev Cert.AdamwWFfnInIdeal.nD,
      r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
      ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
      ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
      ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3))
      ∧ r.2.sem = fun _ => 0)

def quiescent_AdamwWFfnInRefIdeal [hAdamwWFfnInRefIdeal : Cert.AdamwWFfnInRefIdeal.Facts] : Prop :=
  ∀ (m : (ℓ : Loc Cert.AdamwWFfnInRefIdeal.nD Cert.AdamwWFfnInRefIdeal.τ Cert.AdamwWFfnInRefIdeal.sig) → Buf (Elt Ideal) ℓ) (g : Dev Cert.AdamwWFfnInRefIdeal.nD → PrngReg), Pre_AdamwWFfnInRefIdeal m →
    θ_run (Cert.AdamwWFfnInRefIdeal.defs (F := Ideal)) (onTc (τ := Cert.AdamwWFfnInRefIdeal.τ) (Cert.AdamwWFfnInRefIdeal.main (F := Ideal))) ⟨m, fun _ => 0, g⟩ (fun r => (∀ c : Dev Cert.AdamwWFfnInRefIdeal.nD,
      r.2.mem ((c.tc : Thread Cert.AdamwWFfnInRefIdeal.nD Cert.AdamwWFfnInRefIdeal.τ).loc Cert.AdamwWFfnInRefIdeal.main_arg0) = m ((c.tc : Thread Cert.AdamwWFfnInRefIdeal.nD Cert.AdamwWFfnInRefIdeal.τ).loc Cert.AdamwWFfnInRefIdeal.main_arg0)
      ∧ r.2.mem ((c.tc : Thread Cert.AdamwWFfnInRefIdeal.nD Cert.AdamwWFfnInRefIdeal.τ).loc Cert.AdamwWFfnInRefIdeal.main_arg1) = m ((c.tc : Thread Cert.AdamwWFfnInRefIdeal.nD Cert.AdamwWFfnInRefIdeal.τ).loc Cert.AdamwWFfnInRefIdeal.main_arg1)
      ∧ r.2.mem ((c.tc : Thread Cert.AdamwWFfnInRefIdeal.nD Cert.AdamwWFfnInRefIdeal.τ).loc Cert.AdamwWFfnInRefIdeal.main_arg2) = m ((c.tc : Thread Cert.AdamwWFfnInRefIdeal.nD Cert.AdamwWFfnInRefIdeal.τ).loc Cert.AdamwWFfnInRefIdeal.main_arg2)
      ∧ r.2.mem ((c.tc : Thread Cert.AdamwWFfnInRefIdeal.nD Cert.AdamwWFfnInRefIdeal.τ).loc Cert.AdamwWFfnInRefIdeal.main_arg3) = m ((c.tc : Thread Cert.AdamwWFfnInRefIdeal.nD Cert.AdamwWFfnInRefIdeal.τ).loc Cert.AdamwWFfnInRefIdeal.main_arg3))
      ∧ r.2.sem = fun _ => 0)

def quiescent_AdamwWFfnDw [hAdamwWFfnDw : Cert.AdamwWFfnDw.Facts] : Prop :=
  ∀ (m : (ℓ : Loc Cert.AdamwWFfnDw.nD Cert.AdamwWFfnDw.τ Cert.AdamwWFfnDw.sig) → Buf (Elt Bits) ℓ) (g : Dev Cert.AdamwWFfnDw.nD → PrngReg), Pre_AdamwWFfnDw m →
    θ_run (Cert.AdamwWFfnDw.defs (F := Bits)) (onTc (τ := Cert.AdamwWFfnDw.τ) (Cert.AdamwWFfnDw.main (F := Bits))) ⟨m, fun _ => 0, g⟩ (fun r => (∀ c : Dev Cert.AdamwWFfnDw.nD,
      r.2.mem ((c.tc : Thread Cert.AdamwWFfnDw.nD Cert.AdamwWFfnDw.τ).loc Cert.AdamwWFfnDw.main_arg0) = m ((c.tc : Thread Cert.AdamwWFfnDw.nD Cert.AdamwWFfnDw.τ).loc Cert.AdamwWFfnDw.main_arg0)
      ∧ r.2.mem ((c.tc : Thread Cert.AdamwWFfnDw.nD Cert.AdamwWFfnDw.τ).loc Cert.AdamwWFfnDw.main_arg1) = m ((c.tc : Thread Cert.AdamwWFfnDw.nD Cert.AdamwWFfnDw.τ).loc Cert.AdamwWFfnDw.main_arg1)
      ∧ r.2.mem ((c.tc : Thread Cert.AdamwWFfnDw.nD Cert.AdamwWFfnDw.τ).loc Cert.AdamwWFfnDw.main_arg2) = m ((c.tc : Thread Cert.AdamwWFfnDw.nD Cert.AdamwWFfnDw.τ).loc Cert.AdamwWFfnDw.main_arg2)
      ∧ r.2.mem ((c.tc : Thread Cert.AdamwWFfnDw.nD Cert.AdamwWFfnDw.τ).loc Cert.AdamwWFfnDw.main_arg3) = m ((c.tc : Thread Cert.AdamwWFfnDw.nD Cert.AdamwWFfnDw.τ).loc Cert.AdamwWFfnDw.main_arg3))
      ∧ r.2.sem = fun _ => 0)

def quiescent_AdamwWFfnDwIdeal [hAdamwWFfnDwIdeal : Cert.AdamwWFfnDwIdeal.Facts] : Prop :=
  ∀ (m : (ℓ : Loc Cert.AdamwWFfnDwIdeal.nD Cert.AdamwWFfnDwIdeal.τ Cert.AdamwWFfnDwIdeal.sig) → Buf (Elt Ideal) ℓ) (g : Dev Cert.AdamwWFfnDwIdeal.nD → PrngReg), Pre_AdamwWFfnDwIdeal m →
    θ_run (Cert.AdamwWFfnDwIdeal.defs (F := Ideal)) (onTc (τ := Cert.AdamwWFfnDwIdeal.τ) (Cert.AdamwWFfnDwIdeal.main (F := Ideal))) ⟨m, fun _ => 0, g⟩ (fun r => (∀ c : Dev Cert.AdamwWFfnDwIdeal.nD,
      r.2.mem ((c.tc : Thread Cert.AdamwWFfnDwIdeal.nD Cert.AdamwWFfnDwIdeal.τ).loc Cert.AdamwWFfnDwIdeal.main_arg0) = m ((c.tc : Thread Cert.AdamwWFfnDwIdeal.nD Cert.AdamwWFfnDwIdeal.τ).loc Cert.AdamwWFfnDwIdeal.main_arg0)
      ∧ r.2.mem ((c.tc : Thread Cert.AdamwWFfnDwIdeal.nD Cert.AdamwWFfnDwIdeal.τ).loc Cert.AdamwWFfnDwIdeal.main_arg1) = m ((c.tc : Thread Cert.AdamwWFfnDwIdeal.nD Cert.AdamwWFfnDwIdeal.τ).loc Cert.AdamwWFfnDwIdeal.main_arg1)
      ∧ r.2.mem ((c.tc : Thread Cert.AdamwWFfnDwIdeal.nD Cert.AdamwWFfnDwIdeal.τ).loc Cert.AdamwWFfnDwIdeal.main_arg2) = m ((c.tc : Thread Cert.AdamwWFfnDwIdeal.nD Cert.AdamwWFfnDwIdeal.τ).loc Cert.AdamwWFfnDwIdeal.main_arg2)
      ∧ r.2.mem ((c.tc : Thread Cert.AdamwWFfnDwIdeal.nD Cert.AdamwWFfnDwIdeal.τ).loc Cert.AdamwWFfnDwIdeal.main_arg3) = m ((c.tc : Thread Cert.AdamwWFfnDwIdeal.nD Cert.AdamwWFfnDwIdeal.τ).loc Cert.AdamwWFfnDwIdeal.main_arg3))
      ∧ r.2.sem = fun _ => 0)

def quiescent_AdamwWFfnDwRefIdeal [hAdamwWFfnDwRefIdeal : Cert.AdamwWFfnDwRefIdeal.Facts] : Prop :=
  ∀ (m : (ℓ : Loc Cert.AdamwWFfnDwRefIdeal.nD Cert.AdamwWFfnDwRefIdeal.τ Cert.AdamwWFfnDwRefIdeal.sig) → Buf (Elt Ideal) ℓ) (g : Dev Cert.AdamwWFfnDwRefIdeal.nD → PrngReg), Pre_AdamwWFfnDwRefIdeal m →
    θ_run (Cert.AdamwWFfnDwRefIdeal.defs (F := Ideal)) (onTc (τ := Cert.AdamwWFfnDwRefIdeal.τ) (Cert.AdamwWFfnDwRefIdeal.main (F := Ideal))) ⟨m, fun _ => 0, g⟩ (fun r => (∀ c : Dev Cert.AdamwWFfnDwRefIdeal.nD,
      r.2.mem ((c.tc : Thread Cert.AdamwWFfnDwRefIdeal.nD Cert.AdamwWFfnDwRefIdeal.τ).loc Cert.AdamwWFfnDwRefIdeal.main_arg0) = m ((c.tc : Thread Cert.AdamwWFfnDwRefIdeal.nD Cert.AdamwWFfnDwRefIdeal.τ).loc Cert.AdamwWFfnDwRefIdeal.main_arg0)
      ∧ r.2.mem ((c.tc : Thread Cert.AdamwWFfnDwRefIdeal.nD Cert.AdamwWFfnDwRefIdeal.τ).loc Cert.AdamwWFfnDwRefIdeal.main_arg1) = m ((c.tc : Thread Cert.AdamwWFfnDwRefIdeal.nD Cert.AdamwWFfnDwRefIdeal.τ).loc Cert.AdamwWFfnDwRefIdeal.main_arg1)
      ∧ r.2.mem ((c.tc : Thread Cert.AdamwWFfnDwRefIdeal.nD Cert.AdamwWFfnDwRefIdeal.τ).loc Cert.AdamwWFfnDwRefIdeal.main_arg2) = m ((c.tc : Thread Cert.AdamwWFfnDwRefIdeal.nD Cert.AdamwWFfnDwRefIdeal.τ).loc Cert.AdamwWFfnDwRefIdeal.main_arg2)
      ∧ r.2.mem ((c.tc : Thread Cert.AdamwWFfnDwRefIdeal.nD Cert.AdamwWFfnDwRefIdeal.τ).loc Cert.AdamwWFfnDwRefIdeal.main_arg3) = m ((c.tc : Thread Cert.AdamwWFfnDwRefIdeal.nD Cert.AdamwWFfnDwRefIdeal.τ).loc Cert.AdamwWFfnDwRefIdeal.main_arg3))
      ∧ r.2.sem = fun _ => 0)

def quiescent_AdamwWFfnOut [hAdamwWFfnOut : Cert.AdamwWFfnOut.Facts] : Prop :=
  ∀ (m : (ℓ : Loc Cert.AdamwWFfnOut.nD Cert.AdamwWFfnOut.τ Cert.AdamwWFfnOut.sig) → Buf (Elt Bits) ℓ) (g : Dev Cert.AdamwWFfnOut.nD → PrngReg), Pre_AdamwWFfnOut m →
    θ_run (Cert.AdamwWFfnOut.defs (F := Bits)) (onTc (τ := Cert.AdamwWFfnOut.τ) (Cert.AdamwWFfnOut.main (F := Bits))) ⟨m, fun _ => 0, g⟩ (fun r => (∀ c : Dev Cert.AdamwWFfnOut.nD,
      r.2.mem ((c.tc : Thread Cert.AdamwWFfnOut.nD Cert.AdamwWFfnOut.τ).loc Cert.AdamwWFfnOut.main_arg0) = m ((c.tc : Thread Cert.AdamwWFfnOut.nD Cert.AdamwWFfnOut.τ).loc Cert.AdamwWFfnOut.main_arg0)
      ∧ r.2.mem ((c.tc : Thread Cert.AdamwWFfnOut.nD Cert.AdamwWFfnOut.τ).loc Cert.AdamwWFfnOut.main_arg1) = m ((c.tc : Thread Cert.AdamwWFfnOut.nD Cert.AdamwWFfnOut.τ).loc Cert.AdamwWFfnOut.main_arg1)
      ∧ r.2.mem ((c.tc : Thread Cert.AdamwWFfnOut.nD Cert.AdamwWFfnOut.τ).loc Cert.AdamwWFfnOut.main_arg2) = m ((c.tc : Thread Cert.AdamwWFfnOut.nD Cert.AdamwWFfnOut.τ).loc Cert.AdamwWFfnOut.main_arg2)
      ∧ r.2.mem ((c.tc : Thread Cert.AdamwWFfnOut.nD Cert.AdamwWFfnOut.τ).loc Cert.AdamwWFfnOut.main_arg3) = m ((c.tc : Thread Cert.AdamwWFfnOut.nD Cert.AdamwWFfnOut.τ).loc Cert.AdamwWFfnOut.main_arg3))
      ∧ r.2.sem = fun _ => 0)

def quiescent_AdamwWFfnOutIdeal [hAdamwWFfnOutIdeal : Cert.AdamwWFfnOutIdeal.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg), Pre_AdamwWFfnOutIdeal m →
    θ_run (Cert.AdamwWFfnOutIdeal.defs (F := Ideal)) (onTc (τ := Cert.AdamwWFfnOutIdeal.τ) (Cert.AdamwWFfnOutIdeal.main (F := Ideal))) ⟨m, fun _ => 0, g⟩ (fun r => (∀ c : Dev Cert.AdamwWFfnOutIdeal.nD,
      r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
      ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
      ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
      ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3))
      ∧ r.2.sem = fun _ => 0)

def quiescent_AdamwWFfnOutRefIdeal [hAdamwWFfnOutRefIdeal : Cert.AdamwWFfnOutRefIdeal.Facts] : Prop :=
  ∀ (m : (ℓ : Loc Cert.AdamwWFfnOutRefIdeal.nD Cert.AdamwWFfnOutRefIdeal.τ Cert.AdamwWFfnOutRefIdeal.sig) → Buf (Elt Ideal) ℓ) (g : Dev Cert.AdamwWFfnOutRefIdeal.nD → PrngReg), Pre_AdamwWFfnOutRefIdeal m →
    θ_run (Cert.AdamwWFfnOutRefIdeal.defs (F := Ideal)) (onTc (τ := Cert.AdamwWFfnOutRefIdeal.τ) (Cert.AdamwWFfnOutRefIdeal.main (F := Ideal))) ⟨m, fun _ => 0, g⟩ (fun r => (∀ c : Dev Cert.AdamwWFfnOutRefIdeal.nD,
      r.2.mem ((c.tc : Thread Cert.AdamwWFfnOutRefIdeal.nD Cert.AdamwWFfnOutRefIdeal.τ).loc Cert.AdamwWFfnOutRefIdeal.main_arg0) = m ((c.tc : Thread Cert.AdamwWFfnOutRefIdeal.nD Cert.AdamwWFfnOutRefIdeal.τ).loc Cert.AdamwWFfnOutRefIdeal.main_arg0)
      ∧ r.2.mem ((c.tc : Thread Cert.AdamwWFfnOutRefIdeal.nD Cert.AdamwWFfnOutRefIdeal.τ).loc Cert.AdamwWFfnOutRefIdeal.main_arg1) = m ((c.tc : Thread Cert.AdamwWFfnOutRefIdeal.nD Cert.AdamwWFfnOutRefIdeal.τ).loc Cert.AdamwWFfnOutRefIdeal.main_arg1)
      ∧ r.2.mem ((c.tc : Thread Cert.AdamwWFfnOutRefIdeal.nD Cert.AdamwWFfnOutRefIdeal.τ).loc Cert.AdamwWFfnOutRefIdeal.main_arg2) = m ((c.tc : Thread Cert.AdamwWFfnOutRefIdeal.nD Cert.AdamwWFfnOutRefIdeal.τ).loc Cert.AdamwWFfnOutRefIdeal.main_arg2)
      ∧ r.2.mem ((c.tc : Thread Cert.AdamwWFfnOutRefIdeal.nD Cert.AdamwWFfnOutRefIdeal.τ).loc Cert.AdamwWFfnOutRefIdeal.main_arg3) = m ((c.tc : Thread Cert.AdamwWFfnOutRefIdeal.nD Cert.AdamwWFfnOutRefIdeal.τ).loc Cert.AdamwWFfnOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_FfnBwdB [hFfnBwdB : Cert.FfnBwdB.Facts] : Prop :=
  ∀ (m : (ℓ : Loc Cert.FfnBwdB.nD Cert.FfnBwdB.τ Cert.FfnBwdB.sig) → Buf (Elt Bits) ℓ) (g : Dev Cert.FfnBwdB.nD → PrngReg), Pre_FfnBwdB m →
    θ_run (Cert.FfnBwdB.defs (F := Bits)) (onTc (τ := Cert.FfnBwdB.τ) (Cert.FfnBwdB.main (F := Bits))) ⟨m, fun _ => 0, g⟩ (fun r => (∀ c : Dev Cert.FfnBwdB.nD,
      r.2.mem ((c.tc : Thread Cert.FfnBwdB.nD Cert.FfnBwdB.τ).loc Cert.FfnBwdB.main_arg0) = m ((c.tc : Thread Cert.FfnBwdB.nD Cert.FfnBwdB.τ).loc Cert.FfnBwdB.main_arg0)
      ∧ r.2.mem ((c.tc : Thread Cert.FfnBwdB.nD Cert.FfnBwdB.τ).loc Cert.FfnBwdB.main_arg1) = m ((c.tc : Thread Cert.FfnBwdB.nD Cert.FfnBwdB.τ).loc Cert.FfnBwdB.main_arg1))
      ∧ r.2.sem = fun _ => 0)

def quiescent_FfnBwdBIdeal [hFfnBwdBIdeal : Cert.FfnBwdBIdeal.Facts] : Prop :=
  ∀ (m : (ℓ : Loc Cert.FfnBwdBIdeal.nD Cert.FfnBwdBIdeal.τ Cert.FfnBwdBIdeal.sig) → Buf (Elt Ideal) ℓ) (g : Dev Cert.FfnBwdBIdeal.nD → PrngReg), Pre_FfnBwdBIdeal m →
    θ_run (Cert.FfnBwdBIdeal.defs (F := Ideal)) (onTc (τ := Cert.FfnBwdBIdeal.τ) (Cert.FfnBwdBIdeal.main (F := Ideal))) ⟨m, fun _ => 0, g⟩ (fun r => (∀ c : Dev Cert.FfnBwdBIdeal.nD,
      r.2.mem ((c.tc : Thread Cert.FfnBwdBIdeal.nD Cert.FfnBwdBIdeal.τ).loc Cert.FfnBwdBIdeal.main_arg0) = m ((c.tc : Thread Cert.FfnBwdBIdeal.nD Cert.FfnBwdBIdeal.τ).loc Cert.FfnBwdBIdeal.main_arg0)
      ∧ r.2.mem ((c.tc : Thread Cert.FfnBwdBIdeal.nD Cert.FfnBwdBIdeal.τ).loc Cert.FfnBwdBIdeal.main_arg1) = m ((c.tc : Thread Cert.FfnBwdBIdeal.nD Cert.FfnBwdBIdeal.τ).loc Cert.FfnBwdBIdeal.main_arg1))
      ∧ r.2.sem = fun _ => 0)

def quiescent_FfnBwdBRefIdeal [hFfnBwdBRefIdeal : Cert.FfnBwdBRefIdeal.Facts] : Prop :=
  ∀ (m : (ℓ : Loc Cert.FfnBwdBRefIdeal.nD Cert.FfnBwdBRefIdeal.τ Cert.FfnBwdBRefIdeal.sig) → Buf (Elt Ideal) ℓ) (g : Dev Cert.FfnBwdBRefIdeal.nD → PrngReg), Pre_FfnBwdBRefIdeal m →
    θ_run (Cert.FfnBwdBRefIdeal.defs (F := Ideal)) (onTc (τ := Cert.FfnBwdBRefIdeal.τ) (Cert.FfnBwdBRefIdeal.main (F := Ideal))) ⟨m, fun _ => 0, g⟩ (fun r => (∀ c : Dev Cert.FfnBwdBRefIdeal.nD,
      r.2.mem ((c.tc : Thread Cert.FfnBwdBRefIdeal.nD Cert.FfnBwdBRefIdeal.τ).loc Cert.FfnBwdBRefIdeal.main_arg0) = m ((c.tc : Thread Cert.FfnBwdBRefIdeal.nD Cert.FfnBwdBRefIdeal.τ).loc Cert.FfnBwdBRefIdeal.main_arg0)
      ∧ r.2.mem ((c.tc : Thread Cert.FfnBwdBRefIdeal.nD Cert.FfnBwdBRefIdeal.τ).loc Cert.FfnBwdBRefIdeal.main_arg1) = m ((c.tc : Thread Cert.FfnBwdBRefIdeal.nD Cert.FfnBwdBRefIdeal.τ).loc Cert.FfnBwdBRefIdeal.main_arg1))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def preserves_MergeBwd_MergeBwdIdeal : Prop :=
  True

def algebraic_MergeBwdIdeal_MergeBwdRefIdeal_on_merge_written [hMergeBwdIdeal : Cert.MergeBwdIdeal.Facts] [hMergeBwdRefIdeal : Cert.MergeBwdRefIdeal.Facts] [hOn_merge_written : Cert.On_merge_written.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨3, ![7, 8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).1 i = 1#1 → r.2.mem ((c.tc : Thread Cert.MergeBwdIdeal.nD Cert.MergeBwdIdeal.τ).loc Cert.MergeBwdIdeal.main_v0_0) i = v0 c i)
          ∧ (∀ i : (⟨3, ![2, 8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.1 i = 1#1 → r.2.mem ((c.tc : Thread Cert.MergeBwdIdeal.nD Cert.MergeBwdIdeal.τ).loc Cert.MergeBwdIdeal.main_v0_1) i = v1 c i)
          ∧ (∀ i : (⟨2, ![8192, 512]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.2.1 i = 1#1 → r.2.mem ((c.tc : Thread Cert.MergeBwdIdeal.nD Cert.MergeBwdIdeal.τ).loc Cert.MergeBwdIdeal.main_v0_2) i = v2 c i)
          ∧ (∀ i : (⟨2, ![8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.2.2 i = 1#1 → r.2.mem ((c.tc : Thread Cert.MergeBwdIdeal.nD Cert.MergeBwdIdeal.τ).loc Cert.MergeBwdIdeal.main_v0_3) i = v3 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨3, ![7, 8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).1 i = 1#1 → r.2.mem ((c.tc : Thread Cert.MergeBwdRefIdeal.nD Cert.MergeBwdRefIdeal.τ).loc Cert.MergeBwdRefIdeal.main_v51) i = v0 c i)
          ∧ (∀ i : (⟨3, ![2, 8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.1 i = 1#1 → r.2.mem ((c.tc : Thread Cert.MergeBwdRefIdeal.nD Cert.MergeBwdRefIdeal.τ).loc Cert.MergeBwdRefIdeal.main_v55) i = v1 c i)
          ∧ (∀ i : (⟨2, ![8192, 512]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.2.1 i = 1#1 → r.2.mem ((c.tc : Thread Cert.MergeBwdRefIdeal.nD Cert.MergeBwdRefIdeal.τ).loc Cert.MergeBwdRefIdeal.main_v40) i = v2 c i)
          ∧ (∀ i : (⟨2, ![8192, 1024]⟩ : Shape).Idx, (Cert.On_merge_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5))).2.2.2 i = 1#1 → r.2.mem ((c.tc : Thread Cert.MergeBwdRefIdeal.nD Cert.MergeBwdRefIdeal.τ).loc Cert.MergeBwdRefIdeal.main_v44) i = v3 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v20) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1))

def preserves_GradXFirst_GradXFirstIdeal : Prop :=
  True

def algebraic_GradXFirstIdeal_GradXFirstRefIdeal_on_first_rows [hGradXFirstIdeal : Cert.GradXFirstIdeal.Facts] [hGradXFirstRefIdeal : Cert.GradXFirstRefIdeal.Facts] [hOn_first_rows : Cert.On_first_rows.Facts] : Prop :=
  ∀ (m : (ℓ : Loc Cert.GradXFirstIdeal.nD Cert.GradXFirstIdeal.τ Cert.GradXFirstIdeal.sig) → Buf (Elt Ideal) ℓ) (g : Dev Cert.GradXFirstIdeal.nD → PrngReg)
    (m' : (ℓ : Loc Cert.GradXFirstRefIdeal.nD Cert.GradXFirstRefIdeal.τ Cert.GradXFirstRefIdeal.sig) → Buf (Elt Ideal) ℓ) (g' : Dev Cert.GradXFirstRefIdeal.nD → PrngReg), Pre_GradXFirstIdeal m →
    (∀ c : Dev Cert.GradXFirstIdeal.nD,
      m' ((c.tc : Thread Cert.GradXFirstRefIdeal.nD Cert.GradXFirstRefIdeal.τ).loc Cert.GradXFirstRefIdeal.main_arg0) = m ((c.tc : Thread Cert.GradXFirstIdeal.nD Cert.GradXFirstIdeal.τ).loc Cert.GradXFirstIdeal.main_arg0)
      ∧ m' ((c.tc : Thread Cert.GradXFirstRefIdeal.nD Cert.GradXFirstRefIdeal.τ).loc Cert.GradXFirstRefIdeal.main_arg1) = m ((c.tc : Thread Cert.GradXFirstIdeal.nD Cert.GradXFirstIdeal.τ).loc Cert.GradXFirstIdeal.main_arg1)
      ∧ m' ((c.tc : Thread Cert.GradXFirstRefIdeal.nD Cert.GradXFirstRefIdeal.τ).loc Cert.GradXFirstRefIdeal.main_arg2) = m ((c.tc : Thread Cert.GradXFirstIdeal.nD Cert.GradXFirstIdeal.τ).loc Cert.GradXFirstIdeal.main_arg2)) →
    ∃ (v0 : (c : Dev Cert.GradXFirstIdeal.nD) → Buf (Elt Ideal) ((c.tc : Thread Cert.GradXFirstIdeal.nD Cert.GradXFirstIdeal.τ).loc Cert.GradXFirstIdeal.main_v0)),
      θ_run (Cert.GradXFirstIdeal.defs (F := Ideal)) (onTc (τ := Cert.GradXFirstIdeal.τ) (Cert.GradXFirstIdeal.main (F := Ideal))) ⟨m, fun _ => 0, g⟩ (fun r => ∀ c : Dev Cert.GradXFirstIdeal.nD,
          (∀ i : (⟨2, ![8192, 1024]⟩ : Shape).Idx, (Cert.On_first_rows.fn (F := Ideal) (m ((c.tc : Thread Cert.GradXFirstIdeal.nD Cert.GradXFirstIdeal.τ).loc Cert.GradXFirstIdeal.main_arg0)) (m ((c.tc : Thread Cert.GradXFirstIdeal.nD Cert.GradXFirstIdeal.τ).loc Cert.GradXFirstIdeal.main_arg1)) (m ((c.tc : Thread Cert.GradXFirstIdeal.nD Cert.GradXFirstIdeal.τ).loc Cert.GradXFirstIdeal.main_arg2))) i = 1#1 → r.2.mem ((c.tc : Thread Cert.GradXFirstIdeal.nD Cert.GradXFirstIdeal.τ).loc Cert.GradXFirstIdeal.main_v0) i = v0 c i)
          ∧ r.2.mem ((c.tc : Thread Cert.GradXFirstIdeal.nD Cert.GradXFirstIdeal.τ).loc Cert.GradXFirstIdeal.main_arg0) = m ((c.tc : Thread Cert.GradXFirstIdeal.nD Cert.GradXFirstIdeal.τ).loc Cert.GradXFirstIdeal.main_arg0)
          ∧ r.2.mem ((c.tc : Thread Cert.GradXFirstIdeal.nD Cert.GradXFirstIdeal.τ).loc Cert.GradXFirstIdeal.main_arg1) = m ((c.tc : Thread Cert.GradXFirstIdeal.nD Cert.GradXFirstIdeal.τ).loc Cert.GradXFirstIdeal.main_arg1)
          ∧ r.2.mem ((c.tc : Thread Cert.GradXFirstIdeal.nD Cert.GradXFirstIdeal.τ).loc Cert.GradXFirstIdeal.main_arg2) = m ((c.tc : Thread Cert.GradXFirstIdeal.nD Cert.GradXFirstIdeal.τ).loc Cert.GradXFirstIdeal.main_arg2))
      ∧ θ_run (Cert.GradXFirstRefIdeal.defs (F := Ideal)) (onTc (τ := Cert.GradXFirstRefIdeal.τ) (Cert.GradXFirstRefIdeal.main (F := Ideal))) ⟨m', fun _ => 0, g'⟩ (fun r => ∀ c : Dev Cert.GradXFirstRefIdeal.nD,
          (∀ i : (⟨2, ![8192, 1024]⟩ : Shape).Idx, (Cert.On_first_rows.fn (F := Ideal) (m ((c.tc : Thread Cert.GradXFirstIdeal.nD Cert.GradXFirstIdeal.τ).loc Cert.GradXFirstIdeal.main_arg0)) (m ((c.tc : Thread Cert.GradXFirstIdeal.nD Cert.GradXFirstIdeal.τ).loc Cert.GradXFirstIdeal.main_arg1)) (m ((c.tc : Thread Cert.GradXFirstIdeal.nD Cert.GradXFirstIdeal.τ).loc Cert.GradXFirstIdeal.main_arg2))) i = 1#1 → r.2.mem ((c.tc : Thread Cert.GradXFirstRefIdeal.nD Cert.GradXFirstRefIdeal.τ).loc Cert.GradXFirstRefIdeal.main_v24) i = v0 c i)
          ∧ r.2.mem ((c.tc : Thread Cert.GradXFirstRefIdeal.nD Cert.GradXFirstRefIdeal.τ).loc Cert.GradXFirstRefIdeal.main_arg0) = m' ((c.tc : Thread Cert.GradXFirstRefIdeal.nD Cert.GradXFirstRefIdeal.τ).loc Cert.GradXFirstRefIdeal.main_arg0)
          ∧ r.2.mem ((c.tc : Thread Cert.GradXFirstRefIdeal.nD Cert.GradXFirstRefIdeal.τ).loc Cert.GradXFirstRefIdeal.main_arg1) = m' ((c.tc : Thread Cert.GradXFirstRefIdeal.nD Cert.GradXFirstRefIdeal.τ).loc Cert.GradXFirstRefIdeal.main_arg1)
          ∧ r.2.mem ((c.tc : Thread Cert.GradXFirstRefIdeal.nD Cert.GradXFirstRefIdeal.τ).loc Cert.GradXFirstRefIdeal.main_arg2) = m' ((c.tc : Thread Cert.GradXFirstRefIdeal.nD Cert.GradXFirstRefIdeal.τ).loc Cert.GradXFirstRefIdeal.main_arg2))

def preserves_GradXSecond_GradXSecondIdeal : Prop :=
  True

def algebraic_GradXSecondIdeal_GradXSecondRefIdeal [hGradXSecondIdeal : Cert.GradXSecondIdeal.Facts] [hGradXSecondRefIdeal : Cert.GradXSecondRefIdeal.Facts] : Prop :=
  ∀ (m : (ℓ : Loc Cert.GradXSecondIdeal.nD Cert.GradXSecondIdeal.τ Cert.GradXSecondIdeal.sig) → Buf (Elt Ideal) ℓ) (g : Dev Cert.GradXSecondIdeal.nD → PrngReg)
    (m' : (ℓ : Loc Cert.GradXSecondRefIdeal.nD Cert.GradXSecondRefIdeal.τ Cert.GradXSecondRefIdeal.sig) → Buf (Elt Ideal) ℓ) (g' : Dev Cert.GradXSecondRefIdeal.nD → PrngReg), Pre_GradXSecondIdeal m →
    (∀ c : Dev Cert.GradXSecondIdeal.nD,
      m' ((c.tc : Thread Cert.GradXSecondRefIdeal.nD Cert.GradXSecondRefIdeal.τ).loc Cert.GradXSecondRefIdeal.main_arg0) = m ((c.tc : Thread Cert.GradXSecondIdeal.nD Cert.GradXSecondIdeal.τ).loc Cert.GradXSecondIdeal.main_arg0)
      ∧ m' ((c.tc : Thread Cert.GradXSecondRefIdeal.nD Cert.GradXSecondRefIdeal.τ).loc Cert.GradXSecondRefIdeal.main_arg1) = m ((c.tc : Thread Cert.GradXSecondIdeal.nD Cert.GradXSecondIdeal.τ).loc Cert.GradXSecondIdeal.main_arg1)
      ∧ m' ((c.tc : Thread Cert.GradXSecondRefIdeal.nD Cert.GradXSecondRefIdeal.τ).loc Cert.GradXSecondRefIdeal.main_arg2) = m ((c.tc : Thread Cert.GradXSecondIdeal.nD Cert.GradXSecondIdeal.τ).loc Cert.GradXSecondIdeal.main_arg2)
      ∧ m' ((c.tc : Thread Cert.GradXSecondRefIdeal.nD Cert.GradXSecondRefIdeal.τ).loc Cert.GradXSecondRefIdeal.main_arg3) = m ((c.tc : Thread Cert.GradXSecondIdeal.nD Cert.GradXSecondIdeal.τ).loc Cert.GradXSecondIdeal.main_arg3)) →
    ∃ (v0 : (c : Dev Cert.GradXSecondIdeal.nD) → Buf (Elt Ideal) ((c.tc : Thread Cert.GradXSecondIdeal.nD Cert.GradXSecondIdeal.τ).loc Cert.GradXSecondIdeal.main_v0)),
      θ_run (Cert.GradXSecondIdeal.defs (F := Ideal)) (onTc (τ := Cert.GradXSecondIdeal.τ) (Cert.GradXSecondIdeal.main (F := Ideal))) ⟨m, fun _ => 0, g⟩ (fun r => ∀ c : Dev Cert.GradXSecondIdeal.nD,
          r.2.mem ((c.tc : Thread Cert.GradXSecondIdeal.nD Cert.GradXSecondIdeal.τ).loc Cert.GradXSecondIdeal.main_v0) = v0 c
          ∧ r.2.mem ((c.tc : Thread Cert.GradXSecondIdeal.nD Cert.GradXSecondIdeal.τ).loc Cert.GradXSecondIdeal.main_arg0) = m ((c.tc : Thread Cert.GradXSecondIdeal.nD Cert.GradXSecondIdeal.τ).loc Cert.GradXSecondIdeal.main_arg0)
          ∧ r.2.mem ((c.tc : Thread Cert.GradXSecondIdeal.nD Cert.GradXSecondIdeal.τ).loc Cert.GradXSecondIdeal.main_arg1) = m ((c.tc : Thread Cert.GradXSecondIdeal.nD Cert.GradXSecondIdeal.τ).loc Cert.GradXSecondIdeal.main_arg1)
          ∧ r.2.mem ((c.tc : Thread Cert.GradXSecondIdeal.nD Cert.GradXSecondIdeal.τ).loc Cert.GradXSecondIdeal.main_arg2) = m ((c.tc : Thread Cert.GradXSecondIdeal.nD Cert.GradXSecondIdeal.τ).loc Cert.GradXSecondIdeal.main_arg2)
          ∧ r.2.mem ((c.tc : Thread Cert.GradXSecondIdeal.nD Cert.GradXSecondIdeal.τ).loc Cert.GradXSecondIdeal.main_arg3) = m ((c.tc : Thread Cert.GradXSecondIdeal.nD Cert.GradXSecondIdeal.τ).loc Cert.GradXSecondIdeal.main_arg3))
      ∧ θ_run (Cert.GradXSecondRefIdeal.defs (F := Ideal)) (onTc (τ := Cert.GradXSecondRefIdeal.τ) (Cert.GradXSecondRefIdeal.main (F := Ideal))) ⟨m', fun _ => 0, g'⟩ (fun r => ∀ c : Dev Cert.GradXSecondRefIdeal.nD,
          r.2.mem ((c.tc : Thread Cert.GradXSecondRefIdeal.nD Cert.GradXSecondRefIdeal.τ).loc Cert.GradXSecondRefIdeal.main_v27) = v0 c
          ∧ r.2.mem ((c.tc : Thread Cert.GradXSecondRefIdeal.nD Cert.GradXSecondRefIdeal.τ).loc Cert.GradXSecondRefIdeal.main_arg0) = m' ((c.tc : Thread Cert.GradXSecondRefIdeal.nD Cert.GradXSecondRefIdeal.τ).loc Cert.GradXSecondRefIdeal.main_arg0)
          ∧ r.2.mem ((c.tc : Thread Cert.GradXSecondRefIdeal.nD Cert.GradXSecondRefIdeal.τ).loc Cert.GradXSecondRefIdeal.main_arg1) = m' ((c.tc : Thread Cert.GradXSecondRefIdeal.nD Cert.GradXSecondRefIdeal.τ).loc Cert.GradXSecondRefIdeal.main_arg1)
          ∧ r.2.mem ((c.tc : Thread Cert.GradXSecondRefIdeal.nD Cert.GradXSecondRefIdeal.τ).loc Cert.GradXSecondRefIdeal.main_arg2) = m' ((c.tc : Thread Cert.GradXSecondRefIdeal.nD Cert.GradXSecondRefIdeal.τ).loc Cert.GradXSecondRefIdeal.main_arg2)
          ∧ r.2.mem ((c.tc : Thread Cert.GradXSecondRefIdeal.nD Cert.GradXSecondRefIdeal.τ).loc Cert.GradXSecondRefIdeal.main_arg3) = m' ((c.tc : Thread Cert.GradXSecondRefIdeal.nD Cert.GradXSecondRefIdeal.τ).loc Cert.GradXSecondRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v2) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_GradWFfnIn_GradWFfnInIdeal : Prop :=
  True

def algebraic_GradWFfnInIdeal_GradWFfnInRefIdeal [hGradWFfnInIdeal : Cert.GradWFfnInIdeal.Facts] [hGradWFfnInRefIdeal : Cert.GradWFfnInRefIdeal.Facts] : Prop :=
  ∀ (m : (ℓ : Loc Cert.GradWFfnInIdeal.nD Cert.GradWFfnInIdeal.τ Cert.GradWFfnInIdeal.sig) → Buf (Elt Ideal) ℓ) (g : Dev Cert.GradWFfnInIdeal.nD → PrngReg)
    (m' : (ℓ : Loc Cert.GradWFfnInRefIdeal.nD Cert.GradWFfnInRefIdeal.τ Cert.GradWFfnInRefIdeal.sig) → Buf (Elt Ideal) ℓ) (g' : Dev Cert.GradWFfnInRefIdeal.nD → PrngReg), Pre_GradWFfnInIdeal m →
    (∀ c : Dev Cert.GradWFfnInIdeal.nD,
      m' ((c.tc : Thread Cert.GradWFfnInRefIdeal.nD Cert.GradWFfnInRefIdeal.τ).loc Cert.GradWFfnInRefIdeal.main_arg0) = m ((c.tc : Thread Cert.GradWFfnInIdeal.nD Cert.GradWFfnInIdeal.τ).loc Cert.GradWFfnInIdeal.main_arg0)
      ∧ m' ((c.tc : Thread Cert.GradWFfnInRefIdeal.nD Cert.GradWFfnInRefIdeal.τ).loc Cert.GradWFfnInRefIdeal.main_arg1) = m ((c.tc : Thread Cert.GradWFfnInIdeal.nD Cert.GradWFfnInIdeal.τ).loc Cert.GradWFfnInIdeal.main_arg1)
      ∧ m' ((c.tc : Thread Cert.GradWFfnInRefIdeal.nD Cert.GradWFfnInRefIdeal.τ).loc Cert.GradWFfnInRefIdeal.main_arg2) = m ((c.tc : Thread Cert.GradWFfnInIdeal.nD Cert.GradWFfnInIdeal.τ).loc Cert.GradWFfnInIdeal.main_arg2)) →
    ∃ (v0 : (c : Dev Cert.GradWFfnInIdeal.nD) → Buf (Elt Ideal) ((c.tc : Thread Cert.GradWFfnInIdeal.nD Cert.GradWFfnInIdeal.τ).loc Cert.GradWFfnInIdeal.main_v0)),
      θ_run (Cert.GradWFfnInIdeal.defs (F := Ideal)) (onTc (τ := Cert.GradWFfnInIdeal.τ) (Cert.GradWFfnInIdeal.main (F := Ideal))) ⟨m, fun _ => 0, g⟩ (fun r => ∀ c : Dev Cert.GradWFfnInIdeal.nD,
          r.2.mem ((c.tc : Thread Cert.GradWFfnInIdeal.nD Cert.GradWFfnInIdeal.τ).loc Cert.GradWFfnInIdeal.main_v0) = v0 c
          ∧ r.2.mem ((c.tc : Thread Cert.GradWFfnInIdeal.nD Cert.GradWFfnInIdeal.τ).loc Cert.GradWFfnInIdeal.main_arg0) = m ((c.tc : Thread Cert.GradWFfnInIdeal.nD Cert.GradWFfnInIdeal.τ).loc Cert.GradWFfnInIdeal.main_arg0)
          ∧ r.2.mem ((c.tc : Thread Cert.GradWFfnInIdeal.nD Cert.GradWFfnInIdeal.τ).loc Cert.GradWFfnInIdeal.main_arg1) = m ((c.tc : Thread Cert.GradWFfnInIdeal.nD Cert.GradWFfnInIdeal.τ).loc Cert.GradWFfnInIdeal.main_arg1)
          ∧ r.2.mem ((c.tc : Thread Cert.GradWFfnInIdeal.nD Cert.GradWFfnInIdeal.τ).loc Cert.GradWFfnInIdeal.main_arg2) = m ((c.tc : Thread Cert.GradWFfnInIdeal.nD Cert.GradWFfnInIdeal.τ).loc Cert.GradWFfnInIdeal.main_arg2))
      ∧ θ_run (Cert.GradWFfnInRefIdeal.defs (F := Ideal)) (onTc (τ := Cert.GradWFfnInRefIdeal.τ) (Cert.GradWFfnInRefIdeal.main (F := Ideal))) ⟨m', fun _ => 0, g'⟩ (fun r => ∀ c : Dev Cert.GradWFfnInRefIdeal.nD,
          r.2.mem ((c.tc : Thread Cert.GradWFfnInRefIdeal.nD Cert.GradWFfnInRefIdeal.τ).loc Cert.GradWFfnInRefIdeal.main_v6) = v0 c
          ∧ r.2.mem ((c.tc : Thread Cert.GradWFfnInRefIdeal.nD Cert.GradWFfnInRefIdeal.τ).loc Cert.GradWFfnInRefIdeal.main_arg0) = m' ((c.tc : Thread Cert.GradWFfnInRefIdeal.nD Cert.GradWFfnInRefIdeal.τ).loc Cert.GradWFfnInRefIdeal.main_arg0)
          ∧ r.2.mem ((c.tc : Thread Cert.GradWFfnInRefIdeal.nD Cert.GradWFfnInRefIdeal.τ).loc Cert.GradWFfnInRefIdeal.main_arg1) = m' ((c.tc : Thread Cert.GradWFfnInRefIdeal.nD Cert.GradWFfnInRefIdeal.τ).loc Cert.GradWFfnInRefIdeal.main_arg1)
          ∧ r.2.mem ((c.tc : Thread Cert.GradWFfnInRefIdeal.nD Cert.GradWFfnInRefIdeal.τ).loc Cert.GradWFfnInRefIdeal.main_arg2) = m' ((c.tc : Thread Cert.GradWFfnInRefIdeal.nD Cert.GradWFfnInRefIdeal.τ).loc Cert.GradWFfnInRefIdeal.main_arg2))

def preserves_GradWFfnOut_GradWFfnOutIdeal : Prop :=
  True

def algebraic_GradWFfnOutIdeal_GradWFfnOutRefIdeal [hGradWFfnOutIdeal : Cert.GradWFfnOutIdeal.Facts] [hGradWFfnOutRefIdeal : Cert.GradWFfnOutRefIdeal.Facts] : Prop :=
  ∀ (m : (ℓ : Loc Cert.GradWFfnOutIdeal.nD Cert.GradWFfnOutIdeal.τ Cert.GradWFfnOutIdeal.sig) → Buf (Elt Ideal) ℓ) (g : Dev Cert.GradWFfnOutIdeal.nD → PrngReg)
    (m' : (ℓ : Loc Cert.GradWFfnOutRefIdeal.nD Cert.GradWFfnOutRefIdeal.τ Cert.GradWFfnOutRefIdeal.sig) → Buf (Elt Ideal) ℓ) (g' : Dev Cert.GradWFfnOutRefIdeal.nD → PrngReg), Pre_GradWFfnOutIdeal m →
    (∀ c : Dev Cert.GradWFfnOutIdeal.nD,
      m' ((c.tc : Thread Cert.GradWFfnOutRefIdeal.nD Cert.GradWFfnOutRefIdeal.τ).loc Cert.GradWFfnOutRefIdeal.main_arg0) = m ((c.tc : Thread Cert.GradWFfnOutIdeal.nD Cert.GradWFfnOutIdeal.τ).loc Cert.GradWFfnOutIdeal.main_arg0)
      ∧ m' ((c.tc : Thread Cert.GradWFfnOutRefIdeal.nD Cert.GradWFfnOutRefIdeal.τ).loc Cert.GradWFfnOutRefIdeal.main_arg1) = m ((c.tc : Thread Cert.GradWFfnOutIdeal.nD Cert.GradWFfnOutIdeal.τ).loc Cert.GradWFfnOutIdeal.main_arg1)) →
    ∃ (v0 : (c : Dev Cert.GradWFfnOutIdeal.nD) → Buf (Elt Ideal) ((c.tc : Thread Cert.GradWFfnOutIdeal.nD Cert.GradWFfnOutIdeal.τ).loc Cert.GradWFfnOutIdeal.main_v0)),
      θ_run (Cert.GradWFfnOutIdeal.defs (F := Ideal)) (onTc (τ := Cert.GradWFfnOutIdeal.τ) (Cert.GradWFfnOutIdeal.main (F := Ideal))) ⟨m, fun _ => 0, g⟩ (fun r => ∀ c : Dev Cert.GradWFfnOutIdeal.nD,
          r.2.mem ((c.tc : Thread Cert.GradWFfnOutIdeal.nD Cert.GradWFfnOutIdeal.τ).loc Cert.GradWFfnOutIdeal.main_v0) = v0 c
          ∧ r.2.mem ((c.tc : Thread Cert.GradWFfnOutIdeal.nD Cert.GradWFfnOutIdeal.τ).loc Cert.GradWFfnOutIdeal.main_arg0) = m ((c.tc : Thread Cert.GradWFfnOutIdeal.nD Cert.GradWFfnOutIdeal.τ).loc Cert.GradWFfnOutIdeal.main_arg0)
          ∧ r.2.mem ((c.tc : Thread Cert.GradWFfnOutIdeal.nD Cert.GradWFfnOutIdeal.τ).loc Cert.GradWFfnOutIdeal.main_arg1) = m ((c.tc : Thread Cert.GradWFfnOutIdeal.nD Cert.GradWFfnOutIdeal.τ).loc Cert.GradWFfnOutIdeal.main_arg1))
      ∧ θ_run (Cert.GradWFfnOutRefIdeal.defs (F := Ideal)) (onTc (τ := Cert.GradWFfnOutRefIdeal.τ) (Cert.GradWFfnOutRefIdeal.main (F := Ideal))) ⟨m', fun _ => 0, g'⟩ (fun r => ∀ c : Dev Cert.GradWFfnOutRefIdeal.nD,
          r.2.mem ((c.tc : Thread Cert.GradWFfnOutRefIdeal.nD Cert.GradWFfnOutRefIdeal.τ).loc Cert.GradWFfnOutRefIdeal.main_v5) = v0 c
          ∧ r.2.mem ((c.tc : Thread Cert.GradWFfnOutRefIdeal.nD Cert.GradWFfnOutRefIdeal.τ).loc Cert.GradWFfnOutRefIdeal.main_arg0) = m' ((c.tc : Thread Cert.GradWFfnOutRefIdeal.nD Cert.GradWFfnOutRefIdeal.τ).loc Cert.GradWFfnOutRefIdeal.main_arg0)
          ∧ r.2.mem ((c.tc : Thread Cert.GradWFfnOutRefIdeal.nD Cert.GradWFfnOutRefIdeal.τ).loc Cert.GradWFfnOutRefIdeal.main_arg1) = m' ((c.tc : Thread Cert.GradWFfnOutRefIdeal.nD Cert.GradWFfnOutRefIdeal.τ).loc Cert.GradWFfnOutRefIdeal.main_arg1))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v5) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_GradWConvOut_GradWConvOutIdeal : Prop :=
  True

def algebraic_GradWConvOutIdeal_GradWConvOutRefIdeal [hGradWConvOutIdeal : Cert.GradWConvOutIdeal.Facts] [hGradWConvOutRefIdeal : Cert.GradWConvOutRefIdeal.Facts] : Prop :=
  ∀ (m : (ℓ : Loc Cert.GradWConvOutIdeal.nD Cert.GradWConvOutIdeal.τ Cert.GradWConvOutIdeal.sig) → Buf (Elt Ideal) ℓ) (g : Dev Cert.GradWConvOutIdeal.nD → PrngReg)
    (m' : (ℓ : Loc Cert.GradWConvOutRefIdeal.nD Cert.GradWConvOutRefIdeal.τ Cert.GradWConvOutRefIdeal.sig) → Buf (Elt Ideal) ℓ) (g' : Dev Cert.GradWConvOutRefIdeal.nD → PrngReg), Pre_GradWConvOutIdeal m →
    (∀ c : Dev Cert.GradWConvOutIdeal.nD,
      m' ((c.tc : Thread Cert.GradWConvOutRefIdeal.nD Cert.GradWConvOutRefIdeal.τ).loc Cert.GradWConvOutRefIdeal.main_arg0) = m ((c.tc : Thread Cert.GradWConvOutIdeal.nD Cert.GradWConvOutIdeal.τ).loc Cert.GradWConvOutIdeal.main_arg0)
      ∧ m' ((c.tc : Thread Cert.GradWConvOutRefIdeal.nD Cert.GradWConvOutRefIdeal.τ).loc Cert.GradWConvOutRefIdeal.main_arg1) = m ((c.tc : Thread Cert.GradWConvOutIdeal.nD Cert.GradWConvOutIdeal.τ).loc Cert.GradWConvOutIdeal.main_arg1)) →
    ∃ (v0 : (c : Dev Cert.GradWConvOutIdeal.nD) → Buf (Elt Ideal) ((c.tc : Thread Cert.GradWConvOutIdeal.nD Cert.GradWConvOutIdeal.τ).loc Cert.GradWConvOutIdeal.main_v0)),
      θ_run (Cert.GradWConvOutIdeal.defs (F := Ideal)) (onTc (τ := Cert.GradWConvOutIdeal.τ) (Cert.GradWConvOutIdeal.main (F := Ideal))) ⟨m, fun _ => 0, g⟩ (fun r => ∀ c : Dev Cert.GradWConvOutIdeal.nD,
          r.2.mem ((c.tc : Thread Cert.GradWConvOutIdeal.nD Cert.GradWConvOutIdeal.τ).loc Cert.GradWConvOutIdeal.main_v0) = v0 c
          ∧ r.2.mem ((c.tc : Thread Cert.GradWConvOutIdeal.nD Cert.GradWConvOutIdeal.τ).loc Cert.GradWConvOutIdeal.main_arg0) = m ((c.tc : Thread Cert.GradWConvOutIdeal.nD Cert.GradWConvOutIdeal.τ).loc Cert.GradWConvOutIdeal.main_arg0)
          ∧ r.2.mem ((c.tc : Thread Cert.GradWConvOutIdeal.nD Cert.GradWConvOutIdeal.τ).loc Cert.GradWConvOutIdeal.main_arg1) = m ((c.tc : Thread Cert.GradWConvOutIdeal.nD Cert.GradWConvOutIdeal.τ).loc Cert.GradWConvOutIdeal.main_arg1))
      ∧ θ_run (Cert.GradWConvOutRefIdeal.defs (F := Ideal)) (onTc (τ := Cert.GradWConvOutRefIdeal.τ) (Cert.GradWConvOutRefIdeal.main (F := Ideal))) ⟨m', fun _ => 0, g'⟩ (fun r => ∀ c : Dev Cert.GradWConvOutRefIdeal.nD,
          r.2.mem ((c.tc : Thread Cert.GradWConvOutRefIdeal.nD Cert.GradWConvOutRefIdeal.τ).loc Cert.GradWConvOutRefIdeal.main_v7) = v0 c
          ∧ r.2.mem ((c.tc : Thread Cert.GradWConvOutRefIdeal.nD Cert.GradWConvOutRefIdeal.τ).loc Cert.GradWConvOutRefIdeal.main_arg0) = m' ((c.tc : Thread Cert.GradWConvOutRefIdeal.nD Cert.GradWConvOutRefIdeal.τ).loc Cert.GradWConvOutRefIdeal.main_arg0)
          ∧ r.2.mem ((c.tc : Thread Cert.GradWConvOutRefIdeal.nD Cert.GradWConvOutRefIdeal.τ).loc Cert.GradWConvOutRefIdeal.main_arg1) = m' ((c.tc : Thread Cert.GradWConvOutRefIdeal.nD Cert.GradWConvOutRefIdeal.τ).loc Cert.GradWConvOutRefIdeal.main_arg1))

def preserves_GradWHgrnOut_GradWHgrnOutIdeal : Prop :=
  True

def algebraic_GradWHgrnOutIdeal_GradWHgrnOutRefIdeal [hGradWHgrnOutIdeal : Cert.GradWHgrnOutIdeal.Facts] [hGradWHgrnOutRefIdeal : Cert.GradWHgrnOutRefIdeal.Facts] : Prop :=
  ∀ (m : (ℓ : Loc Cert.GradWHgrnOutIdeal.nD Cert.GradWHgrnOutIdeal.τ Cert.GradWHgrnOutIdeal.sig) → Buf (Elt Ideal) ℓ) (g : Dev Cert.GradWHgrnOutIdeal.nD → PrngReg)
    (m' : (ℓ : Loc Cert.GradWHgrnOutRefIdeal.nD Cert.GradWHgrnOutRefIdeal.τ Cert.GradWHgrnOutRefIdeal.sig) → Buf (Elt Ideal) ℓ) (g' : Dev Cert.GradWHgrnOutRefIdeal.nD → PrngReg), Pre_GradWHgrnOutIdeal m →
    (∀ c : Dev Cert.GradWHgrnOutIdeal.nD,
      m' ((c.tc : Thread Cert.GradWHgrnOutRefIdeal.nD Cert.GradWHgrnOutRefIdeal.τ).loc Cert.GradWHgrnOutRefIdeal.main_arg0) = m ((c.tc : Thread Cert.GradWHgrnOutIdeal.nD Cert.GradWHgrnOutIdeal.τ).loc Cert.GradWHgrnOutIdeal.main_arg0)
      ∧ m' ((c.tc : Thread Cert.GradWHgrnOutRefIdeal.nD Cert.GradWHgrnOutRefIdeal.τ).loc Cert.GradWHgrnOutRefIdeal.main_arg1) = m ((c.tc : Thread Cert.GradWHgrnOutIdeal.nD Cert.GradWHgrnOutIdeal.τ).loc Cert.GradWHgrnOutIdeal.main_arg1)) →
    ∃ (v0 : (c : Dev Cert.GradWHgrnOutIdeal.nD) → Buf (Elt Ideal) ((c.tc : Thread Cert.GradWHgrnOutIdeal.nD Cert.GradWHgrnOutIdeal.τ).loc Cert.GradWHgrnOutIdeal.main_v0)),
      θ_run (Cert.GradWHgrnOutIdeal.defs (F := Ideal)) (onTc (τ := Cert.GradWHgrnOutIdeal.τ) (Cert.GradWHgrnOutIdeal.main (F := Ideal))) ⟨m, fun _ => 0, g⟩ (fun r => ∀ c : Dev Cert.GradWHgrnOutIdeal.nD,
          r.2.mem ((c.tc : Thread Cert.GradWHgrnOutIdeal.nD Cert.GradWHgrnOutIdeal.τ).loc Cert.GradWHgrnOutIdeal.main_v0) = v0 c
          ∧ r.2.mem ((c.tc : Thread Cert.GradWHgrnOutIdeal.nD Cert.GradWHgrnOutIdeal.τ).loc Cert.GradWHgrnOutIdeal.main_arg0) = m ((c.tc : Thread Cert.GradWHgrnOutIdeal.nD Cert.GradWHgrnOutIdeal.τ).loc Cert.GradWHgrnOutIdeal.main_arg0)
          ∧ r.2.mem ((c.tc : Thread Cert.GradWHgrnOutIdeal.nD Cert.GradWHgrnOutIdeal.τ).loc Cert.GradWHgrnOutIdeal.main_arg1) = m ((c.tc : Thread Cert.GradWHgrnOutIdeal.nD Cert.GradWHgrnOutIdeal.τ).loc Cert.GradWHgrnOutIdeal.main_arg1))
      ∧ θ_run (Cert.GradWHgrnOutRefIdeal.defs (F := Ideal)) (onTc (τ := Cert.GradWHgrnOutRefIdeal.τ) (Cert.GradWHgrnOutRefIdeal.main (F := Ideal))) ⟨m', fun _ => 0, g'⟩ (fun r => ∀ c : Dev Cert.GradWHgrnOutRefIdeal.nD,
          r.2.mem ((c.tc : Thread Cert.GradWHgrnOutRefIdeal.nD Cert.GradWHgrnOutRefIdeal.τ).loc Cert.GradWHgrnOutRefIdeal.main_v7) = v0 c
          ∧ r.2.mem ((c.tc : Thread Cert.GradWHgrnOutRefIdeal.nD Cert.GradWHgrnOutRefIdeal.τ).loc Cert.GradWHgrnOutRefIdeal.main_arg0) = m' ((c.tc : Thread Cert.GradWHgrnOutRefIdeal.nD Cert.GradWHgrnOutRefIdeal.τ).loc Cert.GradWHgrnOutRefIdeal.main_arg0)
          ∧ r.2.mem ((c.tc : Thread Cert.GradWHgrnOutRefIdeal.nD Cert.GradWHgrnOutRefIdeal.τ).loc Cert.GradWHgrnOutRefIdeal.main_arg1) = m' ((c.tc : Thread Cert.GradWHgrnOutRefIdeal.nD Cert.GradWHgrnOutRefIdeal.τ).loc Cert.GradWHgrnOutRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v52) = v0 c
          ∧ r.2.mem ((c.tc : Thread Cert.MergeFwdRefIdeal.nD Cert.MergeFwdRefIdeal.τ).loc Cert.MergeFwdRefIdeal.main_v21) = v1 c
          ∧ r.2.mem ((c.tc : Thread Cert.MergeFwdRefIdeal.nD Cert.MergeFwdRefIdeal.τ).loc Cert.MergeFwdRefIdeal.main_v27) = v2 c
          ∧ r.2.mem ((c.tc : Thread Cert.MergeFwdRefIdeal.nD Cert.MergeFwdRefIdeal.τ).loc Cert.MergeFwdRefIdeal.main_v49) = v3 c
          ∧ r.2.mem ((c.tc : Thread Cert.MergeFwdRefIdeal.nD Cert.MergeFwdRefIdeal.τ).loc Cert.MergeFwdRefIdeal.main_v53) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_FfnInBwd_FfnInBwdIdeal : Prop :=
  True

def algebraic_FfnInBwdIdeal_FfnInBwdRefIdeal_pre_inputs_finite [hFfnInBwdIdeal : Cert.FfnInBwdIdeal.Facts] [hFfnInBwdRefIdeal : Cert.FfnInBwdRefIdeal.Facts] [hPre_inputs_finite : Cert.Pre_inputs_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdRefIdeal.nD Cert.FfnInBwdRefIdeal.τ Cert.FfnInBwdRefIdeal.sig) → Buf (Elt Ideal) ℓ) (g' : Dev Cert.FfnInBwdRefIdeal.nD → PrngReg), Pre_FfnInBwdIdeal_inputs_finite m →
    (∀ c : Dev Cert.FfnInBwdIdeal.nD,
      m' ((c.tc : Thread Cert.FfnInBwdRefIdeal.nD Cert.FfnInBwdRefIdeal.τ).loc Cert.FfnInBwdRefIdeal.main_arg0) = m ((c.tc : Thread Cert.FfnInBwdIdeal.nD Cert.FfnInBwdIdeal.τ).loc Cert.FfnInBwdIdeal.main_arg0)
      ∧ m' ((c.tc : Thread Cert.FfnInBwdRefIdeal.nD Cert.FfnInBwdRefIdeal.τ).loc Cert.FfnInBwdRefIdeal.main_arg1) = m ((c.tc : Thread Cert.FfnInBwdIdeal.nD Cert.FfnInBwdIdeal.τ).loc Cert.FfnInBwdIdeal.main_arg1)
      ∧ m' ((c.tc : Thread Cert.FfnInBwdRefIdeal.nD Cert.FfnInBwdRefIdeal.τ).loc Cert.FfnInBwdRefIdeal.main_arg2) = m ((c.tc : Thread Cert.FfnInBwdIdeal.nD Cert.FfnInBwdIdeal.τ).loc Cert.FfnInBwdIdeal.main_arg2)
      ∧ m' ((c.tc : Thread Cert.FfnInBwdRefIdeal.nD Cert.FfnInBwdRefIdeal.τ).loc Cert.FfnInBwdRefIdeal.main_arg3) = m ((c.tc : Thread Cert.FfnInBwdIdeal.nD Cert.FfnInBwdIdeal.τ).loc Cert.FfnInBwdIdeal.main_arg3)
      ∧ m' ((c.tc : Thread Cert.FfnInBwdRefIdeal.nD Cert.FfnInBwdRefIdeal.τ).loc Cert.FfnInBwdRefIdeal.main_arg4) = m ((c.tc : Thread Cert.FfnInBwdIdeal.nD Cert.FfnInBwdIdeal.τ).loc Cert.FfnInBwdIdeal.main_arg4)
      ∧ m' ((c.tc : Thread Cert.FfnInBwdRefIdeal.nD Cert.FfnInBwdRefIdeal.τ).loc Cert.FfnInBwdRefIdeal.main_arg5) = m ((c.tc : Thread Cert.FfnInBwdIdeal.nD Cert.FfnInBwdIdeal.τ).loc Cert.FfnInBwdIdeal.main_arg5)) →
    ∃ (v0 : (c : Dev Cert.FfnInBwdIdeal.nD) → Buf (Elt Ideal) ((c.tc : Thread Cert.FfnInBwdIdeal.nD Cert.FfnInBwdIdeal.τ).loc Cert.FfnInBwdIdeal.main_v0_0)) (v1 : (c : Dev Cert.FfnInBwdIdeal.nD) → Buf (Elt Ideal) ((c.tc : Thread Cert.FfnInBwdIdeal.nD Cert.FfnInBwdIdeal.τ).loc Cert.FfnInBwdIdeal.main_v0_1)) (v2 : (c : Dev Cert.FfnInBwdIdeal.nD) → Buf (Elt Ideal) ((c.tc : Thread Cert.FfnInBwdIdeal.nD Cert.FfnInBwdIdeal.τ).loc Cert.FfnInBwdIdeal.main_v0_2)) (v3 : (c : Dev Cert.FfnInBwdIdeal.nD) → Buf (Elt Ideal) ((c.tc : Thread Cert.FfnInBwdIdeal.nD Cert.FfnInBwdIdeal.τ).loc Cert.FfnInBwdIdeal.main_v0_3)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v0_0) = v0 c
          ∧ r.2.mem ((c.tc : Thread Cert.FfnInBwdIdeal.nD Cert.FfnInBwdIdeal.τ).loc Cert.FfnInBwdIdeal.main_v0_1) = v1 c
          ∧ r.2.mem ((c.tc : Thread Cert.FfnInBwdIdeal.nD Cert.FfnInBwdIdeal.τ).loc Cert.FfnInBwdIdeal.main_v0_2) = v2 c
          ∧ r.2.mem ((c.tc : Thread Cert.FfnInBwdIdeal.nD Cert.FfnInBwdIdeal.τ).loc Cert.FfnInBwdIdeal.main_v0_3) = v3 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
          ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ θ_run (Cert.FfnInBwdRefIdeal.defs (F := Ideal)) (onTc (τ := Cert.FfnInBwdRefIdeal.τ) (Cert.FfnInBwdRefIdeal.main (F := Ideal))) ⟨m', fun _ => 0, g'⟩ (fun r => ∀ c : Dev Cert.FfnInBwdRefIdeal.nD,
          r.2.mem ((c.tc : Thread Cert.FfnInBwdRefIdeal.nD Cert.FfnInBwdRefIdeal.τ).loc Cert.FfnInBwdRefIdeal.main_v69) = v0 c
          ∧ r.2.mem ((c.tc : Thread Cert.FfnInBwdRefIdeal.nD Cert.FfnInBwdRefIdeal.τ).loc Cert.FfnInBwdRefIdeal.main_v70) = v1 c
          ∧ r.2.mem ((c.tc : Thread Cert.FfnInBwdRefIdeal.nD Cert.FfnInBwdRefIdeal.τ).loc Cert.FfnInBwdRefIdeal.main_v43) = v2 c
          ∧ r.2.mem ((c.tc : Thread Cert.FfnInBwdRefIdeal.nD Cert.FfnInBwdRefIdeal.τ).loc Cert.FfnInBwdRefIdeal.main_v40) = v3 c
          ∧ r.2.mem ((c.tc : Thread Cert.FfnInBwdRefIdeal.nD Cert.FfnInBwdRefIdeal.τ).loc Cert.FfnInBwdRefIdeal.main_arg0) = m' ((c.tc : Thread Cert.FfnInBwdRefIdeal.nD Cert.FfnInBwdRefIdeal.τ).loc Cert.FfnInBwdRefIdeal.main_arg0)
          ∧ r.2.mem ((c.tc : Thread Cert.FfnInBwdRefIdeal.nD Cert.FfnInBwdRefIdeal.τ).loc Cert.FfnInBwdRefIdeal.main_arg1) = m' ((c.tc : Thread Cert.FfnInBwdRefIdeal.nD Cert.FfnInBwdRefIdeal.τ).loc Cert.FfnInBwdRefIdeal.main_arg1)
          ∧ r.2.mem ((c.tc : Thread Cert.FfnInBwdRefIdeal.nD Cert.FfnInBwdRefIdeal.τ).loc Cert.FfnInBwdRefIdeal.main_arg2) = m' ((c.tc : Thread Cert.FfnInBwdRefIdeal.nD Cert.FfnInBwdRefIdeal.τ).loc Cert.FfnInBwdRefIdeal.main_arg2)
          ∧ r.2.mem ((c.tc : Thread Cert.FfnInBwdRefIdeal.nD Cert.FfnInBwdRefIdeal.τ).loc Cert.FfnInBwdRefIdeal.main_arg3) = m' ((c.tc : Thread Cert.FfnInBwdRefIdeal.nD Cert.FfnInBwdRefIdeal.τ).loc Cert.FfnInBwdRefIdeal.main_arg3)
          ∧ r.2.mem ((c.tc : Thread Cert.FfnInBwdRefIdeal.nD Cert.FfnInBwdRefIdeal.τ).loc Cert.FfnInBwdRefIdeal.main_arg4) = m' ((c.tc : Thread Cert.FfnInBwdRefIdeal.nD Cert.FfnInBwdRefIdeal.τ).loc Cert.FfnInBwdRefIdeal.main_arg4)
          ∧ r.2.mem ((c.tc : Thread Cert.FfnInBwdRefIdeal.nD Cert.FfnInBwdRefIdeal.τ).loc Cert.FfnInBwdRefIdeal.main_arg5) = m' ((c.tc : Thread Cert.FfnInBwdRefIdeal.nD Cert.FfnInBwdRefIdeal.τ).loc Cert.FfnInBwdRefIdeal.main_arg5))

def preserves_FfnOutLoss_FfnOutLossIdeal : Prop :=
  True

def algebraic_FfnOutLossIdeal_FfnOutLossRefIdeal_pre_head_inputs_finite [hFfnOutLossIdeal : Cert.FfnOutLossIdeal.Facts] [hFfnOutLossRefIdeal : Cert.FfnOutLossRefIdeal.Facts] [hPre_head_inputs_finite : Cert.Pre_head_inputs_finite.Facts] : Prop :=
  ∀ (m : (ℓ : Loc Cert.FfnOutLossIdeal.nD Cert.FfnOutLossIdeal.τ Cert.FfnOutLossIdeal.sig) → Buf (Elt Ideal) ℓ) (g : Dev Cert.FfnOutLossIdeal.nD → PrngReg)
    (m' : (ℓ : Loc Cert.FfnOutLossRefIdeal.nD Cert.FfnOutLossRefIdeal.τ Cert.FfnOutLossRefIdeal.sig) → Buf (Elt Ideal) ℓ) (g' : Dev Cert.FfnOutLossRefIdeal.nD → PrngReg), Pre_FfnOutLossIdeal_head_inputs_finite m →
    (∀ c : Dev Cert.FfnOutLossIdeal.nD,
      m' ((c.tc : Thread Cert.FfnOutLossRefIdeal.nD Cert.FfnOutLossRefIdeal.τ).loc Cert.FfnOutLossRefIdeal.main_arg0) = m ((c.tc : Thread Cert.FfnOutLossIdeal.nD Cert.FfnOutLossIdeal.τ).loc Cert.FfnOutLossIdeal.main_arg0)
      ∧ m' ((c.tc : Thread Cert.FfnOutLossRefIdeal.nD Cert.FfnOutLossRefIdeal.τ).loc Cert.FfnOutLossRefIdeal.main_arg1) = m ((c.tc : Thread Cert.FfnOutLossIdeal.nD Cert.FfnOutLossIdeal.τ).loc Cert.FfnOutLossIdeal.main_arg1)
      ∧ m' ((c.tc : Thread Cert.FfnOutLossRefIdeal.nD Cert.FfnOutLossRefIdeal.τ).loc Cert.FfnOutLossRefIdeal.main_arg2) = m ((c.tc : Thread Cert.FfnOutLossIdeal.nD Cert.FfnOutLossIdeal.τ).loc Cert.FfnOutLossIdeal.main_arg2)
      ∧ m' ((c.tc : Thread Cert.FfnOutLossRefIdeal.nD Cert.FfnOutLossRefIdeal.τ).loc Cert.FfnOutLossRefIdeal.main_arg3) = m ((c.tc : Thread Cert.FfnOutLossIdeal.nD Cert.FfnOutLossIdeal.τ).loc Cert.FfnOutLossIdeal.main_arg3)
      ∧ m' ((c.tc : Thread Cert.FfnOutLossRefIdeal.nD Cert.FfnOutLossRefIdeal.τ).loc Cert.FfnOutLossRefIdeal.main_arg4) = m ((c.tc : Thread Cert.FfnOutLossIdeal.nD Cert.FfnOutLossIdeal.τ).loc Cert.FfnOutLossIdeal.main_arg4)
      ∧ m' ((c.tc : Thread Cert.FfnOutLossRefIdeal.nD Cert.FfnOutLossRefIdeal.τ).loc Cert.FfnOutLossRefIdeal.main_arg5) = m ((c.tc : Thread Cert.FfnOutLossIdeal.nD Cert.FfnOutLossIdeal.τ).loc Cert.FfnOutLossIdeal.main_arg5)) →
    ∃ (v0 : (c : Dev Cert.FfnOutLossIdeal.nD) → Buf (Elt Ideal) ((c.tc : Thread Cert.FfnOutLossIdeal.nD Cert.FfnOutLossIdeal.τ).loc Cert.FfnOutLossIdeal.main_v0_0)) (v1 : (c : Dev Cert.FfnOutLossIdeal.nD) → Buf (Elt Ideal) ((c.tc : Thread Cert.FfnOutLossIdeal.nD Cert.FfnOutLossIdeal.τ).loc Cert.FfnOutLossIdeal.main_v0_1)) (v2 : (c : Dev Cert.FfnOutLossIdeal.nD) → Buf (Elt Ideal) ((c.tc : Thread Cert.FfnOutLossIdeal.nD Cert.FfnOutLossIdeal.τ).loc Cert.FfnOutLossIdeal.main_v0_2)) (v3 : (c : Dev Cert.FfnOutLossIdeal.nD) → Buf (Elt Ideal) ((c.tc : Thread Cert.FfnOutLossIdeal.nD Cert.FfnOutLossIdeal.τ).loc Cert.FfnOutLossIdeal.main_v0_3)) (v4 : (c : Dev Cert.FfnOutLossIdeal.nD) → Buf (Elt Ideal) ((c.tc : Thread Cert.FfnOutLossIdeal.nD Cert.FfnOutLossIdeal.τ).loc Cert.FfnOutLossIdeal.main_v0_4)),
      θ_run (Cert.FfnOutLossIdeal.defs (F := Ideal)) (onTc (τ := Cert.FfnOutLossIdeal.τ) (Cert.FfnOutLossIdeal.main (F := Ideal))) ⟨m, fun _ => 0, g⟩ (fun r => ∀ c : Dev Cert.FfnOutLossIdeal.nD,
          r.2.mem ((c.tc : Thread Cert.FfnOutLossIdeal.nD Cert.FfnOutLossIdeal.τ).loc Cert.FfnOutLossIdeal.main_v0_0) = v0 c
          ∧ r.2.mem ((c.tc : Thread Cert.FfnOutLossIdeal.nD Cert.FfnOutLossIdeal.τ).loc Cert.FfnOutLossIdeal.main_v0_1) = v1 c
          ∧ r.2.mem ((c.tc : Thread Cert.FfnOutLossIdeal.nD Cert.FfnOutLossIdeal.τ).loc Cert.FfnOutLossIdeal.main_v0_2) = v2 c
          ∧ r.2.mem ((c.tc : Thread Cert.FfnOutLossIdeal.nD Cert.FfnOutLossIdeal.τ).loc Cert.FfnOutLossIdeal.main_v0_3) = v3 c
          ∧ r.2.mem ((c.tc : Thread Cert.FfnOutLossIdeal.nD Cert.FfnOutLossIdeal.τ).loc Cert.FfnOutLossIdeal.main_v0_4) = v4 c
          ∧ r.2.mem ((c.tc : Thread Cert.FfnOutLossIdeal.nD Cert.FfnOutLossIdeal.τ).loc Cert.FfnOutLossIdeal.main_arg0) = m ((c.tc : Thread Cert.FfnOutLossIdeal.nD Cert.FfnOutLossIdeal.τ).loc Cert.FfnOutLossIdeal.main_arg0)
          ∧ r.2.mem ((c.tc : Thread Cert.FfnOutLossIdeal.nD Cert.FfnOutLossIdeal.τ).loc Cert.FfnOutLossIdeal.main_arg1) = m ((c.tc : Thread Cert.FfnOutLossIdeal.nD Cert.FfnOutLossIdeal.τ).loc Cert.FfnOutLossIdeal.main_arg1)
          ∧ r.2.mem ((c.tc : Thread Cert.FfnOutLossIdeal.nD Cert.FfnOutLossIdeal.τ).loc Cert.FfnOutLossIdeal.main_arg2) = m ((c.tc : Thread Cert.FfnOutLossIdeal.nD Cert.FfnOutLossIdeal.τ).loc Cert.FfnOutLossIdeal.main_arg2)
          ∧ r.2.mem ((c.tc : Thread Cert.FfnOutLossIdeal.nD Cert.FfnOutLossIdeal.τ).loc Cert.FfnOutLossIdeal.main_arg3) = m ((c.tc : Thread Cert.FfnOutLossIdeal.nD Cert.FfnOutLossIdeal.τ).loc Cert.FfnOutLossIdeal.main_arg3)
          ∧ r.2.mem ((c.tc : Thread Cert.FfnOutLossIdeal.nD Cert.FfnOutLossIdeal.τ).loc Cert.FfnOutLossIdeal.main_arg4) = m ((c.tc : Thread Cert.FfnOutLossIdeal.nD Cert.FfnOutLossIdeal.τ).loc Cert.FfnOutLossIdeal.main_arg4)
          ∧ r.2.mem ((c.tc : Thread Cert.FfnOutLossIdeal.nD Cert.FfnOutLossIdeal.τ).loc Cert.FfnOutLossIdeal.main_arg5) = m ((c.tc : Thread Cert.FfnOutLossIdeal.nD Cert.FfnOutLossIdeal.τ).loc Cert.FfnOutLossIdeal.main_arg5))
      ∧ θ_run (Cert.FfnOutLossRefIdeal.defs (F := Ideal)) (onTc (τ := Cert.FfnOutLossRefIdeal.τ) (Cert.FfnOutLossRefIdeal.main (F := Ideal))) ⟨m', fun _ => 0, g'⟩ (fun r => ∀ c : Dev Cert.FfnOutLossRefIdeal.nD,
          r.2.mem ((c.tc : Thread Cert.FfnOutLossRefIdeal.nD Cert.FfnOutLossRefIdeal.τ).loc Cert.FfnOutLossRefIdeal.main_v78) = v0 c
          ∧ r.2.mem ((c.tc : Thread Cert.FfnOutLossRefIdeal.nD Cert.FfnOutLossRefIdeal.τ).loc Cert.FfnOutLossRefIdeal.main_v79) = v1 c
          ∧ r.2.mem ((c.tc : Thread Cert.FfnOutLossRefIdeal.nD Cert.FfnOutLossRefIdeal.τ).loc Cert.FfnOutLossRefIdeal.main_v80) = v2 c
          ∧ r.2.mem ((c.tc : Thread Cert.FfnOutLossRefIdeal.nD Cert.FfnOutLossRefIdeal.τ).loc Cert.FfnOutLossRefIdeal.main_v52) = v3 c
          ∧ r.2.mem ((c.tc : Thread Cert.FfnOutLossRefIdeal.nD Cert.FfnOutLossRefIdeal.τ).loc Cert.FfnOutLossRefIdeal.main_v49) = v4 c
          ∧ r.2.mem ((c.tc : Thread Cert.FfnOutLossRefIdeal.nD Cert.FfnOutLossRefIdeal.τ).loc Cert.FfnOutLossRefIdeal.main_arg0) = m' ((c.tc : Thread Cert.FfnOutLossRefIdeal.nD Cert.FfnOutLossRefIdeal.τ).loc Cert.FfnOutLossRefIdeal.main_arg0)
          ∧ r.2.mem ((c.tc : Thread Cert.FfnOutLossRefIdeal.nD Cert.FfnOutLossRefIdeal.τ).loc Cert.FfnOutLossRefIdeal.main_arg1) = m' ((c.tc : Thread Cert.FfnOutLossRefIdeal.nD Cert.FfnOutLossRefIdeal.τ).loc Cert.FfnOutLossRefIdeal.main_arg1)
          ∧ r.2.mem ((c.tc : Thread Cert.FfnOutLossRefIdeal.nD Cert.FfnOutLossRefIdeal.τ).loc Cert.FfnOutLossRefIdeal.main_arg2) = m' ((c.tc : Thread Cert.FfnOutLossRefIdeal.nD Cert.FfnOutLossRefIdeal.τ).loc Cert.FfnOutLossRefIdeal.main_arg2)
          ∧ r.2.mem ((c.tc : Thread Cert.FfnOutLossRefIdeal.nD Cert.FfnOutLossRefIdeal.τ).loc Cert.FfnOutLossRefIdeal.main_arg3) = m' ((c.tc : Thread Cert.FfnOutLossRefIdeal.nD Cert.FfnOutLossRefIdeal.τ).loc Cert.FfnOutLossRefIdeal.main_arg3)
          ∧ r.2.mem ((c.tc : Thread Cert.FfnOutLossRefIdeal.nD Cert.FfnOutLossRefIdeal.τ).loc Cert.FfnOutLossRefIdeal.main_arg4) = m' ((c.tc : Thread Cert.FfnOutLossRefIdeal.nD Cert.FfnOutLossRefIdeal.τ).loc Cert.FfnOutLossRefIdeal.main_arg4)
          ∧ r.2.mem ((c.tc : Thread Cert.FfnOutLossRefIdeal.nD Cert.FfnOutLossRefIdeal.τ).loc Cert.FfnOutLossRefIdeal.main_arg5) = m' ((c.tc : Thread Cert.FfnOutLossRefIdeal.nD Cert.FfnOutLossRefIdeal.τ).loc Cert.FfnOutLossRefIdeal.main_arg5))

def preserves_AdamwWIn_AdamwWInIdeal : Prop :=
  True

def algebraic_AdamwWInIdeal_AdamwWInRefIdeal [hAdamwWInIdeal : Cert.AdamwWInIdeal.Facts] [hAdamwWInRefIdeal : Cert.AdamwWInRefIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInRefIdeal.nD Cert.AdamwWInRefIdeal.τ Cert.AdamwWInRefIdeal.sig) → Buf (Elt Ideal) ℓ) (g' : Dev Cert.AdamwWInRefIdeal.nD → PrngReg), Pre_AdamwWInIdeal m →
    (∀ c : Dev Cert.AdamwWInIdeal.nD,
      m' ((c.tc : Thread Cert.AdamwWInRefIdeal.nD Cert.AdamwWInRefIdeal.τ).loc Cert.AdamwWInRefIdeal.main_arg0) = m ((c.tc : Thread Cert.AdamwWInIdeal.nD Cert.AdamwWInIdeal.τ).loc Cert.AdamwWInIdeal.main_arg0)
      ∧ m' ((c.tc : Thread Cert.AdamwWInRefIdeal.nD Cert.AdamwWInRefIdeal.τ).loc Cert.AdamwWInRefIdeal.main_arg1) = m ((c.tc : Thread Cert.AdamwWInIdeal.nD Cert.AdamwWInIdeal.τ).loc Cert.AdamwWInIdeal.main_arg1)
      ∧ m' ((c.tc : Thread Cert.AdamwWInRefIdeal.nD Cert.AdamwWInRefIdeal.τ).loc Cert.AdamwWInRefIdeal.main_arg2) = m ((c.tc : Thread Cert.AdamwWInIdeal.nD Cert.AdamwWInIdeal.τ).loc Cert.AdamwWInIdeal.main_arg2)
      ∧ m' ((c.tc : Thread Cert.AdamwWInRefIdeal.nD Cert.AdamwWInRefIdeal.τ).loc Cert.AdamwWInRefIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v0_0)) (v1 : (c : Dev Cert.AdamwWInIdeal.nD) → Buf (Elt Ideal) ((c.tc : Thread Cert.AdamwWInIdeal.nD Cert.AdamwWInIdeal.τ).loc Cert.AdamwWInIdeal.main_v0_1)) (v2 : (c : Dev Cert.AdamwWInIdeal.nD) → Buf (Elt Ideal) ((c.tc : Thread Cert.AdamwWInIdeal.nD Cert.AdamwWInIdeal.τ).loc Cert.AdamwWInIdeal.main_v0_2)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v0_0) = v0 c
          ∧ r.2.mem ((c.tc : Thread Cert.AdamwWInIdeal.nD Cert.AdamwWInIdeal.τ).loc Cert.AdamwWInIdeal.main_v0_1) = v1 c
          ∧ r.2.mem ((c.tc : Thread Cert.AdamwWInIdeal.nD Cert.AdamwWInIdeal.τ).loc Cert.AdamwWInIdeal.main_v0_2) = v2 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInRefIdeal.defs (F := Ideal)) (onTc (τ := Cert.AdamwWInRefIdeal.τ) (Cert.AdamwWInRefIdeal.main (F := Ideal))) ⟨m', fun _ => 0, g'⟩ (fun r => ∀ c : Dev Cert.AdamwWInRefIdeal.nD,
          r.2.mem ((c.tc : Thread Cert.AdamwWInRefIdeal.nD Cert.AdamwWInRefIdeal.τ).loc Cert.AdamwWInRefIdeal.main_v23) = v0 c
          ∧ r.2.mem ((c.tc : Thread Cert.AdamwWInRefIdeal.nD Cert.AdamwWInRefIdeal.τ).loc Cert.AdamwWInRefIdeal.main_v4) = v1 c
          ∧ r.2.mem ((c.tc : Thread Cert.AdamwWInRefIdeal.nD Cert.AdamwWInRefIdeal.τ).loc Cert.AdamwWInRefIdeal.main_v10) = v2 c
          ∧ r.2.mem ((c.tc : Thread Cert.AdamwWInRefIdeal.nD Cert.AdamwWInRefIdeal.τ).loc Cert.AdamwWInRefIdeal.main_arg0) = m' ((c.tc : Thread Cert.AdamwWInRefIdeal.nD Cert.AdamwWInRefIdeal.τ).loc Cert.AdamwWInRefIdeal.main_arg0)
          ∧ r.2.mem ((c.tc : Thread Cert.AdamwWInRefIdeal.nD Cert.AdamwWInRefIdeal.τ).loc Cert.AdamwWInRefIdeal.main_arg1) = m' ((c.tc : Thread Cert.AdamwWInRefIdeal.nD Cert.AdamwWInRefIdeal.τ).loc Cert.AdamwWInRefIdeal.main_arg1)
          ∧ r.2.mem ((c.tc : Thread Cert.AdamwWInRefIdeal.nD Cert.AdamwWInRefIdeal.τ).loc Cert.AdamwWInRefIdeal.main_arg2) = m' ((c.tc : Thread Cert.AdamwWInRefIdeal.nD Cert.AdamwWInRefIdeal.τ).loc Cert.AdamwWInRefIdeal.main_arg2)
          ∧ r.2.mem ((c.tc : Thread Cert.AdamwWInRefIdeal.nD Cert.AdamwWInRefIdeal.τ).loc Cert.AdamwWInRefIdeal.main_arg3) = m' ((c.tc : Thread Cert.AdamwWInRefIdeal.nD Cert.AdamwWInRefIdeal.τ).loc Cert.AdamwWInRefIdeal.main_arg3))

def preserves_AdamwWConvDw_AdamwWConvDwIdeal : Prop :=
  True

def algebraic_AdamwWConvDwIdeal_AdamwWConvDwRefIdeal [hAdamwWConvDwIdeal : Cert.AdamwWConvDwIdeal.Facts] [hAdamwWConvDwRefIdeal : Cert.AdamwWConvDwRefIdeal.Facts] : Prop :=
  ∀ (m : (ℓ : Loc Cert.AdamwWConvDwIdeal.nD Cert.AdamwWConvDwIdeal.τ Cert.AdamwWConvDwIdeal.sig) → Buf (Elt Ideal) ℓ) (g : Dev Cert.AdamwWConvDwIdeal.nD → PrngReg)
    (m' : (ℓ : Loc Cert.AdamwWConvDwRefIdeal.nD Cert.AdamwWConvDwRefIdeal.τ Cert.AdamwWConvDwRefIdeal.sig) → Buf (Elt Ideal) ℓ) (g' : Dev Cert.AdamwWConvDwRefIdeal.nD → PrngReg), Pre_AdamwWConvDwIdeal m →
    (∀ c : Dev Cert.AdamwWConvDwIdeal.nD,
      m' ((c.tc : Thread Cert.AdamwWConvDwRefIdeal.nD Cert.AdamwWConvDwRefIdeal.τ).loc Cert.AdamwWConvDwRefIdeal.main_arg0) = m ((c.tc : Thread Cert.AdamwWConvDwIdeal.nD Cert.AdamwWConvDwIdeal.τ).loc Cert.AdamwWConvDwIdeal.main_arg0)
      ∧ m' ((c.tc : Thread Cert.AdamwWConvDwRefIdeal.nD Cert.AdamwWConvDwRefIdeal.τ).loc Cert.AdamwWConvDwRefIdeal.main_arg1) = m ((c.tc : Thread Cert.AdamwWConvDwIdeal.nD Cert.AdamwWConvDwIdeal.τ).loc Cert.AdamwWConvDwIdeal.main_arg1)
      ∧ m' ((c.tc : Thread Cert.AdamwWConvDwRefIdeal.nD Cert.AdamwWConvDwRefIdeal.τ).loc Cert.AdamwWConvDwRefIdeal.main_arg2) = m ((c.tc : Thread Cert.AdamwWConvDwIdeal.nD Cert.AdamwWConvDwIdeal.τ).loc Cert.AdamwWConvDwIdeal.main_arg2)
      ∧ m' ((c.tc : Thread Cert.AdamwWConvDwRefIdeal.nD Cert.AdamwWConvDwRefIdeal.τ).loc Cert.AdamwWConvDwRefIdeal.main_arg3) = m ((c.tc : Thread Cert.AdamwWConvDwIdeal.nD Cert.AdamwWConvDwIdeal.τ).loc Cert.AdamwWConvDwIdeal.main_arg3)) →
    ∃ (v0 : (c : Dev Cert.AdamwWConvDwIdeal.nD) → Buf (Elt Ideal) ((c.tc : Thread Cert.AdamwWConvDwIdeal.nD Cert.AdamwWConvDwIdeal.τ).loc Cert.AdamwWConvDwIdeal.main_v0_0)) (v1 : (c : Dev Cert.AdamwWConvDwIdeal.nD) → Buf (Elt Ideal) ((c.tc : Thread Cert.AdamwWConvDwIdeal.nD Cert.AdamwWConvDwIdeal.τ).loc Cert.AdamwWConvDwIdeal.main_v0_1)) (v2 : (c : Dev Cert.AdamwWConvDwIdeal.nD) → Buf (Elt Ideal) ((c.tc : Thread Cert.AdamwWConvDwIdeal.nD Cert.AdamwWConvDwIdeal.τ).loc Cert.AdamwWConvDwIdeal.main_v0_2)),
      θ_run (Cert.AdamwWConvDwIdeal.defs (F := Ideal)) (onTc (τ := Cert.AdamwWConvDwIdeal.τ) (Cert.AdamwWConvDwIdeal.main (F := Ideal))) ⟨m, fun _ => 0, g⟩ (fun r => ∀ c : Dev Cert.AdamwWConvDwIdeal.nD,
          r.2.mem ((c.tc : Thread Cert.AdamwWConvDwIdeal.nD Cert.AdamwWConvDwIdeal.τ).loc Cert.AdamwWConvDwIdeal.main_v0_0) = v0 c
          ∧ r.2.mem ((c.tc : Thread Cert.AdamwWConvDwIdeal.nD Cert.AdamwWConvDwIdeal.τ).loc Cert.AdamwWConvDwIdeal.main_v0_1) = v1 c
          ∧ r.2.mem ((c.tc : Thread Cert.AdamwWConvDwIdeal.nD Cert.AdamwWConvDwIdeal.τ).loc Cert.AdamwWConvDwIdeal.main_v0_2) = v2 c
          ∧ r.2.mem ((c.tc : Thread Cert.AdamwWConvDwIdeal.nD Cert.AdamwWConvDwIdeal.τ).loc Cert.AdamwWConvDwIdeal.main_arg0) = m ((c.tc : Thread Cert.AdamwWConvDwIdeal.nD Cert.AdamwWConvDwIdeal.τ).loc Cert.AdamwWConvDwIdeal.main_arg0)
          ∧ r.2.mem ((c.tc : Thread Cert.AdamwWConvDwIdeal.nD Cert.AdamwWConvDwIdeal.τ).loc Cert.AdamwWConvDwIdeal.main_arg1) = m ((c.tc : Thread Cert.AdamwWConvDwIdeal.nD Cert.AdamwWConvDwIdeal.τ).loc Cert.AdamwWConvDwIdeal.main_arg1)
          ∧ r.2.mem ((c.tc : Thread Cert.AdamwWConvDwIdeal.nD Cert.AdamwWConvDwIdeal.τ).loc Cert.AdamwWConvDwIdeal.main_arg2) = m ((c.tc : Thread Cert.AdamwWConvDwIdeal.nD Cert.AdamwWConvDwIdeal.τ).loc Cert.AdamwWConvDwIdeal.main_arg2)
          ∧ r.2.mem ((c.tc : Thread Cert.AdamwWConvDwIdeal.nD Cert.AdamwWConvDwIdeal.τ).loc Cert.AdamwWConvDwIdeal.main_arg3) = m ((c.tc : Thread Cert.AdamwWConvDwIdeal.nD Cert.AdamwWConvDwIdeal.τ).loc Cert.AdamwWConvDwIdeal.main_arg3))
      ∧ θ_run (Cert.AdamwWConvDwRefIdeal.defs (F := Ideal)) (onTc (τ := Cert.AdamwWConvDwRefIdeal.τ) (Cert.AdamwWConvDwRefIdeal.main (F := Ideal))) ⟨m', fun _ => 0, g'⟩ (fun r => ∀ c : Dev Cert.AdamwWConvDwRefIdeal.nD,
          r.2.mem ((c.tc : Thread Cert.AdamwWConvDwRefIdeal.nD Cert.AdamwWConvDwRefIdeal.τ).loc Cert.AdamwWConvDwRefIdeal.main_v23) = v0 c
          ∧ r.2.mem ((c.tc : Thread Cert.AdamwWConvDwRefIdeal.nD Cert.AdamwWConvDwRefIdeal.τ).loc Cert.AdamwWConvDwRefIdeal.main_v4) = v1 c
          ∧ r.2.mem ((c.tc : Thread Cert.AdamwWConvDwRefIdeal.nD Cert.AdamwWConvDwRefIdeal.τ).loc Cert.AdamwWConvDwRefIdeal.main_v10) = v2 c
          ∧ r.2.mem ((c.tc : Thread Cert.AdamwWConvDwRefIdeal.nD Cert.AdamwWConvDwRefIdeal.τ).loc Cert.AdamwWConvDwRefIdeal.main_arg0) = m' ((c.tc : Thread Cert.AdamwWConvDwRefIdeal.nD Cert.AdamwWConvDwRefIdeal.τ).loc Cert.AdamwWConvDwRefIdeal.main_arg0)
          ∧ r.2.mem ((c.tc : Thread Cert.AdamwWConvDwRefIdeal.nD Cert.AdamwWConvDwRefIdeal.τ).loc Cert.AdamwWConvDwRefIdeal.main_arg1) = m' ((c.tc : Thread Cert.AdamwWConvDwRefIdeal.nD Cert.AdamwWConvDwRefIdeal.τ).loc Cert.AdamwWConvDwRefIdeal.main_arg1)
          ∧ r.2.mem ((c.tc : Thread Cert.AdamwWConvDwRefIdeal.nD Cert.AdamwWConvDwRefIdeal.τ).loc Cert.AdamwWConvDwRefIdeal.main_arg2) = m' ((c.tc : Thread Cert.AdamwWConvDwRefIdeal.nD Cert.AdamwWConvDwRefIdeal.τ).loc Cert.AdamwWConvDwRefIdeal.main_arg2)
          ∧ r.2.mem ((c.tc : Thread Cert.AdamwWConvDwRefIdeal.nD Cert.AdamwWConvDwRefIdeal.τ).loc Cert.AdamwWConvDwRefIdeal.main_arg3) = m' ((c.tc : Thread Cert.AdamwWConvDwRefIdeal.nD Cert.AdamwWConvDwRefIdeal.τ).loc Cert.AdamwWConvDwRefIdeal.main_arg3))

def preserves_AdamwWConvOut_AdamwWConvOutIdeal : Prop :=
  True

def algebraic_AdamwWConvOutIdeal_AdamwWConvOutRefIdeal [hAdamwWConvOutIdeal : Cert.AdamwWConvOutIdeal.Facts] [hAdamwWConvOutRefIdeal : Cert.AdamwWConvOutRefIdeal.Facts] : Prop :=
  ∀ (m : (ℓ : Loc Cert.AdamwWConvOutIdeal.nD Cert.AdamwWConvOutIdeal.τ Cert.AdamwWConvOutIdeal.sig) → Buf (Elt Ideal) ℓ) (g : Dev Cert.AdamwWConvOutIdeal.nD → PrngReg)
    (m' : (ℓ : Loc Cert.AdamwWConvOutRefIdeal.nD Cert.AdamwWConvOutRefIdeal.τ Cert.AdamwWConvOutRefIdeal.sig) → Buf (Elt Ideal) ℓ) (g' : Dev Cert.AdamwWConvOutRefIdeal.nD → PrngReg), Pre_AdamwWConvOutIdeal m →
    (∀ c : Dev Cert.AdamwWConvOutIdeal.nD,
      m' ((c.tc : Thread Cert.AdamwWConvOutRefIdeal.nD Cert.AdamwWConvOutRefIdeal.τ).loc Cert.AdamwWConvOutRefIdeal.main_arg0) = m ((c.tc : Thread Cert.AdamwWConvOutIdeal.nD Cert.AdamwWConvOutIdeal.τ).loc Cert.AdamwWConvOutIdeal.main_arg0)
      ∧ m' ((c.tc : Thread Cert.AdamwWConvOutRefIdeal.nD Cert.AdamwWConvOutRefIdeal.τ).loc Cert.AdamwWConvOutRefIdeal.main_arg1) = m ((c.tc : Thread Cert.AdamwWConvOutIdeal.nD Cert.AdamwWConvOutIdeal.τ).loc Cert.AdamwWConvOutIdeal.main_arg1)
      ∧ m' ((c.tc : Thread Cert.AdamwWConvOutRefIdeal.nD Cert.AdamwWConvOutRefIdeal.τ).loc Cert.AdamwWConvOutRefIdeal.main_arg2) = m ((c.tc : Thread Cert.AdamwWConvOutIdeal.nD Cert.AdamwWConvOutIdeal.τ).loc Cert.AdamwWConvOutIdeal.main_arg2)
      ∧ m' ((c.tc : Thread Cert.AdamwWConvOutRefIdeal.nD Cert.AdamwWConvOutRefIdeal.τ).loc Cert.AdamwWConvOutRefIdeal.main_arg3) = m ((c.tc : Thread Cert.AdamwWConvOutIdeal.nD Cert.AdamwWConvOutIdeal.τ).loc Cert.AdamwWConvOutIdeal.main_arg3)) →
    ∃ (v0 : (c : Dev Cert.AdamwWConvOutIdeal.nD) → Buf (Elt Ideal) ((c.tc : Thread Cert.AdamwWConvOutIdeal.nD Cert.AdamwWConvOutIdeal.τ).loc Cert.AdamwWConvOutIdeal.main_v0_0)) (v1 : (c : Dev Cert.AdamwWConvOutIdeal.nD) → Buf (Elt Ideal) ((c.tc : Thread Cert.AdamwWConvOutIdeal.nD Cert.AdamwWConvOutIdeal.τ).loc Cert.AdamwWConvOutIdeal.main_v0_1)) (v2 : (c : Dev Cert.AdamwWConvOutIdeal.nD) → Buf (Elt Ideal) ((c.tc : Thread Cert.AdamwWConvOutIdeal.nD Cert.AdamwWConvOutIdeal.τ).loc Cert.AdamwWConvOutIdeal.main_v0_2)),
      θ_run (Cert.AdamwWConvOutIdeal.defs (F := Ideal)) (onTc (τ := Cert.AdamwWConvOutIdeal.τ) (Cert.AdamwWConvOutIdeal.main (F := Ideal))) ⟨m, fun _ => 0, g⟩ (fun r => ∀ c : Dev Cert.AdamwWConvOutIdeal.nD,
          r.2.mem ((c.tc : Thread Cert.AdamwWConvOutIdeal.nD Cert.AdamwWConvOutIdeal.τ).loc Cert.AdamwWConvOutIdeal.main_v0_0) = v0 c
          ∧ r.2.mem ((c.tc : Thread Cert.AdamwWConvOutIdeal.nD Cert.AdamwWConvOutIdeal.τ).loc Cert.AdamwWConvOutIdeal.main_v0_1) = v1 c
          ∧ r.2.mem ((c.tc : Thread Cert.AdamwWConvOutIdeal.nD Cert.AdamwWConvOutIdeal.τ).loc Cert.AdamwWConvOutIdeal.main_v0_2) = v2 c
          ∧ r.2.mem ((c.tc : Thread Cert.AdamwWConvOutIdeal.nD Cert.AdamwWConvOutIdeal.τ).loc Cert.AdamwWConvOutIdeal.main_arg0) = m ((c.tc : Thread Cert.AdamwWConvOutIdeal.nD Cert.AdamwWConvOutIdeal.τ).loc Cert.AdamwWConvOutIdeal.main_arg0)
          ∧ r.2.mem ((c.tc : Thread Cert.AdamwWConvOutIdeal.nD Cert.AdamwWConvOutIdeal.τ).loc Cert.AdamwWConvOutIdeal.main_arg1) = m ((c.tc : Thread Cert.AdamwWConvOutIdeal.nD Cert.AdamwWConvOutIdeal.τ).loc Cert.AdamwWConvOutIdeal.main_arg1)
          ∧ r.2.mem ((c.tc : Thread Cert.AdamwWConvOutIdeal.nD Cert.AdamwWConvOutIdeal.τ).loc Cert.AdamwWConvOutIdeal.main_arg2) = m ((c.tc : Thread Cert.AdamwWConvOutIdeal.nD Cert.AdamwWConvOutIdeal.τ).loc Cert.AdamwWConvOutIdeal.main_arg2)
          ∧ r.2.mem ((c.tc : Thread Cert.AdamwWConvOutIdeal.nD Cert.AdamwWConvOutIdeal.τ).loc Cert.AdamwWConvOutIdeal.main_arg3) = m ((c.tc : Thread Cert.AdamwWConvOutIdeal.nD Cert.AdamwWConvOutIdeal.τ).loc Cert.AdamwWConvOutIdeal.main_arg3))
      ∧ θ_run (Cert.AdamwWConvOutRefIdeal.defs (F := Ideal)) (onTc (τ := Cert.AdamwWConvOutRefIdeal.τ) (Cert.AdamwWConvOutRefIdeal.main (F := Ideal))) ⟨m', fun _ => 0, g'⟩ (fun r => ∀ c : Dev Cert.AdamwWConvOutRefIdeal.nD,
          r.2.mem ((c.tc : Thread Cert.AdamwWConvOutRefIdeal.nD Cert.AdamwWConvOutRefIdeal.τ).loc Cert.AdamwWConvOutRefIdeal.main_v23) = v0 c
          ∧ r.2.mem ((c.tc : Thread Cert.AdamwWConvOutRefIdeal.nD Cert.AdamwWConvOutRefIdeal.τ).loc Cert.AdamwWConvOutRefIdeal.main_v4) = v1 c
          ∧ r.2.mem ((c.tc : Thread Cert.AdamwWConvOutRefIdeal.nD Cert.AdamwWConvOutRefIdeal.τ).loc Cert.AdamwWConvOutRefIdeal.main_v10) = v2 c
          ∧ r.2.mem ((c.tc : Thread Cert.AdamwWConvOutRefIdeal.nD Cert.AdamwWConvOutRefIdeal.τ).loc Cert.AdamwWConvOutRefIdeal.main_arg0) = m' ((c.tc : Thread Cert.AdamwWConvOutRefIdeal.nD Cert.AdamwWConvOutRefIdeal.τ).loc Cert.AdamwWConvOutRefIdeal.main_arg0)
          ∧ r.2.mem ((c.tc : Thread Cert.AdamwWConvOutRefIdeal.nD Cert.AdamwWConvOutRefIdeal.τ).loc Cert.AdamwWConvOutRefIdeal.main_arg1) = m' ((c.tc : Thread Cert.AdamwWConvOutRefIdeal.nD Cert.AdamwWConvOutRefIdeal.τ).loc Cert.AdamwWConvOutRefIdeal.main_arg1)
          ∧ r.2.mem ((c.tc : Thread Cert.AdamwWConvOutRefIdeal.nD Cert.AdamwWConvOutRefIdeal.τ).loc Cert.AdamwWConvOutRefIdeal.main_arg2) = m' ((c.tc : Thread Cert.AdamwWConvOutRefIdeal.nD Cert.AdamwWConvOutRefIdeal.τ).loc Cert.AdamwWConvOutRefIdeal.main_arg2)
          ∧ r.2.mem ((c.tc : Thread Cert.AdamwWConvOutRefIdeal.nD Cert.AdamwWConvOutRefIdeal.τ).loc Cert.AdamwWConvOutRefIdeal.main_arg3) = m' ((c.tc : Thread Cert.AdamwWConvOutRefIdeal.nD Cert.AdamwWConvOutRefIdeal.τ).loc Cert.AdamwWConvOutRefIdeal.main_arg3))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v23) = v0 c
          ∧ r.2.mem ((c.tc : Thread Cert.AdamwWOutRefIdeal.nD Cert.AdamwWOutRefIdeal.τ).loc Cert.AdamwWOutRefIdeal.main_v4) = v1 c
          ∧ r.2.mem ((c.tc : Thread Cert.AdamwWOutRefIdeal.nD Cert.AdamwWOutRefIdeal.τ).loc Cert.AdamwWOutRefIdeal.main_v10) = v2 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3))

def preserves_AdamwWFfnIn_AdamwWFfnInIdeal : Prop :=
  True

def algebraic_AdamwWFfnInIdeal_AdamwWFfnInRefIdeal [hAdamwWFfnInIdeal : Cert.AdamwWFfnInIdeal.Facts] [hAdamwWFfnInRefIdeal : Cert.AdamwWFfnInRefIdeal.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg)
    (m' : (ℓ : Loc Cert.AdamwWFfnInRefIdeal.nD Cert.AdamwWFfnInRefIdeal.τ Cert.AdamwWFfnInRefIdeal.sig) → Buf (Elt Ideal) ℓ) (g' : Dev Cert.AdamwWFfnInRefIdeal.nD → PrngReg), Pre_AdamwWFfnInIdeal m →
    (∀ c : Dev Cert.AdamwWFfnInIdeal.nD,
      m' ((c.tc : Thread Cert.AdamwWFfnInRefIdeal.nD Cert.AdamwWFfnInRefIdeal.τ).loc Cert.AdamwWFfnInRefIdeal.main_arg0) = m ((c.tc : Thread Cert.AdamwWFfnInIdeal.nD Cert.AdamwWFfnInIdeal.τ).loc Cert.AdamwWFfnInIdeal.main_arg0)
      ∧ m' ((c.tc : Thread Cert.AdamwWFfnInRefIdeal.nD Cert.AdamwWFfnInRefIdeal.τ).loc Cert.AdamwWFfnInRefIdeal.main_arg1) = m ((c.tc : Thread Cert.AdamwWFfnInIdeal.nD Cert.AdamwWFfnInIdeal.τ).loc Cert.AdamwWFfnInIdeal.main_arg1)
      ∧ m' ((c.tc : Thread Cert.AdamwWFfnInRefIdeal.nD Cert.AdamwWFfnInRefIdeal.τ).loc Cert.AdamwWFfnInRefIdeal.main_arg2) = m ((c.tc : Thread Cert.AdamwWFfnInIdeal.nD Cert.AdamwWFfnInIdeal.τ).loc Cert.AdamwWFfnInIdeal.main_arg2)
      ∧ m' ((c.tc : Thread Cert.AdamwWFfnInRefIdeal.nD Cert.AdamwWFfnInRefIdeal.τ).loc Cert.AdamwWFfnInRefIdeal.main_arg3) = m ((c.tc : Thread Cert.AdamwWFfnInIdeal.nD Cert.AdamwWFfnInIdeal.τ).loc Cert.AdamwWFfnInIdeal.main_arg3)) →
    ∃ (v0 : (c : Dev Cert.AdamwWFfnInIdeal.nD) → Buf (Elt Ideal) ((c.tc : Thread Cert.AdamwWFfnInIdeal.nD Cert.AdamwWFfnInIdeal.τ).loc Cert.AdamwWFfnInIdeal.main_v0_0)) (v1 : (c : Dev Cert.AdamwWFfnInIdeal.nD) → Buf (Elt Ideal) ((c.tc : Thread Cert.AdamwWFfnInIdeal.nD Cert.AdamwWFfnInIdeal.τ).loc Cert.AdamwWFfnInIdeal.main_v0_1)) (v2 : (c : Dev Cert.AdamwWFfnInIdeal.nD) → Buf (Elt Ideal) ((c.tc : Thread Cert.AdamwWFfnInIdeal.nD Cert.AdamwWFfnInIdeal.τ).loc Cert.AdamwWFfnInIdeal.main_v0_2)),
      θ_run (Cert.AdamwWFfnInIdeal.defs (F := Ideal)) (onTc (τ := Cert.AdamwWFfnInIdeal.τ) (Cert.AdamwWFfnInIdeal.main (F := Ideal))) ⟨m, fun _ => 0, g⟩ (fun r => ∀ c : Dev Cert.AdamwWFfnInIdeal.nD,
          r.2.mem ((c.tc : Thread Cert.AdamwWFfnInIdeal.nD Cert.AdamwWFfnInIdeal.τ).loc Cert.AdamwWFfnInIdeal.main_v0_0) = v0 c
          ∧ r.2.mem ((c.tc : Thread Cert.AdamwWFfnInIdeal.nD Cert.AdamwWFfnInIdeal.τ).loc Cert.AdamwWFfnInIdeal.main_v0_1) = v1 c
          ∧ r.2.mem ((c.tc : Thread Cert.AdamwWFfnInIdeal.nD Cert.AdamwWFfnInIdeal.τ).loc Cert.AdamwWFfnInIdeal.main_v0_2) = v2 c
          ∧ r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
          ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
          ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
          ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3))
      ∧ θ_run (Cert.AdamwWFfnInRefIdeal.defs (F := Ideal)) (onTc (τ := Cert.AdamwWFfnInRefIdeal.τ) (Cert.AdamwWFfnInRefIdeal.main (F := Ideal))) ⟨m', fun _ => 0, g'⟩ (fun r => ∀ c : Dev Cert.AdamwWFfnInRefIdeal.nD,
          r.2.mem ((c.tc : Thread Cert.AdamwWFfnInRefIdeal.nD Cert.AdamwWFfnInRefIdeal.τ).loc Cert.AdamwWFfnInRefIdeal.main_v23) = v0 c
          ∧ r.2.mem ((c.tc : Thread Cert.AdamwWFfnInRefIdeal.nD Cert.AdamwWFfnInRefIdeal.τ).loc Cert.AdamwWFfnInRefIdeal.main_v4) = v1 c
          ∧ r.2.mem ((c.tc : Thread Cert.AdamwWFfnInRefIdeal.nD Cert.AdamwWFfnInRefIdeal.τ).loc Cert.AdamwWFfnInRefIdeal.main_v10) = v2 c
          ∧ r.2.mem ((c.tc : Thread Cert.AdamwWFfnInRefIdeal.nD Cert.AdamwWFfnInRefIdeal.τ).loc Cert.AdamwWFfnInRefIdeal.main_arg0) = m' ((c.tc : Thread Cert.AdamwWFfnInRefIdeal.nD Cert.AdamwWFfnInRefIdeal.τ).loc Cert.AdamwWFfnInRefIdeal.main_arg0)
          ∧ r.2.mem ((c.tc : Thread Cert.AdamwWFfnInRefIdeal.nD Cert.AdamwWFfnInRefIdeal.τ).loc Cert.AdamwWFfnInRefIdeal.main_arg1) = m' ((c.tc : Thread Cert.AdamwWFfnInRefIdeal.nD Cert.AdamwWFfnInRefIdeal.τ).loc Cert.AdamwWFfnInRefIdeal.main_arg1)
          ∧ r.2.mem ((c.tc : Thread Cert.AdamwWFfnInRefIdeal.nD Cert.AdamwWFfnInRefIdeal.τ).loc Cert.AdamwWFfnInRefIdeal.main_arg2) = m' ((c.tc : Thread Cert.AdamwWFfnInRefIdeal.nD Cert.AdamwWFfnInRefIdeal.τ).loc Cert.AdamwWFfnInRefIdeal.main_arg2)
          ∧ r.2.mem ((c.tc : Thread Cert.AdamwWFfnInRefIdeal.nD Cert.AdamwWFfnInRefIdeal.τ).loc Cert.AdamwWFfnInRefIdeal.main_arg3) = m' ((c.tc : Thread Cert.AdamwWFfnInRefIdeal.nD Cert.AdamwWFfnInRefIdeal.τ).loc Cert.AdamwWFfnInRefIdeal.main_arg3))

def preserves_AdamwWFfnDw_AdamwWFfnDwIdeal : Prop :=
  True

def algebraic_AdamwWFfnDwIdeal_AdamwWFfnDwRefIdeal [hAdamwWFfnDwIdeal : Cert.AdamwWFfnDwIdeal.Facts] [hAdamwWFfnDwRefIdeal : Cert.AdamwWFfnDwRefIdeal.Facts] : Prop :=
  ∀ (m : (ℓ : Loc Cert.AdamwWFfnDwIdeal.nD Cert.AdamwWFfnDwIdeal.τ Cert.AdamwWFfnDwIdeal.sig) → Buf (Elt Ideal) ℓ) (g : Dev Cert.AdamwWFfnDwIdeal.nD → PrngReg)
    (m' : (ℓ : Loc Cert.AdamwWFfnDwRefIdeal.nD Cert.AdamwWFfnDwRefIdeal.τ Cert.AdamwWFfnDwRefIdeal.sig) → Buf (Elt Ideal) ℓ) (g' : Dev Cert.AdamwWFfnDwRefIdeal.nD → PrngReg), Pre_AdamwWFfnDwIdeal m →
    (∀ c : Dev Cert.AdamwWFfnDwIdeal.nD,
      m' ((c.tc : Thread Cert.AdamwWFfnDwRefIdeal.nD Cert.AdamwWFfnDwRefIdeal.τ).loc Cert.AdamwWFfnDwRefIdeal.main_arg0) = m ((c.tc : Thread Cert.AdamwWFfnDwIdeal.nD Cert.AdamwWFfnDwIdeal.τ).loc Cert.AdamwWFfnDwIdeal.main_arg0)
      ∧ m' ((c.tc : Thread Cert.AdamwWFfnDwRefIdeal.nD Cert.AdamwWFfnDwRefIdeal.τ).loc Cert.AdamwWFfnDwRefIdeal.main_arg1) = m ((c.tc : Thread Cert.AdamwWFfnDwIdeal.nD Cert.AdamwWFfnDwIdeal.τ).loc Cert.AdamwWFfnDwIdeal.main_arg1)
      ∧ m' ((c.tc : Thread Cert.AdamwWFfnDwRefIdeal.nD Cert.AdamwWFfnDwRefIdeal.τ).loc Cert.AdamwWFfnDwRefIdeal.main_arg2) = m ((c.tc : Thread Cert.AdamwWFfnDwIdeal.nD Cert.AdamwWFfnDwIdeal.τ).loc Cert.AdamwWFfnDwIdeal.main_arg2)
      ∧ m' ((c.tc : Thread Cert.AdamwWFfnDwRefIdeal.nD Cert.AdamwWFfnDwRefIdeal.τ).loc Cert.AdamwWFfnDwRefIdeal.main_arg3) = m ((c.tc : Thread Cert.AdamwWFfnDwIdeal.nD Cert.AdamwWFfnDwIdeal.τ).loc Cert.AdamwWFfnDwIdeal.main_arg3)) →
    ∃ (v0 : (c : Dev Cert.AdamwWFfnDwIdeal.nD) → Buf (Elt Ideal) ((c.tc : Thread Cert.AdamwWFfnDwIdeal.nD Cert.AdamwWFfnDwIdeal.τ).loc Cert.AdamwWFfnDwIdeal.main_v0_0)) (v1 : (c : Dev Cert.AdamwWFfnDwIdeal.nD) → Buf (Elt Ideal) ((c.tc : Thread Cert.AdamwWFfnDwIdeal.nD Cert.AdamwWFfnDwIdeal.τ).loc Cert.AdamwWFfnDwIdeal.main_v0_1)) (v2 : (c : Dev Cert.AdamwWFfnDwIdeal.nD) → Buf (Elt Ideal) ((c.tc : Thread Cert.AdamwWFfnDwIdeal.nD Cert.AdamwWFfnDwIdeal.τ).loc Cert.AdamwWFfnDwIdeal.main_v0_2)),
      θ_run (Cert.AdamwWFfnDwIdeal.defs (F := Ideal)) (onTc (τ := Cert.AdamwWFfnDwIdeal.τ) (Cert.AdamwWFfnDwIdeal.main (F := Ideal))) ⟨m, fun _ => 0, g⟩ (fun r => ∀ c : Dev Cert.AdamwWFfnDwIdeal.nD,
          r.2.mem ((c.tc : Thread Cert.AdamwWFfnDwIdeal.nD Cert.AdamwWFfnDwIdeal.τ).loc Cert.AdamwWFfnDwIdeal.main_v0_0) = v0 c
          ∧ r.2.mem ((c.tc : Thread Cert.AdamwWFfnDwIdeal.nD Cert.AdamwWFfnDwIdeal.τ).loc Cert.AdamwWFfnDwIdeal.main_v0_1) = v1 c
          ∧ r.2.mem ((c.tc : Thread Cert.AdamwWFfnDwIdeal.nD Cert.AdamwWFfnDwIdeal.τ).loc Cert.AdamwWFfnDwIdeal.main_v0_2) = v2 c
          ∧ r.2.mem ((c.tc : Thread Cert.AdamwWFfnDwIdeal.nD Cert.AdamwWFfnDwIdeal.τ).loc Cert.AdamwWFfnDwIdeal.main_arg0) = m ((c.tc : Thread Cert.AdamwWFfnDwIdeal.nD Cert.AdamwWFfnDwIdeal.τ).loc Cert.AdamwWFfnDwIdeal.main_arg0)
          ∧ r.2.mem ((c.tc : Thread Cert.AdamwWFfnDwIdeal.nD Cert.AdamwWFfnDwIdeal.τ).loc Cert.AdamwWFfnDwIdeal.main_arg1) = m ((c.tc : Thread Cert.AdamwWFfnDwIdeal.nD Cert.AdamwWFfnDwIdeal.τ).loc Cert.AdamwWFfnDwIdeal.main_arg1)
          ∧ r.2.mem ((c.tc : Thread Cert.AdamwWFfnDwIdeal.nD Cert.AdamwWFfnDwIdeal.τ).loc Cert.AdamwWFfnDwIdeal.main_arg2) = m ((c.tc : Thread Cert.AdamwWFfnDwIdeal.nD Cert.AdamwWFfnDwIdeal.τ).loc Cert.AdamwWFfnDwIdeal.main_arg2)
          ∧ r.2.mem ((c.tc : Thread Cert.AdamwWFfnDwIdeal.nD Cert.AdamwWFfnDwIdeal.τ).loc Cert.AdamwWFfnDwIdeal.main_arg3) = m ((c.tc : Thread Cert.AdamwWFfnDwIdeal.nD Cert.AdamwWFfnDwIdeal.τ).loc Cert.AdamwWFfnDwIdeal.main_arg3))
      ∧ θ_run (Cert.AdamwWFfnDwRefIdeal.defs (F := Ideal)) (onTc (τ := Cert.AdamwWFfnDwRefIdeal.τ) (Cert.AdamwWFfnDwRefIdeal.main (F := Ideal))) ⟨m', fun _ => 0, g'⟩ (fun r => ∀ c : Dev Cert.AdamwWFfnDwRefIdeal.nD,
          r.2.mem ((c.tc : Thread Cert.AdamwWFfnDwRefIdeal.nD Cert.AdamwWFfnDwRefIdeal.τ).loc Cert.AdamwWFfnDwRefIdeal.main_v23) = v0 c
          ∧ r.2.mem ((c.tc : Thread Cert.AdamwWFfnDwRefIdeal.nD Cert.AdamwWFfnDwRefIdeal.τ).loc Cert.AdamwWFfnDwRefIdeal.main_v4) = v1 c
          ∧ r.2.mem ((c.tc : Thread Cert.AdamwWFfnDwRefIdeal.nD Cert.AdamwWFfnDwRefIdeal.τ).loc Cert.AdamwWFfnDwRefIdeal.main_v10) = v2 c
          ∧ r.2.mem ((c.tc : Thread Cert.AdamwWFfnDwRefIdeal.nD Cert.AdamwWFfnDwRefIdeal.τ).loc Cert.AdamwWFfnDwRefIdeal.main_arg0) = m' ((c.tc : Thread Cert.AdamwWFfnDwRefIdeal.nD Cert.AdamwWFfnDwRefIdeal.τ).loc Cert.AdamwWFfnDwRefIdeal.main_arg0)
          ∧ r.2.mem ((c.tc : Thread Cert.AdamwWFfnDwRefIdeal.nD Cert.AdamwWFfnDwRefIdeal.τ).loc Cert.AdamwWFfnDwRefIdeal.main_arg1) = m' ((c.tc : Thread Cert.AdamwWFfnDwRefIdeal.nD Cert.AdamwWFfnDwRefIdeal.τ).loc Cert.AdamwWFfnDwRefIdeal.main_arg1)
          ∧ r.2.mem ((c.tc : Thread Cert.AdamwWFfnDwRefIdeal.nD Cert.AdamwWFfnDwRefIdeal.τ).loc Cert.AdamwWFfnDwRefIdeal.main_arg2) = m' ((c.tc : Thread Cert.AdamwWFfnDwRefIdeal.nD Cert.AdamwWFfnDwRefIdeal.τ).loc Cert.AdamwWFfnDwRefIdeal.main_arg2)
          ∧ r.2.mem ((c.tc : Thread Cert.AdamwWFfnDwRefIdeal.nD Cert.AdamwWFfnDwRefIdeal.τ).loc Cert.AdamwWFfnDwRefIdeal.main_arg3) = m' ((c.tc : Thread Cert.AdamwWFfnDwRefIdeal.nD Cert.AdamwWFfnDwRefIdeal.τ).loc Cert.AdamwWFfnDwRefIdeal.main_arg3))

def preserves_AdamwWFfnOut_AdamwWFfnOutIdeal : Prop :=
  True

def algebraic_AdamwWFfnOutIdeal_AdamwWFfnOutRefIdeal [hAdamwWFfnOutIdeal : Cert.AdamwWFfnOutIdeal.Facts] [hAdamwWFfnOutRefIdeal : Cert.AdamwWFfnOutRefIdeal.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg)
    (m' : (ℓ : Loc Cert.AdamwWFfnOutRefIdeal.nD Cert.AdamwWFfnOutRefIdeal.τ Cert.AdamwWFfnOutRefIdeal.sig) → Buf (Elt Ideal) ℓ) (g' : Dev Cert.AdamwWFfnOutRefIdeal.nD → PrngReg), Pre_AdamwWFfnOutIdeal m →
    (∀ c : Dev Cert.AdamwWFfnOutIdeal.nD,
      m' ((c.tc : Thread Cert.AdamwWFfnOutRefIdeal.nD Cert.AdamwWFfnOutRefIdeal.τ).loc Cert.AdamwWFfnOutRefIdeal.main_arg0) = m ((c.tc : Thread Cert.AdamwWFfnOutIdeal.nD Cert.AdamwWFfnOutIdeal.τ).loc Cert.AdamwWFfnOutIdeal.main_arg0)
      ∧ m' ((c.tc : Thread Cert.AdamwWFfnOutRefIdeal.nD Cert.AdamwWFfnOutRefIdeal.τ).loc Cert.AdamwWFfnOutRefIdeal.main_arg1) = m ((c.tc : Thread Cert.AdamwWFfnOutIdeal.nD Cert.AdamwWFfnOutIdeal.τ).loc Cert.AdamwWFfnOutIdeal.main_arg1)
      ∧ m' ((c.tc : Thread Cert.AdamwWFfnOutRefIdeal.nD Cert.AdamwWFfnOutRefIdeal.τ).loc Cert.AdamwWFfnOutRefIdeal.main_arg2) = m ((c.tc : Thread Cert.AdamwWFfnOutIdeal.nD Cert.AdamwWFfnOutIdeal.τ).loc Cert.AdamwWFfnOutIdeal.main_arg2)
      ∧ m' ((c.tc : Thread Cert.AdamwWFfnOutRefIdeal.nD Cert.AdamwWFfnOutRefIdeal.τ).loc Cert.AdamwWFfnOutRefIdeal.main_arg3) = m ((c.tc : Thread Cert.AdamwWFfnOutIdeal.nD Cert.AdamwWFfnOutIdeal.τ).loc Cert.AdamwWFfnOutIdeal.main_arg3)) →
    ∃ (v0 : (c : Dev Cert.AdamwWFfnOutIdeal.nD) → Buf (Elt Ideal) ((c.tc : Thread Cert.AdamwWFfnOutIdeal.nD Cert.AdamwWFfnOutIdeal.τ).loc Cert.AdamwWFfnOutIdeal.main_v0_0)) (v1 : (c : Dev Cert.AdamwWFfnOutIdeal.nD) → Buf (Elt Ideal) ((c.tc : Thread Cert.AdamwWFfnOutIdeal.nD Cert.AdamwWFfnOutIdeal.τ).loc Cert.AdamwWFfnOutIdeal.main_v0_1)) (v2 : (c : Dev Cert.AdamwWFfnOutIdeal.nD) → Buf (Elt Ideal) ((c.tc : Thread Cert.AdamwWFfnOutIdeal.nD Cert.AdamwWFfnOutIdeal.τ).loc Cert.AdamwWFfnOutIdeal.main_v0_2)),
      θ_run (Cert.AdamwWFfnOutIdeal.defs (F := Ideal)) (onTc (τ := Cert.AdamwWFfnOutIdeal.τ) (Cert.AdamwWFfnOutIdeal.main (F := Ideal))) ⟨m, fun _ => 0, g⟩ (fun r => ∀ c : Dev Cert.AdamwWFfnOutIdeal.nD,
          r.2.mem ((c.tc : Thread Cert.AdamwWFfnOutIdeal.nD Cert.AdamwWFfnOutIdeal.τ).loc Cert.AdamwWFfnOutIdeal.main_v0_0) = v0 c
          ∧ r.2.mem ((c.tc : Thread Cert.AdamwWFfnOutIdeal.nD Cert.AdamwWFfnOutIdeal.τ).loc Cert.AdamwWFfnOutIdeal.main_v0_1) = v1 c
          ∧ r.2.mem ((c.tc : Thread Cert.AdamwWFfnOutIdeal.nD Cert.AdamwWFfnOutIdeal.τ).loc Cert.AdamwWFfnOutIdeal.main_v0_2) = v2 c
          ∧ r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
          ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
          ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
          ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3))
      ∧ θ_run (Cert.AdamwWFfnOutRefIdeal.defs (F := Ideal)) (onTc (τ := Cert.AdamwWFfnOutRefIdeal.τ) (Cert.AdamwWFfnOutRefIdeal.main (F := Ideal))) ⟨m', fun _ => 0, g'⟩ (fun r => ∀ c : Dev Cert.AdamwWFfnOutRefIdeal.nD,
          r.2.mem ((c.tc : Thread Cert.AdamwWFfnOutRefIdeal.nD Cert.AdamwWFfnOutRefIdeal.τ).loc Cert.AdamwWFfnOutRefIdeal.main_v23) = v0 c
          ∧ r.2.mem ((c.tc : Thread Cert.AdamwWFfnOutRefIdeal.nD Cert.AdamwWFfnOutRefIdeal.τ).loc Cert.AdamwWFfnOutRefIdeal.main_v4) = v1 c
          ∧ r.2.mem ((c.tc : Thread Cert.AdamwWFfnOutRefIdeal.nD Cert.AdamwWFfnOutRefIdeal.τ).loc Cert.AdamwWFfnOutRefIdeal.main_v10) = v2 c
          ∧ r.2.mem ((c.tc : Thread Cert.AdamwWFfnOutRefIdeal.nD Cert.AdamwWFfnOutRefIdeal.τ).loc Cert.AdamwWFfnOutRefIdeal.main_arg0) = m' ((c.tc : Thread Cert.AdamwWFfnOutRefIdeal.nD Cert.AdamwWFfnOutRefIdeal.τ).loc Cert.AdamwWFfnOutRefIdeal.main_arg0)
          ∧ r.2.mem ((c.tc : Thread Cert.AdamwWFfnOutRefIdeal.nD Cert.AdamwWFfnOutRefIdeal.τ).loc Cert.AdamwWFfnOutRefIdeal.main_arg1) = m' ((c.tc : Thread Cert.AdamwWFfnOutRefIdeal.nD Cert.AdamwWFfnOutRefIdeal.τ).loc Cert.AdamwWFfnOutRefIdeal.main_arg1)
          ∧ r.2.mem ((c.tc : Thread Cert.AdamwWFfnOutRefIdeal.nD Cert.AdamwWFfnOutRefIdeal.τ).loc Cert.AdamwWFfnOutRefIdeal.main_arg2) = m' ((c.tc : Thread Cert.AdamwWFfnOutRefIdeal.nD Cert.AdamwWFfnOutRefIdeal.τ).loc Cert.AdamwWFfnOutRefIdeal.main_arg2)
          ∧ r.2.mem ((c.tc : Thread Cert.AdamwWFfnOutRefIdeal.nD Cert.AdamwWFfnOutRefIdeal.τ).loc Cert.AdamwWFfnOutRefIdeal.main_arg3) = m' ((c.tc : Thread Cert.AdamwWFfnOutRefIdeal.nD Cert.AdamwWFfnOutRefIdeal.τ).loc Cert.AdamwWFfnOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v2) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_FfnBwdB_FfnBwdBIdeal : Prop :=
  True

def algebraic_FfnBwdBIdeal_FfnBwdBRefIdeal [hFfnBwdBIdeal : Cert.FfnBwdBIdeal.Facts] [hFfnBwdBRefIdeal : Cert.FfnBwdBRefIdeal.Facts] : Prop :=
  ∀ (m : (ℓ : Loc Cert.FfnBwdBIdeal.nD Cert.FfnBwdBIdeal.τ Cert.FfnBwdBIdeal.sig) → Buf (Elt Ideal) ℓ) (g : Dev Cert.FfnBwdBIdeal.nD → PrngReg)
    (m' : (ℓ : Loc Cert.FfnBwdBRefIdeal.nD Cert.FfnBwdBRefIdeal.τ Cert.FfnBwdBRefIdeal.sig) → Buf (Elt Ideal) ℓ) (g' : Dev Cert.FfnBwdBRefIdeal.nD → PrngReg), Pre_FfnBwdBIdeal m →
    (∀ c : Dev Cert.FfnBwdBIdeal.nD,
      m' ((c.tc : Thread Cert.FfnBwdBRefIdeal.nD Cert.FfnBwdBRefIdeal.τ).loc Cert.FfnBwdBRefIdeal.main_arg0) = m ((c.tc : Thread Cert.FfnBwdBIdeal.nD Cert.FfnBwdBIdeal.τ).loc Cert.FfnBwdBIdeal.main_arg0)
      ∧ m' ((c.tc : Thread Cert.FfnBwdBRefIdeal.nD Cert.FfnBwdBRefIdeal.τ).loc Cert.FfnBwdBRefIdeal.main_arg1) = m ((c.tc : Thread Cert.FfnBwdBIdeal.nD Cert.FfnBwdBIdeal.τ).loc Cert.FfnBwdBIdeal.main_arg1)) →
    ∃ (v0 : (c : Dev Cert.FfnBwdBIdeal.nD) → Buf (Elt Ideal) ((c.tc : Thread Cert.FfnBwdBIdeal.nD Cert.FfnBwdBIdeal.τ).loc Cert.FfnBwdBIdeal.main_v0)),
      θ_run (Cert.FfnBwdBIdeal.defs (F := Ideal)) (onTc (τ := Cert.FfnBwdBIdeal.τ) (Cert.FfnBwdBIdeal.main (F := Ideal))) ⟨m, fun _ => 0, g⟩ (fun r => ∀ c : Dev Cert.FfnBwdBIdeal.nD,
          r.2.mem ((c.tc : Thread Cert.FfnBwdBIdeal.nD Cert.FfnBwdBIdeal.τ).loc Cert.FfnBwdBIdeal.main_v0) = v0 c
          ∧ r.2.mem ((c.tc : Thread Cert.FfnBwdBIdeal.nD Cert.FfnBwdBIdeal.τ).loc Cert.FfnBwdBIdeal.main_arg0) = m ((c.tc : Thread Cert.FfnBwdBIdeal.nD Cert.FfnBwdBIdeal.τ).loc Cert.FfnBwdBIdeal.main_arg0)
          ∧ r.2.mem ((c.tc : Thread Cert.FfnBwdBIdeal.nD Cert.FfnBwdBIdeal.τ).loc Cert.FfnBwdBIdeal.main_arg1) = m ((c.tc : Thread Cert.FfnBwdBIdeal.nD Cert.FfnBwdBIdeal.τ).loc Cert.FfnBwdBIdeal.main_arg1))
      ∧ θ_run (Cert.FfnBwdBRefIdeal.defs (F := Ideal)) (onTc (τ := Cert.FfnBwdBRefIdeal.τ) (Cert.FfnBwdBRefIdeal.main (F := Ideal))) ⟨m', fun _ => 0, g'⟩ (fun r => ∀ c : Dev Cert.FfnBwdBRefIdeal.nD,
          r.2.mem ((c.tc : Thread Cert.FfnBwdBRefIdeal.nD Cert.FfnBwdBRefIdeal.τ).loc Cert.FfnBwdBRefIdeal.main_v41) = v0 c
          ∧ r.2.mem ((c.tc : Thread Cert.FfnBwdBRefIdeal.nD Cert.FfnBwdBRefIdeal.τ).loc Cert.FfnBwdBRefIdeal.main_arg0) = m' ((c.tc : Thread Cert.FfnBwdBRefIdeal.nD Cert.FfnBwdBRefIdeal.τ).loc Cert.FfnBwdBRefIdeal.main_arg0)
          ∧ r.2.mem ((c.tc : Thread Cert.FfnBwdBRefIdeal.nD Cert.FfnBwdBRefIdeal.τ).loc Cert.FfnBwdBRefIdeal.main_arg1) = m' ((c.tc : Thread Cert.FfnBwdBRefIdeal.nD Cert.FfnBwdBRefIdeal.τ).loc Cert.FfnBwdBRefIdeal.main_arg1))

def preserves_FfnMid_FfnMidIdeal : Prop :=
  IdealRules.named_const.Statement Cert.FfnMidIdeal.κ "gelu_ca" .f32 0x3D122279#32 ((80338380498831 / 2251799813685248 : ℝ) : EReal)

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)) →
    ∃ (v0 : (c : Dev Cert.FfnMidIdeal.nD) → Buf (Elt Ideal) ((c.tc : Thread Cert.FfnMidIdeal.nD Cert.FfnMidIdeal.τ).loc Cert.FfnMidIdeal.main_v0)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v0) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v42) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v168) = v0 c
          ∧ r.2.mem ((c.tc : Thread Cert.ConvFwdRefIdeal.nD Cert.ConvFwdRefIdeal.τ).loc Cert.ConvFwdRefIdeal.main_v198) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def Claim : Prop :=
  ∃ (hMergeBwd : Cert.MergeBwd.Facts) (hMergeBwdIdeal : Cert.MergeBwdIdeal.Facts) (hMergeBwdRefIdeal : Cert.MergeBwdRefIdeal.Facts) (hGradWIn : Cert.GradWIn.Facts) (hGradWInIdeal : Cert.GradWInIdeal.Facts) (hGradWInRefIdeal : Cert.GradWInRefIdeal.Facts) (hGradXFirst : Cert.GradXFirst.Facts) (hGradXFirstIdeal : Cert.GradXFirstIdeal.Facts) (hGradXFirstRefIdeal : Cert.GradXFirstRefIdeal.Facts) (hGradXSecond : Cert.GradXSecond.Facts) (hGradXSecondIdeal : Cert.GradXSecondIdeal.Facts) (hGradXSecondRefIdeal : Cert.GradXSecondRefIdeal.Facts) (hFfnIn : Cert.FfnIn.Facts) (hFfnInIdeal : Cert.FfnInIdeal.Facts) (hFfnInRefIdeal : Cert.FfnInRefIdeal.Facts) (hGradWFfnIn : Cert.GradWFfnIn.Facts) (hGradWFfnInIdeal : Cert.GradWFfnInIdeal.Facts) (hGradWFfnInRefIdeal : Cert.GradWFfnInRefIdeal.Facts) (hGradWFfnOut : Cert.GradWFfnOut.Facts) (hGradWFfnOutIdeal : Cert.GradWFfnOutIdeal.Facts) (hGradWFfnOutRefIdeal : Cert.GradWFfnOutRefIdeal.Facts) (hGradWOut : Cert.GradWOut.Facts) (hGradWOutIdeal : Cert.GradWOutIdeal.Facts) (hGradWOutRefIdeal : Cert.GradWOutRefIdeal.Facts) (hGradWConvOut : Cert.GradWConvOut.Facts) (hGradWConvOutIdeal : Cert.GradWConvOutIdeal.Facts) (hGradWConvOutRefIdeal : Cert.GradWConvOutRefIdeal.Facts) (hGradWHgrnOut : Cert.GradWHgrnOut.Facts) (hGradWHgrnOutIdeal : Cert.GradWHgrnOutIdeal.Facts) (hGradWHgrnOutRefIdeal : Cert.GradWHgrnOutRefIdeal.Facts) (hMergeFwd : Cert.MergeFwd.Facts) (hMergeFwdIdeal : Cert.MergeFwdIdeal.Facts) (hMergeFwdRefIdeal : Cert.MergeFwdRefIdeal.Facts) (hFfnInBwd : Cert.FfnInBwd.Facts) (hFfnInBwdIdeal : Cert.FfnInBwdIdeal.Facts) (hFfnInBwdRefIdeal : Cert.FfnInBwdRefIdeal.Facts) (hFfnOutLoss : Cert.FfnOutLoss.Facts) (hFfnOutLossIdeal : Cert.FfnOutLossIdeal.Facts) (hFfnOutLossRefIdeal : Cert.FfnOutLossRefIdeal.Facts) (hAdamwWIn : Cert.AdamwWIn.Facts) (hAdamwWInIdeal : Cert.AdamwWInIdeal.Facts) (hAdamwWInRefIdeal : Cert.AdamwWInRefIdeal.Facts) (hAdamwWConvDw : Cert.AdamwWConvDw.Facts) (hAdamwWConvDwIdeal : Cert.AdamwWConvDwIdeal.Facts) (hAdamwWConvDwRefIdeal : Cert.AdamwWConvDwRefIdeal.Facts) (hAdamwWConvOut : Cert.AdamwWConvOut.Facts) (hAdamwWConvOutIdeal : Cert.AdamwWConvOutIdeal.Facts) (hAdamwWConvOutRefIdeal : Cert.AdamwWConvOutRefIdeal.Facts) (hAdamwWOut : Cert.AdamwWOut.Facts) (hAdamwWOutIdeal : Cert.AdamwWOutIdeal.Facts) (hAdamwWOutRefIdeal : Cert.AdamwWOutRefIdeal.Facts) (hAdamwWFfnIn : Cert.AdamwWFfnIn.Facts) (hAdamwWFfnInIdeal : Cert.AdamwWFfnInIdeal.Facts) (hAdamwWFfnInRefIdeal : Cert.AdamwWFfnInRefIdeal.Facts) (hAdamwWFfnDw : Cert.AdamwWFfnDw.Facts) (hAdamwWFfnDwIdeal : Cert.AdamwWFfnDwIdeal.Facts) (hAdamwWFfnDwRefIdeal : Cert.AdamwWFfnDwRefIdeal.Facts) (hAdamwWFfnOut : Cert.AdamwWFfnOut.Facts) (hAdamwWFfnOutIdeal : Cert.AdamwWFfnOutIdeal.Facts) (hAdamwWFfnOutRefIdeal : Cert.AdamwWFfnOutRefIdeal.Facts) (hAdamwSmall : Cert.AdamwSmall.Facts) (hAdamwSmallIdeal : Cert.AdamwSmallIdeal.Facts) (hAdamwSmallRefIdeal : Cert.AdamwSmallRefIdeal.Facts) (hProj : Cert.Proj.Facts) (hProjIdeal : Cert.ProjIdeal.Facts) (hProjRefIdeal : Cert.ProjRefIdeal.Facts) (hFfnBwdB : Cert.FfnBwdB.Facts) (hFfnBwdBIdeal : Cert.FfnBwdBIdeal.Facts) (hFfnBwdBRefIdeal : Cert.FfnBwdBRefIdeal.Facts) (hFfnMid : Cert.FfnMid.Facts) (hFfnMidIdeal : Cert.FfnMidIdeal.Facts) (hFfnMidRefIdeal : Cert.FfnMidRefIdeal.Facts) (hConvFwd : Cert.ConvFwd.Facts) (hConvFwdIdeal : Cert.ConvFwdIdeal.Facts) (hConvFwdRefIdeal : Cert.ConvFwdRefIdeal.Facts) (hPre_inputs_finite : Cert.Pre_inputs_finite.Facts) (hPre_head_inputs_finite : Cert.Pre_head_inputs_finite.Facts) (hOn_merge_written : Cert.On_merge_written.Facts) (hOn_first_rows : Cert.On_first_rows.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradXFirst (hGradXFirst := hGradXFirst)
    ∧ quiescent_GradXFirstIdeal (hGradXFirstIdeal := hGradXFirstIdeal)
    ∧ quiescent_GradXFirstRefIdeal (hGradXFirstRefIdeal := hGradXFirstRefIdeal)
    ∧ quiescent_GradXSecond (hGradXSecond := hGradXSecond)
    ∧ quiescent_GradXSecondIdeal (hGradXSecondIdeal := hGradXSecondIdeal)
    ∧ quiescent_GradXSecondRefIdeal (hGradXSecondRefIdeal := hGradXSecondRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_GradWFfnIn (hGradWFfnIn := hGradWFfnIn)
    ∧ quiescent_GradWFfnInIdeal (hGradWFfnInIdeal := hGradWFfnInIdeal)
    ∧ quiescent_GradWFfnInRefIdeal (hGradWFfnInRefIdeal := hGradWFfnInRefIdeal)
    ∧ quiescent_GradWFfnOut (hGradWFfnOut := hGradWFfnOut)
    ∧ quiescent_GradWFfnOutIdeal (hGradWFfnOutIdeal := hGradWFfnOutIdeal)
    ∧ quiescent_GradWFfnOutRefIdeal (hGradWFfnOutRefIdeal := hGradWFfnOutRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradWConvOut (hGradWConvOut := hGradWConvOut)
    ∧ quiescent_GradWConvOutIdeal (hGradWConvOutIdeal := hGradWConvOutIdeal)
    ∧ quiescent_GradWConvOutRefIdeal (hGradWConvOutRefIdeal := hGradWConvOutRefIdeal)
    ∧ quiescent_GradWHgrnOut (hGradWHgrnOut := hGradWHgrnOut)
    ∧ quiescent_GradWHgrnOutIdeal (hGradWHgrnOutIdeal := hGradWHgrnOutIdeal)
    ∧ quiescent_GradWHgrnOutRefIdeal (hGradWHgrnOutRefIdeal := hGradWHgrnOutRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnInBwd (hFfnInBwd := hFfnInBwd)
    ∧ quiescent_FfnInBwdIdeal (hFfnInBwdIdeal := hFfnInBwdIdeal)
    ∧ quiescent_FfnInBwdIdeal_pre_inputs_finite (hFfnInBwdIdeal := hFfnInBwdIdeal) (hPre_inputs_finite := hPre_inputs_finite)
    ∧ quiescent_FfnInBwdRefIdeal (hFfnInBwdRefIdeal := hFfnInBwdRefIdeal)
    ∧ quiescent_FfnInBwdRefIdeal_pre_inputs_finite (hFfnInBwdRefIdeal := hFfnInBwdRefIdeal) (hPre_inputs_finite := hPre_inputs_finite)
    ∧ quiescent_FfnOutLoss (hFfnOutLoss := hFfnOutLoss)
    ∧ quiescent_FfnOutLossIdeal (hFfnOutLossIdeal := hFfnOutLossIdeal)
    ∧ quiescent_FfnOutLossIdeal_pre_head_inputs_finite (hFfnOutLossIdeal := hFfnOutLossIdeal) (hPre_head_inputs_finite := hPre_head_inputs_finite)
    ∧ quiescent_FfnOutLossRefIdeal (hFfnOutLossRefIdeal := hFfnOutLossRefIdeal)
    ∧ quiescent_FfnOutLossRefIdeal_pre_head_inputs_finite (hFfnOutLossRefIdeal := hFfnOutLossRefIdeal) (hPre_head_inputs_finite := hPre_head_inputs_finite)
    ∧ quiescent_AdamwWIn (hAdamwWIn := hAdamwWIn)
    ∧ quiescent_AdamwWInIdeal (hAdamwWInIdeal := hAdamwWInIdeal)
    ∧ quiescent_AdamwWInRefIdeal (hAdamwWInRefIdeal := hAdamwWInRefIdeal)
    ∧ quiescent_AdamwWConvDw (hAdamwWConvDw := hAdamwWConvDw)
    ∧ quiescent_AdamwWConvDwIdeal (hAdamwWConvDwIdeal := hAdamwWConvDwIdeal)
    ∧ quiescent_AdamwWConvDwRefIdeal (hAdamwWConvDwRefIdeal := hAdamwWConvDwRefIdeal)
    ∧ quiescent_AdamwWConvOut (hAdamwWConvOut := hAdamwWConvOut)
    ∧ quiescent_AdamwWConvOutIdeal (hAdamwWConvOutIdeal := hAdamwWConvOutIdeal)
    ∧ quiescent_AdamwWConvOutRefIdeal (hAdamwWConvOutRefIdeal := hAdamwWConvOutRefIdeal)
    ∧ quiescent_AdamwWOut (hAdamwWOut := hAdamwWOut)
    ∧ quiescent_AdamwWOutIdeal (hAdamwWOutIdeal := hAdamwWOutIdeal)
    ∧ quiescent_AdamwWOutRefIdeal (hAdamwWOutRefIdeal := hAdamwWOutRefIdeal)
    ∧ quiescent_AdamwWFfnIn (hAdamwWFfnIn := hAdamwWFfnIn)
    ∧ quiescent_AdamwWFfnInIdeal (hAdamwWFfnInIdeal := hAdamwWFfnInIdeal)
    ∧ quiescent_AdamwWFfnInRefIdeal (hAdamwWFfnInRefIdeal := hAdamwWFfnInRefIdeal)
    ∧ quiescent_AdamwWFfnDw (hAdamwWFfnDw := hAdamwWFfnDw)
    ∧ quiescent_AdamwWFfnDwIdeal (hAdamwWFfnDwIdeal := hAdamwWFfnDwIdeal)
    ∧ quiescent_AdamwWFfnDwRefIdeal (hAdamwWFfnDwRefIdeal := hAdamwWFfnDwRefIdeal)
    ∧ quiescent_AdamwWFfnOut (hAdamwWFfnOut := hAdamwWFfnOut)
    ∧ quiescent_AdamwWFfnOutIdeal (hAdamwWFfnOutIdeal := hAdamwWFfnOutIdeal)
    ∧ quiescent_AdamwWFfnOutRefIdeal (hAdamwWFfnOutRefIdeal := hAdamwWFfnOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_Proj (hProj := hProj)
    ∧ quiescent_ProjIdeal (hProjIdeal := hProjIdeal)
    ∧ quiescent_ProjRefIdeal (hProjRefIdeal := hProjRefIdeal)
    ∧ quiescent_FfnBwdB (hFfnBwdB := hFfnBwdB)
    ∧ quiescent_FfnBwdBIdeal (hFfnBwdBIdeal := hFfnBwdBIdeal)
    ∧ quiescent_FfnBwdBRefIdeal (hFfnBwdBRefIdeal := hFfnBwdBRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_MergeBwd_MergeBwdIdeal
    ∧ algebraic_MergeBwdIdeal_MergeBwdRefIdeal_on_merge_written (hMergeBwdIdeal := hMergeBwdIdeal) (hMergeBwdRefIdeal := hMergeBwdRefIdeal) (hOn_merge_written := hOn_merge_written)
    ∧ preserves_GradWIn_GradWInIdeal
    ∧ algebraic_GradWInIdeal_GradWInRefIdeal (hGradWInIdeal := hGradWInIdeal) (hGradWInRefIdeal := hGradWInRefIdeal)
    ∧ preserves_GradXFirst_GradXFirstIdeal
    ∧ algebraic_GradXFirstIdeal_GradXFirstRefIdeal_on_first_rows (hGradXFirstIdeal := hGradXFirstIdeal) (hGradXFirstRefIdeal := hGradXFirstRefIdeal) (hOn_first_rows := hOn_first_rows)
    ∧ preserves_GradXSecond_GradXSecondIdeal
    ∧ algebraic_GradXSecondIdeal_GradXSecondRefIdeal (hGradXSecondIdeal := hGradXSecondIdeal) (hGradXSecondRefIdeal := hGradXSecondRefIdeal)
    ∧ preserves_FfnIn_FfnInIdeal
    ∧ algebraic_FfnInIdeal_FfnInRefIdeal (hFfnInIdeal := hFfnInIdeal) (hFfnInRefIdeal := hFfnInRefIdeal)
    ∧ preserves_GradWFfnIn_GradWFfnInIdeal
    ∧ algebraic_GradWFfnInIdeal_GradWFfnInRefIdeal (hGradWFfnInIdeal := hGradWFfnInIdeal) (hGradWFfnInRefIdeal := hGradWFfnInRefIdeal)
    ∧ preserves_GradWFfnOut_GradWFfnOutIdeal
    ∧ algebraic_GradWFfnOutIdeal_GradWFfnOutRefIdeal (hGradWFfnOutIdeal := hGradWFfnOutIdeal) (hGradWFfnOutRefIdeal := hGradWFfnOutRefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradWConvOut_GradWConvOutIdeal
    ∧ algebraic_GradWConvOutIdeal_GradWConvOutRefIdeal (hGradWConvOutIdeal := hGradWConvOutIdeal) (hGradWConvOutRefIdeal := hGradWConvOutRefIdeal)
    ∧ preserves_GradWHgrnOut_GradWHgrnOutIdeal
    ∧ algebraic_GradWHgrnOutIdeal_GradWHgrnOutRefIdeal (hGradWHgrnOutIdeal := hGradWHgrnOutIdeal) (hGradWHgrnOutRefIdeal := hGradWHgrnOutRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnInBwd_FfnInBwdIdeal
    ∧ algebraic_FfnInBwdIdeal_FfnInBwdRefIdeal_pre_inputs_finite (hFfnInBwdIdeal := hFfnInBwdIdeal) (hFfnInBwdRefIdeal := hFfnInBwdRefIdeal) (hPre_inputs_finite := hPre_inputs_finite)
    ∧ preserves_FfnOutLoss_FfnOutLossIdeal
    ∧ algebraic_FfnOutLossIdeal_FfnOutLossRefIdeal_pre_head_inputs_finite (hFfnOutLossIdeal := hFfnOutLossIdeal) (hFfnOutLossRefIdeal := hFfnOutLossRefIdeal) (hPre_head_inputs_finite := hPre_head_inputs_finite)
    ∧ preserves_AdamwWIn_AdamwWInIdeal
    ∧ algebraic_AdamwWInIdeal_AdamwWInRefIdeal (hAdamwWInIdeal := hAdamwWInIdeal) (hAdamwWInRefIdeal := hAdamwWInRefIdeal)
    ∧ preserves_AdamwWConvDw_AdamwWConvDwIdeal
    ∧ algebraic_AdamwWConvDwIdeal_AdamwWConvDwRefIdeal (hAdamwWConvDwIdeal := hAdamwWConvDwIdeal) (hAdamwWConvDwRefIdeal := hAdamwWConvDwRefIdeal)
    ∧ preserves_AdamwWConvOut_AdamwWConvOutIdeal
    ∧ algebraic_AdamwWConvOutIdeal_AdamwWConvOutRefIdeal (hAdamwWConvOutIdeal := hAdamwWConvOutIdeal) (hAdamwWConvOutRefIdeal := hAdamwWConvOutRefIdeal)
    ∧ preserves_AdamwWOut_AdamwWOutIdeal
    ∧ algebraic_AdamwWOutIdeal_AdamwWOutRefIdeal (hAdamwWOutIdeal := hAdamwWOutIdeal) (hAdamwWOutRefIdeal := hAdamwWOutRefIdeal)
    ∧ preserves_AdamwWFfnIn_AdamwWFfnInIdeal
    ∧ algebraic_AdamwWFfnInIdeal_AdamwWFfnInRefIdeal (hAdamwWFfnInIdeal := hAdamwWFfnInIdeal) (hAdamwWFfnInRefIdeal := hAdamwWFfnInRefIdeal)
    ∧ preserves_AdamwWFfnDw_AdamwWFfnDwIdeal
    ∧ algebraic_AdamwWFfnDwIdeal_AdamwWFfnDwRefIdeal (hAdamwWFfnDwIdeal := hAdamwWFfnDwIdeal) (hAdamwWFfnDwRefIdeal := hAdamwWFfnDwRefIdeal)
    ∧ preserves_AdamwWFfnOut_AdamwWFfnOutIdeal
    ∧ algebraic_AdamwWFfnOutIdeal_AdamwWFfnOutRefIdeal (hAdamwWFfnOutIdeal := hAdamwWFfnOutIdeal) (hAdamwWFfnOutRefIdeal := hAdamwWFfnOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_Proj_ProjIdeal
    ∧ algebraic_ProjIdeal_ProjRefIdeal (hProjIdeal := hProjIdeal) (hProjRefIdeal := hProjRefIdeal)
    ∧ preserves_FfnBwdB_FfnBwdBIdeal
    ∧ algebraic_FfnBwdBIdeal_FfnBwdBRefIdeal (hFfnBwdBIdeal := hFfnBwdBIdeal) (hFfnBwdBRefIdeal := hFfnBwdBRefIdeal)
    ∧ preserves_FfnMid_FfnMidIdeal
    ∧ algebraic_FfnMidIdeal_FfnMidRefIdeal (hFfnMidIdeal := hFfnMidIdeal) (hFfnMidRefIdeal := hFfnMidRefIdeal)
    ∧ preserves_ConvFwd_ConvFwdIdeal
    ∧ algebraic_ConvFwdIdeal_ConvFwdRefIdeal (hConvFwdIdeal := hConvFwdIdeal) (hConvFwdRefIdeal := hConvFwdRefIdeal)
-- ==== On_first_rows.lean ====
abbrev S7x8192x1024 : Shape := ⟨3, ![7, 8192, 1024]⟩
abbrev S1024x7168 : Shape := ⟨2, ![1024, 7168]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S7x8192x1024 .bf16) (main_arg1 : FVec F S1024x7168 .bf16) (main_arg2 : FVec F S8192x1024 .f32) : IVec S8192x1024 1 :=
  let main_v0 : IVec S8192x1024 32 := iotaInDim S8192x1024 32 0
  let main_c : IVec S_ 32 := constantI S_ 32 4096#32
  let main_v1 : IVec S8192x1024 32 := broadcastInDim S8192x1024 ![] bcast_S_S8192x1024 main_c
  let main_v2 : IVec S8192x1024 1 := cmpi .slt main_v0 main_v1
  main_v2
-- ==== On_merge_written.lean ====
abbrev S8192x1024 : Shape := ⟨2, ![8192, 1024]⟩
abbrev S2x8192x1024 : Shape := ⟨3, ![2, 8192, 1024]⟩
abbrev S8192x7168 : Shape := ⟨2, ![8192, 7168]⟩
abbrev S1024x1024 : Shape := ⟨2, ![1024, 1024]⟩
abbrev S512x1024 : Shape := ⟨2, ![512, 1024]⟩
abbrev S7x8192x1024 : Shape := ⟨3, ![7, 8192, 1024]⟩
abbrev S_ : Shape := ⟨0, ![]⟩
abbrev S8192x512 : Shape := ⟨2, ![8192, 512]⟩

class Facts : Prop where
  bcast_S_S7x8192x1024 : S_.BroadcastsInDim S7x8192x1024 (![] : Fin 0 → Fin S7x8192x1024.rank)
  bcast_S_S2x8192x1024 : S_.BroadcastsInDim S2x8192x1024 (![] : Fin 0 → Fin S2x8192x1024.rank)
  bcast_S_S8192x512 : S_.BroadcastsInDim S8192x512 (![] : Fin 0 → Fin S8192x512.rank)
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S2x8192x1024 .f32) (main_arg2 : FVec F S8192x7168 .f32) (main_arg3 : FVec F S1024x1024 .bf16) (main_arg4 : FVec F S512x1024 .bf16) (main_arg5 : FVec F S1024x1024 .bf16) : IVec S7x8192x1024 1 × IVec S2x8192x1024 1 × IVec S8192x512 1 × IVec S8192x1024 1 :=
  let main_v0 : IVec S7x8192x1024 32 := iotaInDim S7x8192x1024 32 0
  let main_c : IVec S_ 32 := constantI S_ 32 4#32
  let main_v1 : IVec S7x8192x1024 32 := broadcastInDim S7x8192x1024 ![] bcast_S_S7x8192x1024 main_c
  let main_v2 : IVec S7x8192x1024 1 := cmpi .eq main_v0 main_v1
  let main_c_0 : IVec S_ 32 := constantI S_ 32 5#32
  let main_v3 : IVec S7x8192x1024 32 := broadcastInDim S7x8192x1024 ![] bcast_S_S7x8192x1024 main_c_0
  let main_v4 : IVec S7x8192x1024 1 := cmpi .eq main_v0 main_v3
  let main_v5 : IVec S7x8192x1024 1 := ori main_v2 main_v4
  let main_c_1 : IVec S_ 1 := constantI S_ 1 1#1
  let main_v6 : IVec S2x8192x1024 1 := broadcastInDim S2x8192x1024 ![] bcast_S_S2x8192x1024 main_c_1
  let main_c_2 : IVec S_ 1 := constantI S_ 1 1#1
  let main_v7 : IVec S8192x512 1 := broadcastInDim S8192x512 ![] bcast_S_S8192x512 main_c_2
  let main_c_3 : IVec S_ 1 := constantI S_ 1 1#1
  let main_v8 : IVec S8192x1024 1 := broadcastInDim S8192x1024 ![] bcast_S_S8192x1024 main_c_3
  (main_v5, main_v6, main_v7, main_v8)
-- ==== Pre_head_inputs_finite.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_v3 : IVec S8192x2816 1) (main_v6 : IVec S8192x1024 1) (main_v9 : IVec S8192x1024 1) (main_v13 : IVec S2816x1024 1) (main_v16 : IVec S1x1024 1) (main_v17 : FVec F S1x1024 .f32) (main_cst_4 : FVec F S_ .f32) : IVec S8192x2816 1 × IVec S8192x1024 1 × IVec S8192x1024 1 × IVec S2816x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  (main_v3, main_v6, main_v9, main_v13, main_v16, main_v19)

def fn {F : FTy → Type} [FloatOps F] (main_arg0 : FVec F S8192x2816 .bf16) (main_arg1 : FVec F S8192x1024 .f32) (main_arg2 : FVec F S8192x1024 .f32) (main_arg3 : FVec F S2816x1024 .bf16) (main_arg4 : FVec F S1x1024 .f32) (main_arg5 : FVec F S1x1024 .f32) : IVec S8192x2816 1 × IVec S8192x1024 1 × IVec S8192x1024 1 × IVec S2816x1024 1 × IVec S1x1024 1 × IVec S1x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_arg5
  let main_cst_4 : FVec F S_ .f32 := constant S_ .f32 0x7F800000#32
  fn_part1 (F := F) main_v3 main_v6 main_v9 main_v13 main_v16 main_v17 main_cst_4
-- ==== Pre_inputs_finite.lean ====
abbrev S8192x1024 : Shape := ⟨2, ![8192, 1024]⟩
abbrev S8192x2816 : Shape := ⟨2, ![8192, 2816]⟩
abbrev S1024x5632 : Shape := ⟨2, ![1024, 5632]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x2816 : S_.BroadcastsInDim S8192x2816 (![] : Fin 0 → Fin S8192x2816.rank)
  bcast_S_S1024x5632 : S_.BroadcastsInDim S1024x5632 (![] : Fin 0 → Fin S1024x5632.rank)
  bcast_S_S1x1024 : S_.BroadcastsInDim S1x1024 (![] : Fin 0 → Fin S1x1024.rank)

variable [Facts]

def fn_part1 {F : FTy → Type} [FloatOps F] (main_v2 : IVec S8192x1024 1) (main_v6 : IVec S8192x2816 1) (main_v10 : IVec S8192x2816 1) (main_v14 : IVec S1024x5632 1) (main_v17 : IVec S8192x1024 1) (main_v18 : FVec F S1x1024 .f32) : IVec S8192x1024 1 × IVec S8192x2816 1 × IVec S8192x2816 1 × IVec S1024x5632 1 × IVec S8192x1024 1 × IVec S1x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  (main_v2, main_v6, main_v10, main_v14, main_v17, main_v20)

def fn {F : FTy → Type} [FloatOps F] (main_arg0 : FVec F S8192x1024 .f32) (main_arg1 : FVec F S8192x2816 .bf16) (main_arg2 : FVec F S8192x2816 .bf16) (main_arg3 : FVec F S1024x5632 .bf16) (main_arg4 : FVec F S8192x1024 .f32) (main_arg5 : FVec F S1x1024 .f32) : IVec S8192x1024 1 × IVec S8192x2816 1 × IVec S8192x2816 1 × IVec S1024x5632 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2816 .f32 := (extf .f32 · bitsLt_bf16_f32) main_arg1
  let main_v4 : FVec F S8192x2816 .f32 := Host.absf main_v3
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_v7 : FVec F S8192x2816 .f32 := (extf .f32 · bitsLt_bf16_f32) main_arg2
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  let main_v11 : FVec F S1024x5632 .f32 := (extf .f32 · bitsLt_bf16_f32) main_arg3
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_v15 : FVec F S8192x1024 .f32 := Host.absf main_arg4
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  let main_v18 : FVec F S1x1024 .f32 := Host.absf main_arg5
  fn_part1 (F := F) main_v2 main_v6 main_v10 main_v14 main_v17 main_v18
-- ==== MergeBwd.lean ====
abbrev S8192x1024 : Shape := ⟨2, ![8192, 1024]⟩
abbrev S2x8192x1024 : Shape := ⟨3, ![2, 8192, 1024]⟩
abbrev S8192x7168 : Shape := ⟨2, ![8192, 7168]⟩
abbrev S1024x1024 : Shape := ⟨2, ![1024, 1024]⟩
abbrev S512x1024 : Shape := ⟨2, ![512, 1024]⟩
abbrev S7x8192x1024 : Shape := ⟨3, ![7, 8192, 1024]⟩
abbrev S8192x512 : Shape := ⟨2, ![8192, 512]⟩
abbrev S256x1024 : Shape := ⟨2, ![256, 1024]⟩
abbrev S2x256x1024 : Shape := ⟨3, ![2, 256, 1024]⟩
abbrev S256x512 : Shape := ⟨2, ![256, 512]⟩
abbrev S1x256x1024 : Shape := ⟨3, ![1, 256, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .f32⟩
  | .hbm, ⟨2, _⟩ => ⟨S8192x7168, .f32⟩
  | .hbm, ⟨3, _⟩ => ⟨S1024x1024, .bf16⟩
  | .hbm, ⟨4, _⟩ => ⟨S512x1024, .bf16⟩
  | .hbm, ⟨5, _⟩ => ⟨S1024x1024, .bf16⟩
  | .hbm, ⟨6, _⟩ => ⟨S7x8192x1024, .bf16⟩
  | .hbm, ⟨7, _⟩ => ⟨S2x8192x1024, .bf16⟩
  | .hbm, ⟨8, _⟩ => ⟨S8192x512, .f32⟩
  | .hbm, ⟨9, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S2x256x1024, .f32⟩
  | .local _ .vmem, ⟨3, _⟩ => ⟨S2x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S2x256x1024, .bf16⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S256x512, .f32⟩
  | .local _ .vmem, ⟨16, _⟩ => ⟨S256x512, .f32⟩
  | .local _ .vmem, ⟨17, _⟩ => ⟨S256x1024, .f32⟩
  | .local _ .vmem, ⟨18, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdRefIdeal.lean ====
abbrev S8192x1024 : Shape := ⟨2, ![8192, 1024]⟩
abbrev S2x8192x1024 : Shape := ⟨3, ![2, 8192, 1024]⟩
abbrev S8192x7168 : Shape := ⟨2, ![8192, 7168]⟩
abbrev S1024x1024 : Shape := ⟨2, ![1024, 1024]⟩
abbrev S512x1024 : Shape := ⟨2, ![512, 1024]⟩
abbrev S8192x2048 : Shape := ⟨2, ![8192, 2048]⟩
abbrev S1x8192x1024 : Shape := ⟨3, ![1, 8192, 1024]⟩
abbrev S_ : Shape := ⟨0, ![]⟩
abbrev S8192x2x1024 : Shape := ⟨3, ![8192, 2, 1024]⟩
abbrev S8192x1x1024 : Shape := ⟨3, ![8192, 1, 1024]⟩
abbrev S8192x512 : Shape := ⟨2, ![8192, 512]⟩
abbrev S7x8192x1024 : Shape := ⟨3, ![7, 8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .f32⟩
  | .hbm, ⟨2, _⟩ => ⟨S8192x7168, .f32⟩
  | .hbm, ⟨3, _⟩ => ⟨S1024x1024, .bf16⟩
  | .hbm, ⟨4, _⟩ => ⟨S512x1024, .bf16⟩
  | .hbm, ⟨5, _⟩ => ⟨S1024x1024, .bf16⟩
  | .hbm, ⟨6, _⟩ => ⟨S8192x2048, .f32⟩
  | .hbm, ⟨7, _⟩ => ⟨S1x8192x1024, .f32⟩
  | .hbm, ⟨8, _⟩ => ⟨S8192x1024, .f32⟩
  | .hbm, ⟨9, _⟩ => ⟨S1x8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1x1024, .f32⟩
  | .hbm, ⟨38, _⟩ => ⟨S_, .f32⟩
  | .hbm, ⟨39, _⟩ => ⟨S8192x2x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x2x1024, .f32⟩
  | .hbm, ⟨45, _⟩ => ⟨S8192x2x1024, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x512, .f32⟩
  | .hbm, ⟨50, _⟩ => ⟨S512x1024, .f32⟩
  | .hbm, ⟨51, _⟩ => ⟨S8192x1024, .f32⟩
  | .hbm, ⟨52, _⟩ => ⟨S8192x512, .f32⟩
  | .hbm, ⟨53, _⟩ => ⟨S_, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x8192x1024, .f32⟩
  | .hbm, ⟨61, _⟩ => ⟨S1x8192x1024, .f32⟩
  | .hbm, ⟨62, _⟩ => ⟨S2x8192x1024, .f32⟩
  | .hbm, ⟨63, _⟩ => ⟨S_, .i32⟩
  | .hbm, ⟨64, _⟩ => ⟨S_, .f32⟩
  | .hbm, ⟨65, _⟩ => ⟨S7x8192x1024, .f32⟩
  | .hbm, ⟨66, _⟩ => ⟨S7x8192x1024, .bf16⟩
  | .hbm, ⟨67, _⟩ => ⟨S1x8192x1024, .f32⟩
  | .hbm, ⟨68, _⟩ => ⟨S1x8192x1024, .f32⟩
  | .hbm, ⟨69, _⟩ => ⟨S2x8192x1024, .f32⟩
  | .hbm, ⟨70, _⟩ => ⟨S2x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call0_v0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== GradWIn.lean ====
abbrev S8192x1024 : Shape := ⟨2, ![8192, 1024]⟩
abbrev S7x8192x1024 : Shape := ⟨3, ![7, 8192, 1024]⟩
abbrev S1024x7168 : Shape := ⟨2, ![1024, 7168]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S7x8192x1024, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let c0_i32 : BitVec 32 := 0#32
  let v1 : BitVec 1 := Scalar.cmpi .eq c7_i32 c0_i32
  let c1_i32_0 : BitVec 32 := 1#32
  let v2 : BitVec 32 := Scalar.select v1 c1_i32_0 c7_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWInRefIdeal.lean ====
abbrev S8192x1024 : Shape := ⟨2, ![8192, 1024]⟩
abbrev S7x8192x1024 : Shape := ⟨3, ![7, 8192, 1024]⟩
abbrev S1x8192x1024 : Shape := ⟨3, ![1, 8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S7x8192x1024, .bf16⟩
  | .hbm, ⟨2, _⟩ => ⟨S7x8192x1024, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S8192x1024, .f32⟩
  | .hbm, ⟨7, _⟩ => ⟨S1x8192x1024, .f32⟩
  | .hbm, ⟨8, _⟩ => ⟨S8192x1024, .f32⟩
  | .hbm, ⟨9, _⟩ => ⟨S1x8192x1024, .f32⟩
  | .hbm, ⟨10, _⟩ => ⟨S8192x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S8192x7168, .f32⟩
  | .hbm, ⟨18, _⟩ => ⟨S_, .f32⟩
  | .hbm, ⟨19, _⟩ => ⟨S1024x7168, .f32⟩
  | .hbm, ⟨20, _⟩ => ⟨S8192x1024, .f32⟩
  | .hbm, ⟨21, _⟩ => ⟨S8192x7168, .f32⟩
  | .hbm, ⟨22, _⟩ => ⟨S7168x1024, .f32⟩
  | .hbm, ⟨23, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== GradXFirst.lean ====
abbrev S7x8192x1024 : Shape := ⟨3, ![7, 8192, 1024]⟩
abbrev S1024x7168 : Shape := ⟨2, ![1024, 7168]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S7x8192x1024, .bf16⟩
  | .hbm, ⟨1, _⟩ => ⟨S1024x7168, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S7x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let c0_i32 : BitVec 32 := 0#32
  let v1 : BitVec 1 := Scalar.cmpi .eq c7_i32 c0_i32
  let c1_i32_0 : BitVec 32 := 1#32
  let v2 : BitVec 32 := Scalar.select v1 c1_i32_0 c7_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradXFirstRefIdeal.lean ====
abbrev S7x8192x1024 : Shape := ⟨3, ![7, 8192, 1024]⟩
abbrev S1024x7168 : Shape := ⟨2, ![1024, 7168]⟩
abbrev S8192x1024 : Shape := ⟨2, ![8192, 1024]⟩
abbrev S_ : Shape := ⟨0, ![]⟩
abbrev S8192x7168 : Shape := ⟨2, ![8192, 7168]⟩
abbrev S1x8192x1024 : Shape := ⟨3, ![1, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S7x8192x1024, .bf16⟩
  | .hbm, ⟨1, _⟩ => ⟨S1024x7168, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x7168, .f32⟩
  | .hbm, ⟨9, _⟩ => ⟨S8192x7168, .f32⟩
  | .hbm, ⟨10, _⟩ => ⟨S7x8192x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S8192x1024, .f32⟩
  | .hbm, ⟨19, _⟩ => ⟨S1x8192x1024, .f32⟩
  | .hbm, ⟨20, _⟩ => ⟨S8192x1024, .f32⟩
  | .hbm, ⟨21, _⟩ => ⟨S1x8192x1024, .f32⟩
  | .hbm, ⟨22, _⟩ => ⟨S8192x1024, .f32⟩
  | .hbm, ⟨23, _⟩ => ⟨S1x8192x1024, .f32⟩
  | .hbm, ⟨24, _⟩ => ⟨S8192x1024, .f32⟩
  | .hbm, ⟨25, _⟩ => ⟨S8192x7168, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | _, _ => ⟨S7x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== GradXSecond.lean ====
abbrev S7x8192x1024 : Shape := ⟨3, ![7, 8192, 1024]⟩
abbrev S1024x7168 : Shape := ⟨2, ![1024, 7168]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S7x8192x1024, .bf16⟩
  | .hbm, ⟨1, _⟩ => ⟨S1024x7168, .bf16⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S7x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let c0_i32 : BitVec 32 := 0#32
  let v1 : BitVec 1 := Scalar.cmpi .eq c7_i32 c0_i32
  let c1_i32_0 : BitVec 32 := 1#32
  let v2 : BitVec 32 := Scalar.select v1 c1_i32_0 c7_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradXSecondRefIdeal.lean ====
abbrev S7x8192x1024 : Shape := ⟨3, ![7, 8192, 1024]⟩
abbrev S1024x7168 : Shape := ⟨2, ![1024, 7168]⟩
abbrev S8192x1024 : Shape := ⟨2, ![8192, 1024]⟩
abbrev S4096x1024 : Shape := ⟨2, ![4096, 1024]⟩
abbrev S_ : Shape := ⟨0, ![]⟩
abbrev S8192x7168 : Shape := ⟨2, ![8192, 7168]⟩
abbrev S1x8192x1024 : Shape := ⟨3, ![1, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S7x8192x1024, .bf16⟩
  | .hbm, ⟨1, _⟩ => ⟨S1024x7168, .bf16⟩
  | .hbm, ⟨2, _⟩ => ⟨S8192x1024, .f32⟩
  | .hbm, ⟨3, _⟩ => ⟨S8192x1024, .f32⟩
  | .hbm, ⟨4, _⟩ => ⟨S4096x1024, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S1024x7168, .f32⟩
  | .hbm, ⟨11, _⟩ => ⟨S8192x7168, .f32⟩
  | .hbm, ⟨12, _⟩ => ⟨S7x8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S8192x1024, .f32⟩
  | .hbm, ⟨19, _⟩ => ⟨S1x8192x1024, .f32⟩
  | .hbm, ⟨20, _⟩ => ⟨S8192x1024, .f32⟩
  | .hbm, ⟨21, _⟩ => ⟨S1x8192x1024, .f32⟩
  | .hbm, ⟨22, _⟩ => ⟨S8192x1024, .f32⟩
  | .hbm, ⟨23, _⟩ => ⟨S1x8192x1024, .f32⟩
  | .hbm, ⟨24, _⟩ => ⟨S8192x1024, .f32⟩
  | .hbm, ⟨25, _⟩ => ⟨S1x8192x1024, .f32⟩
  | .hbm, ⟨26, _⟩ => ⟨S8192x1024, .f32⟩
  | .hbm, ⟨27, _⟩ => ⟨S8192x7168, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S4096x1024, .f32⟩
  | .hbm, ⟨34, _⟩ => ⟨S8192x1024, .f32⟩
  | _, _ => ⟨S7x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradWFfnIn.lean ====
abbrev S8192x1024 : Shape := ⟨2, ![8192, 1024]⟩
abbrev S8192x2816 : Shape := ⟨2, ![8192, 2816]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c2_i32 : BitVec 32 := 2#32
  let v4 : BitVec 1 := Scalar.cmpi .slt arg0 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c2_i32_3 : BitVec 32 := 2#32
  let v8 : BitVec 1 := Scalar.cmpi .sge arg0 c2_i32_3
  let c4_i32 : BitVec 32 := 4#32
  let v9 : BitVec 1 := Scalar.cmpi .slt arg0 c4_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradWFfnInRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S_, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GradWFfnOut.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c2_i32 : BitVec 32 := 2#32
  let v4 : BitVec 1 := Scalar.cmpi .slt arg0 c2_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWFfnOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradWConvOut.lean ====
abbrev S8192x512 : Shape := ⟨2, ![8192, 512]⟩
abbrev S2x8192x1024 : Shape := ⟨3, ![2, 8192, 1024]⟩
abbrev S512x1024 : Shape := ⟨2, ![512, 1024]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  let c0_i32_5 : BitVec 32 := 0#32
  ![c0_i32_4.toNat, v3.toNat, v6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWConvOutRefIdeal.lean ====
abbrev S8192x512 : Shape := ⟨2, ![8192, 512]⟩
abbrev S2x8192x1024 : Shape := ⟨3, ![2, 8192, 1024]⟩
abbrev S1x8192x1024 : Shape := ⟨3, ![1, 8192, 1024]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x8192x1024, .bf16⟩
  | .hbm, ⟨2, _⟩ => ⟨S1x8192x1024, .bf16⟩
  | .hbm, ⟨3, _⟩ => ⟨S8192x1024, .bf16⟩
  | .hbm, ⟨4, _⟩ => ⟨S_, .f32⟩
  | .hbm, ⟨5, _⟩ => ⟨S512x1024, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S1024x512, .f32⟩
  | .hbm, ⟨10, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradWHgrnOut.lean ====
abbrev S8192x1024 : Shape := ⟨2, ![8192, 1024]⟩
abbrev S2x8192x1024 : Shape := ⟨3, ![2, 8192, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c1_i32_4 : BitVec 32 := 1#32
  let c0_i32_5 : BitVec 32 := 0#32
  ![c1_i32_4.toNat, v3.toNat, v6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWHgrnOutRefIdeal.lean ====
abbrev S8192x1024 : Shape := ⟨2, ![8192, 1024]⟩
abbrev S2x8192x1024 : Shape := ⟨3, ![2, 8192, 1024]⟩
abbrev S1x8192x1024 : Shape := ⟨3, ![1, 8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .bf16⟩
  | .hbm, ⟨2, _⟩ => ⟨S1x8192x1024, .bf16⟩
  | .hbm, ⟨3, _⟩ => ⟨S8192x1024, .bf16⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MergeFwd.lean ====
abbrev S8192x512 : Shape := ⟨2, ![8192, 512]⟩
abbrev S8192x1024 : Shape := ⟨2, ![8192, 1024]⟩
abbrev S8192x7168 : Shape := ⟨2, ![8192, 7168]⟩
abbrev S512x1024 : Shape := ⟨2, ![512, 1024]⟩
abbrev S1024x1024 : Shape := ⟨2, ![1024, 1024]⟩
abbrev S1x1024 : Shape := ⟨2, ![1, 1024]⟩
abbrev S2x8192x1024 : Shape := ⟨3, ![2, 8192, 1024]⟩
abbrev S256x512 : Shape := ⟨2, ![256, 512]⟩
abbrev S256x1024 : Shape := ⟨2, ![256, 1024]⟩
abbrev S2x256x1024 : Shape := ⟨3, ![2, 256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 14
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x7168, .f32⟩
  | .hbm, ⟨3, _⟩ => ⟨S8192x1024, .f32⟩
  | .hbm, ⟨4, _⟩ => ⟨S512x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S2x256x1024, .f32⟩
  | .local _ .vmem, ⟨16, _⟩ => ⟨S2x256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeFwdRefIdeal.lean ====
abbrev S8192x512 : Shape := ⟨2, ![8192, 512]⟩
abbrev S8192x1024 : Shape := ⟨2, ![8192, 1024]⟩
abbrev S8192x7168 : Shape := ⟨2, ![8192, 7168]⟩
abbrev S512x1024 : Shape := ⟨2, ![512, 1024]⟩
abbrev S1024x1024 : Shape := ⟨2, ![1024, 1024]⟩
abbrev S1x1024 : Shape := ⟨2, ![1, 1024]⟩
abbrev S8192x2048 : Shape := ⟨2, ![8192, 2048]⟩
abbrev S_ : Shape := ⟨0, ![]⟩
abbrev S8192x2x1024 : Shape := ⟨3, ![8192, 2, 1024]⟩
abbrev S8192x1x1024 : Shape := ⟨3, ![8192, 1, 1024]⟩
abbrev S8192 : Shape := ⟨1, ![8192]⟩
abbrev S8192x1 : Shape := ⟨2, ![8192, 1]⟩
abbrev S1x8192x1024 : Shape := ⟨3, ![1, 8192, 1024]⟩
abbrev S2x8192x1024 : Shape := ⟨3, ![2, 8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x7168, .f32⟩
  | .hbm, ⟨3, _⟩ => ⟨S8192x1024, .f32⟩
  | .hbm, ⟨4, _⟩ => ⟨S512x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x8192x1024, .f32⟩
  | .hbm, ⟨68, _⟩ => ⟨S1x8192x1024, .f32⟩
  | .hbm, ⟨69, _⟩ => ⟨S2x8192x1024, .f32⟩
  | .hbm, ⟨70, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== FfnInBwd.lean ====
abbrev S8192x1024 : Shape := ⟨2, ![8192, 1024]⟩
abbrev S8192x2816 : Shape := ⟨2, ![8192, 2816]⟩
abbrev S1024x5632 : Shape := ⟨2, ![1024, 5632]⟩
abbrev S1x1024 : Shape := ⟨2, ![1, 1024]⟩
abbrev S256x1024 : Shape := ⟨2, ![256, 1024]⟩
abbrev S256x2816 : Shape := ⟨2, ![256, 2816]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S1024x5632, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S1024x2816, .bf16⟩
  | .local _ .vmem, ⟨7, _⟩ => ⟨S1024x2816, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInBwdRefIdeal.lean ====
abbrev S8192x1024 : Shape := ⟨2, ![8192, 1024]⟩
abbrev S8192x2816 : Shape := ⟨2, ![8192, 2816]⟩
abbrev S1024x5632 : Shape := ⟨2, ![1024, 5632]⟩
abbrev S1x1024 : Shape := ⟨2, ![1, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S1024x5632, .bf16⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1024x5632, .f32⟩
  | .hbm, ⟨49, _⟩ => ⟨S8192x5632, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== FfnOutLoss.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S1x128 : Shape := ⟨2, ![1, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnOutLossRefIdeal.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S2816x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8192x1024, .bf16⟩
  | .hbm, ⟨111, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_cst_23 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== AdamwWIn.lean ====
abbrev S1024x1792 : Shape := ⟨2, ![1024, 1792]⟩
abbrev S128x1792 : Shape := ⟨2, ![128, 1792]⟩

abbrev nBuf : Space → Nat
  | .hbm => 7
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInRefIdeal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWConvDw.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWConvDwRefIdeal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWConvOut.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWConvOutRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWFfnIn.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWFfnInRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWFfnDw.lean ====
abbrev S3x704 : Shape := ⟨2, ![3, 704]⟩

abbrev nBuf : Space → Nat
  | .hbm => 7
  | .vmem => 7
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .local _ .vmem, ⟨0, _⟩ => ⟨S3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWFfnDwRefIdeal.lean ====
abbrev S3x704 : Shape := ⟨2, ![3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S3x704, .f32⟩
  | .hbm, ⟨10, _⟩ => ⟨S3x704, .f32⟩
  | .hbm, ⟨11, _⟩ => ⟨S_, .f32⟩
  | .hbm, ⟨12, _⟩ => ⟨S3x704, .f32⟩
  | .hbm, ⟨13, _⟩ => ⟨S3x704, .f32⟩
  | .hbm, ⟨14, _⟩ => ⟨S3x704, .f32⟩
  | .hbm, ⟨15, _⟩ => ⟨S_, .f32⟩
  | .hbm, ⟨16, _⟩ => ⟨S3x704, .f32⟩
  | .hbm, ⟨17, _⟩ => ⟨S3x704, .f32⟩
  | .hbm, ⟨18, _⟩ => ⟨S3x704, .f32⟩
  | .hbm, ⟨19, _⟩ => ⟨S_, .f32⟩
  | .hbm, ⟨20, _⟩ => ⟨S3x704, .f32⟩
  | .hbm, ⟨21, _⟩ => ⟨S3x704, .f32⟩
  | .hbm, ⟨22, _⟩ => ⟨S_, .f32⟩
  | .hbm, ⟨23, _⟩ => ⟨S3x704, .f32⟩
  | .hbm, ⟨24, _⟩ => ⟨S3x704, .f32⟩
  | .hbm, ⟨25, _⟩ => ⟨S3x704, .f32⟩
  | .hbm, ⟨26, _⟩ => ⟨S_, .f32⟩
  | .hbm, ⟨27, _⟩ => ⟨S3x704, .f32⟩
  | .hbm, ⟨28, _⟩ => ⟨S3x704, .f32⟩
  | .hbm, ⟨29, _⟩ => ⟨S3x704, .f32⟩
  | .hbm, ⟨30, _⟩ => ⟨S_, .f32⟩
  | .hbm, ⟨31, _⟩ => ⟨S3x704, .f32⟩
  | .hbm, ⟨32, _⟩ => ⟨S3x704, .f32⟩
  | .hbm, ⟨33, _⟩ => ⟨S3x704, .f32⟩
  | .hbm, ⟨34, _⟩ => ⟨S_, .f32⟩
  | .hbm, ⟨35, _⟩ => ⟨S3x704, .f32⟩
  | .hbm, ⟨36, _⟩ => ⟨S3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWFfnOut.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWFfnOutRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S90x128 : Shape := ⟨2, ![90, 128]⟩

abbrev nBuf : Space → Nat
  | .hbm => 7
  | .vmem => 7
  | .smem => 0
  | _ => 0

abbrev bufTy : (tb : Table) → Fin (tcTables nBuf tb) → BufTy
  | .hbm, ⟨0, _⟩ => ⟨S90x128, .f32⟩
  | .hbm, ⟨1, _⟩ => ⟨S90x128, .f32⟩
  | .hbm, ⟨2, _⟩ => ⟨S90x128, .f32⟩
  | .hbm, ⟨3, _⟩ => ⟨S90x128, .f32⟩
  | .hbm, ⟨4, _⟩ => ⟨S90x128, .f32⟩
  | .hbm, ⟨5, _⟩ => ⟨S90x128, .f32⟩
  | .hbm, ⟨6, _⟩ => ⟨S90x128, .f32⟩
  | .local _ .vmem, ⟨0, _⟩ => ⟨S90x128, .f32⟩
  | .local _ .vmem, ⟨1, _⟩ => ⟨S90x128, .f32⟩
  | .local _ .vmem, ⟨2, _⟩ => ⟨S90x128, .f32⟩
  | .local _ .vmem, ⟨3, _⟩ => ⟨S90x128, .f32⟩
  | .local _ .vmem, ⟨4, _⟩ => ⟨S90x128, .f32⟩
  | .local _ .vmem, ⟨5, _⟩ => ⟨S90x128, .f32⟩
  | .local _ .vmem, ⟨6, _⟩ => ⟨S90x128, .f32⟩
  | _, _ => ⟨S90x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S90x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S90x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S90x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S90x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S90x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S90x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S90x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallRefIdeal.lean ====
abbrev S90x128 : Shape := ⟨2, ![90, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S90x128, .f32⟩
  | .hbm, ⟨1, _⟩ => ⟨S90x128, .f32⟩
  | .hbm, ⟨2, _⟩ => ⟨S90x128, .f32⟩
  | .hbm, ⟨3, _⟩ => ⟨S90x128, .f32⟩
  | .hbm, ⟨4, _⟩ => ⟨S_, .f32⟩
  | .hbm, ⟨5, _⟩ => ⟨S90x128, .f32⟩
  | .hbm, ⟨6, _⟩ => ⟨S90x128, .f32⟩
  | .hbm, ⟨7, _⟩ => ⟨S_, .f32⟩
  | .hbm, ⟨8, _⟩ => ⟨S90x128, .f32⟩
  | .hbm, ⟨9, _⟩ => ⟨S90x128, .f32⟩
  | .hbm, ⟨10, _⟩ => ⟨S90x128, .f32⟩
  | .hbm, ⟨11, _⟩ => ⟨S_, .f32⟩
  | .hbm, ⟨12, _⟩ => ⟨S90x128, .f32⟩
  | .hbm, ⟨13, _⟩ => ⟨S90x128, .f32⟩
  | .hbm, ⟨14, _⟩ => ⟨S90x128, .f32⟩
  | .hbm, ⟨15, _⟩ => ⟨S_, .f32⟩
  | .hbm, ⟨16, _⟩ => ⟨S90x128, .f32⟩
  | .hbm, ⟨17, _⟩ => ⟨S90x128, .f32⟩
  | .hbm, ⟨18, _⟩ => ⟨S90x128, .f32⟩
  | .hbm, ⟨19, _⟩ => ⟨S_, .f32⟩
  | .hbm, ⟨20, _⟩ => ⟨S90x128, .f32⟩
  | .hbm, ⟨21, _⟩ => ⟨S90x128, .f32⟩
  | .hbm, ⟨22, _⟩ => ⟨S_, .f32⟩
  | .hbm, ⟨23, _⟩ => ⟨S90x128, .f32⟩
  | .hbm, ⟨24, _⟩ => ⟨S90x128, .f32⟩
  | .hbm, ⟨25, _⟩ => ⟨S90x128, .f32⟩
  | .hbm, ⟨26, _⟩ => ⟨S_, .f32⟩
  | .hbm, ⟨27, _⟩ => ⟨S90x128, .f32⟩
  | .hbm, ⟨28, _⟩ => ⟨S90x128, .f32⟩
  | .hbm, ⟨29, _⟩ => ⟨S90x128, .f32⟩
  | .hbm, ⟨30, _⟩ => ⟨S_, .f32⟩
  | .hbm, ⟨31, _⟩ => ⟨S90x128, .f32⟩
  | .hbm, ⟨32, _⟩ => ⟨S90x128, .f32⟩
  | .hbm, ⟨33, _⟩ => ⟨S90x128, .f32⟩
  | .hbm, ⟨34, _⟩ => ⟨S_, .f32⟩
  | .hbm, ⟨35, _⟩ => ⟨S90x128, .f32⟩
  | .hbm, ⟨36, _⟩ => ⟨S90x128, .f32⟩
  | _, _ => ⟨S90x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proj.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x7168, .bf16⟩
  | .hbm, ⟨2, _⟩ => ⟨S8192x7168, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ProjRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7168, .bf16⟩
  | .hbm, ⟨2, _⟩ => ⟨S1024x7168, .f32⟩
  | .hbm, ⟨3, _⟩ => ⟨S8192x7168, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnBwdB.lean ====
abbrev S8192x2816 : Shape := ⟨2, ![8192, 2816]⟩
abbrev S3x2816 : Shape := ⟨2, ![3, 2816]⟩
abbrev S256x2816 : Shape := ⟨2, ![256, 2816]⟩
abbrev S264x2816 : Shape := ⟨2, ![264, 2816]⟩
abbrev S8x2816 : Shape := ⟨2, ![8, 2816]⟩
abbrev S40x2816 : Shape := ⟨2, ![40, 2816]⟩
abbrev S1x2816 : Shape := ⟨2, ![1, 2816]⟩
abbrev S32x2816 : Shape := ⟨2, ![32, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S3x2816, .f32⟩
  | .hbm, ⟨2, _⟩ => ⟨S8192x2816, .bf16⟩
  | .local _ .vmem, ⟨0, _⟩ => ⟨S256x2816, .f32⟩
  | .local _ .vmem, ⟨1, _⟩ => ⟨S256x2816, .f32⟩
  | .local _ .vmem, ⟨2, _⟩ => ⟨S3x2816, .f32⟩
  | .local _ .vmem, ⟨3, _⟩ => ⟨S256x2816, .bf16⟩
  | .local _ .vmem, ⟨4, _⟩ => ⟨S256x2816, .bf16⟩
  | .local _ .vmem, ⟨5, _⟩ => ⟨S264x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_6 : BitVec 32 := 0#32
  let c8_i32 : BitVec 32 := 8#32
  let v10 : BitVec 32 := Scalar.addi c0_i32_6 c8_i32
  let c1_i32 : BitVec 32 := 1#32
  ⟨c0_i32_6, v10, c1_i32⟩
def k0_mult1 (k0_t1 : Fin k0_t1_loop.trips) : BitVec 32 :=
  let c0_i32_6 : BitVec 32 := 0#32
  let c1_i32 : BitVec 32 := 1#32
  let arg5 : BitVec 32 := Scf.iv c0_i32_6 c1_i32 k0_t1
  let c32_i32 : BitVec 32 := 32#32
  let v11 : BitVec 32 := Scalar.muli arg5 c32_i32
  v11
def k0_off1 (k0_t1 : Fin k0_t1_loop.trips) : Fin 2 → Nat :=
  let c0_i32_6 : BitVec 32 := 0#32
  let c1_i32 : BitVec 32 := 1#32
  let arg5 : BitVec 32 := Scf.iv c0_i32_6 c1_i32 k0_t1
  let c32_i32 : BitVec 32 := 32#32
  let v11 : BitVec 32 := Scalar.muli arg5 c32_i32
  let v12 : BitVec 32 := v11
  let v13 : Index := Scalar.indexCast v12
  let c0_8 : Index := 0#32
  ![v13.toNat, 0]
def k0_off2 (k0_t1 : Fin k0_t1_loop.trips) : Fin 2 → Nat :=
  let c0_i32_6 : BitVec 32 := 0#32
  let c1_i32 : BitVec 32 := 1#32
  let arg5 : BitVec 32 := Scf.iv c0_i32_6 c1_i32 k0_t1
  let c32_i32 : BitVec 32 := 32#32
  let v11 : BitVec 32 := Scalar.muli arg5 c32_i32
  let v12 : BitVec 32 := v11
  let v32 : Index := Scalar.indexCast v12
  let c0_13 : Index := 0#32
  ![v32.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnBwdBRefIdeal.lean ====
abbrev S8192x2816 : Shape := ⟨2, ![8192, 2816]⟩
abbrev S3x2816 : Shape := ⟨2, ![3, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S2816 : Shape := ⟨1, ![2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S3x2816, .f32⟩
  | .hbm, ⟨2, _⟩ => ⟨S_, .f32⟩
  | .hbm, ⟨3, _⟩ => ⟨S8192x2816, .f32⟩
  | .hbm, ⟨4, _⟩ => ⟨S_, .f32⟩
  | .hbm, ⟨5, _⟩ => ⟨S2x2816, .f32⟩
  | .hbm, ⟨6, _⟩ => ⟨S8194x2816, .f32⟩
  | .hbm, ⟨7, _⟩ => ⟨S_, .f32⟩
  | .hbm, ⟨8, _⟩ => ⟨S2x2816, .f32⟩
  | .hbm, ⟨9, _⟩ => ⟨S1x2816, .f32⟩
  | .hbm, ⟨10, _⟩ => ⟨S2816, .f32⟩
  | .hbm, ⟨11, _⟩ => ⟨S8192x2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S8192x2816, .f32⟩
  | .hbm, ⟨21, _⟩ => ⟨S1x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S1x2816, .f32⟩
  | .hbm, ⟨26, _⟩ => ⟨S2816, .f32⟩
  | .hbm, ⟨27, _⟩ => ⟨S8192x2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8194x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8194x2816, .f32⟩
  | .hbm, ⟨42, _⟩ => ⟨S8194x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8194x2816, .f32⟩
  | .hbm, ⟨47, _⟩ => ⟨S8194x2816, .f32⟩
  | .hbm, ⟨48, _⟩ => ⟨S2x2816, .f32⟩
  | .hbm, ⟨49, _⟩ => ⟨S8192x2816, .f32⟩
  | .hbm, ⟨50, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== FfnMid.lean ====
abbrev S8192x5632 : Shape := ⟨2, ![8192, 5632]⟩
abbrev S3x2816 : Shape := ⟨2, ![3, 2816]⟩
abbrev S1x2816 : Shape := ⟨2, ![1, 2816]⟩
abbrev S8192x2816 : Shape := ⟨2, ![8192, 2816]⟩
abbrev S256x2816 : Shape := ⟨2, ![256, 2816]⟩
abbrev S264x2816 : Shape := ⟨2, ![264, 2816]⟩
abbrev S8x2816 : Shape := ⟨2, ![8, 2816]⟩
abbrev S40x2816 : Shape := ⟨2, ![40, 2816]⟩
abbrev S32x2816 : Shape := ⟨2, ![32, 2816]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S8192x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S3x2816, .f32⟩
  | .local _ .vmem, ⟨5, _⟩ => ⟨S1x2816, .f32⟩
  | .local _ .vmem, ⟨6, _⟩ => ⟨S256x2816, .bf16⟩
  | .local _ .vmem, ⟨7, _⟩ => ⟨S256x2816, .bf16⟩
  | .local _ .vmem, ⟨8, _⟩ => ⟨S264x2816, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_5 : BitVec 32 := 0#32
  let c8_i32 : BitVec 32 := 8#32
  let v10 : BitVec 32 := Scalar.addi c0_i32_5 c8_i32
  let c1_i32 : BitVec 32 := 1#32
  ⟨c0_i32_5, v10, c1_i32⟩
def k0_mult1 (k0_t1 : Fin k0_t1_loop.trips) : BitVec 32 :=
  let c0_i32_5 : BitVec 32 := 0#32
  let c1_i32 : BitVec 32 := 1#32
  let arg7 : BitVec 32 := Scf.iv c0_i32_5 c1_i32 k0_t1
  let c32_i32 : BitVec 32 := 32#32
  let v11 : BitVec 32 := Scalar.muli arg7 c32_i32
  v11
def k0_off1 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c32_i32 : BitVec 32 := 32#32
  let v11 : BitVec 32 := Scalar.muli arg7 c32_i32
  let v12 : BitVec 32 := v11
  let v13 : Index := Scalar.indexCast v12
  let c0_7 : Index := 0#32
  ![v13.toNat, 0]
def k0_off2 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c32_i32 : BitVec 32 := 32#32
  let v11 : BitVec 32 := Scalar.muli arg7 c32_i32
  let v12 : BitVec 32 := v11
  let v46 : Index := Scalar.indexCast v12
  let c0_18 : Index := 0#32
  ![v46.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnMidIdeal.lean ====
variable {F : FTy → Type} [FloatOps F] [Named F]
def κ : String → Option EReal := fun
  | "gelu_ca" => some ((80338380498831 / 2251799813685248 : ℝ) : EReal)
  | _ => none
-- ==== FfnMidRefIdeal.lean ====
abbrev S8192x5632 : Shape := ⟨2, ![8192, 5632]⟩
abbrev S3x2816 : Shape := ⟨2, ![3, 2816]⟩
abbrev S1x2816 : Shape := ⟨2, ![1, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 52
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S2x2816, .f32⟩
  | .hbm, ⟨7, _⟩ => ⟨S8194x2816, .f32⟩
  | .hbm, ⟨8, _⟩ => ⟨S1x2816, .f32⟩
  | .hbm, ⟨9, _⟩ => ⟨S2816, .f32⟩
  | .hbm, ⟨10, _⟩ => ⟨S8192x2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S1x2816, .f32⟩
  | .hbm, ⟨18, _⟩ => ⟨S2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S1x2816, .f32⟩
  | .hbm, ⟨25, _⟩ => ⟨S2816, .f32⟩
  | .hbm, ⟨26, _⟩ => ⟨S8192x2816, .f32⟩
  | .hbm, ⟨27, _⟩ => ⟨S1x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== ConvFwd.lean ====
abbrev S8192x7168 : Shape := ⟨2, ![8192, 7168]⟩
abbrev S31x512 : Shape := ⟨2, ![31, 512]⟩
abbrev S1x512 : Shape := ⟨2, ![1, 512]⟩
abbrev S8192x512 : Shape := ⟨2, ![8192, 512]⟩
abbrev S512x512 : Shape := ⟨2, ![512, 512]⟩
abbrev S544x512 : Shape := ⟨2, ![544, 512]⟩
abbrev S32x512 : Shape := ⟨2, ![32, 512]⟩
abbrev S64x128 : Shape := ⟨2, ![64, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x7168, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S544x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_7 : BitVec 32 := 0#32
  let c16_i32 : BitVec 32 := 16#32
  let v13 : BitVec 32 := Scalar.addi c0_i32_7 c16_i32
  let c1_i32 : BitVec 32 := 1#32
  ⟨c0_i32_7, v13, c1_i32⟩
def k0_mult1 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  v14
def k0_off1 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  let v15 : BitVec 32 := v14
  let v16 : Index := Scalar.indexCast v15
  let c0_9 : Index := 0#32
  ![v16.toNat, 0]
def k0_off2 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  let v15 : BitVec 32 := v14
  let v183 : Index := Scalar.indexCast v15
  let c128 : Index := 128#32
  ![v183.toNat, 128]
def k0_off3 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  let v15 : BitVec 32 := v14
  let v350 : Index := Scalar.indexCast v15
  let c256 : Index := 256#32
  ![v350.toNat, 256]
def k0_off4 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  let v15 : BitVec 32 := v14
  let v517 : Index := Scalar.indexCast v15
  let c384 : Index := 384#32
  ![v517.toNat, 384]
def k0_off5 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c32_i32 : BitVec 32 := 32#32
  let v14 : BitVec 32 := Scalar.muli arg10 c32_i32
  let v15 : BitVec 32 := v14
  let v685 : Index := Scalar.indexCast v15
  let c0_257 : Index := 0#32
  ![v685.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvFwdRefIdeal.lean ====
abbrev S8192x7168 : Shape := ⟨2, ![8192, 7168]⟩
abbrev S31x512 : Shape := ⟨2, ![31, 512]⟩
abbrev S1x512 : Shape := ⟨2, ![1, 512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S8192 : Shape := ⟨1, ![8192]⟩
abbrev S8192x1 : Shape := ⟨2, ![8192, 1]⟩

abbrev nBuf : Space → Nat
  | .hbm => 215
  | .vmem => 0
  | .smem => 0
  | _ => 0

abbrev hbmTy0_0 (i : Nat) : BufTy := match i % 128 with
  | 0 => ⟨S8192x7168, .f32⟩
  | 1 => ⟨S31x512, .f32⟩
  | 2 => ⟨S1x512, .f32⟩
  | 3 => ⟨S1x512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S30x512, .f32⟩
  | 18 => ⟨S8222x512, .f32⟩
  | 19 => ⟨S1x512, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S8192x512, .f32⟩
  | 126 => ⟨S1x512, .f32⟩
  | 127 => ⟨S8192x512, .f32⟩
  | _ => ⟨S8192x7168, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S8192x512, .f32⟩
  | 20 => ⟨S8192x512, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x512, .f32⟩
  | 57 => ⟨S8192x512, .f32⟩
  | 58 => ⟨S8192x512, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x512, .f32⟩
  | 66 => ⟨S8192x512, .f32⟩
  | 67 => ⟨S_, .f32⟩
  | 68 => ⟨S8192x1, .f32⟩
  | 69 => ⟨S8192x1, .f32⟩
  | 70 => ⟨S8192x1, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_cst_3 : Ref sig .tc := ⟨.hbm, 178, rfl⟩
abbrev main_v169 : Ref sig .tc := ⟨.hbm, 179, rfl⟩
abbrev main_v170 : Ref sig .tc := ⟨.hbm, 180, rfl⟩
abbrev main_cst_4 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_cst_5 : Ref sig .tc := ⟨.hbm, 187, rfl⟩
abbrev main_v176 : Ref sig .tc := ⟨.hbm, 188, rfl⟩
abbrev main_v177 : Ref sig .tc := ⟨.hbm, 189, rfl⟩
abbrev main_cst_6 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_cst_7 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_cst_8 : Ref sig .tc := ⟨.hbm, 207, rfl⟩
abbrev main_v193 : Ref sig .tc := ⟨.hbm, 208, rfl⟩
abbrev main_v194 : Ref sig .tc := ⟨.hbm, 209, rfl⟩
abbrev main_cst_9 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩

abbrev nD : Nat := 1
abbrev τ : Topo := Topo.v7x

variable {F : FTy → Type} [FloatOps F]
-- ==== Proof.MergeBwdRefValue.lean ====
/- The reference's gradients of the gated merge, entry by entry. -/
module

public import proofs.«01_k».proof.Proof.Gen.MergeBwdIdeal.Frame
public import proofs.«01_k».proof.Proof.Gen.MergeBwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen
open Cert.MergeBwdRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, t.val, 0]
    ∧ win0_2.index t = ![t.val, 5]
    ∧ win0_3.index t = ![t.val, 6]
    ∧ win0_4.index t = ![0, 0]
    ∧ win0_5.index t = ![0, 0]
    ∧ win0_6.index t = ![0, 0]
    ∧ win0_7.index t = ![2, t.val, 0]
    ∧ win0_8.index t = ![0, t.val, 0]
    ∧ win0_9.index t = ![t.val, 0]
    ∧ win0_10.index t = ![t.val, 0] :=
  (by decide +kernel : ∀ t : Fin grid0.N, _)

abbrev X0 := FVec Ideal S8192x1024 .bf16
abbrev X1 := FVec Ideal S2x8192x1024 .f32
abbrev X2 := FVec Ideal S8192x7168 .f32
abbrev X3 := FVec Ideal S1024x1024 .bf16

/-- The gate of the first branch, at a row and a column. -/
def g0 (x2 : X2) (r : Fin 8192) (l : Fin 1024) : EReal := Ideal.logistic (x2 (ix2 r ⟨5120 + l.val, by omega⟩))
/-- The gate of the second branch. -/
def g1 (x2 : X2) (r : Fin 8192) (l : Fin 1024) : EReal := Ideal.logistic (x2 (ix2 r ⟨6144 + l.val, by omega⟩))
/-- The gradient of the merged value. -/
def dm (x0 : X0) (x3 : X3) (r : Fin 8192) (l : Fin 1024) : EReal := ∑ k : Fin 1024, x0 (ix2 r k) * x3 (ix2 l k)

/-- The reference's gates, both in one array. -/
theorem ref_v10 (x2 : X2) (r : Fin 8192) (l : Fin 2048) :
    val_main_v10 (F := Ideal) x2 (ix2 r l) = Ideal.logistic (x2 (ix2 r ⟨5120 + l.val, by omega⟩)) := by
  pointwise [Ideal.logistic, val_main_v10, val_main_v9, val_main_v8, val_main_v7, val_main_v6, val_main_v5, val_main_v0,
    val_main_cst, val_main_cst_0]

theorem ref_v16 (x2 : X2) (r : Fin 8192) (l : Fin 1024) : val_main_v16 (F := Ideal) x2 (ix2 r l) = g0 x2 r l := by
  have h := ref_v10 x2 r ⟨l.val, by omega⟩
  revert h
  generalize hb : val_main_v10 (F := Ideal) x2 = b
  intro h
  refine Eq.trans ?_ h
  pointwise [val_main_v16, val_main_v15, val_main_v14, hb]
  try (refine congrArg b ?_; blk_ext)

theorem ref_v19 (x2 : X2) (r : Fin 8192) (l : Fin 1024) : val_main_v19 (F := Ideal) x2 (ix2 r l) = g1 x2 r l := by
  have h := ref_v10 x2 r ⟨1024 + l.val, by omega⟩
  have e : g1 x2 r l = Ideal.logistic (x2 (ix2 r ⟨5120 + (1024 + l.val), by omega⟩)) := by
    exact congrArg (fun k => Ideal.logistic (x2 (ix2 r k))) (Fin.ext (show 6144 + l.val = 5120 + (1024 + l.val) by omega))
  rw [e]
  revert h
  generalize hb : val_main_v10 (F := Ideal) x2 = b
  intro h
  refine Eq.trans ?_ h
  pointwise [val_main_v19, val_main_v18, val_main_v14, hb]
  try (refine congrArg b ?_; blk_ext)

theorem ref_v25 (x0 : X0) (x3 : X3) (r : Fin 8192) (l : Fin 1024) :
    val_main_v25 (F := Ideal) x0 x3 (ix2 r l) = dm x0 x3 r l := by
  pointwise [dm, val_main_v25, val_main_v24, val_main_v22]

/-- The two branches' gradients of the reference. -/
theorem ref_v30 (x0 : X0) (x2 : X2) (x3 : X3) (r : Fin 8192) (l : Fin 1024) :
    val_main_v30 (F := Ideal) x0 x2 x3 (ix2 r l) = g0 x2 r l * dm x0 x3 r l := by
  rw [val_main_v30_apply, ref_v16, ref_v25]; rfl

theorem ref_v26 (x0 : X0) (x2 : X2) (x3 : X3) (r : Fin 8192) (l : Fin 1024) :
    val_main_v26 (F := Ideal) x0 x2 x3 (ix2 r l) = g1 x2 r l * dm x0 x3 r l := by
  rw [val_main_v26_apply, ref_v19, ref_v25]; rfl

theorem ref_v13 (x2 : X2) (r : Fin 8192) (l : Fin 2048) :
    val_main_v13 (F := Ideal) x2 (ix2 r l) = val_main_v10 (F := Ideal) x2 (ix2 r l) * (1 - val_main_v10 (F := Ideal) x2 (ix2 r l)) := by
  generalize hb : val_main_v10 (F := Ideal) x2 = b
  pointwise [val_main_v13, val_main_v12, val_main_v11, val_main_cst_1, hb]

/-- The product of the merged gradient and a branch's value, before the two are laid side by side. -/
theorem ref_v34_lo (x0 : X0) (x1 : X1) (x3 : X3) (r : Fin 8192) (l : Fin 1024) :
    val_main_v34 (F := Ideal) x0 x1 x3 (ix3 r 0 l) = val_main_v25 (F := Ideal) x0 x3 (ix2 r l) * x1 (ix3 0 r l) := by
  generalize hb : val_main_v25 (F := Ideal) x0 x3 = b
  pointwise [val_main_v34, val_main_v33, val_main_v32, val_main_v31, val_main_v29, val_main_v28, val_main_v27, val_main_v2, val_main_v1,
    val_main_v4, val_main_v3, val_main_cst_2, val_main_cst_3, hb]

/-- The same in the array that holds both gates' gradients. -/
theorem ref_v35_lo (x0 : X0) (x1 : X1) (x3 : X3) (r : Fin 8192) (l : Fin 1024) :
    val_main_v35 (F := Ideal) x0 x1 x3 (ix2 r ⟨l.val, by omega⟩)
      = val_main_v25 (F := Ideal) x0 x3 (ix2 r l) * x1 (ix3 0 r l) := by
  rw [← ref_v34_lo, val_main_v35_apply]
  refine congrArg _ (funext fun a => Fin.ext ?_)
  have hr := r.isLt
  have hl := l.isLt
  fin_cases a
  · show (r.val * 2048 + l.val) / 2048 = r.val
    omega
  · show (r.val * 2048 + l.val) / 1024 % 2 = 0
    omega
  · show (r.val * 2048 + l.val) % 1024 = l.val
    omega

/-- The gate's gradient. -/
theorem ref_v36_lo (x0 : X0) (x1 : X1) (x2 : X2) (x3 : X3) (r : Fin 8192) (l : Fin 1024) :
    val_main_v36 (F := Ideal) x0 x1 x2 x3 (ix2 r ⟨l.val, by omega⟩)
      = (dm x0 x3 r l * x1 (ix3 0 r l)) * (g0 x2 r l * (1 - g0 x2 r l)) := by
  have e : Ideal.logistic (x2 (ix2 r ⟨5120 + (l.val), by omega⟩)) = g0 x2 r l := rfl
  rw [val_main_v36_apply, ref_v13, ref_v10, ref_v35_lo, ref_v25, e]
  rfl

/-- The product of the merged gradient and a branch's value, in the array that holds both gates' gradients. -/
theorem ref_v35_hi (x0 : X0) (x1 : X1) (x3 : X3) (r : Fin 8192) (l : Fin 1024) :
    val_main_v35 (F := Ideal) x0 x1 x3 (ix2 r ⟨1024 + l.val, by omega⟩)
      = val_main_v25 (F := Ideal) x0 x3 (ix2 r l) * x1 (ix3 1 r l) := by
  generalize hb : val_main_v25 (F := Ideal) x0 x3 = b
  pointwise [val_main_v35, val_main_v34, val_main_v33, val_main_v32, val_main_v31, val_main_v29, val_main_v28, val_main_v27, val_main_v2, val_main_v1,
    val_main_v4, val_main_v3, val_main_cst_2, val_main_cst_3, hb]
  rw [dif_pos (by omega), dif_neg (by omega), add_zero]

/-- The gate's gradient. -/
theorem ref_v36_hi (x0 : X0) (x1 : X1) (x2 : X2) (x3 : X3) (r : Fin 8192) (l : Fin 1024) :
    val_main_v36 (F := Ideal) x0 x1 x2 x3 (ix2 r ⟨1024 + l.val, by omega⟩)
      = (dm x0 x3 r l * x1 (ix3 1 r l)) * (g1 x2 r l * (1 - g1 x2 r l)) := by
  have e : Ideal.logistic (x2 (ix2 r ⟨5120 + (1024 + l.val), by omega⟩)) = g1 x2 r l := congrArg (fun k => Ideal.logistic (x2 (ix2 r k))) (Fin.ext (show 5120 + (1024 + l.val) = 6144 + l.val by omega))
  rw [val_main_v36_apply, ref_v13, ref_v10, ref_v35_hi, ref_v25, e]
  rfl

/-- The pair of the branches' gradients. -/
theorem ref_v55_0 (x0 : X0) (x2 : X2) (x3 : X3) (r : Fin 8192) (l : Fin 1024) :
    val_main_v55 (F := Ideal) x0 x2 x3 (ix3 0 r l) = val_main_v30 (F := Ideal) x0 x2 x3 (ix2 r l) := by
  generalize hb : val_main_v30 (F := Ideal) x0 x2 x3 = b
  pointwise [val_main_v55, val_main_v54, val_main_v53, val_main_v52, hb]

theorem ref_v55_1 (x0 : X0) (x2 : X2) (x3 : X3) (r : Fin 8192) (l : Fin 1024) :
    val_main_v55 (F := Ideal) x0 x2 x3 (ix3 1 r l) = val_main_v26 (F := Ideal) x0 x2 x3 (ix2 r l) := by
  generalize hb : val_main_v26 (F := Ideal) x0 x2 x3 = b
  pointwise [val_main_v55, val_main_v54, val_main_v53, val_main_v52, hb]

/-- The slabs of the gates' gradients. -/
theorem ref_v51_4 (x0 : X0) (x1 : X1) (x2 : X2) (x3 : X3) (r : Fin 8192) (l : Fin 1024) :
    val_main_v51 (F := Ideal) x0 x1 x2 x3 (ix3 4 r l) = val_main_v36 (F := Ideal) x0 x1 x2 x3 (ix2 r ⟨l.val, by omega⟩) := by
  generalize hb : val_main_v36 (F := Ideal) x0 x1 x2 x3 = b
  pointwise [val_main_v51, val_main_v50, val_main_v49, val_main_v48, val_main_v47, val_main_v46, val_main_v45, hb]

theorem ref_v51_5 (x0 : X0) (x1 : X1) (x2 : X2) (x3 : X3) (r : Fin 8192) (l : Fin 1024) :
    val_main_v51 (F := Ideal) x0 x1 x2 x3 (ix3 5 r l) = val_main_v36 (F := Ideal) x0 x1 x2 x3 (ix2 r ⟨1024 + l.val, by omega⟩) := by
  generalize hb : val_main_v36 (F := Ideal) x0 x1 x2 x3 = b
  pointwise [val_main_v51, val_main_v50, val_main_v49, val_main_v48, val_main_v47, val_main_v46, val_main_v45, hb]

end Cert.MergeBwdIdeal.Value

end
-- ==== Proof.MergeBwdValue.lean ====
/- The backward pass of the gated merge: what the kernel leaves is the gradient of the reference's merge. -/
module

public import proofs.«01_k».proof.Proof.Gen.MergeBwdIdeal.Frame
public import proofs.«01_k».proof.Proof.Gen.MergeBwdRefIdeal.Read
public import Idealize.ShloMosaic.Lib.Pipeline.ValueKit
public import Idealize.ShloMosaic.Lib.Pointwise
public import Idealize.ShloMosaic.Lib.Claim
public import proofs.«01_k».proof.Proof.MergeBwdRefValue

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen
open Cert.MergeBwdRefIdeal.Read

variable (m : (ℓ : Loc nD τ sig) → Buf (Elt Ideal) ℓ)

/-- The array row of a row of a point's blocks. -/
def row (t : Fin cfg0.N) (j : Fin 256) : Fin 8192 := ⟨t.val * 256 + j.val, by have h : t.val < 32 := t.isLt; omega⟩

/-- The merged value's gradient, as a point computes it. -/
theorem pay5 (c : Dev nD) (t : Fin cfg0.N) (j : Fin 256) (l : Fin 1024) :
    k0_pay5 (F := Ideal) (iblk m c 0 t) (iblk m c 4 t) (ix2 j l) = dm (m ((c : Thread nD τ).loc main_arg0)) (m ((c : Thread nD τ).loc main_arg3)) (row t j) l := by
  pointwise [k0_pay5, dm, row]
  blk_point [iblk, V, idx t]

/-- The gates, as a point computes them. -/
theorem pay6 (c : Dev nD) (t : Fin cfg0.N) (j : Fin 256) (l : Fin 1024) :
    k0_pay6 (F := Ideal) (iblk m c 2 t) (ix2 j l) = g0 (m ((c : Thread nD τ).loc main_arg2)) (row t j) l := by
  pointwise [k0_pay6, g0, row]
  blk_point [iblk, V, idx t]

theorem pay7 (c : Dev nD) (t : Fin cfg0.N) (j : Fin 256) (l : Fin 1024) :
    k0_pay7 (F := Ideal) (iblk m c 3 t) (ix2 j l) = g1 (m ((c : Thread nD τ).loc main_arg2)) (row t j) l := by
  pointwise [k0_pay7, g1, row]
  blk_point [iblk, V, idx t]

/-- The branches' gradients, as a point computes them. -/
theorem pay10 (c : Dev nD) (t : Fin cfg0.N) (j : Fin 256) (l : Fin 1024) :
    k0_pay10 (F := Ideal) (iblk m c 0 t) (iblk m c 4 t) (iblk m c 2 t) (ix2 j l) = g0 (m ((c : Thread nD τ).loc main_arg2)) (row t j) l * dm (m ((c : Thread nD τ).loc main_arg0)) (m ((c : Thread nD τ).loc main_arg3)) (row t j) l := by
  rw [← pay5 m c t j l, ← pay6 m c t j l]
  generalize h5 : k0_pay5 (F := Ideal) (iblk m c 0 t) (iblk m c 4 t) = b5
  generalize h6 : k0_pay6 (F := Ideal) (iblk m c 2 t) = b6
  pointwise [k0_pay10, h5, h6]
  try exact mul_comm _ _

theorem pay11 (c : Dev nD) (t : Fin cfg0.N) (j : Fin 256) (l : Fin 1024) :
    k0_pay11 (F := Ideal) (iblk m c 0 t) (iblk m c 4 t) (iblk m c 3 t) (ix2 j l) = g1 (m ((c : Thread nD τ).loc main_arg2)) (row t j) l * dm (m ((c : Thread nD τ).loc main_arg0)) (m ((c : Thread nD τ).loc main_arg3)) (row t j) l := by
  rw [← pay5 m c t j l, ← pay7 m c t j l]
  generalize h5 : k0_pay5 (F := Ideal) (iblk m c 0 t) (iblk m c 4 t) = b5
  generalize h6 : k0_pay7 (F := Ideal) (iblk m c 3 t) = b6
  pointwise [k0_pay11, h5, h6]
  try exact mul_comm _ _

/-- The merged branches, as a point reads them. -/
theorem blk1 (c : Dev nD) (t : Fin cfg0.N) (b : Fin 2) (j : Fin 256) (l : Fin 1024) :
    iblk (F := Ideal) m c 1 t (ix3 b j l) = (m ((c : Thread nD τ).loc main_arg1)) (ix3 b (row t j) l) := by
  unfold row
  blk_point [iblk, V, idx t]

theorem pay12 (c : Dev nD) (t : Fin cfg0.N) (j : Fin 256) (l : Fin 1024) :
    k0_pay12 (F := Ideal) (iblk m c 0 t) (iblk m c 1 t) (iblk m c 2 t) (iblk m c 3 t) (iblk m c 4 t) (iblk m c 5 t) (iblk m c 6 t) (ix2 j l) = g0 (m ((c : Thread nD τ).loc main_arg2)) (row t j) l * dm (m ((c : Thread nD τ).loc main_arg0)) (m ((c : Thread nD τ).loc main_arg3)) (row t j) l := by
  unfold k0_pay12
  simp (disch := decide) only [r0_0, r0_1, View.ld_unit_lit']
  exact pay10 m c t j l

theorem pay13 (c : Dev nD) (t : Fin cfg0.N) (j : Fin 256) (l : Fin 1024) :
    k0_pay13 (F := Ideal) (iblk m c 0 t) (iblk m c 1 t) (iblk m c 2 t) (iblk m c 3 t) (iblk m c 4 t) (iblk m c 5 t) (iblk m c 6 t) (ix2 j l) = g1 (m ((c : Thread nD τ).loc main_arg2)) (row t j) l * dm (m ((c : Thread nD τ).loc main_arg0)) (m ((c : Thread nD τ).loc main_arg3)) (row t j) l := by
  unfold k0_pay13
  simp (disch := decide) only [r0_0, r0_1, View.ld_unit_lit']
  exact pay11 m c t j l

/-- The gates' gradients, as a point computes them. -/
theorem pay8 (c : Dev nD) (t : Fin cfg0.N) (j : Fin 256) (l : Fin 1024) :
    k0_pay8 (F := Ideal) (iblk m c 0 t) (iblk m c 4 t) (iblk m c 2 t) (View.ld (iblk m c 1 t) r0_2) (ix3 0 j l)
      = (dm (m ((c : Thread nD τ).loc main_arg0)) (m ((c : Thread nD τ).loc main_arg3)) (row t j) l * (m ((c : Thread nD τ).loc main_arg1)) (ix3 0 (row t j) l)) * (g0 (m ((c : Thread nD τ).loc main_arg2)) (row t j) l * (1 - g0 (m ((c : Thread nD τ).loc main_arg2)) (row t j) l)) := by
  rw [← pay5 m c t j l, ← pay6 m c t j l, ← blk1 m c t 0 j l]
  generalize h5 : k0_pay5 (F := Ideal) (iblk m c 0 t) (iblk m c 4 t) = b5
  generalize h6 : k0_pay6 (F := Ideal) (iblk m c 2 t) = b6
  generalize iblk (F := Ideal) m c 1 t = b1
  have e : View.ld b1 r0_2 (ix3 0 j l) = b1 (ix3 0 j l) := View.ld_unit_apply_of _ _ _ _ _ _ (fun a => by fin_cases a <;> simp)
  generalize View.ld b1 r0_2 = v at e
  rw [← e]
  pointwise [k0_pay8, h5, h6]
  exact mul_assoc _ _ _

theorem pay9 (c : Dev nD) (t : Fin cfg0.N) (j : Fin 256) (l : Fin 1024) :
    k0_pay9 (F := Ideal) (iblk m c 0 t) (iblk m c 4 t) (iblk m c 3 t) (View.ld (iblk m c 1 t) r0_3) (ix3 0 j l)
      = (dm (m ((c : Thread nD τ).loc main_arg0)) (m ((c : Thread nD τ).loc main_arg3)) (row t j) l * (m ((c : Thread nD τ).loc main_arg1)) (ix3 1 (row t j) l)) * (g1 (m ((c : Thread nD τ).loc main_arg2)) (row t j) l * (1 - g1 (m ((c : Thread nD τ).loc main_arg2)) (row t j) l)) := by
  rw [← pay5 m c t j l, ← pay7 m c t j l, ← blk1 m c t 1 j l]
  generalize h5 : k0_pay5 (F := Ideal) (iblk m c 0 t) (iblk m c 4 t) = b5
  generalize h6 : k0_pay7 (F := Ideal) (iblk m c 3 t) = b6
  generalize iblk (F := Ideal) m c 1 t = b1
  have e : View.ld b1 r0_3 (ix3 0 j l) = b1 (ix3 1 j l) := View.ld_unit_apply_of _ _ _ _ _ _ (fun a => by fin_cases a <;> simp)
  generalize View.ld b1 r0_3 = v at e
  rw [← e]
  pointwise [k0_pay9, h5, h6]
  exact mul_assoc _ _ _

theorem cell_7 (c : Dev nD) (t : Fin cfg0.N) (b : Fin 2) (j : Fin 256) (l : Fin 1024) :
    out0_7 (iblk m c 0 t) (iblk m c 1 t) (iblk m c 2 t) (iblk m c 3 t) (iblk m c 4 t) (iblk m c 5 t) (iblk m c 6 t) (ix3 b j l)
      = val_main_v51 (F := Ideal) (m ((c : Thread nD τ).loc main_arg0)) (m ((c : Thread nD τ).loc main_arg1)) (m ((c : Thread nD τ).loc main_arg2)) (m ((c : Thread nD τ).loc main_arg3)) (ix3 (⟨4 + b.val, by omega⟩ : Fin 7) (row t j) l) := by
  canon_tiles x h
  · have h0' : b.val = 1 + (x 0).val := h0
    obtain rfl : b = 1 := Fin.ext (by show b.val = 1; omega)
    obtain rfl : x = ix3 0 j l := by
      funext a; refine Fin.ext ?_; fin_cases a
      exacts [by show (x 0).val = 0; omega, h1.symm, h2.symm]
    refine Eq.trans ?_ (ref_v51_5 _ _ _ _ _ _).symm
    rw [ref_v36_hi]
    simp (disch := decide) only [r0_0, r0_1, View.ld_unit_lit']
    exact pay9 m c t j l
  · have h0' : b.val = (x 0).val := h0
    obtain rfl : b = 0 := Fin.ext (by show b.val = 0; omega)
    obtain rfl : x = ix3 0 j l := by
      funext a; refine Fin.ext ?_; fin_cases a
      exacts [by show (x 0).val = 0; omega, h1.symm, h2.symm]
    refine Eq.trans ?_ (ref_v51_4 _ _ _ _ _ _).symm
    rw [ref_v36_lo]
    simp (disch := decide) only [r0_0, r0_1, View.ld_unit_lit']
    exact pay8 m c t j l

theorem final_7 (c : Dev nD) : (dats m 0 c).arrAt 7 (cfgs 0).N
    = fun i => if 4 ≤ (i 0).val ∧ (i 0).val < 6 then val_main_v51 (F := Ideal) (m ((c : Thread nD τ).loc main_arg0)) (m ((c : Thread nD τ).loc main_arg1)) (m ((c : Thread nD τ).loc main_arg2)) (m ((c : Thread nD τ).loc main_arg3)) i else V m c main_v0_0 i := by
  refine (dats m 0 c).arrAt_eq_of_coversWhere 7 _ (fun β => 2 ≤ β (0 : Fin 3) ∧ β (0 : Fin 3) < 3) (by decide +kernel) (fun t hf y => ?_)
    (fun j => by blk_simp [Pipeline.Window.cell_apply]; omega)
  blk_simp; rw [after0_7]
  obtain ⟨b, j, l, hy⟩ : ∃ (b : Fin 2) (j : Fin 256) (l : Fin 1024), (cfg0.win 7).xinj (cfg0.grid.coords t) y = ix3 b j l :=
    ⟨_, _, _, by ext a; fin_cases a <;> rfl⟩
  have e0 : (y 0).val = b.val := congrArg (fun i => (i 0).val) hy
  have e1 : (y 1).val = j.val := congrArg (fun i => (i 1).val) hy
  have e2 : (y 2).val = l.val := congrArg (fun i => (i 2).val) hy
  rw [hy, cell_7]
  refine congrArg _ ?_
  unfold row
  blk_ext [idx t, e0, e1, e2]

theorem cell_8 (c : Dev nD) (t : Fin cfg0.N) (b : Fin 2) (j : Fin 256) (l : Fin 1024) :
    out0_8 (iblk m c 0 t) (iblk m c 1 t) (iblk m c 2 t) (iblk m c 3 t) (iblk m c 4 t) (iblk m c 5 t) (iblk m c 6 t) (ix3 b j l) = val_main_v55 (F := Ideal) (m ((c : Thread nD τ).loc main_arg0)) (m ((c : Thread nD τ).loc main_arg2)) (m ((c : Thread nD τ).loc main_arg3)) (ix3 b (row t j) l) := by
  canon_tiles x h
  · have h0' : b.val = 1 + (x 0).val := h0
    obtain rfl : b = 1 := Fin.ext (by show b.val = 1; omega)
    obtain rfl : x = ix3 0 j l := by
      funext a; refine Fin.ext ?_; fin_cases a
      exacts [by show (x 0).val = 0; omega, h1.symm, h2.symm]
    rw [ref_v55_1, ref_v26, ← pay13 m c t]
    generalize k0_pay13 (F := Ideal) (iblk m c 0 t) (iblk m c 1 t) (iblk m c 2 t) (iblk m c 3 t) (iblk m c 4 t) (iblk m c 5 t) (iblk m c 6 t) = b
    pointwise [k0_pay2]
  · have h0' : b.val = (x 0).val := h0
    obtain rfl : b = 0 := Fin.ext (by show b.val = 0; omega)
    obtain rfl : x = ix3 0 j l := by
      funext a; refine Fin.ext ?_; fin_cases a
      exacts [by show (x 0).val = 0; omega, h1.symm, h2.symm]
    rw [ref_v55_0, ref_v30, ← pay12 m c t]
    generalize k0_pay12 (F := Ideal) (iblk m c 0 t) (iblk m c 1 t) (iblk m c 2 t) (iblk m c 3 t) (iblk m c 4 t) (iblk m c 5 t) (iblk m c 6 t) = b
    pointwise [k0_pay1]

theorem final_8 (c : Dev nD) : (dats m 0 c).arrAt 8 (cfgs 0).N = val_main_v55 (F := Ideal) (m ((c : Thread nD τ).loc main_arg0)) (m ((c : Thread nD τ).loc main_arg2)) (m ((c : Thread nD τ).loc main_arg3)) := by
  refine (dats m 0 c).arrAt_eq_of_covers 8 _ (by decide +kernel) fun t hf y => ?_
  blk_simp; rw [after0_8]
  obtain ⟨b, j, l, rfl⟩ : ∃ (b : Fin 2) (j : Fin 256) (l : Fin 1024), y = ix3 b j l :=
    ⟨y 0, y 1, y 2, by ext a; fin_cases a <;> rfl⟩
  refine (cell_8 m c t b j l).trans (congrArg _ ?_)
  unfold row
  blk_ext [idx t]

/-- The gradient of the convolution branch's value. -/
theorem cell_9 (c : Dev nD) (t : Fin cfg0.N) (y) :
    k0_pay3 (k0_pay12 (F := Ideal) (iblk m c 0 t) (iblk m c 1 t) (iblk m c 2 t) (iblk m c 3 t) (iblk m c 4 t) (iblk m c 5 t) (iblk m c 6 t)) (iblk m c 5 t) y
      = (val_main_v40 (F := Ideal) (m ((c : Thread nD τ).loc main_arg0)) (m ((c : Thread nD τ).loc main_arg2)) (m ((c : Thread nD τ).loc main_arg3)) (m ((c : Thread nD τ).loc main_arg4)) ) (((cfg0.win 9).blk t).view.emb y) := by
  have h := pay12 m c t
  have h' := ref_v30 (m ((c : Thread nD τ).loc main_arg0)) (m ((c : Thread nD τ).loc main_arg2)) (m ((c : Thread nD τ).loc main_arg3))
  generalize k0_pay12 (F := Ideal) (iblk m c 0 t) (iblk m c 1 t) (iblk m c 2 t) (iblk m c 3 t) (iblk m c 4 t) (iblk m c 5 t) (iblk m c 6 t) = b at h ⊢
  have e : ((cfg0.win 9).blk t).view.emb y = ix2 (row t (y 0)) (y 1) := by
    unfold row
    blk_ext [idx t]
  rw [e]
  pointwise [k0_pay3, val_main_v40, val_main_v38, h, h']
  blk_point [iblk, V, idx t]

/-- The gradient of the recurrence branch's value. -/
theorem cell_10 (c : Dev nD) (t : Fin cfg0.N) (y) :
    k0_pay4 (k0_pay13 (F := Ideal) (iblk m c 0 t) (iblk m c 1 t) (iblk m c 2 t) (iblk m c 3 t) (iblk m c 4 t) (iblk m c 5 t) (iblk m c 6 t)) (iblk m c 6 t) y
      = (val_main_v44 (F := Ideal) (m ((c : Thread nD τ).loc main_arg0)) (m ((c : Thread nD τ).loc main_arg2)) (m ((c : Thread nD τ).loc main_arg3)) (m ((c : Thread nD τ).loc main_arg5)) ) (((cfg0.win 10).blk t).view.emb y) := by
  have h := pay13 m c t
  have h' := ref_v26 (m ((c : Thread nD τ).loc main_arg0)) (m ((c : Thread nD τ).loc main_arg2)) (m ((c : Thread nD τ).loc main_arg3))
  generalize k0_pay13 (F := Ideal) (iblk m c 0 t) (iblk m c 1 t) (iblk m c 2 t) (iblk m c 3 t) (iblk m c 4 t) (iblk m c 5 t) (iblk m c 6 t) = b at h ⊢
  have e : ((cfg0.win 10).blk t).view.emb y = ix2 (row t (y 0)) (y 1) := by
    unfold row
    blk_ext [idx t]
  rw [e]
  pointwise [k0_pay4, val_main_v44, val_main_v42, h, h']
  blk_point [iblk, V, idx t]

theorem final_9 (c : Dev nD) : (dats m 0 c).arrAt 9 (cfgs 0).N = val_main_v40 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]; frame_out
  exact cell_9 m c t y

theorem final_10 (c : Dev nD) : (dats m 0 c).arrAt 10 (cfgs 0).N = val_main_v44 (F := Ideal) (m ((c : Thread nD τ).loc main_arg0)) (m ((c : Thread nD τ).loc main_arg2)) (m ((c : Thread nD τ).loc main_arg3)) (m ((c : Thread nD τ).loc main_arg5)) := by
  refine (dats m 0 c).arrAt_eq_of_covers 10 _ (by decide +kernel) fun t hf y => ?_
  blk_simp; rw [after0_10]; frame_out
  exact cell_10 m c t y

end Cert.MergeBwdIdeal.Value

end
-- ==== Proof.GradWInValue.lean ====
/- The gradient of the input projection's weight: what the kernel leaves is the reference's gradient. -/
module

public import proofs.«01_k».proof.Proof.Gen.GradWInIdeal.Frame
public import proofs.«01_k».proof.Proof.Gen.GradWInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWInIdeal.Value

open Cert.GradWInIdeal Cert.GradWInIdeal.Gen
open Cert.GradWInRefIdeal.Read

variable (m : (ℓ : Loc nD τ sig) → Buf (Elt Ideal) ℓ)

/-- The reference's gradient, over its two arguments. -/
abbrev REF (a0 : FVec Ideal S8192x1024 .bf16) (a1 : FVec Ideal S7x8192x1024 .bf16) : FVec Ideal S1024x7168 .f32 :=
  val_main_v20 (F := Ideal) a0 a1

/-- Where each window's block lies at a grid point. -/
theorem idx : ∀ t : Fin cfg0.N, win0_0.index t = ![t.val % 8, 0]
    ∧ win0_1.index t = ![t.val / 8, t.val % 8, 0]
    ∧ win0_2.index t = ![0, (t.val / 8 + 1) % 7]
    ∧ t.val / 8 < 7 :=
  (by decide +kernel : ∀ t : Fin grid0.N, _)

/-- The joined slabs, at a column of the weight's order: the columns of one slab are the entries of its plane. -/
theorem slab (x : FVec Ideal S7x8192x1024 .bf16) (i : Cert.GradWInRefIdeal.S8192x7168.Idx) (p : Fin 7) (k : Fin 1024)
    (h : (i 1).val = (p.val + 1) % 7 * 1024 + k.val) : val_main_v15 (F := Ideal) x i = x (ix3 p (i 0) k) := by
  obtain ⟨r, l, rfl⟩ : ∃ r l, i = ix2 r l := ⟨i 0, i 1, by ext a; fin_cases a <;> rfl⟩
  obtain ⟨l, hl⟩ := l
  change l = _ at h
  subst h
  fin_cases p
  all_goals
    pointwise [val_main_v15, val_main_v0, val_main_v1, val_main_v2, val_main_v3, val_main_v4, val_main_v5, val_main_v6, val_main_v7, val_main_v8, val_main_v9, val_main_v10, val_main_v11, val_main_v12, val_main_v13, val_main_v14] <;>
      (split_ifs <;> first | omega | (refine congrArg x ?_; blk_ext))

/-- The first point of a run fills its block with zero. -/
theorem hzero (j : S1024x1024.Idx) : k0_pay1 (F := Ideal) j = 0 := by
  pointwise! [k0_pay1]

/-- A point adds the product of its two blocks to what the block held. -/
theorem hpay (v3 : Vec Ideal S1024x1024 .f32) (v4 : Vec Ideal S1024x1024 .bf16) (v5 : Vec Ideal S1x1024x1024 .bf16)
    (j : S1024x1024.Idx) : k0_pay2 v3 v4 v5 j = v3 j + k0_pay2 (fun _ => 0) v4 v5 j := by
  pointwise [k0_pay2]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 8 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF, val_main_v20, val_main_v19, val_main_v17]
  refine Fin.sum_mul_add_congr fun s k hl => (EReal.mul_comm _ _).trans ?_
  have e0 := idx t
  have es := idx ⟨_, Pipeline.run_point_lt_of_flush t ((flush0_2 t).mp hf) s⟩
  rw [slab _ _ ⟨t.val / 8, e0.2.2.2⟩ (y 1) (by blk_simp [e0])]
  blk_point [iblk, V, e0, es]

end Cert.GradWInIdeal.Value

end
-- ==== Proof.GradXFirstValue.lean ====
/- The gradient of the block's input, first half of the rows: what the kernel leaves is the reference's gradient. -/
module

public import proofs.«01_k».proof.Proof.Gen.GradXFirstIdeal.Frame
public import proofs.«01_k».proof.Proof.Gen.GradXFirstRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradXFirstIdeal.Value

open Cert.GradXFirstIdeal Cert.GradXFirstIdeal.Gen
open Cert.GradXFirstRefIdeal.Read

variable (m : (ℓ : Loc nD τ sig) → Buf (Elt Ideal) ℓ)

/-- The reference's gradient, over its arguments. -/
abbrev REF (a0 : FVec Ideal S7x8192x1024 .bf16) (a1 : FVec Ideal S1024x7168 .bf16)
    (a2 : FVec Ideal S8192x1024 .f32) : FVec Ideal S8192x1024 .f32 :=
  val_main_v24 (F := Ideal) a0 a1 a2

/-- Where each window's block lies at a grid point. -/
theorem idx : ∀ t : Fin cfg0.N, win0_0.index t = ![t.val / 7, 0]
    ∧ win0_1.index t = ![t.val % 7, t.val / 7, 0]
    ∧ win0_2.index t = ![0, (t.val % 7 + 1) % 7]
    ∧ win0_3.index t = ![t.val / 7, 0]
    ∧ t.val / 7 < 4 :=
  (by decide +kernel : ∀ t : Fin grid0.N, _)

/-- The joined slabs, at a column of the weight's order: the columns of one slab are the entries of its plane. -/
theorem slab (x : FVec Ideal S7x8192x1024 .bf16) (i : Cert.GradXFirstRefIdeal.S8192x7168.Idx) (p : Fin 7) (k : Fin 1024)
    (h : (i 1).val = (p.val + 1) % 7 * 1024 + k.val) : val_main_v20 (F := Ideal) x i = x (ix3 p (i 0) k) := by
  obtain ⟨r, l, rfl⟩ : ∃ r l, i = ix2 r l := ⟨i 0, i 1, by ext a; fin_cases a <;> rfl⟩
  obtain ⟨l, hl⟩ := l
  change l = _ at h
  subst h
  fin_cases p
  all_goals
    pointwise [val_main_v20, val_main_v5, val_main_v6, val_main_v7, val_main_v8, val_main_v9, val_main_v10, val_main_v11, val_main_v12, val_main_v13, val_main_v14, val_main_v15, val_main_v16, val_main_v17, val_main_v18, val_main_v19] <;>
      (split_ifs <;> first | omega | (refine congrArg x ?_; blk_ext))

/-- A point adds the product of its two blocks to what the block held. -/
theorem hpay (v3 : Vec Ideal S1024x1024 .f32) (v4 : Vec Ideal S1x1024x1024 .bf16) (v6 : Vec Ideal S1024x1024 .bf16)
    (j : S1024x1024.Idx) : k0_pay2 v3 v4 v6 j = v3 j + k0_pay2 (fun _ => 0) v4 v6 j := by
  pointwise [k0_pay2]

/-- A sum over all columns, taken in seven tiles beginning with the second. -/
theorem sum_tiles (f : Fin 7168 → EReal) : ∑ l, f l
    = ∑ s : Fin 7, ∑ k : Fin 1024, f ⟨(s.val + 1) % 7 * 1024 + k.val, by omega⟩ := by
  have e : ∑ s : Fin 7, ∑ k : Fin 1024, f ⟨s.val * 1024 + k.val, by omega⟩ = ∑ l, f l :=
    Fin.sum_mul_add_congr fun s k hl => rfl
  rw [← e, Fin.sum_univ_seven, Fin.sum_univ_seven]
  simp only [show ((0 : Fin 7) : ℕ) = 0 from rfl, show ((1 : Fin 7) : ℕ) = 1 from rfl,
    show ((2 : Fin 7) : ℕ) = 2 from rfl, show ((3 : Fin 7) : ℕ) = 3 from rfl, show ((4 : Fin 7) : ℕ) = 4 from rfl,
    show ((5 : Fin 7) : ℕ) = 5 from rfl, show ((6 : Fin 7) : ℕ) = 6 from rfl, Nat.reduceAdd, Nat.reduceMod]
  ac_rfl

/-- What a point adds to the block: the residual's part at the first point of a run, and the product of its blocks. -/
def part (c : Dev nD) (t : Fin cfg0.N) (j : S1024x1024.Idx) : EReal :=
  (if t.val % 7 = 0 then k0_pay1 (F := Ideal) (iblk m c 0 t) j else 0)
    + k0_pay2 (F := Ideal) (fun _ => 0) (iblk m c 1 t) (iblk m c 2 t) j

/-- What a run leaves in its block: the reference's gradient at the array index of each entry. -/
theorem block (c : Dev nD) (t : Fin cfg0.N) (hf : t.val % 7 = 7 - 1) (y : S1024x1024.Idx) :
    ∑ s : Fin 7, part m c ⟨_, Pipeline.run_point_lt_of_flush t hf s⟩ y
      = REF (m ((c : Thread nD τ).loc main_arg0)) (m ((c : Thread nD τ).loc main_arg1)) (m ((c : Thread nD τ).loc main_arg2)) (((cfg0.win 3).blk t).view.emb y) := by
  have hp : ∀ s : Fin 7, 7 * (t.val / 7) + s.val < cfg0.N := fun s => Pipeline.run_point_lt_of_flush t hf s
  have hz : 7 * (t.val / 7) < cfg0.N := hp 0
  have e0 := idx t
  have e1 : ∑ s : Fin 7, (if (7 * (t.val / 7) + s.val) % 7 = 0
      then k0_pay1 (F := Ideal) (iblk m c 0 ⟨_, hp s⟩) y else 0) = k0_pay1 (F := Ideal) (iblk m c 0 ⟨_, hz⟩) y := by
    rw [Finset.sum_eq_single (0 : Fin 7)]
    · rw [if_pos (by simp)]; rfl
    · intro s _ hs
      have hs' : s.val ≠ 0 := fun h => hs (Fin.ext h)
      rw [if_neg (by omega)]
    · intro h; exact absurd (Finset.mem_univ _) h
  unfold part
  rw [Finset.sum_add_distrib, e1, add_comm]
  pointwise [k0_pay1, k0_pay2, REF, val_main_v24, val_main_v23, val_main_v22, val_main_v21, val_main_v3, val_main_cst_1]
  rw [sum_tiles]
  refine congrArg₂ (fun a b : EReal => a + b) (Fin.sum_fin_congr fun s => Fin.sum_fin_congr fun k => ?_) ?_
  · have es := idx ⟨_, hp s⟩
    rw [slab _ _ s k rfl]
    blk_point [iblk, V, e0, es]
  · have es := idx ⟨_, hz⟩
    blk_point [iblk, V, e0, es]

/-- The rows of the result that the run writes hold the reference's gradient; the others what they held before. -/
theorem final (c : Dev nD) : (dats m 0 c).arrAt 3 (cfgs 0).N
    = fun i => if (i 0).val < 4096 then REF (m ((c : Thread nD τ).loc main_arg0)) (m ((c : Thread nD τ).loc main_arg1)) (m ((c : Thread nD τ).loc main_arg2)) i else V m c main_v0 i := by
  refine (dats m 0 c).arrAt_eq_of_coversWhere 3 _ (fun β => β (0 : Fin 2) < 4) (by decide +kernel) (fun t hf y => ?_)
    (fun j => by blk_simp [Pipeline.Window.cell_apply]; omega)
  blk_simp
  rw [after0_3, Pipeline.eq_sum_fin_of_reset_step_apply_of_flush (fun n h => (outsAt0 m c n h)) 7 (fun _ => 0)
    (fun t j => part m c t j)
    (fun t h j => by rw [outsAt0_A m c t h]; frame_out; rw [hpay, zero_add, part, if_pos h])
    (fun t h j => by rw [outsAt0_B m c t h]; frame_out; rw [hpay, part, if_neg h, zero_add])
    t ((flush0_3 t).mp hf) _, zero_add]
  exact block m c t ((flush0_3 t).mp hf) y

end Cert.GradXFirstIdeal.Value

end
-- ==== Proof.GradXSecondValue.lean ====
/- The gradient of the block's input, second half of the rows: what the kernel leaves is the reference's gradient. -/
module

public import proofs.«01_k».proof.Proof.Gen.GradXSecondIdeal.Frame
public import proofs.«01_k».proof.Proof.Gen.GradXSecondRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradXSecondIdeal.Value

open Cert.GradXSecondIdeal Cert.GradXSecondIdeal.Gen
open Cert.GradXSecondRefIdeal.Read

variable (m : (ℓ : Loc nD τ sig) → Buf (Elt Ideal) ℓ)

/-- The reference's gradient, over its arguments. -/
abbrev REF (a0 : FVec Ideal S7x8192x1024 .bf16) (a1 : FVec Ideal S1024x7168 .bf16)
    (a2 : FVec Ideal S8192x1024 .f32) : FVec Ideal S8192x1024 .f32 :=
  val_main_v25 (F := Ideal) a0 a1 a2

/-- Where each window's block lies at a grid point. -/
theorem idx : ∀ t : Fin cfg0.N, win0_0.index t = ![4 + t.val / 7, 0]
    ∧ win0_1.index t = ![t.val % 7, 4 + t.val / 7, 0]
    ∧ win0_2.index t = ![0, (t.val % 7 + 1) % 7]
    ∧ win0_3.index t = ![4 + t.val / 7, 0]
    ∧ t.val / 7 < 4 :=
  (by decide +kernel : ∀ t : Fin grid0.N, _)

/-- The joined slabs, at a column of the weight's order: the columns of one slab are the entries of its plane. -/
theorem slab (x : FVec Ideal S7x8192x1024 .bf16) (i : Cert.GradXSecondRefIdeal.S8192x7168.Idx) (p : Fin 7) (k : Fin 1024)
    (h : (i 1).val = (p.val + 1) % 7 * 1024 + k.val) : val_main_v21 (F := Ideal) x i = x (ix3 p (i 0) k) := by
  obtain ⟨r, l, rfl⟩ : ∃ r l, i = ix2 r l := ⟨i 0, i 1, by ext a; fin_cases a <;> rfl⟩
  obtain ⟨l, hl⟩ := l
  change l = _ at h
  subst h
  fin_cases p
  all_goals
    pointwise [val_main_v21, val_main_v6, val_main_v7, val_main_v8, val_main_v9, val_main_v10, val_main_v11, val_main_v12, val_main_v13, val_main_v14, val_main_v15, val_main_v16, val_main_v17, val_main_v18, val_main_v19, val_main_v20] <;>
      (split_ifs <;> first | omega | (refine congrArg x ?_; blk_ext))

/-- A point adds the product of its two blocks to what the block held. -/
theorem hpay (v3 : Vec Ideal S1024x1024 .f32) (v4 : Vec Ideal S1x1024x1024 .bf16) (v6 : Vec Ideal S1024x1024 .bf16)
    (j : S1024x1024.Idx) : k0_pay2 v3 v4 v6 j = v3 j + k0_pay2 (fun _ => 0) v4 v6 j := by
  pointwise [k0_pay2]

/-- A sum over all columns, taken in seven tiles beginning with the second. -/
theorem sum_tiles (f : Fin 7168 → EReal) : ∑ l, f l
    = ∑ s : Fin 7, ∑ k : Fin 1024, f ⟨(s.val + 1) % 7 * 1024 + k.val, by omega⟩ := by
  have e : ∑ s : Fin 7, ∑ k : Fin 1024, f ⟨s.val * 1024 + k.val, by omega⟩ = ∑ l, f l :=
    Fin.sum_mul_add_congr fun s k hl => rfl
  rw [← e, Fin.sum_univ_seven, Fin.sum_univ_seven]
  simp only [show ((0 : Fin 7) : ℕ) = 0 from rfl, show ((1 : Fin 7) : ℕ) = 1 from rfl,
    show ((2 : Fin 7) : ℕ) = 2 from rfl, show ((3 : Fin 7) : ℕ) = 3 from rfl, show ((4 : Fin 7) : ℕ) = 4 from rfl,
    show ((5 : Fin 7) : ℕ) = 5 from rfl, show ((6 : Fin 7) : ℕ) = 6 from rfl, Nat.reduceAdd, Nat.reduceMod]
  ac_rfl

/-- What a point adds to the block: the residual's part at the first point of a run, and the product of its blocks. -/
def part (c : Dev nD) (t : Fin cfg0.N) (j : S1024x1024.Idx) : EReal :=
  (if t.val % 7 = 0 then k0_pay1 (F := Ideal) (iblk m c 0 t) j else 0)
    + k0_pay2 (F := Ideal) (fun _ => 0) (iblk m c 1 t) (iblk m c 2 t) j

/-- What a run leaves in its block: the reference's gradient at the array index of each entry. -/
theorem block (c : Dev nD) (t : Fin cfg0.N) (hf : t.val % 7 = 7 - 1) (y : S1024x1024.Idx) :
    ∑ s : Fin 7, part m c ⟨_, Pipeline.run_point_lt_of_flush t hf s⟩ y
      = REF (m ((c : Thread nD τ).loc main_arg0)) (m ((c : Thread nD τ).loc main_arg1)) (m ((c : Thread nD τ).loc main_arg2)) (((cfg0.win 3).blk t).view.emb y) := by
  have hp : ∀ s : Fin 7, 7 * (t.val / 7) + s.val < cfg0.N := fun s => Pipeline.run_point_lt_of_flush t hf s
  have hz : 7 * (t.val / 7) < cfg0.N := hp 0
  have e0 := idx t
  have e1 : ∑ s : Fin 7, (if (7 * (t.val / 7) + s.val) % 7 = 0
      then k0_pay1 (F := Ideal) (iblk m c 0 ⟨_, hp s⟩) y else 0) = k0_pay1 (F := Ideal) (iblk m c 0 ⟨_, hz⟩) y := by
    rw [Finset.sum_eq_single (0 : Fin 7)]
    · rw [if_pos (by simp)]; rfl
    · intro s _ hs
      have hs' : s.val ≠ 0 := fun h => hs (Fin.ext h)
      rw [if_neg (by omega)]
    · intro h; exact absurd (Finset.mem_univ _) h
  unfold part
  rw [Finset.sum_add_distrib, e1, add_comm]
  pointwise [k0_pay1, k0_pay2, REF, val_main_v25, val_main_v24, val_main_v23, val_main_v22, val_main_v4, val_main_cst_1]
  rw [sum_tiles]
  refine congrArg₂ (fun a b : EReal => a + b) (Fin.sum_fin_congr fun s => Fin.sum_fin_congr fun k => ?_) ?_
  · have es := idx ⟨_, hp s⟩
    rw [slab _ _ s k rfl]
    blk_point [iblk, V, e0, es]
  · have es := idx ⟨_, hz⟩
    blk_point [iblk, V, e0, es]

/-- In the second half of the rows the joined result is the gradient itself. -/
theorem late (a0 : FVec Ideal S7x8192x1024 .bf16) (a1 : FVec Ideal S1024x7168 .bf16)
    (a2 a3 : FVec Ideal S8192x1024 .f32) (i : S8192x1024.Idx) (h : 4096 ≤ (i 0).val) :
    val_main_v27 (F := Ideal) a0 a1 a2 a3 i = REF a0 a1 a2 i := by
  obtain ⟨r, l, rfl⟩ : ∃ r l, i = ix2 r l := ⟨i 0, i 1, by ext a; fin_cases a <;> rfl⟩
  have h' : ¬ r.val < 4096 := by simpa using h
  unfold REF
  generalize hb : val_main_v25 (F := Ideal) a0 a1 a2 = b
  pointwise [val_main_v27, val_main_v26, hb]
  rw [dif_neg h']
  refine congrArg b ?_
  blk_ext

/-- The rows of the result that the run writes hold the reference's gradient; the others what they held before. -/
theorem final (c : Dev nD) : (dats m 0 c).arrAt 3 (cfgs 0).N
    = fun i => if 4096 ≤ (i 0).val then val_main_v27 (F := Ideal) (m ((c : Thread nD τ).loc main_arg0)) (m ((c : Thread nD τ).loc main_arg1)) (m ((c : Thread nD τ).loc main_arg2)) (m ((c : Thread nD τ).loc main_arg3)) i else V m c main_v0 i := by
  refine (dats m 0 c).arrAt_eq_of_coversWhere 3 _ (fun β => 4 ≤ β (0 : Fin 2)) (by decide +kernel) (fun t hf y => ?_)
    (fun j => by blk_simp [Pipeline.Window.cell_apply]; omega)
  blk_simp
  rw [after0_3, Pipeline.eq_sum_fin_of_reset_step_apply_of_flush (fun n h => (outsAt0 m c n h)) 7 (fun _ => 0)
    (fun t j => part m c t j)
    (fun t h j => by rw [outsAt0_A m c t h]; frame_out; rw [hpay, zero_add, part, if_pos h])
    (fun t h j => by rw [outsAt0_B m c t h]; frame_out; rw [hpay, part, if_neg h, zero_add])
    t ((flush0_3 t).mp hf) _, zero_add]
  exact (block m c t ((flush0_3 t).mp hf) y).trans (late _ _ _ _ _ (by blk_simp [idx t]; omega)).symm

/-- The first half of the reference's rows is the array it was given. -/
theorem early (a0 : FVec Ideal S7x8192x1024 .bf16) (a1 : FVec Ideal S1024x7168 .bf16) (a2 a3 : FVec Ideal S8192x1024 .f32)
    (i : S8192x1024.Idx) (h : ¬ 4096 ≤ (i 0).val) : val_main_v27 (F := Ideal) a0 a1 a2 a3 i = a3 i := by
  obtain ⟨r, l, rfl⟩ : ∃ r l, i = ix2 r l := ⟨i 0, i 1, by ext a; fin_cases a <;> rfl⟩
  have h' : r.val < 4096 := by
    have h : ¬ 4096 ≤ r.val := h
    omega
  generalize hb : val_main_v26 (F := Ideal) a0 a1 a2 = b
  pointwise [val_main_v27, val_main_v0, hb]
  rw [dif_pos h']

/-- The whole result: the first half as it was given, the second half the reference's gradient. -/
theorem whole (c : Dev nD) : (dats m 0 c).arrAt 3 (cfgs 0).N
    = val_main_v27 (F := Ideal) (m ((c : Thread nD τ).loc main_arg0)) (m ((c : Thread nD τ).loc main_arg1)) (m ((c : Thread nD τ).loc main_arg2)) (m ((c : Thread nD τ).loc main_arg3)) := by
  rw [final]
  funext i
  by_cases h : 4096 ≤ (i 0).val
  · exact if_pos h
  · refine (if_neg h).trans (Eq.trans ?_ (early _ _ _ _ i h).symm)
    have e : V m c main_v0 = m ((c : Thread nD τ).loc main_arg3) := by entry_read; rfl
    exact congrFun e i

end Cert.GradXSecondIdeal.Value

end
-- ==== Proof.FfnInValue.lean ====
/- The channel mixer's first product: what the kernel leaves is the reference's product. -/
module

public import proofs.«01_k».proof.Proof.Gen.FfnInIdeal.Frame
public import proofs.«01_k».proof.Proof.Gen.FfnInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen
open Cert.FfnInRefIdeal.Read

variable (m : (ℓ : Loc nD τ sig) → Buf (Elt Ideal) ℓ)

/-- The reference's product, over its two arguments. -/
abbrev REF (a0 : FVec Ideal S8192x1024 .bf16) (a1 : FVec Ideal S1024x5632 .bf16) : FVec Ideal S8192x5632 .f32 :=
  val_main_v2 (F := Ideal) a0 a1

/-- Where each window's block lies at a grid point. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- What a point stores at an index of its block is the reference at the array index that this is. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF, val_main_v2, val_main_v1, val_main_v0]
  blk_point [iblk, V, idx t]

/-- The product after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.FfnInIdeal.Value

end
-- ==== Proof.GradWFfnInValue.lean ====
/- The gradient of the channel mixer's first weight: what the kernel leaves is the reference's gradient. -/
module

public import proofs.«01_k».proof.Proof.Gen.GradWFfnInIdeal.Frame
public import proofs.«01_k».proof.Proof.Gen.GradWFfnInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWFfnInIdeal.Value

open Cert.GradWFfnInIdeal Cert.GradWFfnInIdeal.Gen
open Cert.GradWFfnInRefIdeal.Read

variable (m : (ℓ : Loc nD τ sig) → Buf (Elt Ideal) ℓ)

/-- The reference's gradient, over its three arguments. -/
abbrev REF (a0 : FVec Ideal S8192x1024 .bf16) (a1 a2 : FVec Ideal S8192x2816 .bf16) : FVec Ideal S1024x5632 .f32 :=
  val_main_v6 (F := Ideal) a0 a1 a2

/-- Where each window's block lies at a grid point. -/
theorem idx : ∀ t : Fin cfg0.N, win0_0.index t = ![t.val % 8, 0]
    ∧ (t.val < 16 → win0_1.index t = ![t.val % 8, t.val / 8])
    ∧ (16 ≤ t.val → win0_2.index t = ![t.val % 8, t.val / 8 - 2])
    ∧ win0_3.index t = ![0, t.val / 8]
    ∧ t.val < 32 :=
  (by decide +kernel : ∀ t : Fin grid0.N, _)

/-- The first point of a run fills its block with zero. -/
theorem hzero (j : S1024x1408.Idx) : k0_pay1 (F := Ideal) j = 0 := by
  pointwise! [k0_pay1]

/-- A point of the first half adds the product of its two blocks to what the block held. -/
theorem hpay2 (v13 : Vec Ideal S1024x1408 .bf16) (v14 : Vec Ideal S1024x1408 .f32) (v15 : Vec Ideal S1024x1024 .bf16)
    (j : S1024x1408.Idx) : k0_pay2 v13 v14 v15 j = v14 j + k0_pay2 v13 (fun _ => 0) v15 j := by
  pointwise [k0_pay2]

/-- A point of the second half does the same. -/
theorem hpay3 (v13 : Vec Ideal S1024x1408 .bf16) (v14 : Vec Ideal S1024x1408 .f32) (v15 : Vec Ideal S1024x1024 .bf16)
    (j : S1024x1408.Idx) : k0_pay3 v13 v14 v15 j = v14 j + k0_pay2 v13 (fun _ => 0) v15 j := by
  pointwise [k0_pay3, k0_pay2]

/-- The joined array at a column of the first half. -/
theorem join_lo (x1 x2 : FVec Ideal S8192x2816 .bf16) (i : Cert.GradWFfnInRefIdeal.S8192x5632.Idx) (k : Fin 2816)
    (h : (i 1).val = k.val) : val_main_v0 (F := Ideal) x1 x2 i = x1 (ix2 (i 0) k) := by
  obtain ⟨r, l, rfl⟩ : ∃ r l, i = ix2 r l := ⟨i 0, i 1, by ext a; fin_cases a <;> rfl⟩
  have hl : l.val = k.val := h
  pointwise [val_main_v0]
  rw [dif_pos (by omega)]
  congr 1
  blk_ext [hl]

/-- The joined array at a column of the second half. -/
theorem join_hi (x1 x2 : FVec Ideal S8192x2816 .bf16) (i : Cert.GradWFfnInRefIdeal.S8192x5632.Idx) (k : Fin 2816)
    (h : (i 1).val = 2816 + k.val) : val_main_v0 (F := Ideal) x1 x2 i = x2 (ix2 (i 0) k) := by
  obtain ⟨r, l, rfl⟩ : ∃ r l, i = ix2 r l := ⟨i 0, i 1, by ext a; fin_cases a <;> rfl⟩
  have hl : l.val = 2816 + k.val := h
  pointwise [val_main_v0]
  rw [dif_neg (by omega)]
  congr 1
  blk_ext [hl]

/-- The block of the second operand that a point reads: of the first array in the first half, of the second after. -/
def right (c : Dev nD) (t : Fin cfg0.N) : Vec Ideal S1024x1408 .bf16 :=
  if t.val < 16 then iblk m c 1 t else iblk m c 2 t

/-- The row block of the first operand that a point reads. -/
theorem left_apply (c : Dev nD) (p : Fin cfg0.N) (k a : Fin 1024) :
    iblk (F := Ideal) m c 0 p (ix2 k a)
      = m ((c : Thread nD τ).loc main_arg0) (ix2 ⟨p.val % 8 * 1024 + k.val, by omega⟩ a) := by
  have e := (idx p).1
  blk_point [iblk, V, e]

/-- The block of the second operand that a point of the first half reads. -/
theorem right_lo (c : Dev nD) (p : Fin cfg0.N) (h : p.val < 16) (k : Fin 1024) (l : Fin 1408) :
    right m c p (ix2 k l)
      = m ((c : Thread nD τ).loc main_arg1) (ix2 ⟨p.val % 8 * 1024 + k.val, by omega⟩ ⟨p.val / 8 * 1408 + l.val, by omega⟩) := by
  have e := (idx p).2.1 h
  rw [right, if_pos h]
  blk_point [iblk, V, e]

/-- The block of the second operand that a point of the second half reads. -/
theorem right_hi (c : Dev nD) (p : Fin cfg0.N) (h : ¬ p.val < 16) (k : Fin 1024) (l : Fin 1408) :
    right m c p (ix2 k l)
      = m ((c : Thread nD τ).loc main_arg2) (ix2 ⟨p.val % 8 * 1024 + k.val, by omega⟩ ⟨(p.val / 8 - 2) * 1408 + l.val, by have := (idx p).2.2.2.2; omega⟩) := by
  have e := (idx p).2.2.1 (not_lt.mp h)
  rw [right, if_neg h]
  blk_point [iblk, V, e]

/-- The column of the array that a column of a point's block is. -/
theorem col (c : Dev nD) (t : Fin cfg0.N) (y) : ((((cfg0.win 3).blk t).view.emb y) 1).val = t.val / 8 * 1408 + (y 1).val := by
  have e := (idx t).2.2.2.1
  blk_simp [e]

theorem row (c : Dev nD) (t : Fin cfg0.N) (y) : ((((cfg0.win 3).blk t).view.emb y) 0).val = (y 0).val := by
  have e := (idx t).2.2.2.1
  blk_simp [e]

/-- The gradient after the run is the reference's. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h)) 8 (fun _ => 0)
    (fun t j => k0_pay2 (right m c t) (fun _ => 0) (iblk m c 0 t) j)
    (fun t h j => by
      by_cases h1 : t.val < 16
      · rw [outsAt0_A m c t h h1 (by omega)]; frame_out; rw [hpay2, hzero, right, if_pos h1]
      · rw [outsAt0_C m c t h h1 (by omega)]; frame_out; rw [hpay3, hzero, right, if_neg h1])
    (fun t h j => by
      by_cases h1 : t.val < 16
      · rw [outsAt0_B m c t h h1 (by omega)]; frame_out; rw [hpay2, right, if_pos h1]
      · rw [outsAt0_D m c t h h1 (by omega)]; frame_out; rw [hpay3, right, if_neg h1])
    t ((flush0_3 t).mp hf) _, zero_add]
  pointwise [k0_pay2, REF, val_main_v6, val_main_v5, val_main_v4, val_main_v2]
  refine Fin.sum_mul_add_congr fun s k hl => ?_
  have e0 := (idx t).2.2.2
  have hy : (y 1).val < 1408 := (y 1).isLt
  have es := idx ⟨_, Pipeline.run_point_lt_of_flush t ((flush0_3 t).mp hf) s⟩
  by_cases ht : t.val < 16
  · have hs : 8 * (t.val / 8) + s.val < 16 := by omega
    rw [join_lo _ _ _ ⟨t.val / 8 * 1408 + (y 1).val, by omega⟩ (col c t y)]
    refine (EReal.mul_comm _ _).trans ?_
    refine congrArg₂ (fun a b : EReal => a * b) ((right_lo m c _ hs k _).trans ?_) ((left_apply m c _ k _).trans ?_)
    · exact congrArg₂ (fun a b => m ((c : Thread nD τ).loc main_arg1) (ix2 a b))
        (Fin.ext (show (8 * (t.val / 8) + s.val) % 8 * 1024 + k.val = s.val * 1024 + k.val by omega))
        (Fin.ext (show (8 * (t.val / 8) + s.val) / 8 * 1408 + (y 1).val = t.val / 8 * 1408 + (y 1).val by omega))
    · exact congrArg₂ (fun a b => m ((c : Thread nD τ).loc main_arg0) (ix2 a b))
        (Fin.ext (show (8 * (t.val / 8) + s.val) % 8 * 1024 + k.val = s.val * 1024 + k.val by omega))
        (Fin.ext (row c t y).symm)
  · have hs : ¬8 * (t.val / 8) + s.val < 16 := by omega
    rw [join_hi _ _ _ ⟨(t.val / 8 - 2) * 1408 + (y 1).val, by omega⟩ ((col c t y).trans
      (show t.val / 8 * 1408 + (y 1).val = 2816 + ((t.val / 8 - 2) * 1408 + (y 1).val) by omega))]
    refine (EReal.mul_comm _ _).trans ?_
    refine congrArg₂ (fun a b : EReal => a * b) ((right_hi m c _ hs k _).trans ?_) ((left_apply m c _ k _).trans ?_)
    · exact congrArg₂ (fun a b => m ((c : Thread nD τ).loc main_arg2) (ix2 a b))
        (Fin.ext (show (8 * (t.val / 8) + s.val) % 8 * 1024 + k.val = s.val * 1024 + k.val by omega))
        (Fin.ext (show ((8 * (t.val / 8) + s.val) / 8 - 2) * 1408 + (y 1).val = (t.val / 8 - 2) * 1408 + (y 1).val by omega))
    · exact congrArg₂ (fun a b => m ((c : Thread nD τ).loc main_arg0) (ix2 a b))
        (Fin.ext (show (8 * (t.val / 8) + s.val) % 8 * 1024 + k.val = s.val * 1024 + k.val by omega))
        (Fin.ext (row c t y).symm)

end Cert.GradWFfnInIdeal.Value

end
-- ==== Proof.GradWFfnOutValue.lean ====
/- The gradient of the channel mixer's second weight: what the kernel leaves is the reference's gradient. -/
module

public import proofs.«01_k».proof.Proof.Gen.GradWFfnOutIdeal.Frame
public import proofs.«01_k».proof.Proof.Gen.GradWFfnOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWFfnOutIdeal.Value

open Cert.GradWFfnOutIdeal Cert.GradWFfnOutIdeal.Gen
open Cert.GradWFfnOutRefIdeal.Read

variable (m : (ℓ : Loc nD τ sig) → Buf (Elt Ideal) ℓ)

/-- The reference's gradient, over its two arguments. -/
abbrev REF (a0 : FVec Ideal S8192x2816 .bf16) (a1 : FVec Ideal S8192x1024 .bf16) : FVec Ideal S2816x1024 .f32 :=
  val_main_v5 (F := Ideal) a0 a1

/-- Where each window's block lies at a grid point. -/
theorem idx : ∀ t : Fin cfg0.N, win0_0.index t = ![t.val % 8, 0]
    ∧ win0_1.index t = ![t.val % 8, t.val / 8]
    ∧ win0_2.index t = ![0, t.val / 8]
    ∧ t.val / 8 < 2 :=
  (by decide +kernel : ∀ t : Fin grid0.N, _)

/-- The first point of a run fills its block with zero. -/
theorem hzero (j : S2816x512.Idx) : k0_pay1 (F := Ideal) j = 0 := by
  pointwise! [k0_pay1]

/-- A point adds the product of its two blocks to what the block held. -/
theorem hpay (v8 : Vec Ideal S1024x512 .bf16) (v9 : Vec Ideal S2816x512 .f32) (v10 : Vec Ideal S1024x2816 .bf16)
    (j : S2816x512.Idx) : k0_pay2 v8 v9 v10 j = v9 j + k0_pay2 v8 (fun _ => 0) v10 j := by
  pointwise [k0_pay2]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 8 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF, val_main_v5, val_main_v4, val_main_v3, val_main_v1]
  refine Fin.sum_mul_add_congr fun s k hl => (EReal.mul_comm _ _).trans ?_
  blk_point [iblk, V, idx t, idx ⟨_, Pipeline.run_point_lt_of_flush t ((flush0_2 t).mp hf) s⟩]

end Cert.GradWFfnOutIdeal.Value

end
-- ==== Proof.GradWOutValue.lean ====
/- The gradient of the merge's output weight: what the kernel leaves is the reference's gradient. -/
module

public import proofs.«01_k».proof.Proof.Gen.GradWOutIdeal.Frame
public import proofs.«01_k».proof.Proof.Gen.GradWOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWOutIdeal.Value

open Cert.GradWOutIdeal Cert.GradWOutIdeal.Gen
open Cert.GradWOutRefIdeal.Read

variable (m : (ℓ : Loc nD τ sig) → Buf (Elt Ideal) ℓ)

/-- The reference's gradient, over its two arguments. -/
abbrev REF (a0 : FVec Ideal S8192x1024 .bf16) (a1 : FVec Ideal S8192x1024 .bf16) : FVec Ideal S1024x1024 .f32 :=
  val_main_v5 (F := Ideal) a0 a1

/-- Where each window's block lies at a grid point. -/
theorem idx : ∀ t : Fin cfg0.N, win0_0.index t = ![t.val % 8, 0]
    ∧ win0_1.index t = ![t.val % 8, t.val / 8]
    ∧ win0_2.index t = ![0, t.val / 8]
    ∧ t.val / 8 < 1 :=
  (by decide +kernel : ∀ t : Fin grid0.N, _)

/-- The first point of a run fills its block with zero. -/
theorem hzero (j : S1024x1024.Idx) : k0_pay1 (F := Ideal) j = 0 := by
  pointwise! [k0_pay1]

/-- A point adds the product of its two blocks to what the block held. -/
theorem hpay (v8 : Vec Ideal S1024x1024 .bf16) (v9 : Vec Ideal S1024x1024 .f32) (v10 : Vec Ideal S1024x1024 .bf16)
    (j : S1024x1024.Idx) : k0_pay2 v8 v9 v10 j = v9 j + k0_pay2 v8 (fun _ => 0) v10 j := by
  pointwise [k0_pay2]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 8 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF, val_main_v5, val_main_v4, val_main_v3, val_main_v1]
  refine Fin.sum_mul_add_congr fun s k hl => (EReal.mul_comm _ _).trans ?_
  blk_point [iblk, V, idx t, idx ⟨_, Pipeline.run_point_lt_of_flush t ((flush0_2 t).mp hf) s⟩]

end Cert.GradWOutIdeal.Value

end
-- ==== Proof.GradWConvOutValue.lean ====
/- The gradient of the convolution branch's output weight: what the kernel leaves is the reference's gradient. -/
module

public import proofs.«01_k».proof.Proof.Gen.GradWConvOutIdeal.Frame
public import proofs.«01_k».proof.Proof.Gen.GradWConvOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWConvOutIdeal.Value

open Cert.GradWConvOutIdeal Cert.GradWConvOutIdeal.Gen
open Cert.GradWConvOutRefIdeal.Read

variable (m : (ℓ : Loc nD τ sig) → Buf (Elt Ideal) ℓ)

/-- The reference's gradient, over its two arguments. -/
abbrev REF (a0 : FVec Ideal S8192x512 .bf16) (a1 : FVec Ideal S2x8192x1024 .bf16) : FVec Ideal S512x1024 .f32 :=
  val_main_v7 (F := Ideal) a0 a1

/-- Where each window's block lies at a grid point. -/
theorem idx : ∀ t : Fin cfg0.N, win0_0.index t = ![t.val % 8, 0]
    ∧ win0_1.index t = ![0, t.val % 8, t.val / 8]
    ∧ win0_2.index t = ![0, t.val / 8]
    ∧ t.val / 8 < 1 :=
  (by decide +kernel : ∀ t : Fin grid0.N, _)

/-- The first point of a run fills its block with zero. -/
theorem hzero (j : S512x1024.Idx) : k0_pay1 (F := Ideal) j = 0 := by
  pointwise! [k0_pay1]

/-- A point adds the product of its two blocks to what the block held. -/
theorem hpay (v8 : Vec Ideal S1x1024x1024 .bf16) (v9 : Vec Ideal S512x1024 .f32) (v10 : Vec Ideal S1024x512 .bf16)
    (j : S512x1024.Idx) : k0_pay2 v8 v9 v10 j = v9 j + k0_pay2 v8 (fun _ => 0) v10 j := by
  pointwise [k0_pay2]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 8 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF, val_main_v7, val_main_v6, val_main_v5, val_main_v3, val_main_v1, val_main_v0]
  refine Fin.sum_mul_add_congr fun s k hl => (EReal.mul_comm _ _).trans ?_
  blk_point [iblk, V, idx t, idx ⟨_, Pipeline.run_point_lt_of_flush t ((flush0_2 t).mp hf) s⟩]

end Cert.GradWConvOutIdeal.Value

end
-- ==== Proof.GradWHgrnOutValue.lean ====
/- The gradient of the recurrence branch's output weight: what the kernel leaves is the reference's gradient. -/
module

public import proofs.«01_k».proof.Proof.Gen.GradWHgrnOutIdeal.Frame
public import proofs.«01_k».proof.Proof.Gen.GradWHgrnOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWHgrnOutIdeal.Value

open Cert.GradWHgrnOutIdeal Cert.GradWHgrnOutIdeal.Gen
open Cert.GradWHgrnOutRefIdeal.Read

variable (m : (ℓ : Loc nD τ sig) → Buf (Elt Ideal) ℓ)

/-- The reference's gradient, over its two arguments. -/
abbrev REF (a0 : FVec Ideal S8192x1024 .bf16) (a1 : FVec Ideal S2x8192x1024 .bf16) : FVec Ideal S1024x1024 .f32 :=
  val_main_v7 (F := Ideal) a0 a1

/-- Where each window's block lies at a grid point. -/
theorem idx : ∀ t : Fin cfg0.N, win0_0.index t = ![t.val % 8, 0]
    ∧ win0_1.index t = ![1, t.val % 8, t.val / 8]
    ∧ win0_2.index t = ![0, t.val / 8]
    ∧ t.val / 8 < 1 :=
  (by decide +kernel : ∀ t : Fin grid0.N, _)

/-- The first point of a run fills its block with zero. -/
theorem hzero (j : S1024x1024.Idx) : k0_pay1 (F := Ideal) j = 0 := by
  pointwise! [k0_pay1]

/-- A point adds the product of its two blocks to what the block held. -/
theorem hpay (v8 : Vec Ideal S1x1024x1024 .bf16) (v9 : Vec Ideal S1024x1024 .f32) (v10 : Vec Ideal S1024x1024 .bf16)
    (j : S1024x1024.Idx) : k0_pay2 v8 v9 v10 j = v9 j + k0_pay2 v8 (fun _ => 0) v10 j := by
  pointwise [k0_pay2]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 8 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF, val_main_v7, val_main_v6, val_main_v5, val_main_v3, val_main_v1, val_main_v0]
  refine Fin.sum_mul_add_congr fun s k hl => (EReal.mul_comm _ _).trans ?_
  blk_point [iblk, V, idx t, idx ⟨_, Pipeline.run_point_lt_of_flush t ((flush0_2 t).mp hf) s⟩]

end Cert.GradWHgrnOutIdeal.Value

end
-- ==== Proof.MergeFwdValue.lean ====
/- What the forward gated merge computes, against the reference. -/
module

public import proofs.«01_k».proof.Proof.Gen.MergeFwdIdeal.Frame
public import proofs.«01_k».proof.Proof.Gen.MergeFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen
open Cert.MergeFwdRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![t.val, 0]
    ∧ win0_2.index t = ![t.val, 5]
    ∧ win0_3.index t = ![t.val, 6]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, t.val, 0]
    ∧ win0_11.index t = ![t.val, 0]
    ∧ win0_12.index t = ![t.val, 0]
    ∧ win0_13.index t = ![t.val, 0]
    ∧ win0_14.index t = ![t.val, 0] :=
  (by decide +kernel : ∀ t : Fin grid0.N, _)

abbrev XP := FVec Ideal S8192x7168 .f32

/-- The array row of a row of a point's blocks. -/
def row (t : Fin cfg0.N) (j : Fin 256) : Fin 8192 := ⟨t.val * 256 + j.val, by have h : t.val < 32 := t.isLt; omega⟩

/-- The gate of the first branch, at a row and a column. -/
def g0 (x2 : XP) (r : Fin 8192) (l : Fin 1024) : EReal := Ideal.logistic (x2 (ix2 r ⟨5120 + l.val, by omega⟩))
/-- The gate of the second branch. -/
def g1 (x2 : XP) (r : Fin 8192) (l : Fin 1024) : EReal := Ideal.logistic (x2 (ix2 r ⟨6144 + l.val, by omega⟩))

/-- The reference's gates, both in one array. -/
theorem ref_v12 (x2 : XP) (r : Fin 8192) (l : Fin 2048) :
    val_main_v12 (F := Ideal) x2 (ix2 r l) = Ideal.logistic (x2 (ix2 r ⟨5120 + l.val, by omega⟩)) := by
  pointwise [Ideal.logistic, val_main_v12, val_main_v11, val_main_v10, val_main_v9, val_main_v8, val_main_v7, val_main_v6,
    val_main_cst, val_main_cst_0]

theorem ref_v15 (x2 : XP) (r : Fin 8192) (l : Fin 1024) : val_main_v15 (F := Ideal) x2 (ix2 r l) = g0 x2 r l := by
  have h := ref_v12 x2 r ⟨l.val, by omega⟩
  revert h
  generalize hb : val_main_v12 (F := Ideal) x2 = b
  intro h
  refine Eq.trans ?_ h
  pointwise [val_main_v15, val_main_v14, val_main_v13, hb]
  try (refine congrArg b ?_; blk_ext)

theorem ref_v18 (x2 : XP) (r : Fin 8192) (l : Fin 1024) : val_main_v18 (F := Ideal) x2 (ix2 r l) = g1 x2 r l := by
  have h := ref_v12 x2 r ⟨1024 + l.val, by omega⟩
  have e : g1 x2 r l = Ideal.logistic (x2 (ix2 r ⟨5120 + (1024 + l.val), by omega⟩)) := by
    exact congrArg (fun k => Ideal.logistic (x2 (ix2 r k))) (Fin.ext (show 6144 + l.val = 5120 + (1024 + l.val) by omega))
  rw [e]
  revert h
  generalize hb : val_main_v12 (F := Ideal) x2 = b
  intro h
  refine Eq.trans ?_ h
  pointwise [val_main_v18, val_main_v17, val_main_v13, hb]
  try (refine congrArg b ?_; blk_ext)

/-- The first branch's projection. -/
theorem pay6 (c : Dev nD) (t : Fin cfg0.N) (j : Fin 256) (l : Fin 1024) :
    k0_pay6 (F := Ideal) (iblk m c 0 t) (iblk m c 5 t) (ix2 j l) = val_main_v2 (F := Ideal) (m ((c : Thread nD τ).loc main_arg0)) (m ((c : Thread nD τ).loc main_arg4)) (ix2 (row t j) l) := by
  pointwise [k0_pay6, row, val_main_v2, val_main_v0, val_main_v1]
  blk_point [iblk, V, idx t]

/-- The second branch's projection. -/
theorem pay7 (c : Dev nD) (t : Fin cfg0.N) (j : Fin 256) (l : Fin 1024) :
    k0_pay7 (F := Ideal) (iblk m c 1 t) (iblk m c 6 t) (ix2 j l) = val_main_v5 (F := Ideal) (m ((c : Thread nD τ).loc main_arg1)) (m ((c : Thread nD τ).loc main_arg5)) (ix2 (row t j) l) := by
  pointwise [k0_pay7, row, val_main_v5, val_main_v3, val_main_v4]
  blk_point [iblk, V, idx t]

/-- The gates, as a point computes them. -/
theorem gate0 (c : Dev nD) (t : Fin cfg0.N) (j : Fin 256) (l : Fin 1024) :
    Ideal.logistic (iblk (F := Ideal) m c 2 t (ix2 j l)) = g0 (m ((c : Thread nD τ).loc main_arg2)) (row t j) l := by
  unfold g0 row
  blk_point [iblk, V, idx t]

theorem gate1 (c : Dev nD) (t : Fin cfg0.N) (j : Fin 256) (l : Fin 1024) :
    Ideal.logistic (iblk (F := Ideal) m c 3 t (ix2 j l)) = g1 (m ((c : Thread nD τ).loc main_arg2)) (row t j) l := by
  unfold g1 row
  blk_point [iblk, V, idx t]

/-- The merged branches. -/
theorem pay10 (c : Dev nD) (t : Fin cfg0.N) (j : Fin 256) (l : Fin 1024) :
    k0_pay10 (F := Ideal) (iblk m c 0 t) (iblk m c 5 t) (iblk m c 1 t) (iblk m c 6 t) (iblk m c 2 t) (iblk m c 3 t) (ix2 j l)
      = val_main_v21 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 (row t j) l) := by
  rw [val_main_v21_apply, val_main_v20_apply, val_main_v16_apply, val_main_v19_apply, ref_v15, ref_v18, ← pay6 m c t, ← pay7 m c t,
    ← gate0 m c t, ← gate1 m c t]
  generalize h6 : k0_pay6 (F := Ideal) (iblk m c 0 t) (iblk m c 5 t) = b6
  generalize h7 : k0_pay7 (F := Ideal) (iblk m c 1 t) (iblk m c 6 t) = b7
  pointwise [k0_pay10, h6, h7]

/-- The sum that is normalised. -/
theorem pay1 (c : Dev nD) (t : Fin cfg0.N) (j : Fin 256) (l : Fin 1024) :
    k0_pay1 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (ix2 j l)
      = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t j) l) := by
  unfold k0_pay14 k0_pay15
  simp (disch := decide) only [r0_0, r0_1, r0_2, r0_3, View.ld_unit_lit']
  have h := pay10 m c t
  unfold k0_pay13
  generalize k0_pay10 (F := Ideal) (iblk m c 0 t) (iblk m c 5 t) (iblk m c 1 t) (iblk m c 6 t) (iblk m c 2 t) (iblk m c 3 t) = b at h ⊢
  generalize hR : val_main_v21 (F := Ideal) (m ((c : Thread nD τ).loc main_arg0)) (m ((c : Thread nD τ).loc main_arg1)) (m ((c : Thread nD τ).loc main_arg2)) (m ((c : Thread nD τ).loc main_arg4)) (m ((c : Thread nD τ).loc main_arg5)) = R at h
  pointwise [k0_pay1, k0_pay12, val_main_v27, val_main_v23, val_main_v22, val_main_cst_1, val_main_v26, val_main_v25, val_main_v24, hR, h]
  unfold row
  blk_point [iblk, V, idx t]

/-- The normalised sum. -/
theorem pay3 (c : Dev nD) (t : Fin cfg0.N) (j : Fin 256) (l : Fin 1024) :
    k0_pay3 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) (ix2 j l)
      = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t j) l) := by
  have h := pay1 m c t
  generalize k0_pay14 (F := Ideal) (iblk m c 0 t) (iblk m c 1 t) (iblk m c 2 t) (iblk m c 3 t) (iblk m c 4 t) (iblk m c 5 t) (iblk m c 6 t) (iblk m c 7 t) (iblk m c 8 t) (iblk m c 9 t) = p at h ⊢
  generalize k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) = q at h ⊢
  unfold k0_pay3
  generalize k0_pay1 (F := Ideal) p q = b at h ⊢
  generalize hR : val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = R at h
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_v29, val_main_v28, val_main_cst_2, val_main_cst_3, val_main_cst_4,
    val_main_cst_5, val_main_cst_6, hR, h]
  blk_point [iblk, V, idx t]

/-- The pair of the branches' projections. -/
theorem ref_v52_0 (x0 : FVec Ideal S8192x512 .bf16) (x1 : FVec Ideal S8192x1024 .bf16) (x4 : FVec Ideal S512x1024 .bf16)
    (x5 : FVec Ideal S1024x1024 .bf16) (r : Fin 8192) (l : Fin 1024) :
    val_main_v52 (F := Ideal) x0 x1 x4 x5 (ix3 0 r l) = val_main_v2 (F := Ideal) x0 x4 (ix2 r l) := by
  generalize hb : val_main_v2 (F := Ideal) x0 x4 = b
  pointwise [val_main_v52, val_main_v51, val_main_v50, hb]

theorem ref_v52_1 (x0 : FVec Ideal S8192x512 .bf16) (x1 : FVec Ideal S8192x1024 .bf16) (x4 : FVec Ideal S512x1024 .bf16)
    (x5 : FVec Ideal S1024x1024 .bf16) (r : Fin 8192) (l : Fin 1024) :
    val_main_v52 (F := Ideal) x0 x1 x4 x5 (ix3 1 r l) = val_main_v5 (F := Ideal) x1 x5 (ix2 r l) := by
  generalize hb : val_main_v5 (F := Ideal) x1 x5 = b
  pointwise [val_main_v52, val_main_v51, val_main_v50, hb]

theorem cell_10 (c : Dev nD) (t : Fin cfg0.N) (b : Fin 2) (j : Fin 256) (l : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 b j l) = val_main_v52 (F := Ideal) (m ((c : Thread nD τ).loc main_arg0)) (m ((c : Thread nD τ).loc main_arg1)) (m ((c : Thread nD τ).loc main_arg4)) (m ((c : Thread nD τ).loc main_arg5)) (ix3 b (row t j) l) := by
  canon_tiles x h
  · have h0' : b.val = 1 + (x 0).val := h0
    obtain rfl : b = 1 := Fin.ext (by show b.val = 1; omega)
    obtain rfl : x = ix3 0 j l := by
      funext a; refine Fin.ext ?_; fin_cases a
      exacts [by show (x 0).val = 0; omega, h1.symm, h2.symm]
    rw [ref_v52_1, ← pay7 m c t]
    simp (disch := decide) only [r0_0, r0_1, r0_2, r0_3, View.ld_unit_lit']
    unfold k0_pay9
    generalize k0_pay7 (F := Ideal) (iblk m c 1 t) (iblk m c 6 t) = b
    pointwise []
  · have h0' : b.val = (x 0).val := h0
    obtain rfl : b = 0 := Fin.ext (by show b.val = 0; omega)
    obtain rfl : x = ix3 0 j l := by
      funext a; refine Fin.ext ?_; fin_cases a
      exacts [by show (x 0).val = 0; omega, h1.symm, h2.symm]
    rw [ref_v52_0, ← pay6 m c t]
    simp (disch := decide) only [r0_0, r0_1, r0_2, r0_3, View.ld_unit_lit']
    unfold k0_pay8
    generalize k0_pay6 (F := Ideal) (iblk m c 0 t) (iblk m c 5 t) = b
    pointwise []

theorem final_10 (c : Dev nD) : (dats m 0 c).arrAt 10 (cfgs 0).N = val_main_v52 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 10 _ (by decide +kernel) fun t hf y => ?_
  blk_simp; rw [after0_10]
  obtain ⟨b, j, l, rfl⟩ : ∃ (b : Fin 2) (j : Fin 256) (l : Fin 1024), y = ix3 b j l :=
    ⟨y 0, y 1, y 2, by ext a; fin_cases a <;> rfl⟩
  refine (cell_10 m c t b j l).trans (congrArg _ ?_)
  unfold row
  blk_ext [idx t]

theorem cell_11 (c : Dev nD) (t : Fin cfg0.N) (y) :
    k0_pay11 (iblk m c 0 t) (iblk m c 5 t) (iblk m c 1 t) (iblk m c 6 t) (iblk m c 2 t) (iblk m c 3 t) y = val_main_v21 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (((cfg0.win 11).blk t).view.emb y) := by
  obtain ⟨j, l, rfl⟩ : ∃ (j : Fin 256) (l : Fin 1024), y = ix2 j l := ⟨y 0, y 1, by ext a; fin_cases a <;> rfl⟩
  have e : ((cfg0.win 11).blk t).view.emb (ix2 j l) = ix2 (row t j) l := by
    unfold row
    blk_ext [idx t]
  rw [e]
  have h := pay10 m c t
  unfold k0_pay11
  generalize k0_pay10 (F := Ideal) (iblk m c 0 t) (iblk m c 5 t) (iblk m c 1 t) (iblk m c 6 t) (iblk m c 2 t) (iblk m c 3 t) = b at h ⊢
  generalize val_main_v21 (F := Ideal) (m ((c : Thread nD τ).loc main_arg0)) (m ((c : Thread nD τ).loc main_arg1)) (m ((c : Thread nD τ).loc main_arg2)) (m ((c : Thread nD τ).loc main_arg4)) (m ((c : Thread nD τ).loc main_arg5)) = R at h ⊢
  pointwise [h]

theorem final_11 (c : Dev nD) : (dats m 0 c).arrAt 11 (cfgs 0).N = val_main_v21 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp; rw [after0_11]; frame_out
  exact cell_11 m c t y

theorem cell_12 (c : Dev nD) (t : Fin cfg0.N) (y) :
    k0_pay2 (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) y = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  obtain ⟨j, l, rfl⟩ : ∃ (j : Fin 256) (l : Fin 1024), y = ix2 j l := ⟨y 0, y 1, by ext a; fin_cases a <;> rfl⟩
  have e : ((cfg0.win 12).blk t).view.emb (ix2 j l) = ix2 (row t j) l := by
    unfold row
    blk_ext [idx t]
  rw [e]
  have h := pay1 m c t
  unfold k0_pay2
  generalize k0_pay1 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) = b at h ⊢
  generalize val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = R at h ⊢
  pointwise [h]

theorem final_12 (c : Dev nD) : (dats m 0 c).arrAt 12 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp; rw [after0_12]; frame_out
  exact cell_12 m c t y

theorem cell_13 (c : Dev nD) (t : Fin cfg0.N) (y) :
    k0_pay4 (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) y = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 13).blk t).view.emb y) := by
  obtain ⟨j, l, rfl⟩ : ∃ (j : Fin 256) (l : Fin 1024), y = ix2 j l := ⟨y 0, y 1, by ext a; fin_cases a <;> rfl⟩
  have e : ((cfg0.win 13).blk t).view.emb (ix2 j l) = ix2 (row t j) l := by
    unfold row
    blk_ext [idx t]
  rw [e]
  have h := pay3 m c t
  unfold k0_pay4
  generalize k0_pay3 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) = b at h ⊢
  generalize val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = R at h ⊢
  pointwise [h]

theorem final_13 (c : Dev nD) : (dats m 0 c).arrAt 13 (cfgs 0).N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp; rw [after0_13]; frame_out
  exact cell_13 m c t y

theorem cell_14 (c : Dev nD) (t : Fin cfg0.N) (y) :
    k0_pay5 (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) y = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 14).blk t).view.emb y) := by
  obtain ⟨j, l, rfl⟩ : ∃ (j : Fin 256) (l : Fin 1024), y = ix2 j l := ⟨y 0, y 1, by ext a; fin_cases a <;> rfl⟩
  have e : ((cfg0.win 14).blk t).view.emb (ix2 j l) = ix2 (row t j) l := by
    unfold row
    blk_ext [idx t]
  rw [e]
  rw [val_main_v53_apply]
  have h := pay3 m c t
  unfold k0_pay5
  generalize k0_pay3 (F := Ideal) (k0_pay14 (iblk m c 0 t) (iblk m c 1 t) (iblk m c 2 t) (iblk m c 3 t) (iblk m c 4 t) (iblk m c 5 t) (iblk m c 6 t) (iblk m c 7 t) (iblk m c 8 t) (iblk m c 9 t)) (k0_pay15 (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 9 t) = b at h ⊢
  generalize val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = R at h ⊢
  pointwise [h]

theorem final_14 (c : Dev nD) : (dats m 0 c).arrAt 14 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp; rw [after0_14]; frame_out
  exact cell_14 m c t y

end Cert.MergeFwdIdeal.Value

end
-- ==== Proof.NormGrad.lean ====
/- The gradient of a row's normalisation: the form that keeps the normalised row, and the form the chain rule gives, agree on
   real rows. -/
module

public import Idealize.ShloMosaic.Lib.IdealHost
public import Mathlib.Tactic.Ring
public import Mathlib.Tactic.FieldSimp
public import Mathlib.Tactic.Positivity

@[expose] public section

noncomputable section

open Idealize.ShloMosaic

namespace Cert.NormGrad

/-! ## The constants -/

/-- The length of a row. -/
theorem c_len : Ideal.ofBits FTy.f32 0x44800000#32 = ((1024 : ℝ) : EReal) := by
  simp [Ideal.ofBits, Ideal.ieee, -EReal.coe_mul]
  norm_num

theorem c_two : Ideal.ofBits FTy.f32 0x40000000#32 = ((2 : ℝ) : EReal) := by
  simp [Ideal.ofBits, Ideal.ieee, -EReal.coe_mul]
  try norm_num

theorem c_half : Ideal.ofBits FTy.f32 0xBF000000#32 = ((-(1 / 2) : ℝ) : EReal) := by
  simp [Ideal.ofBits, Ideal.ieee, -EReal.coe_mul, -EReal.coe_neg]
  try norm_num

/-- What is added to the variance is a positive real. -/
theorem c_eps : ∃ e : ℝ, 0 < e ∧ Ideal.ofBits FTy.f32 0x3727C5AC#32 = (e : EReal) := by
  refine ⟨_, ?_, by simp [Ideal.ofBits, Ideal.ieee]; rfl⟩
  positivity

/-- The factor of the residual is a real. -/
theorem c_alpha : ∃ e : ℝ, Ideal.ofBits FTy.f32 0x3F9837F0#32 = (e : EReal) := by
  refine ⟨_, by simp [Ideal.ofBits, Ideal.ieee]; rfl⟩

/-! ## Sums and quotients of reals -/

theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul, mul_one_div]

theorem rsqrt_real (a : ℝ) (h : 0 < a) : Ideal.rsqrt (a : EReal) = (((Real.sqrt a)⁻¹ : ℝ) : EReal) := by
  rw [Ideal.rsqrt_coe, if_neg (not_lt.mpr h.le), if_neg h.ne']

/-! ## The two forms -/

abbrev Row := Fin 1024 → EReal

/-- A row's mean. -/
def mu (x : Row) : EReal := Ideal.div (∑ k, x k) (Ideal.ofBits FTy.f32 0x44800000#32)
/-- The row less its mean. -/
def xc (x : Row) (k : Fin 1024) : EReal := x k - mu x
/-- The variance, and the constant added to it. -/
def ve (x : Row) : EReal :=
  Ideal.div (∑ k, xc x k * xc x k) (Ideal.ofBits FTy.f32 0x44800000#32) + Ideal.ofBits FTy.f32 0x3727C5AC#32
/-- The reciprocal of the standard deviation. -/
def rs (x : Row) : EReal := Ideal.rsqrt (ve x)
/-- The normalised row. -/
def xh (x : Row) (k : Fin 1024) : EReal := xc x k * rs x

/-- The gradient in the form that keeps the normalised row. -/
def ker (d x g : Row) (l : Fin 1024) : EReal :=
  rs x * (d l * g l - Ideal.div (∑ k, d k * g k) (Ideal.ofBits FTy.f32 0x44800000#32)
    - xh x l * Ideal.div (∑ k, d k * g k * xh x k) (Ideal.ofBits FTy.f32 0x44800000#32))

/-- Half the gradient with respect to the variance, over the row's length: the chain rule's factor. -/
def half (d x g : Row) : EReal :=
  Ideal.div ((∑ k, xc x k * (d k * g k)) * (Ideal.ofBits FTy.f32 0xBF000000#32 * Ideal.div (rs x) (ve x)))
    (Ideal.ofBits FTy.f32 0x44800000#32)

/-- The chain rule's second term: through the variance. -/
def var (d x g : Row) (l : Fin 1024) : EReal := half d x g * (Ideal.ofBits FTy.f32 0x40000000#32 * xc x l)

/-- The gradient as the chain rule gives it. -/
def chain (d x g : Row) (l : Fin 1024) : EReal :=
  (d l * g l * rs x + var d x g l)
    + Ideal.div ((∑ k, -(d k * g k * rs x)) + ∑ k, -(var d x g k)) (Ideal.ofBits FTy.f32 0x44800000#32)

/-! ## They agree -/

/-- The identity over the reals. -/
theorem real_eq (n : ℝ) (d g c : Fin 1024 → ℝ) (s v : ℝ) (hs : s * s * v = 1) (hc : ∑ k, c k = 0) (l : Fin 1024) :
    s * (d l * g l - (∑ k, d k * g k) / n - c l * s * ((∑ k, d k * g k * (c k * s)) / n))
      = (d l * g l * s + (∑ k, c k * (d k * g k)) * (-(1 / 2) * (s / v)) / n * (2 * c l))
        + ((∑ k, -(d k * g k * s)) + ∑ k, -((∑ k, c k * (d k * g k)) * (-(1 / 2) * (s / v)) / n * (2 * c k))) / n := by
  have hv : s / v = s * s * s := by
    have hv0 : v ≠ 0 := fun h => by simp [h] at hs
    rw [div_eq_iff hv0]
    calc s = s * 1 := (mul_one s).symm
      _ = s * (s * s * v) := by rw [hs]
      _ = s * s * s * v := by ring
  have h1 : ∑ k, d k * g k * (c k * s) = (∑ k, c k * (d k * g k)) * s := by
    rw [Finset.sum_mul]; exact Finset.sum_congr rfl fun k _ => by ring
  have h2 : ∑ k, -(d k * g k * s) = -((∑ k, d k * g k) * s) := by
    rw [Finset.sum_neg_distrib, Finset.sum_mul]
  have h3 (a : ℝ) : ∑ k, -(a * (2 * c k)) = 0 := by
    rw [Finset.sum_neg_distrib, ← Finset.mul_sum, ← Finset.mul_sum, hc]; ring
  rw [h1, h2, h3, hv]
  ring

theorem ker_eq_chain (d x g : Fin 1024 → ℝ) (l : Fin 1024) :
    ker (fun k => (d k : EReal)) (fun k => (x k : EReal)) (fun k => (g k : EReal)) l
      = chain (fun k => (d k : EReal)) (fun k => (x k : EReal)) (fun k => (g k : EReal)) l := by
  obtain ⟨e, he, hE⟩ := c_eps
  have n0 : (1024 : ℝ) ≠ 0 := by norm_num
  obtain ⟨u, hu⟩ : ∃ u : ℝ, u = (∑ k, x k) / 1024 := ⟨_, rfl⟩
  have hmu : mu (fun k => (x k : EReal)) = (u : EReal) := by
    rw [mu, c_len, coe_sum, div_real _ _ n0, hu]
  obtain ⟨c, hcd⟩ : ∃ c : Fin 1024 → ℝ, c = fun k => x k - u := ⟨_, rfl⟩
  have hxc (k : Fin 1024) : xc (fun k => (x k : EReal)) k = (c k : EReal) := by
    rw [xc, hmu, hcd, EReal.coe_sub]
  have hc : ∑ k, c k = 0 := by
    rw [hcd, Finset.sum_sub_distrib, Finset.sum_const, Finset.card_univ, Fintype.card_fin, hu, nsmul_eq_mul]
    push_cast
    ring
  obtain ⟨v, hv⟩ : ∃ v : ℝ, v = (∑ k, c k * c k) / 1024 + e := ⟨_, rfl⟩
  have hv0 : 0 < v := by
    have : 0 ≤ ∑ k, c k * c k := Finset.sum_nonneg fun k _ => mul_self_nonneg _
    rw [hv]; positivity
  have hve : ve (fun k => (x k : EReal)) = (v : EReal) := by
    simp only [ve, hxc, c_len, hE, ← EReal.coe_mul, coe_sum, div_real _ _ n0, ← EReal.coe_add, hv]
  obtain ⟨s, hsd⟩ : ∃ s : ℝ, s = (Real.sqrt v)⁻¹ := ⟨_, rfl⟩
  have hrs : rs (fun k => (x k : EReal)) = (s : EReal) := by
    rw [rs, hve, rsqrt_real v hv0, hsd]
  have hs : s * s * v = 1 := by
    rw [hsd, ← mul_inv, Real.mul_self_sqrt hv0.le, inv_mul_cancel₀ hv0.ne']
  have key := congrArg (fun r : ℝ => (r : EReal)) (real_eq 1024 d g c s v hs hc l)
  simp only [ker, chain, var, half, xh, hxc, hrs, hve, c_len, c_two, c_half, ← EReal.coe_mul, ← EReal.coe_neg, coe_sum,
    div_real _ _ n0, div_real _ _ hv0.ne', ← EReal.coe_add, ← EReal.coe_sub]
  exact key

/-- A real row's normalised row is real. -/
theorem xh_real (x : Fin 1024 → ℝ) : ∃ h : Fin 1024 → ℝ, ∀ k, xh (fun k => (x k : EReal)) k = (h k : EReal) := by
  obtain ⟨e, he, hE⟩ := c_eps
  have n0 : (1024 : ℝ) ≠ 0 := by norm_num
  obtain ⟨u, hu⟩ : ∃ u : ℝ, u = (∑ k, x k) / 1024 := ⟨_, rfl⟩
  have hmu : mu (fun k => (x k : EReal)) = (u : EReal) := by
    rw [mu, c_len, coe_sum, div_real _ _ n0, hu]
  have hxc (k : Fin 1024) : xc (fun k => (x k : EReal)) k = ((x k - u : ℝ) : EReal) := by
    rw [xc, hmu, EReal.coe_sub]
  obtain ⟨v, hv⟩ : ∃ v : ℝ, v = (∑ k, (x k - u) * (x k - u)) / 1024 + e := ⟨_, rfl⟩
  have hv0 : 0 < v := by
    have : 0 ≤ ∑ k, (x k - u) * (x k - u) := Finset.sum_nonneg fun k _ => mul_self_nonneg _
    rw [hv]; positivity
  have hve : ve (fun k => (x k : EReal)) = (v : EReal) := by
    simp only [ve, hxc, c_len, hE, ← EReal.coe_mul, coe_sum, div_real _ _ n0, ← EReal.coe_add, hv]
  exact ⟨fun k => (x k - u) * (Real.sqrt v)⁻¹, fun k => by rw [xh, hxc, rs, hve, rsqrt_real v hv0, ← EReal.coe_mul]⟩

/-- A factor that is a real and not negative goes into a sum. -/
theorem mul_sum_real {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- An extended real whose absolute value is below infinity is a real. -/
theorem real_of_abs_lt {x : EReal} (h : max x (-x) < ⊤) : ∃ r : ℝ, x = (r : EReal) := by
  induction x using EReal.rec with
  | bot => simp at h
  | coe r => exact ⟨r, rfl⟩
  | top => simp at h

end Cert.NormGrad

end
-- ==== Proof.FfnInBwdRefValue.lean ====
/- The reference's gradients of the normalised input product, entry by entry. -/
module

public import proofs.«01_k».proof.Proof.Gen.FfnInBwdIdeal.Frame
public import proofs.«01_k».proof.Proof.Gen.FfnInBwdRefIdeal.Read
public import Idealize.ShloMosaic.Lib.Pipeline.ValueKit
public import Idealize.ShloMosaic.Lib.Pointwise
public import Idealize.ShloMosaic.Lib.Claim
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.FfnInBwdIdeal.Value

open Cert.FfnInBwdIdeal Cert.FfnInBwdIdeal.Gen
open Cert.FfnInBwdRefIdeal.Read

variable (m : (ℓ : Loc nD τ sig) → Buf (Elt Ideal) ℓ)

open Cert.NormGrad

abbrev X0 := FVec Ideal S8192x1024 .f32
abbrev X1 := FVec Ideal S8192x2816 .bf16
abbrev X3 := FVec Ideal S1024x5632 .bf16
abbrev X5 := FVec Ideal S1x1024 .f32

/-- The normalised sum's gradient, at a row and a column: the residual's share and the two products. -/
def dx (x0 : X0) (x1 x2 : X1) (x3 : X3) (r : Fin 8192) (l : Fin 1024) : EReal :=
  (Ideal.ofBits FTy.f32 0x3F9837F0#32 * x0 (ix2 r l) + ∑ k : Fin 2816, x1 (ix2 r k) * x3 (ix2 l ⟨k.val, by omega⟩))
    + ∑ k : Fin 2816, x2 (ix2 r k) * x3 (ix2 l ⟨2816 + k.val, by omega⟩)

/-- A row of the array that is normalised. -/
def xr (x4 : X0) (r : Fin 8192) : Row := fun k => x4 (ix2 r k)
/-- The gain, as a row. -/
def gr (x5 : X5) : Row := fun k => x5 (ix2 0 k)

theorem join_lo (x1 x2 : X1) (r : Fin 8192) (k : Fin 2816) :
    val_main_v3 (F := Ideal) x1 x2 (ix2 r ⟨k.val, by omega⟩) = x1 (ix2 r k) := by
  pointwise [val_main_v3, val_main_v2, val_main_v1]

theorem join_hi (x1 x2 : X1) (r : Fin 8192) (k : Fin 2816) :
    val_main_v3 (F := Ideal) x1 x2 (ix2 r ⟨2816 + k.val, by omega⟩) = x2 (ix2 r k) := by
  pointwise [val_main_v3, val_main_v2, val_main_v1]

/-- A sum over the joined columns is the sum over each half. -/
theorem sum_halves (f : Fin 5632 → EReal) :
    ∑ k, f k = (∑ k : Fin 2816, f ⟨k.val, by omega⟩) + ∑ k : Fin 2816, f ⟨2816 + k.val, by omega⟩ :=
  Fin.sum_univ_add (a := 2816) (b := 2816) f

theorem ref_v38 (x0 : X0) (x1 x2 : X1) (x3 : X3) (r : Fin 8192) (l : Fin 1024) :
    val_main_v38 (F := Ideal) x0 x1 x2 x3 (ix2 r l) = dx x0 x1 x2 x3 r l := by
  have h0 := join_lo x1 x2 r
  have h1 := join_hi x1 x2 r
  unfold dx
  rw [add_assoc, add_comm]
  generalize hb : val_main_v3 (F := Ideal) x1 x2 = b at h0 h1
  pointwise [val_main_v38, val_main_v37, val_main_v36, val_main_cst_8, val_main_v35, val_main_v33, hb]
  refine congrArg (· + _) ?_
  rw [sum_halves]
  simp only [h0, h1]

theorem ref_v9 (x4 : X0) (r : Fin 8192) (l : Fin 1024) : val_main_v9 (F := Ideal) x4 (ix2 r l) = xc (xr x4 r) l := by
  unfold xc mu xr
  pointwise [val_main_v9, val_main_v8, val_main_v7, val_main_v6, val_main_v5, val_main_v4, val_main_cst_0, val_main_cst_1]

theorem ref_v18 (x4 : X0) (r : Fin 8192) (l : Fin 1024) : val_main_v18 (F := Ideal) x4 (ix2 r l) = xc (xr x4 r) l := by
  unfold xc mu xr
  pointwise [val_main_v18, val_main_v17, val_main_v7, val_main_v6, val_main_v5, val_main_v4, val_main_cst_0, val_main_cst_1]

theorem ref_v20 (x4 : X0) (r : Fin 8192) : val_main_v20 (F := Ideal) x4 (ix2 r 0) = ve (xr x4 r) := by
  have h := ref_v9 x4 r
  unfold ve
  generalize hb : val_main_v9 (F := Ideal) x4 = b at h
  pointwise [val_main_v20, val_main_v19, val_main_v16, val_main_v15, val_main_v14, val_main_v13, val_main_v10, val_main_cst_3,
    val_main_cst_4, val_main_cst_5, hb, h]

theorem ref_v21 (x4 : X0) (r : Fin 8192) : val_main_v21 (F := Ideal) x4 (ix2 r 0) = rs (xr x4 r) := by
  have h := ref_v20 x4 r
  unfold rs
  generalize hb : val_main_v20 (F := Ideal) x4 = b at h
  pointwise [val_main_v21, hb, h]

theorem ref_v24 (x4 : X0) (r : Fin 8192) : val_main_v24 (F := Ideal) x4 (ix2 r 0)
    = Ideal.ofBits FTy.f32 0xBF000000#32 * Ideal.div (rs (xr x4 r)) (ve (xr x4 r)) := by
  have h := ref_v20 x4 r
  have h' := ref_v21 x4 r
  generalize hb' : val_main_v21 (F := Ideal) x4 = b' at h'
  generalize hb : val_main_v20 (F := Ideal) x4 = b at h
  pointwise [val_main_v24, val_main_v23, val_main_v22, val_main_cst_6, hb', hb, h, h']

theorem ref_v26 (x4 : X0) (r : Fin 8192) (l : Fin 1024) : val_main_v26 (F := Ideal) x4 (ix2 r l) = xh (xr x4 r) l := by
  have h := ref_v18 x4 r
  have h' := ref_v21 x4 r
  unfold xh
  generalize hb' : val_main_v21 (F := Ideal) x4 = b' at h'
  generalize hb : val_main_v18 (F := Ideal) x4 = b at h
  pointwise [val_main_v26, val_main_v25, hb', hb, h, h']

/-- The bias's gradient. -/
theorem ref_v40 (x0 : X0) (x1 x2 : X1) (x3 : X3) (l : Fin 1024) :
    val_main_v40 (F := Ideal) x0 x1 x2 x3 (ix2 0 l) = ∑ r : Fin 8192, dx x0 x1 x2 x3 r l := by
  have h := ref_v38 x0 x1 x2 x3
  generalize hb : val_main_v38 (F := Ideal) x0 x1 x2 x3 = b at h
  pointwise [val_main_v40, val_main_v39, val_main_cst_9, hb, h]

/-- The gain's gradient. -/
theorem ref_v43 (x0 : X0) (x1 x2 : X1) (x3 : X3) (x4 : X0) (l : Fin 1024) :
    val_main_v43 (F := Ideal) x0 x1 x2 x3 x4 (ix2 0 l) = ∑ r : Fin 8192, xh (xr x4 r) l * dx x0 x1 x2 x3 r l := by
  have h := ref_v38 x0 x1 x2 x3
  have h' := ref_v26 x4
  generalize hb : val_main_v38 (F := Ideal) x0 x1 x2 x3 = b at h
  generalize hb' : val_main_v26 (F := Ideal) x4 = b' at h'
  pointwise [val_main_v43, val_main_v42, val_main_v41, val_main_cst_10, hb, h, hb', h']

variable (x0 : X0) (x1 x2 : X1) (x3 : X3) (x4 : X0) (x5 : X5)

theorem ref_v45 (r : Fin 8192) (l : Fin 1024) :
    val_main_v45 (F := Ideal) x0 x1 x2 x3 x5 (ix2 r l) = dx x0 x1 x2 x3 r l * gr x5 l := by
  have h := ref_v38 x0 x1 x2 x3
  unfold gr
  generalize hb : val_main_v38 (F := Ideal) x0 x1 x2 x3 = b at h
  pointwise [val_main_v45, val_main_v44, hb, h]

theorem ref_v50 (r : Fin 8192) (l : Fin 1024) :
    val_main_v50 (F := Ideal) x0 x1 x2 x3 x4 x5 (ix2 r l) = dx x0 x1 x2 x3 r l * gr x5 l * rs (xr x4 r) := by
  have h := ref_v45 x0 x1 x2 x3 x5
  have h' := ref_v21 x4
  generalize hb : val_main_v45 (F := Ideal) x0 x1 x2 x3 x5 = b at h
  generalize hb' : val_main_v21 (F := Ideal) x4 = b' at h'
  pointwise [val_main_v50, val_main_v49, hb, h, hb', h']

theorem ref_v56 (r : Fin 8192) :
    val_main_v56 (F := Ideal) x0 x1 x2 x3 x4 x5 (ix2 r 0) = half (dx x0 x1 x2 x3 r) (xr x4 r) (gr x5) := by
  have h := ref_v45 x0 x1 x2 x3 x5
  have h' := ref_v18 x4
  have h'' := ref_v24 x4
  unfold half
  generalize hb : val_main_v45 (F := Ideal) x0 x1 x2 x3 x5 = b at h
  generalize hb' : val_main_v18 (F := Ideal) x4 = b' at h'
  generalize hb'' : val_main_v24 (F := Ideal) x4 = b'' at h''
  pointwise [val_main_v56, val_main_v55, val_main_v51, val_main_v48, val_main_v47, val_main_v46, val_main_cst_11, val_main_cst_13,
    hb, h, hb', h', hb'', h'']

theorem ref_v59 (r : Fin 8192) (l : Fin 1024) :
    val_main_v59 (F := Ideal) x0 x1 x2 x3 x4 x5 (ix2 r l) = var (dx x0 x1 x2 x3 r) (xr x4 r) (gr x5) l := by
  have h := ref_v56 x0 x1 x2 x3 x4 x5 r
  have h' := ref_v9 x4
  unfold var
  generalize hb : val_main_v56 (F := Ideal) x0 x1 x2 x3 x4 x5 = b at h
  generalize hb' : val_main_v9 (F := Ideal) x4 = b' at h'
  pointwise [val_main_v59, val_main_v58, val_main_v57, val_main_v12, val_main_v11, val_main_cst_2, val_main_cst_14, hb, hb', h']
  rw [Fin.sum_univ_one, h]

/-- The reference's gradient, as the chain rule gives it. -/
theorem ref_v69 (r : Fin 8192) (l : Fin 1024) :
    val_main_v69 (F := Ideal) x0 x1 x2 x3 x4 x5 (ix2 r l) = chain (dx x0 x1 x2 x3 r) (xr x4 r) (gr x5) l := by
  have h := ref_v50 x0 x1 x2 x3 x4 x5 r
  have h' := ref_v59 x0 x1 x2 x3 x4 x5 r
  unfold chain
  generalize hb' : val_main_v59 (F := Ideal) x0 x1 x2 x3 x4 x5 = b' at h'
  generalize hb : val_main_v50 (F := Ideal) x0 x1 x2 x3 x4 x5 = b at h
  pointwise [val_main_v69, val_main_v68, val_main_v67, val_main_v66, val_main_v65, val_main_v64, val_main_v63, val_main_v62,
    val_main_v61, val_main_v60, val_main_v54, val_main_v53, val_main_v52, val_main_cst_12, val_main_cst_15, val_main_cst_16,
    val_main_cst_17, hb, h, hb', h']
  rw [Fin.sum_univ_one]

end Cert.FfnInBwdIdeal.Value

end
-- ==== Proof.FfnInBwdValue.lean ====
/- What the gradient of the normalised input product computes, against the reference. -/
module

public import proofs.«01_k».proof.Proof.Gen.FfnInBwdIdeal.Frame
public import proofs.«01_k».proof.Proof.Gen.FfnInBwdRefIdeal.Read
public import Idealize.ShloMosaic.Lib.Pipeline.ValueKit
public import Idealize.ShloMosaic.Lib.Pointwise
public import Idealize.ShloMosaic.Lib.Claim
public import proofs.«01_k».proof.Proof.FfnInBwdRefValue

@[expose] public section

set_option maxRecDepth 16384

noncomputable section

open Idealize.ShloMosaic Idealize.ShloMosaic.TcCoe Idealize.SL.Sem
open Idealize.ShloMosaic.Pipeline (Dat)

namespace Cert.FfnInBwdIdeal.Value

open Cert.FfnInBwdIdeal Cert.FfnInBwdIdeal.Gen
open Cert.FfnInBwdRefIdeal.Read

variable (m : (ℓ : Loc nD τ sig) → Buf (Elt Ideal) ℓ)

open Cert.NormGrad

/-- Where each window's block lies at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 1]
    ∧ win0_5.index t = ![t.val, 0]
    ∧ win0_6.index t = ![0, 0]
    ∧ win0_7.index t = ![t.val, 0]
    ∧ win0_8.index t = ![t.val, 0]
    ∧ win0_9.index t = ![0, 0]
    ∧ win0_10.index t = ![0, 0]
    ∧ t.val < 32 :=
  (by decide +kernel : ∀ t : Fin grid0.N, _)

/-- The array row of a row of a point's blocks. -/
def row (t : Fin cfg0.N) (j : Fin 256) : Fin 8192 := ⟨t.val * 256 + j.val, by have h : t.val < 32 := t.isLt; omega⟩

/-- The normalised sum's gradient, as a point computes it. -/
theorem pay3 (c : Dev nD) (t : Fin cfg0.N) (j : Fin 256) (l : Fin 1024) :
    k0_pay3 (F := Ideal) (iblk m c 0 t) (iblk m c 1 t) (iblk m c 3 t) (iblk m c 2 t) (iblk m c 4 t) (ix2 j l)
      = dx (m ((c : Thread nD τ).loc main_arg0)) (m ((c : Thread nD τ).loc main_arg1)) (m ((c : Thread nD τ).loc main_arg2)) (m ((c : Thread nD τ).loc main_arg3)) (row t j) l := by
  pointwise [k0_pay3, dx, row]
  blk_point [iblk, V, idx t]

theorem blk5 (c : Dev nD) (t : Fin cfg0.N) (j : Fin 256) : (fun k => iblk (F := Ideal) m c 5 t (ix2 j k)) = xr (m ((c : Thread nD τ).loc main_arg4)) (row t j) := by
  funext k
  unfold xr row
  blk_point [iblk, V, idx t]

theorem blk6 (c : Dev nD) (t : Fin cfg0.N) : (fun k => iblk (F := Ideal) m c 6 t (ix2 0 k)) = gr (m ((c : Thread nD τ).loc main_arg5)) := by
  funext k
  unfold gr
  blk_point [iblk, V, idx t]

/-- A row less its mean, as a point computes it. -/
theorem pay4 (v : FVec Ideal S256x1024 .f32) (j : Fin 256) (l : Fin 1024) :
    k0_pay4 (F := Ideal) v (ix2 j l) = xc (fun k => v (ix2 j k)) l := by
  unfold xc mu
  pointwise [k0_pay4]

theorem pay5 (v : FVec Ideal S256x1024 .f32) (j : Fin 256) :
    k0_pay5 (F := Ideal) v (ix2 j 0) = rs (fun k => v (ix2 j k)) := by
  have h := pay4 v j
  unfold rs ve k0_pay5
  generalize hb : k0_pay4 (F := Ideal) v = b at h ⊢
  pointwise [h]

/-- The normalised row, as a point computes it. -/
theorem pay6 (v : FVec Ideal S256x1024 .f32) (j : Fin 256) (l : Fin 1024) :
    k0_pay6 (F := Ideal) v (ix2 j l) = xh (fun k => v (ix2 j k)) l := by
  have h := pay4 v j
  have h' := pay5 v j
  unfold xh k0_pay6
  generalize k0_pay5 (F := Ideal) v = b' at h' ⊢
  generalize k0_pay4 (F := Ideal) v = b at h ⊢
  pointwise [h, h']

/-- The gradient of a row, as a point computes it. -/
theorem pay10 (a v : FVec Ideal S256x1024 .f32) (g : FVec Ideal S1x1024 .f32) (j : Fin 256) (l : Fin 1024) :
    k0_pay10 (F := Ideal) a (k0_pay5 v) (k0_pay6 v) g (ix2 j l)
      = ker (fun k => a (ix2 j k)) (fun k => v (ix2 j k)) (fun k => g (ix2 0 k)) l := by
  have h := pay6 v j
  have h' := pay5 v j
  unfold ker
  generalize k0_pay5 (F := Ideal) v = b' at h' ⊢
  generalize k0_pay6 (F := Ideal) v = b at h ⊢
  pointwise [k0_pay10, h, h']

/-- The two stores keep the gradient's entries. -/
theorem pay11 (a : FVec Ideal S256x1024 .f32) (b : FVec Ideal S256x1 .f32) (d : FVec Ideal S256x1024 .f32)
    (g : FVec Ideal S1x1024 .f32) (j : Fin 256) (l : Fin 1024) :
    k0_pay11 (F := Ideal) a b d g (ix2 j l) = k0_pay10 (F := Ideal) a b d g (ix2 j l) := by
  unfold k0_pay11
  generalize k0_pay10 (F := Ideal) a b d g = p
  pointwise []

theorem pay12 (a : FVec Ideal S256x1024 .f32) (b : FVec Ideal S256x1 .f32) (d : FVec Ideal S256x1024 .f32)
    (g : FVec Ideal S1x1024 .f32) (j : Fin 256) (l : Fin 1024) :
    k0_pay12 (F := Ideal) a b d g (ix2 j l) = k0_pay10 (F := Ideal) a b d g (ix2 j l) := by
  unfold k0_pay12
  generalize k0_pay10 (F := Ideal) a b d g = p
  pointwise []

/-- What a point leaves of the gradient. -/
theorem cell (c : Dev nD) (t : Fin cfg0.N) (j : Fin 256) (l : Fin 1024) :
    k0_pay10 (F := Ideal) (k0_pay3 (iblk m c 0 t) (iblk m c 1 t) (iblk m c 3 t) (iblk m c 2 t) (iblk m c 4 t))
        (k0_pay5 (iblk m c 5 t)) (k0_pay6 (iblk m c 5 t)) (iblk m c 6 t) (ix2 j l)
      = ker (dx (m ((c : Thread nD τ).loc main_arg0)) (m ((c : Thread nD τ).loc main_arg1)) (m ((c : Thread nD τ).loc main_arg2)) (m ((c : Thread nD τ).loc main_arg3)) (row t j)) (xr (m ((c : Thread nD τ).loc main_arg4)) (row t j)) (gr (m ((c : Thread nD τ).loc main_arg5))) l := by
  rw [pay10, blk5, blk6]
  refine congrArg (fun d => ker d _ _ l) (funext fun k => pay3 m c t j k)

/-- The gradient's array holds what the points compute. -/
theorem outs_7 (c : Dev nD) (t : Fin cfg0.N) (j : Fin 256) (l : Fin 1024) :
    (outsAt0 m c t.val t.isLt).1 (ix2 j l) = ker (dx (m ((c : Thread nD τ).loc main_arg0)) (m ((c : Thread nD τ).loc main_arg1)) (m ((c : Thread nD τ).loc main_arg2)) (m ((c : Thread nD τ).loc main_arg3)) (row t j)) (xr (m ((c : Thread nD τ).loc main_arg4)) (row t j)) (gr (m ((c : Thread nD τ).loc main_arg5))) l := by
  by_cases h : t.val % 32 = 0
  · rw [outsAt0_A m c t h]; frame_out; rw [pay11]; exact cell m c t j l
  · rw [outsAt0_B m c t h]; frame_out; rw [pay11]; exact cell m c t j l

theorem outs_8 (c : Dev nD) (t : Fin cfg0.N) (j : Fin 256) (l : Fin 1024) :
    (outsAt0 m c t.val t.isLt).2.1 (ix2 j l) = ker (dx (m ((c : Thread nD τ).loc main_arg0)) (m ((c : Thread nD τ).loc main_arg1)) (m ((c : Thread nD τ).loc main_arg2)) (m ((c : Thread nD τ).loc main_arg3)) (row t j)) (xr (m ((c : Thread nD τ).loc main_arg4)) (row t j)) (gr (m ((c : Thread nD τ).loc main_arg5))) l := by
  by_cases h : t.val % 32 = 0
  · rw [outsAt0_A m c t h]; frame_out; rw [pay12]; exact cell m c t j l
  · rw [outsAt0_B m c t h]; frame_out; rw [pay12]; exact cell m c t j l

/-- The first point clears the two sums. -/
theorem zero1 (j : S1x1024.Idx) : k0_pay1 (F := Ideal) j = 0 := by
  pointwise! [k0_pay1]

theorem zero2 (j : S1x1024.Idx) : k0_pay2 (F := Ideal) j = 0 := by
  pointwise! [k0_pay2]

/-- A point adds its rows' sum. -/
theorem pay8 (acc : FVec Ideal S1x1024 .f32) (v : FVec Ideal S256x1024 .f32) (i : S1x1024.Idx) :
    k0_pay8 (F := Ideal) acc v i = acc i + ∑ j : Fin 256, v (ix2 j (i 1)) := by
  obtain ⟨z, l, rfl⟩ : ∃ (z : Fin 1) (l : Fin 1024), i = ix2 z l := ⟨i 0, i 1, by ext a; fin_cases a <;> rfl⟩
  pointwise [k0_pay8]

theorem pay9 (acc : FVec Ideal S1x1024 .f32) (v : FVec Ideal S256x1024 .f32) (i : S1x1024.Idx) :
    k0_pay9 (F := Ideal) v acc i = acc i + ∑ j : Fin 256, v (ix2 j (i 1)) := by
  obtain ⟨z, l, rfl⟩ : ∃ (z : Fin 1) (l : Fin 1024), i = ix2 z l := ⟨i 0, i 1, by ext a; fin_cases a <;> rfl⟩
  pointwise [k0_pay9]

/-- The rows a point adds to the gain's gradient. -/
theorem pay7 (c : Dev nD) (t : Fin cfg0.N) (j : Fin 256) (l : Fin 1024) :
    k0_pay7 (F := Ideal) (iblk m c 0 t) (iblk m c 1 t) (iblk m c 3 t) (iblk m c 2 t) (iblk m c 4 t) (iblk m c 5 t) (ix2 j l)
      = xh (xr (m ((c : Thread nD τ).loc main_arg4)) (row t j)) l * dx (m ((c : Thread nD τ).loc main_arg0)) (m ((c : Thread nD τ).loc main_arg1)) (m ((c : Thread nD τ).loc main_arg2)) (m ((c : Thread nD τ).loc main_arg3)) (row t j) l := by
  have h := pay3 m c t j
  have h' := pay6 (iblk (F := Ideal) m c 5 t) j
  rw [blk5] at h'
  unfold k0_pay7
  generalize k0_pay3 (F := Ideal) (iblk m c 0 t) (iblk m c 1 t) (iblk m c 3 t) (iblk m c 2 t) (iblk m c 4 t) = b at h ⊢
  generalize k0_pay6 (F := Ideal) (iblk m c 5 t) = b' at h' ⊢
  rw [mul_comm, ← h, ← h']
  pointwise []

/-- The gain's gradient, after the run. -/
theorem outs_9 (c : Dev nD) (t : Fin cfg0.N) (hf : t.val % 32 = 31) (i : S1x1024.Idx) :
    (outsAt0 m c t.val t.isLt).2.2.1 i = ∑ r : Fin 8192, xh (xr (m ((c : Thread nD τ).loc main_arg4)) r) (i 1) * dx (m ((c : Thread nD τ).loc main_arg0)) (m ((c : Thread nD τ).loc main_arg1)) (m ((c : Thread nD τ).loc main_arg2)) (m ((c : Thread nD τ).loc main_arg3)) r (i 1) := by
  have ht : t.val < 32 := t.isLt
  rw [Pipeline.eq_sum_fin_of_reset_step_apply_of_flush (fun n h => (outsAt0 m c n h).2.2.1) 32 (fun _ => 0)
    (fun t i => ∑ j : Fin 256, xh (xr (m ((c : Thread nD τ).loc main_arg4)) (row t j)) (i 1) * dx (m ((c : Thread nD τ).loc main_arg0)) (m ((c : Thread nD τ).loc main_arg1)) (m ((c : Thread nD τ).loc main_arg2)) (m ((c : Thread nD τ).loc main_arg3)) (row t j) (i 1))
    (fun t h i => by
      rw [outsAt0_A m c t h]; frame_out; rw [pay8, zero1]
      exact congrArg (0 + ·) (Finset.sum_congr rfl fun j _ => pay7 m c t j _))
    (fun t h i => by
      rw [outsAt0_B m c t h]; frame_out; rw [pay8]
      exact congrArg (_ + ·) (Finset.sum_congr rfl fun j _ => pay7 m c t j _))
    t hf i, zero_add]
  refine Fin.sum_mul_add_congr fun s k hl => ?_
  have e : row ⟨32 * (t.val / 32) + s.val, Pipeline.run_point_lt_of_flush t hf s⟩ k = ⟨s.val * 256 + k.val, hl⟩ :=
    Fin.ext (by show (32 * (t.val / 32) + s.val) * 256 + k.val = s.val * 256 + k.val; omega)
  rw [e]

/-- The bias's gradient, after the run. -/
theorem outs_10 (c : Dev nD) (t : Fin cfg0.N) (hf : t.val % 32 = 31) (i : S1x1024.Idx) :
    (outsAt0 m c t.val t.isLt).2.2.2 i = ∑ r : Fin 8192, dx (m ((c : Thread nD τ).loc main_arg0)) (m ((c : Thread nD τ).loc main_arg1)) (m ((c : Thread nD τ).loc main_arg2)) (m ((c : Thread nD τ).loc main_arg3)) r (i 1) := by
  have ht : t.val < 32 := t.isLt
  rw [Pipeline.eq_sum_fin_of_reset_step_apply_of_flush (fun n h => (outsAt0 m c n h).2.2.2) 32 (fun _ => 0)
    (fun t i => ∑ j : Fin 256, dx (m ((c : Thread nD τ).loc main_arg0)) (m ((c : Thread nD τ).loc main_arg1)) (m ((c : Thread nD τ).loc main_arg2)) (m ((c : Thread nD τ).loc main_arg3)) (row t j) (i 1))
    (fun t h i => by
      rw [outsAt0_A m c t h]; frame_out; rw [pay9, zero2]
      exact congrArg (0 + ·) (Finset.sum_congr rfl fun j _ => pay3 m c t j _))
    (fun t h i => by
      rw [outsAt0_B m c t h]; frame_out; rw [pay9]
      exact congrArg (_ + ·) (Finset.sum_congr rfl fun j _ => pay3 m c t j _))
    t hf i, zero_add]
  refine Fin.sum_mul_add_congr fun s k hl => ?_
  have e : row ⟨32 * (t.val / 32) + s.val, Pipeline.run_point_lt_of_flush t hf s⟩ k = ⟨s.val * 256 + k.val, hl⟩ :=
    Fin.ext (by show (32 * (t.val / 32) + s.val) * 256 + k.val = s.val * 256 + k.val; omega)
  rw [e]

/-- Every entry of the arguments is a real. -/
structure Reals (c : Dev nD) : Prop where
  r0 : ∀ i, ∃ r : ℝ, ((m ((c : Thread nD τ).loc main_arg0)) : FVec Ideal S8192x1024 .f32) i = (r : EReal)
  r1 : ∀ i, ∃ r : ℝ, ((m ((c : Thread nD τ).loc main_arg1)) : FVec Ideal S8192x2816 .bf16) i = (r : EReal)
  r2 : ∀ i, ∃ r : ℝ, ((m ((c : Thread nD τ).loc main_arg2)) : FVec Ideal S8192x2816 .bf16) i = (r : EReal)
  r3 : ∀ i, ∃ r : ℝ, ((m ((c : Thread nD τ).loc main_arg3)) : FVec Ideal S1024x5632 .bf16) i = (r : EReal)
  r4 : ∀ i, ∃ r : ℝ, ((m ((c : Thread nD τ).loc main_arg4)) : FVec Ideal S8192x1024 .f32) i = (r : EReal)
  r5 : ∀ i, ∃ r : ℝ, ((m ((c : Thread nD τ).loc main_arg5)) : FVec Ideal S1x1024 .f32) i = (r : EReal)

/-- On real arguments the two forms of the gradient agree. -/
theorem ker_chain (c : Dev nD) (hc : Reals m c) (r : Fin 8192) (l : Fin 1024) :
    ker (dx (m ((c : Thread nD τ).loc main_arg0)) (m ((c : Thread nD τ).loc main_arg1)) (m ((c : Thread nD τ).loc main_arg2)) (m ((c : Thread nD τ).loc main_arg3)) r) (xr (m ((c : Thread nD τ).loc main_arg4)) r) (gr (m ((c : Thread nD τ).loc main_arg5))) l = chain (dx (m ((c : Thread nD τ).loc main_arg0)) (m ((c : Thread nD τ).loc main_arg1)) (m ((c : Thread nD τ).loc main_arg2)) (m ((c : Thread nD τ).loc main_arg3)) r) (xr (m ((c : Thread nD τ).loc main_arg4)) r) (gr (m ((c : Thread nD τ).loc main_arg5))) l := by
  obtain ⟨h0, h1, h2, h3, h4, h5⟩ := hc
  choose y0 h0 using h0
  choose y1 h1 using h1
  choose y2 h2 using h2
  choose y3 h3 using h3
  choose y4 h4 using h4
  choose y5 h5 using h5
  obtain ⟨a, ha⟩ := c_alpha
  have ed : ∃ d : Fin 1024 → ℝ, dx (m ((c : Thread nD τ).loc main_arg0)) (m ((c : Thread nD τ).loc main_arg1)) (m ((c : Thread nD τ).loc main_arg2)) (m ((c : Thread nD τ).loc main_arg3)) r = fun k => (d k : EReal) := by
    refine ⟨fun l => (a * y0 (ix2 r l) + ∑ k : Fin 2816, y1 (ix2 r k) * y3 (ix2 l ⟨k.val, by omega⟩))
      + ∑ k : Fin 2816, y2 (ix2 r k) * y3 (ix2 l ⟨2816 + k.val, by omega⟩), funext fun l => ?_⟩
    simp only [dx, h0, h1, h2, h3, ha, ← EReal.coe_mul, coe_sum, ← EReal.coe_add]
  obtain ⟨d, hd⟩ := ed
  have ex : xr (m ((c : Thread nD τ).loc main_arg4)) r = fun k => ((y4 (ix2 r k) : ℝ) : EReal) := funext fun k => h4 _
  have eg : gr (m ((c : Thread nD τ).loc main_arg5)) = fun k => ((y5 (ix2 0 k) : ℝ) : EReal) := funext fun k => h5 _
  rw [hd, ex, eg]
  exact ker_eq_chain d _ _ l

/-- The gradient after the run is the reference's, on real arguments. -/
theorem final_7 (c : Dev nD) (hc : Reals m c) :
    (dats m 0 c).arrAt 7 (cfgs 0).N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  obtain ⟨j, l, rfl⟩ : ∃ (j : Fin 256) (l : Fin 1024), y = ix2 j l := ⟨y 0, y 1, by ext a; fin_cases a <;> rfl⟩
  have e : ((cfg0.win 7).blk t).view.emb (ix2 j l) = ix2 (row t j) l := by
    unfold row
    blk_ext [idx t]
  rw [e, ref_v69, ← ker_chain m c hc]
  exact outs_7 m c t j l

/-- The same, for the rounded copy. -/
theorem final_8 (c : Dev nD) (hc : Reals m c) :
    (dats m 0 c).arrAt 8 (cfgs 0).N = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]
  obtain ⟨j, l, rfl⟩ : ∃ (j : Fin 256) (l : Fin 1024), y = ix2 j l := ⟨y 0, y 1, by ext a; fin_cases a <;> rfl⟩
  have e : ((cfg0.win 8).blk t).view.emb (ix2 j l) = ix2 (row t j) l := by
    unfold row
    blk_ext [idx t]
  have h := ref_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l
  rw [← ker_chain m c hc] at h
  rw [e]
  refine (outs_8 m c t j l).trans (h.symm.trans ?_)
  generalize hb : val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = b
  pointwise [val_main_v70, hb]

/-- The gain's gradient after the run is the reference's. -/
theorem final_9 (c : Dev nD) : (dats m 0 c).arrAt 9 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]
  obtain ⟨z, l, rfl⟩ : ∃ (z : Fin 1) (l : Fin 1024), y = ix2 z l := ⟨y 0, y 1, by ext a; fin_cases a <;> rfl⟩
  have e : ((cfg0.win 9).blk t).view.emb (ix2 z l) = ix2 0 l := by
    blk_ext [idx t]
  rw [e, ref_v43]
  exact outs_9 m c t ((flush0_9 t).mp hf) (ix2 z l)

/-- The bias's gradient after the run is the reference's. -/
theorem final_10 (c : Dev nD) : (dats m 0 c).arrAt 10 (cfgs 0).N = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  obtain ⟨z, l, rfl⟩ : ∃ (z : Fin 1) (l : Fin 1024), y = ix2 z l := ⟨y 0, y 1, by ext a; fin_cases a <;> rfl⟩
  have e : ((cfg0.win 10).blk t).view.emb (ix2 z l) = ix2 0 l := by
    blk_ext [idx t]
  rw [e, ref_v40]
  exact outs_10 m c t ((flush0_10 t).mp hf) (ix2 z l)

end Cert.FfnInBwdIdeal.Value

end
-- ==== Proof.FfnOutLossRefValue.lean ====
/- The reference's loss and its gradients in the second norm, entry by entry. -/
module

public import proofs.«01_k».proof.Proof.Gen.FfnOutLossIdeal.Frame
public import proofs.«01_k».proof.Proof.Gen.FfnOutLossRefIdeal.Read
public import Idealize.ShloMosaic.Lib.Pipeline.ValueKit
public import Idealize.ShloMosaic.Lib.Pointwise
public import Idealize.ShloMosaic.Lib.Claim
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.FfnOutLossIdeal.Value

open Cert.FfnOutLossIdeal Cert.FfnOutLossIdeal.Gen
open Cert.FfnOutLossRefIdeal.Read

open Cert.NormGrad

abbrev X0 := FVec Ideal S8192x2816 .bf16
abbrev X1 := FVec Ideal S8192x1024 .f32
abbrev X3 := FVec Ideal S2816x1024 .bf16
abbrev X4 := FVec Ideal S1x1024 .f32

/-- A row of the array that is normalised: the residual and the product. -/
def rr (x0 : X0) (x1 : X1) (x3 : X3) (r : Fin 8192) : Row := fun l =>
  Ideal.ofBits FTy.f32 0x3F9837F0#32 * x1 (ix2 r l) + ∑ k : Fin 2816, x0 (ix2 r k) * x3 (ix2 k l)

/-- The gain, or the bias, as a row. -/
def gr (x : X4) : Row := fun k => x (ix2 0 k)

/-- The error at a row and a column: the normalised row with its gain and bias, less the target. -/
def err (x0 : X0) (x1 x2 : X1) (x3 : X3) (x4 x5 : X4) (r : Fin 8192) : Row := fun l =>
  xh (rr x0 x1 x3 r) l * gr x4 l + gr x5 l - x2 (ix2 r l)

/-- The loss's gradient in the norm's result. -/
def dy (x0 : X0) (x1 x2 : X1) (x3 : X3) (x4 x5 : X4) (r : Fin 8192) : Row := fun l =>
  err x0 x1 x2 x3 x4 x5 r l * Ideal.ofBits FTy.f32 0x3A800000#32

theorem c_inv : Ideal.ofBits FTy.f32 0x3A800000#32 = ((1 / 1024 : ℝ) : EReal) := by
  simp [Ideal.ofBits, Ideal.ieee, -EReal.coe_mul]
  try norm_num

theorem c_half_inv : Ideal.ofBits FTy.f32 0x3A000000#32 = ((1 / 2048 : ℝ) : EReal) := by
  simp [Ideal.ofBits, Ideal.ieee, -EReal.coe_mul]
  try norm_num

theorem c_pos_half : Ideal.ofBits FTy.f32 0x3F000000#32 = ((1 / 2 : ℝ) : EReal) := by
  simp [Ideal.ofBits, Ideal.ieee, -EReal.coe_mul]
  try norm_num

theorem c_one : Ideal.ofBits FTy.f32 0x3F800000#32 = ((1 : ℝ) : EReal) := by
  simp [Ideal.ofBits, Ideal.ieee, -EReal.coe_mul]
  try norm_num

/-- The derivative of the halved mean square is the error over the row's length. -/
theorem half_two (e : EReal) :
    Ideal.div (Ideal.ofBits FTy.f32 0x3F000000#32 * Ideal.ofBits FTy.f32 0x3F800000#32) (Ideal.ofBits FTy.f32 0x44800000#32)
        * (Ideal.ofBits FTy.f32 0x40000000#32 * e) = e * Ideal.ofBits FTy.f32 0x3A800000#32 := by
  rw [c_pos_half, c_one, c_len, c_two, c_inv, ← EReal.coe_mul, div_real _ _ (by norm_num), ← mul_assoc, ← EReal.coe_mul, mul_comm]
  norm_num

variable (x0 : X0) (x1 x2 : X1) (x3 : X3) (x4 x5 : X4)

theorem ref_v5 (r : Fin 8192) (l : Fin 1024) : val_main_v5 (F := Ideal) x0 x1 x3 (ix2 r l) = rr x0 x1 x3 r l := by
  unfold rr
  pointwise [val_main_v5, val_main_v4, val_main_v3, val_main_v2, val_main_v1, val_main_v0, val_main_cst]

theorem ref_v11 (r : Fin 8192) (l : Fin 1024) :
    val_main_v11 (F := Ideal) x0 x1 x3 (ix2 r l) = xc (rr x0 x1 x3 r) l := by
  have h0 := ref_v5 x0 x1 x3 r
  unfold xc mu
  generalize hb0 : val_main_v5 (F := Ideal) x0 x1 x3 = b0 at h0
  pointwise [val_main_v11, val_main_v10, val_main_v9, val_main_v8, val_main_v7, val_main_v6, val_main_cst_0, val_main_cst_1, hb0, h0]

theorem ref_v20 (r : Fin 8192) (l : Fin 1024) :
    val_main_v20 (F := Ideal) x0 x1 x3 (ix2 r l) = xc (rr x0 x1 x3 r) l := by
  have h0 := ref_v5 x0 x1 x3 r
  unfold xc mu
  generalize hb0 : val_main_v5 (F := Ideal) x0 x1 x3 = b0 at h0
  pointwise [val_main_v20, val_main_v19, val_main_v9, val_main_v8, val_main_v7, val_main_v6, val_main_cst_0, val_main_cst_1, hb0, h0]

theorem ref_v22 (r : Fin 8192) :
    val_main_v22 (F := Ideal) x0 x1 x3 (ix2 r 0) = ve (rr x0 x1 x3 r) := by
  have h0 := ref_v11 x0 x1 x3 r
  unfold ve
  generalize hb0 : val_main_v11 (F := Ideal) x0 x1 x3 = b0 at h0
  pointwise [val_main_v22, val_main_v21, val_main_v18, val_main_v17, val_main_v16, val_main_v15, val_main_v12, val_main_cst_3, val_main_cst_4, val_main_cst_5, hb0, h0]

theorem ref_v23 (r : Fin 8192) :
    val_main_v23 (F := Ideal) x0 x1 x3 (ix2 r 0) = rs (rr x0 x1 x3 r) := by
  have h0 := ref_v22 x0 x1 x3 r
  unfold rs
  generalize hb0 : val_main_v22 (F := Ideal) x0 x1 x3 = b0 at h0
  pointwise [val_main_v23, hb0, h0]

theorem ref_v26 (r : Fin 8192) :
    val_main_v26 (F := Ideal) x0 x1 x3 (ix2 r 0)
      = Ideal.ofBits FTy.f32 0xBF000000#32 * Ideal.div (rs (rr x0 x1 x3 r)) (ve (rr x0 x1 x3 r)) := by
  have h0 := ref_v22 x0 x1 x3 r
  have h1 := ref_v23 x0 x1 x3 r
  generalize hb1 : val_main_v23 (F := Ideal) x0 x1 x3 = b1 at h1
  generalize hb0 : val_main_v22 (F := Ideal) x0 x1 x3 = b0 at h0
  pointwise [val_main_v26, val_main_v25, val_main_v24, val_main_cst_6, hb0, h0, hb1, h1]

theorem ref_v28 (r : Fin 8192) (l : Fin 1024) :
    val_main_v28 (F := Ideal) x0 x1 x3 (ix2 r l) = xh (rr x0 x1 x3 r) l := by
  have h0 := ref_v20 x0 x1 x3 r
  have h1 := ref_v23 x0 x1 x3 r
  unfold xh
  generalize hb1 : val_main_v23 (F := Ideal) x0 x1 x3 = b1 at h1
  generalize hb0 : val_main_v20 (F := Ideal) x0 x1 x3 = b0 at h0
  pointwise [val_main_v28, val_main_v27, hb0, h0, hb1, h1]

theorem ref_v33 (r : Fin 8192) (l : Fin 1024) :
    val_main_v33 (F := Ideal) x0 x1 x2 x3 x4 x5 (ix2 r l) = err x0 x1 x2 x3 x4 x5 r l := by
  have h0 := ref_v28 x0 x1 x3 r
  unfold err gr
  generalize hb0 : val_main_v28 (F := Ideal) x0 x1 x3 = b0 at h0
  pointwise [val_main_v33, val_main_v32, val_main_v31, val_main_v30, val_main_v29, hb0, h0]

theorem ref_v47 (r : Fin 8192) (l : Fin 1024) :
    val_main_v47 (F := Ideal) x0 x1 x2 x3 x4 x5 (ix2 r l) = dy x0 x1 x2 x3 x4 x5 r l := by
  have h0 := ref_v33 x0 x1 x2 x3 x4 x5 r
  unfold dy
  rw [← half_two]
  generalize hb0 : val_main_v33 (F := Ideal) x0 x1 x2 x3 x4 x5 = b0 at h0
  pointwise [val_main_v47, val_main_v46, val_main_v45, val_main_v44, val_main_v43, val_main_v42, val_main_v36, val_main_v35,
    val_main_cst_7, val_main_cst_12, val_main_cst_13, val_main_cst_14, hb0, h0]

/-- The bias's gradient. -/
theorem ref_v49 (l : Fin 1024) :
    val_main_v49 (F := Ideal) x0 x1 x2 x3 x4 x5 (ix2 0 l) = ∑ r : Fin 8192, dy x0 x1 x2 x3 x4 x5 r l := by
  have h0 := ref_v47 x0 x1 x2 x3 x4 x5
  generalize hb0 : val_main_v47 (F := Ideal) x0 x1 x2 x3 x4 x5 = b0 at h0
  pointwise [val_main_v49, val_main_v48, val_main_cst_15, hb0, h0]

/-- The gain's gradient. -/
theorem ref_v52 (l : Fin 1024) :
    val_main_v52 (F := Ideal) x0 x1 x2 x3 x4 x5 (ix2 0 l)
      = ∑ r : Fin 8192, xh (rr x0 x1 x3 r) l * dy x0 x1 x2 x3 x4 x5 r l := by
  have h0 := ref_v47 x0 x1 x2 x3 x4 x5
  have h1 := ref_v28 x0 x1 x3
  generalize hb1 : val_main_v28 (F := Ideal) x0 x1 x3 = b1 at h1
  generalize hb0 : val_main_v47 (F := Ideal) x0 x1 x2 x3 x4 x5 = b0 at h0
  pointwise [val_main_v52, val_main_v51, val_main_v50, val_main_cst_16, hb0, h0, hb1, h1]

theorem ref_v54 (r : Fin 8192) (l : Fin 1024) :
    val_main_v54 (F := Ideal) x0 x1 x2 x3 x4 x5 (ix2 r l) = dy x0 x1 x2 x3 x4 x5 r l * gr x4 l := by
  have h0 := ref_v47 x0 x1 x2 x3 x4 x5 r
  unfold gr
  generalize hb0 : val_main_v47 (F := Ideal) x0 x1 x2 x3 x4 x5 = b0 at h0
  pointwise [val_main_v54, val_main_v53, hb0, h0]

theorem ref_v59 (r : Fin 8192) (l : Fin 1024) :
    val_main_v59 (F := Ideal) x0 x1 x2 x3 x4 x5 (ix2 r l) = dy x0 x1 x2 x3 x4 x5 r l * gr x4 l * rs (rr x0 x1 x3 r) := by
  have h0 := ref_v54 x0 x1 x2 x3 x4 x5 r
  have h1 := ref_v23 x0 x1 x3 r
  generalize hb1 : val_main_v23 (F := Ideal) x0 x1 x3 = b1 at h1
  generalize hb0 : val_main_v54 (F := Ideal) x0 x1 x2 x3 x4 x5 = b0 at h0
  pointwise [val_main_v59, val_main_v58, hb0, h0, hb1, h1]

theorem ref_v65 (r : Fin 8192) :
    val_main_v65 (F := Ideal) x0 x1 x2 x3 x4 x5 (ix2 r 0) = half (dy x0 x1 x2 x3 x4 x5 r) (rr x0 x1 x3 r) (gr x4) := by
  have h0 := ref_v54 x0 x1 x2 x3 x4 x5 r
  have h1 := ref_v20 x0 x1 x3 r
  have h2 := ref_v26 x0 x1 x3 r
  unfold half
  generalize hb2 : val_main_v26 (F := Ideal) x0 x1 x3 = b2 at h2
  generalize hb1 : val_main_v20 (F := Ideal) x0 x1 x3 = b1 at h1
  generalize hb0 : val_main_v54 (F := Ideal) x0 x1 x2 x3 x4 x5 = b0 at h0
  pointwise [val_main_v65, val_main_v64, val_main_v60, val_main_v57, val_main_v56, val_main_v55, val_main_cst_17, val_main_cst_19, hb0, h0, hb1, h1, hb2, h2]

theorem ref_v68 (r : Fin 8192) (l : Fin 1024) :
    val_main_v68 (F := Ideal) x0 x1 x2 x3 x4 x5 (ix2 r l) = var (dy x0 x1 x2 x3 x4 x5 r) (rr x0 x1 x3 r) (gr x4) l := by
  have h0 := ref_v65 x0 x1 x2 x3 x4 x5 r
  have h1 := ref_v11 x0 x1 x3 r
  unfold var
  generalize hb1 : val_main_v11 (F := Ideal) x0 x1 x3 = b1 at h1
  generalize hb0 : val_main_v65 (F := Ideal) x0 x1 x2 x3 x4 x5 = b0 at h0
  pointwise [val_main_v68, val_main_v67, val_main_v66, val_main_v14, val_main_v13, val_main_cst_2, val_main_cst_20, hb0, hb1, h1]
  rw [Fin.sum_univ_one, h0]

/-- The reference's gradient, as the chain rule gives it. -/
theorem ref_v78 (r : Fin 8192) (l : Fin 1024) :
    val_main_v78 (F := Ideal) x0 x1 x2 x3 x4 x5 (ix2 r l) = chain (dy x0 x1 x2 x3 x4 x5 r) (rr x0 x1 x3 r) (gr x4) l := by
  have h0 := ref_v59 x0 x1 x2 x3 x4 x5 r
  have h1 := ref_v68 x0 x1 x2 x3 x4 x5 r
  unfold chain
  generalize hb1 : val_main_v68 (F := Ideal) x0 x1 x2 x3 x4 x5 = b1 at h1
  generalize hb0 : val_main_v59 (F := Ideal) x0 x1 x2 x3 x4 x5 = b0 at h0
  pointwise [val_main_v78, val_main_v77, val_main_v76, val_main_v75, val_main_v74, val_main_v73, val_main_v72, val_main_v71, val_main_v70, val_main_v69, val_main_v63, val_main_v62, val_main_v61, val_main_cst_18, val_main_cst_21, val_main_cst_22, val_main_cst_23, hb0, h0, hb1, h1]
  rw [Fin.sum_univ_one]

/-- The loss, in every column: the sum of the squared errors, halved and over the row's length. -/
theorem ref_v80 (i : S1x128.Idx) : val_main_v80 (F := Ideal) x0 x1 x2 x3 x4 x5 i
      = ∑ r : Fin 8192, Ideal.ofBits FTy.f32 0x3A000000#32 * ∑ l : Fin 1024, err x0 x1 x2 x3 x4 x5 r l * err x0 x1 x2 x3 x4 x5 r l := by
  have h0 := ref_v33 x0 x1 x2 x3 x4 x5
  have e (s : EReal) : Ideal.ofBits FTy.f32 0x3A000000#32 * s
      = Ideal.ofBits FTy.f32 0x3F000000#32 * Ideal.div s (Ideal.ofBits FTy.f32 0x44800000#32) := by
    rw [c_len, Ideal.div_coe (by norm_num), c_pos_half, c_half_inv, mul_comm s, ← mul_assoc, ← EReal.coe_mul]
    norm_num
  simp only [e]
  rw [c_pos_half, ← mul_sum_real _ _ (by norm_num), ← c_pos_half]
  generalize hb0 : val_main_v33 (F := Ideal) x0 x1 x2 x3 x4 x5 = b0 at h0
  pointwise [val_main_v80, val_main_v41, val_main_v40, val_main_v39, val_main_v38, val_main_v37, val_main_v34, val_main_cst_8,
    val_main_cst_9, val_main_cst_10, val_main_cst_11, hb0, h0]

end Cert.FfnOutLossIdeal.Value

end
-- ==== Proof.FfnOutLossValue.lean ====
/- What the loss head computes, against the reference. -/
module

public import proofs.«01_k».proof.Proof.Gen.FfnOutLossIdeal.Frame
public import proofs.«01_k».proof.Proof.Gen.FfnOutLossRefIdeal.Read
public import Idealize.ShloMosaic.Lib.Pipeline.ValueKit
public import Idealize.ShloMosaic.Lib.Pointwise
public import Idealize.ShloMosaic.Lib.Claim
public import proofs.«01_k».proof.Proof.FfnOutLossRefValue

@[expose] public section

set_option maxRecDepth 16384

noncomputable section

open Idealize.ShloMosaic Idealize.ShloMosaic.TcCoe Idealize.SL.Sem
open Idealize.ShloMosaic.Pipeline (Dat)

namespace Cert.FfnOutLossIdeal.Value

open Cert.FfnOutLossIdeal Cert.FfnOutLossIdeal.Gen
open Cert.FfnOutLossRefIdeal.Read

variable (m : (ℓ : Loc nD τ sig) → Buf (Elt Ideal) ℓ)

open Cert.NormGrad

/-- Where each window's block lies at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0]
    ∧ win0_10.index t = ![0, 0]
    ∧ t.val < 32 :=
  (by decide +kernel : ∀ t : Fin grid0.N, _)

/-- The array row of a row of a point's blocks. -/
def row (t : Fin cfg0.N) (j : Fin 256) : Fin 8192 := ⟨t.val * 256 + j.val, by have h : t.val < 32 := t.isLt; omega⟩

section Pay

variable (v3 : FVec Ideal S256x1024 .f32) (v6 : FVec Ideal S256x2816 .bf16) (v7 : FVec Ideal S2816x1024 .bf16)

/-- A row of a point's blocks, before the norm. -/
def kr (j : Fin 256) : Row := fun l =>
  Ideal.ofBits FTy.f32 0x3F9837F0#32 * v3 (ix2 j l) + ∑ k : Fin 2816, v6 (ix2 j k) * v7 (ix2 k l)

/-- A row less its mean, as a point computes it. -/
theorem pay7 (j : Fin 256) (l : Fin 1024) : k0_pay7 (F := Ideal) v3 v6 v7 (ix2 j l) = xc (kr v3 v6 v7 j) l := by
  unfold xc mu kr
  pointwise [k0_pay7]

theorem pay8 (j : Fin 256) : k0_pay8 (F := Ideal) v3 v6 v7 (ix2 j 0) = rs (kr v3 v6 v7 j) := by
  have h := pay7 v3 v6 v7 j
  unfold rs ve k0_pay8
  generalize hb : k0_pay7 (F := Ideal) v3 v6 v7 = b at h ⊢
  pointwise [h]

/-- The normalised row, as a point computes it. -/
theorem pay9 (j : Fin 256) (l : Fin 1024) : k0_pay9 (F := Ideal) v3 v6 v7 (ix2 j l) = xh (kr v3 v6 v7 j) l := by
  have h := pay7 v3 v6 v7 j
  have h' := pay8 v3 v6 v7 j
  unfold xh k0_pay9
  generalize k0_pay8 (F := Ideal) v3 v6 v7 = b' at h' ⊢
  generalize k0_pay7 (F := Ideal) v3 v6 v7 = b at h ⊢
  pointwise [h, h']

/-- The error, as a point computes it. -/
theorem pay10 (g b : FVec Ideal S1x1024 .f32) (tg : FVec Ideal S256x1024 .f32) (j : Fin 256) (l : Fin 1024) :
    k0_pay10 (F := Ideal) v3 v6 v7 g b tg (ix2 j l) = xh (kr v3 v6 v7 j) l * g (ix2 0 l) + b (ix2 0 l) - tg (ix2 j l) := by
  have h := pay9 v3 v6 v7 j
  unfold k0_pay10
  generalize k0_pay9 (F := Ideal) v3 v6 v7 = b' at h ⊢
  pointwise [h]

variable (e : FVec Ideal S256x1024 .f32) (g : FVec Ideal S1x1024 .f32)

theorem pay12 (j : Fin 256) (l : Fin 1024) :
    k0_pay12 (F := Ideal) e (ix2 j l) = e (ix2 j l) * Ideal.ofBits FTy.f32 0x3A800000#32 := by
  pointwise [k0_pay12]

theorem pay15 (j : Fin 256) (l : Fin 1024) :
    k0_pay15 (F := Ideal) e g (ix2 j l) = e (ix2 j l) * Ideal.ofBits FTy.f32 0x3A800000#32 * g (ix2 0 l) := by
  have h := pay12 e j
  unfold k0_pay15
  generalize k0_pay12 (F := Ideal) e = b at h ⊢
  pointwise [h]

theorem pay16 (j : Fin 256) :
    k0_pay16 (F := Ideal) e g (ix2 j 0) = Ideal.div (∑ k : Fin 1024, e (ix2 j k) * Ideal.ofBits FTy.f32 0x3A800000#32 * g (ix2 0 k))
      (Ideal.ofBits FTy.f32 0x44800000#32) := by
  have h := pay15 e g j
  unfold k0_pay16
  generalize k0_pay15 (F := Ideal) e g = b at h ⊢
  pointwise [h]

theorem pay17 (x : FVec Ideal S256x1024 .f32) (j : Fin 256) :
    k0_pay17 (F := Ideal) x e g (ix1 j)
      = ∑ k : Fin 1024, e (ix2 j k) * Ideal.ofBits FTy.f32 0x3A800000#32 * g (ix2 0 k) * x (ix2 j k) := by
  have h := pay15 e g j
  unfold k0_pay17
  generalize k0_pay15 (F := Ideal) e g = b at h ⊢
  pointwise [h]

/-- The gradient of a row, as a point computes it. -/
theorem pay1 (j : Fin 256) (l : Fin 1024) :
    k0_pay1 (F := Ideal) (k0_pay8 v3 v6 v7) (k0_pay9 v3 v6 v7) (k0_pay15 e g) (k0_pay16 e g) (k0_pay17 (k0_pay9 v3 v6 v7) e g) (ix2 j l)
      = ker (fun k => e (ix2 j k) * Ideal.ofBits FTy.f32 0x3A800000#32) (kr v3 v6 v7 j) (fun k => g (ix2 0 k)) l := by
  have h8 := pay8 v3 v6 v7 j
  have h9 := pay9 v3 v6 v7 j
  have h15 := pay15 e g j
  have h16 := pay16 e g j
  have h17 := pay17 e g (k0_pay9 v3 v6 v7) j
  simp only [h9] at h17
  unfold ker
  generalize k0_pay17 (F := Ideal) (k0_pay9 v3 v6 v7) e g = b17 at h17 ⊢
  generalize k0_pay16 (F := Ideal) e g = b16 at h16 ⊢
  generalize k0_pay15 (F := Ideal) e g = b15 at h15 ⊢
  generalize k0_pay9 (F := Ideal) v3 v6 v7 = b9 at h9 ⊢
  generalize k0_pay8 (F := Ideal) v3 v6 v7 = b8 at h8 ⊢
  pointwise [k0_pay1, h8, h9, h15, h16, h17]

/-- The two stores keep the gradient's entries. -/
theorem pay2 (a : FVec Ideal S256x1 .f32) (b d : FVec Ideal S256x1024 .f32) (f : FVec Ideal S256x1 .f32) (h : FVec Ideal S256 .f32)
    (j : Fin 256) (l : Fin 1024) : k0_pay2 (F := Ideal) a b d f h (ix2 j l) = k0_pay1 (F := Ideal) a b d f h (ix2 j l) := by
  unfold k0_pay2
  generalize k0_pay1 (F := Ideal) a b d f h = p
  pointwise []

theorem pay3 (a : FVec Ideal S256x1 .f32) (b d : FVec Ideal S256x1024 .f32) (f : FVec Ideal S256x1 .f32) (h : FVec Ideal S256 .f32)
    (j : Fin 256) (l : Fin 1024) : k0_pay3 (F := Ideal) a b d f h (ix2 j l) = k0_pay1 (F := Ideal) a b d f h (ix2 j l) := by
  unfold k0_pay3
  generalize k0_pay1 (F := Ideal) a b d f h = p
  pointwise []

/-- The first point clears the three sums. -/
theorem zero4 (j : S1x128.Idx) : k0_pay4 (F := Ideal) j = 0 := by
  pointwise! [k0_pay4]

theorem zero5 (j : S1x1024.Idx) : k0_pay5 (F := Ideal) j = 0 := by
  pointwise! [k0_pay5]

theorem zero6 (j : S1x1024.Idx) : k0_pay6 (F := Ideal) j = 0 := by
  pointwise! [k0_pay6]

/-- A point adds its rows' loss to every column. -/
theorem pay11 (acc : FVec Ideal S1x128 .f32) (i : S1x128.Idx) :
    k0_pay11 (F := Ideal) e acc i = acc i + Ideal.ofBits FTy.f32 0x3A000000#32 * ∑ j : Fin 256, ∑ l : Fin 1024, e (ix2 j l) * e (ix2 j l) := by
  obtain ⟨z, l, rfl⟩ : ∃ (z : Fin 1) (l : Fin 128), i = ix2 z l := ⟨i 0, i 1, by ext a; fin_cases a <;> rfl⟩
  pointwise [k0_pay11]

theorem pay13 (x : FVec Ideal S256x1024 .f32) (acc : FVec Ideal S1x1024 .f32) (i : S1x1024.Idx) :
    k0_pay13 (F := Ideal) x e acc i
      = acc i + ∑ j : Fin 256, e (ix2 j (i 1)) * Ideal.ofBits FTy.f32 0x3A800000#32 * x (ix2 j (i 1)) := by
  obtain ⟨z, l, rfl⟩ : ∃ (z : Fin 1) (l : Fin 1024), i = ix2 z l := ⟨i 0, i 1, by ext a; fin_cases a <;> rfl⟩
  have h := pay12 e
  unfold k0_pay13
  generalize k0_pay12 (F := Ideal) e = b at h ⊢
  pointwise [h]

theorem pay14 (acc : FVec Ideal S1x1024 .f32) (i : S1x1024.Idx) :
    k0_pay14 (F := Ideal) e acc i = acc i + ∑ j : Fin 256, e (ix2 j (i 1)) * Ideal.ofBits FTy.f32 0x3A800000#32 := by
  obtain ⟨z, l, rfl⟩ : ∃ (z : Fin 1) (l : Fin 1024), i = ix2 z l := ⟨i 0, i 1, by ext a; fin_cases a <;> rfl⟩
  have h := pay12 e
  unfold k0_pay14
  generalize k0_pay12 (F := Ideal) e = b at h ⊢
  pointwise [h]

end Pay

/-- A row of a point's blocks is the array's row. -/
theorem blkr (c : Dev nD) (t : Fin cfg0.N) (j : Fin 256) :
    kr (iblk m c 1 t) (iblk m c 0 t) (iblk m c 3 t) j = (rr (m ((c : Thread nD τ).loc main_arg0)) (m ((c : Thread nD τ).loc main_arg1)) (m ((c : Thread nD τ).loc main_arg3)) (row t j)) := by
  funext l
  unfold kr rr row
  blk_point [iblk, V, idx t]

theorem blk4 (c : Dev nD) (t : Fin cfg0.N) : (fun k => iblk (F := Ideal) m c 4 t (ix2 0 k)) = gr (m ((c : Thread nD τ).loc main_arg4)) := by
  funext k
  unfold gr
  blk_point [iblk, V, idx t]

theorem blk5 (c : Dev nD) (t : Fin cfg0.N) : (fun k => iblk (F := Ideal) m c 5 t (ix2 0 k)) = gr (m ((c : Thread nD τ).loc main_arg5)) := by
  funext k
  unfold gr
  blk_point [iblk, V, idx t]

theorem blk2 (c : Dev nD) (t : Fin cfg0.N) (j : Fin 256) (l : Fin 1024) :
    iblk (F := Ideal) m c 2 t (ix2 j l) = (m ((c : Thread nD τ).loc main_arg2)) (ix2 (row t j) l) := by
  unfold row
  blk_point [iblk, V, idx t]

/-- A point's errors. -/
def E (c : Dev nD) (t : Fin cfg0.N) : FVec Ideal S256x1024 .f32 :=
  k0_pay10 (F := Ideal) (iblk m c 1 t) (iblk m c 0 t) (iblk m c 3 t) (iblk m c 4 t) (iblk m c 5 t) (iblk m c 2 t)

theorem E_eq (c : Dev nD) (t : Fin cfg0.N) (j : Fin 256) (l : Fin 1024) : E m c t (ix2 j l) = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l := by
  unfold E err
  rw [pay10, blkr, blk2]
  exact congrArg₂ (fun a b => _ * a + b - _) (congrFun (blk4 m c t) l) (congrFun (blk5 m c t) l)

theorem E_dy (c : Dev nD) (t : Fin cfg0.N) (j : Fin 256) (l : Fin 1024) :
    E m c t (ix2 j l) * Ideal.ofBits FTy.f32 0x3A800000#32 = dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l := by
  rw [E_eq]; rfl

/-- What a point leaves of the gradient. -/
theorem cell (c : Dev nD) (t : Fin cfg0.N) (j : Fin 256) (l : Fin 1024) :
    k0_pay1 (F := Ideal) (k0_pay8 (iblk m c 1 t) (iblk m c 0 t) (iblk m c 3 t)) (k0_pay9 (iblk m c 1 t) (iblk m c 0 t) (iblk m c 3 t))
        (k0_pay15 (E m c t) (iblk m c 4 t)) (k0_pay16 (E m c t) (iblk m c 4 t))
        (k0_pay17 (k0_pay9 (iblk m c 1 t) (iblk m c 0 t) (iblk m c 3 t)) (E m c t) (iblk m c 4 t)) (ix2 j l)
      = ker (dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j)) (rr (m ((c : Thread nD τ).loc main_arg0)) (m ((c : Thread nD τ).loc main_arg1)) (m ((c : Thread nD τ).loc main_arg3)) (row t j)) (gr (m ((c : Thread nD τ).loc main_arg4))) l := by
  rw [pay1, blkr, blk4]
  exact congrArg (fun d => ker d _ _ l) (funext fun k => E_dy m c t j k)

theorem outs_6 (c : Dev nD) (t : Fin cfg0.N) (j : Fin 256) (l : Fin 1024) :
    (outsAt0 m c t.val t.isLt).1 (ix2 j l) = ker (dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j)) (rr (m ((c : Thread nD τ).loc main_arg0)) (m ((c : Thread nD τ).loc main_arg1)) (m ((c : Thread nD τ).loc main_arg3)) (row t j)) (gr (m ((c : Thread nD τ).loc main_arg4))) l := by
  by_cases h : t.val % 32 = 0
  · rw [outsAt0_A m c t h]; frame_out; rw [pay2]; exact cell m c t j l
  · rw [outsAt0_B m c t h]; frame_out; rw [pay2]; exact cell m c t j l

theorem outs_7 (c : Dev nD) (t : Fin cfg0.N) (j : Fin 256) (l : Fin 1024) :
    (outsAt0 m c t.val t.isLt).2.1 (ix2 j l) = ker (dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j)) (rr (m ((c : Thread nD τ).loc main_arg0)) (m ((c : Thread nD τ).loc main_arg1)) (m ((c : Thread nD τ).loc main_arg3)) (row t j)) (gr (m ((c : Thread nD τ).loc main_arg4))) l := by
  by_cases h : t.val % 32 = 0
  · rw [outsAt0_A m c t h]; frame_out; rw [pay3]; exact cell m c t j l
  · rw [outsAt0_B m c t h]; frame_out; rw [pay3]; exact cell m c t j l

/-- The loss that a point adds. -/
theorem part11 (c : Dev nD) (t : Fin cfg0.N) :
    Ideal.ofBits FTy.f32 0x3A000000#32 * ∑ j : Fin 256, ∑ l : Fin 1024, E m c t (ix2 j l) * E m c t (ix2 j l)
      = ∑ j : Fin 256, Ideal.ofBits FTy.f32 0x3A000000#32 * ∑ l : Fin 1024, err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l := by
  rw [c_half_inv, mul_sum_real _ _ (by norm_num)]
  exact Finset.sum_congr rfl fun j _ => by simp only [E_eq]

/-- The loss, after the run. -/
theorem outs_8 (c : Dev nD) (t : Fin cfg0.N) (hf : t.val % 32 = 31) (i : S1x128.Idx) :
    (outsAt0 m c t.val t.isLt).2.2.1 i = ∑ r : Fin 8192, Ideal.ofBits FTy.f32 0x3A000000#32 * ∑ l : Fin 1024, err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r l * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r l := by
  have ht : t.val < 32 := t.isLt
  rw [Pipeline.eq_sum_fin_of_reset_step_apply_of_flush (fun n h => (outsAt0 m c n h).2.2.1) 32 (fun _ => 0)
    (fun t i => ∑ j : Fin 256, Ideal.ofBits FTy.f32 0x3A000000#32 * ∑ l : Fin 1024, err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l)
    (fun t h i => by
      rw [outsAt0_A m c t h]; frame_out; rw [pay11, zero4]
      exact congrArg (0 + ·) (part11 m c t))
    (fun t h i => by
      rw [outsAt0_B m c t h]; frame_out; rw [pay11]
      exact congrArg (_ + ·) (part11 m c t))
    t hf i, zero_add]
  refine Fin.sum_mul_add_congr fun s k hl => ?_
  have e : row ⟨32 * (t.val / 32) + s.val, Pipeline.run_point_lt_of_flush t hf s⟩ k = ⟨s.val * 256 + k.val, hl⟩ :=
    Fin.ext (by show (32 * (t.val / 32) + s.val) * 256 + k.val = s.val * 256 + k.val; omega)
  rw [e]

/-- The rows that a point adds to the gain's gradient. -/
theorem part13 (c : Dev nD) (t : Fin cfg0.N) (j : Fin 256) (l : Fin 1024) :
    E m c t (ix2 j l) * Ideal.ofBits FTy.f32 0x3A800000#32 * k0_pay9 (F := Ideal) (iblk m c 1 t) (iblk m c 0 t) (iblk m c 3 t) (ix2 j l)
      = xh (rr (m ((c : Thread nD τ).loc main_arg0)) (m ((c : Thread nD τ).loc main_arg1)) (m ((c : Thread nD τ).loc main_arg3)) (row t j)) l * dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l := by
  rw [E_dy, pay9, blkr, mul_comm]

/-- The gain's gradient, after the run. -/
theorem outs_9 (c : Dev nD) (t : Fin cfg0.N) (hf : t.val % 32 = 31) (i : S1x1024.Idx) :
    (outsAt0 m c t.val t.isLt).2.2.2.1 i = ∑ r : Fin 8192, xh (rr (m ((c : Thread nD τ).loc main_arg0)) (m ((c : Thread nD τ).loc main_arg1)) (m ((c : Thread nD τ).loc main_arg3)) r) (i 1) * dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (i 1) := by
  have ht : t.val < 32 := t.isLt
  rw [Pipeline.eq_sum_fin_of_reset_step_apply_of_flush (fun n h => (outsAt0 m c n h).2.2.2.1) 32 (fun _ => 0)
    (fun t i => ∑ j : Fin 256, xh (rr (m ((c : Thread nD τ).loc main_arg0)) (m ((c : Thread nD τ).loc main_arg1)) (m ((c : Thread nD τ).loc main_arg3)) (row t j)) (i 1) * dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) (i 1))
    (fun t h i => by
      rw [outsAt0_A m c t h]; frame_out; rw [pay13, zero5]
      exact congrArg (0 + ·) (Finset.sum_congr rfl fun j _ => part13 m c t j _))
    (fun t h i => by
      rw [outsAt0_B m c t h]; frame_out; rw [pay13]
      exact congrArg (_ + ·) (Finset.sum_congr rfl fun j _ => part13 m c t j _))
    t hf i, zero_add]
  refine Fin.sum_mul_add_congr fun s k hl => ?_
  have e : row ⟨32 * (t.val / 32) + s.val, Pipeline.run_point_lt_of_flush t hf s⟩ k = ⟨s.val * 256 + k.val, hl⟩ :=
    Fin.ext (by show (32 * (t.val / 32) + s.val) * 256 + k.val = s.val * 256 + k.val; omega)
  rw [e]

/-- The bias's gradient, after the run. -/
theorem outs_10 (c : Dev nD) (t : Fin cfg0.N) (hf : t.val % 32 = 31) (i : S1x1024.Idx) :
    (outsAt0 m c t.val t.isLt).2.2.2.2 i = ∑ r : Fin 8192, dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (i 1) := by
  have ht : t.val < 32 := t.isLt
  rw [Pipeline.eq_sum_fin_of_reset_step_apply_of_flush (fun n h => (outsAt0 m c n h).2.2.2.2) 32 (fun _ => 0)
    (fun t i => ∑ j : Fin 256, dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) (i 1))
    (fun t h i => by
      rw [outsAt0_A m c t h]; frame_out; rw [pay14, zero6]
      exact congrArg (0 + ·) (Finset.sum_congr rfl fun j _ => E_dy m c t j _))
    (fun t h i => by
      rw [outsAt0_B m c t h]; frame_out; rw [pay14]
      exact congrArg (_ + ·) (Finset.sum_congr rfl fun j _ => E_dy m c t j _))
    t hf i, zero_add]
  refine Fin.sum_mul_add_congr fun s k hl => ?_
  have e : row ⟨32 * (t.val / 32) + s.val, Pipeline.run_point_lt_of_flush t hf s⟩ k = ⟨s.val * 256 + k.val, hl⟩ :=
    Fin.ext (by show (32 * (t.val / 32) + s.val) * 256 + k.val = s.val * 256 + k.val; omega)
  rw [e]

/-- Every entry of the arguments is a real. -/
structure Reals (c : Dev nD) : Prop where
  r0 : ∀ i, ∃ r : ℝ, ((m ((c : Thread nD τ).loc main_arg0)) : FVec Ideal S8192x2816 .bf16) i = (r : EReal)
  r1 : ∀ i, ∃ r : ℝ, ((m ((c : Thread nD τ).loc main_arg1)) : FVec Ideal S8192x1024 .f32) i = (r : EReal)
  r2 : ∀ i, ∃ r : ℝ, ((m ((c : Thread nD τ).loc main_arg2)) : FVec Ideal S8192x1024 .f32) i = (r : EReal)
  r3 : ∀ i, ∃ r : ℝ, ((m ((c : Thread nD τ).loc main_arg3)) : FVec Ideal S2816x1024 .bf16) i = (r : EReal)
  r4 : ∀ i, ∃ r : ℝ, ((m ((c : Thread nD τ).loc main_arg4)) : FVec Ideal S1x1024 .f32) i = (r : EReal)
  r5 : ∀ i, ∃ r : ℝ, ((m ((c : Thread nD τ).loc main_arg5)) : FVec Ideal S1x1024 .f32) i = (r : EReal)

/-- On real arguments the two forms of the gradient agree. -/
theorem ker_chain (c : Dev nD) (hc : Reals m c) (r : Fin 8192) (l : Fin 1024) :
    ker (dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r) (rr (m ((c : Thread nD τ).loc main_arg0)) (m ((c : Thread nD τ).loc main_arg1)) (m ((c : Thread nD τ).loc main_arg3)) r) (gr (m ((c : Thread nD τ).loc main_arg4))) l = chain (dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r) (rr (m ((c : Thread nD τ).loc main_arg0)) (m ((c : Thread nD τ).loc main_arg1)) (m ((c : Thread nD τ).loc main_arg3)) r) (gr (m ((c : Thread nD τ).loc main_arg4))) l := by
  obtain ⟨h0, h1, h2, h3, h4, h5⟩ := hc
  choose y0 h0 using h0
  choose y1 h1 using h1
  choose y2 h2 using h2
  choose y3 h3 using h3
  choose y4 h4 using h4
  choose y5 h5 using h5
  obtain ⟨a, ha⟩ := c_alpha
  obtain ⟨x, hx⟩ : ∃ x : Fin 1024 → ℝ, (rr (m ((c : Thread nD τ).loc main_arg0)) (m ((c : Thread nD τ).loc main_arg1)) (m ((c : Thread nD τ).loc main_arg3)) r) = fun k => (x k : EReal) := by
    refine ⟨fun l => a * y1 (ix2 r l) + ∑ k : Fin 2816, y0 (ix2 r k) * y3 (ix2 k l), funext fun l => ?_⟩
    simp only [rr, h0, h1, h3, ha, ← EReal.coe_mul, coe_sum, ← EReal.coe_add]
  obtain ⟨h, hh⟩ := xh_real x
  have eg : gr (m ((c : Thread nD τ).loc main_arg4)) = fun k => ((y4 (ix2 0 k) : ℝ) : EReal) := funext fun k => h4 _
  have eb : gr (m ((c : Thread nD τ).loc main_arg5)) = fun k => ((y5 (ix2 0 k) : ℝ) : EReal) := funext fun k => h5 _
  have ed : dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r = fun k => (((h k * y4 (ix2 0 k) + y5 (ix2 0 k) - y2 (ix2 r k)) * (1 / 1024) : ℝ) : EReal) := by
    funext l
    simp only [dy, err, hx, hh, eg, eb, h2, c_inv, ← EReal.coe_mul, ← EReal.coe_add, ← EReal.coe_sub]
  rw [ed, hx, eg]
  exact ker_eq_chain _ x _ l

/-- The gradient after the run is the reference's, on real arguments. -/
theorem final_6 (c : Dev nD) (hc : Reals m c) :
    (dats m 0 c).arrAt 6 (cfgs 0).N = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  obtain ⟨j, l, rfl⟩ : ∃ (j : Fin 256) (l : Fin 1024), y = ix2 j l := ⟨y 0, y 1, by ext a; fin_cases a <;> rfl⟩
  have e : ((cfg0.win 6).blk t).view.emb (ix2 j l) = ix2 (row t j) l := by
    unfold row
    blk_ext [idx t]
  rw [e, ref_v78, ← ker_chain m c hc]
  exact outs_6 m c t j l

/-- The same, for the rounded copy. -/
theorem final_7 (c : Dev nD) (hc : Reals m c) :
    (dats m 0 c).arrAt 7 (cfgs 0).N = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  obtain ⟨j, l, rfl⟩ : ∃ (j : Fin 256) (l : Fin 1024), y = ix2 j l := ⟨y 0, y 1, by ext a; fin_cases a <;> rfl⟩
  have e : ((cfg0.win 7).blk t).view.emb (ix2 j l) = ix2 (row t j) l := by
    unfold row
    blk_ext [idx t]
  have h := ref_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t j) l
  rw [← ker_chain m c hc] at h
  rw [e]
  refine (outs_7 m c t j l).trans (h.symm.trans ?_)
  generalize hb : val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = b
  pointwise [val_main_v79, hb]

/-- The loss after the run is the reference's. -/
theorem final_8 (c : Dev nD) : (dats m 0 c).arrAt 8 (cfgs 0).N = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8, ref_v80]
  exact outs_8 m c t ((flush0_8 t).mp hf) y

/-- The gain's gradient after the run is the reference's. -/
theorem final_9 (c : Dev nD) : (dats m 0 c).arrAt 9 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp; rw [after0_9]
  obtain ⟨z, l, rfl⟩ : ∃ (z : Fin 1) (l : Fin 1024), y = ix2 z l := ⟨y 0, y 1, by ext a; fin_cases a <;> rfl⟩
  have e : ((cfg0.win 9).blk t).view.emb (ix2 z l) = ix2 0 l := by
    blk_ext [idx t]
  rw [e, ref_v52]
  exact outs_9 m c t ((flush0_9 t).mp hf) (ix2 z l)

/-- The bias's gradient after the run is the reference's. -/
theorem final_10 (c : Dev nD) : (dats m 0 c).arrAt 10 (cfgs 0).N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp; rw [after0_10]
  obtain ⟨z, l, rfl⟩ : ∃ (z : Fin 1) (l : Fin 1024), y = ix2 z l := ⟨y 0, y 1, by ext a; fin_cases a <;> rfl⟩
  have e : ((cfg0.win 10).blk t).view.emb (ix2 z l) = ix2 0 l := by
    blk_ext [idx t]
  rw [e, ref_v49]
  exact outs_10 m c t ((flush0_10 t).mp hf) (ix2 z l)

end Cert.FfnOutLossIdeal.Value

end
-- ==== Proof.AdamwWInValue.lean ====
/- The optimiser's step of the input projection's weight: what the kernel leaves is one step of AdamW. -/
module

public import proofs.«01_k».proof.Proof.Gen.AdamwWInIdeal.Frame
public import proofs.«01_k».proof.Proof.Gen.AdamwWInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWInIdeal.Value

open Cert.AdamwWInIdeal Cert.AdamwWInIdeal.Gen
open Cert.AdamwWInRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWInIdeal.Value

end
-- ==== Proof.AdamwWConvDwValue.lean ====
/- The optimiser's step of the weight of the convolution branch's depthwise convolution: what the kernel leaves is one step of AdamW. -/
module

public import proofs.«01_k».proof.Proof.Gen.AdamwWConvDwIdeal.Frame
public import proofs.«01_k».proof.Proof.Gen.AdamwWConvDwRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWConvDwIdeal.Value

open Cert.AdamwWConvDwIdeal Cert.AdamwWConvDwIdeal.Gen
open Cert.AdamwWConvDwRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWConvDwIdeal.Value

end
-- ==== Proof.AdamwWConvOutValue.lean ====
/- The optimiser's step of the convolution branch's output weight: what the kernel leaves is one step of AdamW. -/
module

public import proofs.«01_k».proof.Proof.Gen.AdamwWConvOutIdeal.Frame
public import proofs.«01_k».proof.Proof.Gen.AdamwWConvOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWConvOutIdeal.Value

open Cert.AdamwWConvOutIdeal Cert.AdamwWConvOutIdeal.Gen
open Cert.AdamwWConvOutRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWConvOutIdeal.Value

end
-- ==== Proof.AdamwWOutValue.lean ====
/- The optimiser's step of the merge's output weight: what the kernel leaves is one step of AdamW. -/
module

public import proofs.«01_k».proof.Proof.Gen.AdamwWOutIdeal.Frame
public import proofs.«01_k».proof.Proof.Gen.AdamwWOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWOutIdeal.Value

open Cert.AdamwWOutIdeal Cert.AdamwWOutIdeal.Gen
open Cert.AdamwWOutRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWOutIdeal.Value

end
-- ==== Proof.AdamwWFfnInValue.lean ====
/- The optimiser's step of the channel mixer's first weight: what the kernel leaves is one step of AdamW. -/
module

public import proofs.«01_k».proof.Proof.Gen.AdamwWFfnInIdeal.Frame
public import proofs.«01_k».proof.Proof.Gen.AdamwWFfnInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWFfnInIdeal.Value

open Cert.AdamwWFfnInIdeal Cert.AdamwWFfnInIdeal.Gen
open Cert.AdamwWFfnInRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWFfnInIdeal.Value

end
-- ==== Proof.AdamwWFfnDwValue.lean ====
/- The optimiser's step of the weight of the channel mixer's depthwise convolution: what the kernel leaves is one step of AdamW. -/
module

public import proofs.«01_k».proof.Proof.Gen.AdamwWFfnDwIdeal.Frame
public import proofs.«01_k».proof.Proof.Gen.AdamwWFfnDwRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWFfnDwIdeal.Value

open Cert.AdamwWFfnDwIdeal Cert.AdamwWFfnDwIdeal.Gen
open Cert.AdamwWFfnDwRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWFfnDwIdeal.Value

end
-- ==== Proof.AdamwWFfnOutValue.lean ====
/- The optimiser's step of the channel mixer's second weight: what the kernel leaves is one step of AdamW. -/
module

public import proofs.«01_k».proof.Proof.Gen.AdamwWFfnOutIdeal.Frame
public import proofs.«01_k».proof.Proof.Gen.AdamwWFfnOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwWFfnOutIdeal.Value

open Cert.AdamwWFfnOutIdeal Cert.AdamwWFfnOutIdeal.Gen
open Cert.AdamwWFfnOutRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwWFfnOutIdeal.Value

end
-- ==== Proof.AdamwSmallValue.lean ====
/- The optimiser's step of the ten small weights, packed in one array: what the kernel leaves is one step of AdamW. -/
module

public import proofs.«01_k».proof.Proof.Gen.AdamwSmallIdeal.Frame
public import proofs.«01_k».proof.Proof.Gen.AdamwSmallRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwSmallIdeal.Value

open Cert.AdamwSmallIdeal Cert.AdamwSmallIdeal.Gen
open Cert.AdamwSmallRefIdeal.Read

variable (m : (ℓ : Loc nD τ sig) → Buf (Elt Ideal) ℓ)

/-- Where each window's block lies at a grid point: the blocks go down the rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The weight's change, as a point stores it. -/
theorem point_4 (c : Dev nD) (t : Fin cfg0.N) (y) :
    k0_pay4 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay4, k0_pay2, k0_pay3, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- The weight's change, after the run. -/
theorem final_4 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_4 m c t y

/-- The first moment, as a point stores it. -/
theorem point_5 (c : Dev nD) (t : Fin cfg0.N) (y) :
    k0_pay5 (F := Ideal) (iblk m c 1 t) (iblk m c 2 t) y
      = val_main_v4 (F := Ideal) (m ((c : Thread nD τ).loc main_arg1)) (m ((c : Thread nD τ).loc main_arg2)) (((cfg0.win 5).blk t).view.emb y) := by
  pointwise [k0_pay5, k0_pay2, val_main_v4, val_main_v3, val_main_v2, val_main_v1, val_main_v0, val_main_cst, val_main_cst_0]
  blk_point [iblk, V, idx t]

/-- The first moment, after the run. -/
theorem final_5 (c : Dev nD) : (dats m 0 c).arrAt 5 (cfgs 0).N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_5 m c t y

/-- The second moment, as a point stores it. -/
theorem point_6 (c : Dev nD) (t : Fin cfg0.N) (y) :
    k0_pay1 (F := Ideal) (k0_pay3 (iblk m c 1 t) (iblk m c 3 t)) y
      = val_main_v10 (F := Ideal) (m ((c : Thread nD τ).loc main_arg1)) (m ((c : Thread nD τ).loc main_arg3)) (((cfg0.win 6).blk t).view.emb y) := by
  pointwise [k0_pay1, k0_pay3, val_main_v10, val_main_v9, val_main_v8, val_main_v7, val_main_v6, val_main_v5, val_main_cst_1, val_main_cst_2]
  blk_point [iblk, V, idx t]

/-- The second moment, after the run. -/
theorem final_6 (c : Dev nD) : (dats m 0 c).arrAt 6 (cfgs 0).N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_6 m c t y

end Cert.AdamwSmallIdeal.Value

end
-- ==== Proof.ProjIdealFrame.lean ====
/- The input projection: what its body does at a grid point, and from it the run of the whole call. The rounded
   rows are made at the first point of a row block only, and stay in their buffer until the last one writes them back. -/
module

public import proofs.«01_k».proof.Proof.Gen.ProjIdeal.Frame
public import Idealize.ShloMosaic.Lib.Pipeline.TableIdle
public import Idealize.ShloMosaic.Lib.VecWindow
public import Idealize.ShloMosaic.Lib.Pipeline.ValueKit
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the body's triple is stated in. -/
abbrev MM (F : FTy → Type) := MT nD τ sig Unit (Elt F) ℕ (UR sig nD τ) ℕ

variable (m : (ℓ : Loc nD τ sig) → Buf (Elt F) ℓ) (ρ : Dev nD → PrngReg)

/-- A block of rows, rounded. -/
def pay1 (x0 : Vec F S1024x1024 .f32) : FVec F S1024x1024 .bf16 :=
  shapeCast S1024x1024 (truncf .bf16 x0 bitsLt_bf16_f32) shapeCasts_S1024x1024_S1024x1024

/-- The product of rounded rows with a tile of the weight. -/
def pay2 (x : Vec F S1024x1024 .bf16) (w : Vec F S1024x1024 .bf16) : FVec F S1024x1024 .f32 :=
  shapeCast S1024x1024 (matmul dot_S1024x1024_S1024x1024_S1024x1024_1_0_0_1_n_n none x w
    (constant S1024x1024 .f32 0x00000000#32)) shapeCasts_S1024x1024_S1024x1024

/-- The first point of a row block is where the second grid coordinate is zero. -/
theorem hcond : ∀ t : Fin cfg0.N, k0_cond1 (grid0.coords t) = 1#1 ↔ t.val % 7 = 0 :=
  (by decide +kernel : ∀ t : Fin grid0.N, k0_cond1 (grid0.coords t) = 1#1 ↔ t.val % 7 = 0)

theorem live3 : ∀ t : Fin cfg0.N, t.val % 7 = 0 → cfg0.idle 3 (grid0.coords t) = false := by decide +kernel
theorem idle3 : ∀ t : Fin cfg0.N, ¬t.val % 7 = 0 → cfg0.idle 3 (grid0.coords t) = true := by decide +kernel

/-- After which points the buffer of the rounded rows holds nothing of the body's: the last of each row block. -/
def freshTab : ℕ → Bool := fun n => n % 7 == 0
theorem freshTab_step : ∀ t : Fin cfg0.N,
    freshTab (t.val + 1) = ((cfg0.win 3).flush t || (cfg0.idle 3 (cfg0.grid.coords t) && freshTab t.val)) := by decide +kernel
theorem fresh_eq (t : Fin cfg0.N) : cfg0.fresh 3 t.val = freshTab t.val :=
  Pipeline.Cfg.fresh_tab cfg0 3 freshTab rfl freshTab_step t.val (Nat.le_of_lt t.isLt)

/-- The body at the first point of a row block: it rounds the rows and multiplies them. -/
theorem run_first (c : Dev nD) (i : grid0.Coords) (arg2 : Memref sig .tc .vmem S1024x1024 .f32) (harg2 : arg2.IsWhole)
    (arg3 : Memref sig .tc .vmem S1024x1024 .bf16) (harg3 : arg3.IsWhole) (arg4 : Memref sig .tc .vmem S1024x1024 .f32) (harg4 : arg4.IsWhole)
    (arg5 : Memref sig .tc .vmem S1024x1024 .bf16) (harg5 : arg5.IsWhole) (hc0 : k0_cond1 i = 1#1)
    (x0 : Vec F S1024x1024 .f32) (x1 : Vec F S1024x1024 .bf16) (E : Set ℕ) (K : PUnit → sProp (MM F)) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare x1
            ∗ owns (c : Thread nD τ) arg4 fullShare (pay2 (pay1 x0) x1) ∗ owns (c : Thread nD τ) arg5 fullShare (pay1 x0)) -∗ K ⟨⟩))
      ⊢ wp frame (wpE (defs₀ (F := F)) Variants.none c none) E (cc0_proj i arg2 harg2 arg3 harg3 arg4 harg4 arg5 harg5) K := by
  unfold cc0_proj
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    unfold run_first.sl.v8 run_first.sl.v5 run_first.sl.v3 run_first.sl.H3_1 run_first.sl.v13 run_first.sl.v10 run_first.sl.cst
    exact congrArg₂ pay2 ((View.readCov_full _ _ _ _ _).trans (congrArg pay1 ((View.readAt_full _ _ _).trans (harg2.read_unread x0))))
      ((View.readAt_full _ _ _).trans (harg3.read_unread x1))
  · iexists _; isplitr
    swap; · iexact H3
    ipureintro
    unfold run_first.sl.H3_1
    refine (View.read_writes_full _ _ _ _ _).trans ?_
    unfold run_first.sl.v13 run_first.sl.v10
    exact congrArg pay1 ((View.readAt_full _ _ _).trans (harg2.read_unread x0))

/-- The body at the other points: the rounded rows are there, and stay. -/
theorem run_next (c : Dev nD) (i : grid0.Coords) (arg2 : Memref sig .tc .vmem S1024x1024 .f32) (harg2 : arg2.IsWhole)
    (arg3 : Memref sig .tc .vmem S1024x1024 .bf16) (harg3 : arg3.IsWhole) (arg4 : Memref sig .tc .vmem S1024x1024 .f32) (harg4 : arg4.IsWhole)
    (arg5 : Memref sig .tc .vmem S1024x1024 .bf16) (harg5 : arg5.IsWhole) (hc0 : ¬k0_cond1 i = 1#1)
    (x0 : Vec F S1024x1024 .f32) (x1 : Vec F S1024x1024 .bf16) (x3 : Vec F S1024x1024 .bf16) (E : Set ℕ) (K : PUnit → sProp (MM F)) :
    iprop(owns (c : Thread nD τ) arg2 fullShare x0 ∗ owns (c : Thread nD τ) arg3 fullShare x1 ∗ (∃ d, owns (c : Thread nD τ) arg4 fullShare d)
        ∗ owns (c : Thread nD τ) arg5 fullShare x3
        ∗ (iprop(owns (c : Thread nD τ) arg2 fullShare x0 ∗ owns (c : Thread nD τ) arg3 fullShare x1
            ∗ owns (c : Thread nD τ) arg4 fullShare (pay2 x3 x1) ∗ owns (c : Thread nD τ) arg5 fullShare x3) -∗ K ⟨⟩))
      ⊢ wp frame (wpE (defs₀ (F := F)) Variants.none c none) E (cc0_proj i arg2 harg2 arg3 harg3 arg4 harg4 arg5 harg5) K := by
  unfold cc0_proj
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    unfold run_next.sl.v8 run_next.sl.v5 run_next.sl.cst
    exact congrArg₂ pay2 ((View.readAt_full _ _ _).trans (harg5.read_unread x3)) ((View.readAt_full _ _ _).trans (harg3.read_unread x1))
  · iexists _; isplitr; · ipureintro; exact harg5.read_unread _
    iexact H3

/-- The first point of the row block a point is in. -/
def row (t : Fin cfg0.N) : Fin cfg0.N := ⟨7 * (t.val / 7), by have := t.isLt; omega⟩

theorem row_first (t : Fin cfg0.N) (h : t.val % 7 = 0) : row t = t := Fin.ext (by unfold row; dsimp only; omega)

theorem row_next (t : Fin cfg0.N) (h : ¬t.val % 7 = 0) : row ⟨t.val - 1, by omega⟩ = row t :=
  Fin.ext (by unfold row; dsimp only; omega)

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pay2 (pay1 (iblk m c 0 (row t))) (iblk m c 1 t)
    | ⟨3, _⟩ => pay1 (iblk m c 0 (row t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = pay2 (pay1 (iblk m c 0 (row t))) (iblk m c 1 t) := by dsimp only [dats]
theorem after0_3 (c : Dev nD) (t : Fin cfg0.N) : (dats m 0 c).after 3 t = pay1 (iblk m c 0 (row t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The rounded rows do not change at the points that leave them. -/
theorem hcarry (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  by_cases h0 : t.val % 7 = 0
  · rw [live3 t h0] at hi
    exact absurd hi Bool.false_ne_true
  · rw [after0_3, after0_3, row_next t h0]

/-- At such a point the buffer holds the rounded rows of the block. -/
theorem before0_3 (c : Dev nD) (t : Fin cfg0.N) (h0 : ¬t.val % 7 = 0) (d) :
    (dats m 0 c).before 3 t d = pay1 (iblk m c 0 (row t)) := by
  rw [Dat.before_out_traj _ 3 rfl (fun _ _ => rfl) (hcarry m c) t.val t rfl d,
    if_neg (by rw [fresh_eq t, freshTab]; simpa using h0), after0_3, row_next t h0]

/-- Each window's staging memref at a point. -/
abbrev ms0_0 (t : Fin cfg0.N) : Memref sig .tc .vmem S1024x1024 .f32 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S1024x1024 .f32 := win0_2.stage (cfg0.slots t 2)
abbrev ms0_3 (t : Fin cfg0.N) : Memref sig .tc .vmem S1024x1024 .bf16 := win0_3.stage (cfg0.slots t 3)

/-- What the body is called with at a point, -/
def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- What a point that finds the rounded rows says of them: they are as the block's first point made them. -/
theorem leaves3 (c : Dev nD) (t : Fin cfg0.N) (h0 : ¬t.val % 7 = 0) :
    (owns (c : Thread nD τ) (ms0_3 t) fullShare (pay1 (iblk m c 0 (row t))) : sProp (MM F)) ⊢ (dats m 0 c).leavesExact 3 t := by
  cases hf : (cfg0.win 3).flush t with
  | false =>
    rw [Dat.leavesExact_idle _ 3 t (idle3 t h0) hf]
    iintro H
    iexists (fun _ => default)
    rw [before0_3 m c t h0]
    iexact H
  | true =>
    rw [show (dats m 0 c).leavesExact 3 t = owns (c : Thread nD τ) (ms0_3 t) fullShare ((dats m 0 c).after 3 t) from by
      unfold Dat.leavesExact; rw [idle3 t h0, hf], after0_3]

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  by_cases h0 : t.val % 7 = 0
  · rw [show (dats m 0 c).leavesExact 3 t = owns (c : Thread nD τ) (ms0_3 t) fullShare ((dats m 0 c).after 3 t) from by
      unfold Dat.leavesExact; rw [live3 t h0], after0_3]
    rw [row_first t h0]
    iintro ⟨HΦ, Ho, ⟨%d0, H0⟩, ⟨%d1, H1⟩, ⟨%d2, H2⟩, ⟨%d3, H3⟩⟩
    iapply (run_first c (grid0.coords t) _ _ _ _ _ _ _ _ ((hcond t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 m c t h0]
    iintro ⟨HΦ, Ho, ⟨%d0, H0⟩, ⟨%d1, H1⟩, ⟨%d2, H2⟩, ⟨%d3, H3⟩⟩
    iapply (run_next c (grid0.coords t) _ _ _ _ _ _ _ _ (fun h => h0 ((hcond t).mp h)) (iblk m c 0 t) (iblk m c 1 t)
      (pay1 (iblk m c 0 (row t))) Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves3 m c t h0)
    iexact H3

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array ends at what the points left in it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the call runs, its arguments end unchanged, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.ProjIdeal.Body

end
-- ==== Proof.ProjValue.lean ====
/- The input projection: the product and the rounded rows that the kernel leaves are the reference's. -/
module

public import proofs.«01_k».proof.Proof.ProjIdealFrame
public import proofs.«01_k».proof.Proof.Gen.ProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.ProjIdeal.Body
open Cert.ProjRefIdeal.Read

variable (m : (ℓ : Loc nD τ sig) → Buf (Elt Ideal) ℓ)

/-- The reference's product, over its two arguments. -/
abbrev REF (a0 : FVec Ideal S8192x1024 .f32) (a1 : FVec Ideal S1024x7168 .bf16) : FVec Ideal S8192x7168 .f32 :=
  val_main_v1 (F := Ideal) a0 a1

/-- The reference's rounded rows. -/
abbrev ROWS (a0 : FVec Ideal S8192x1024 .f32) : FVec Ideal S8192x1024 .bf16 :=
  val_main_v2 (F := Ideal) a0

/-- Where each window's block lies at a grid point. -/
theorem idx : ∀ t : Fin cfg0.N, win0_0.index t = ![t.val / 7, 0]
    ∧ win0_1.index t = ![0, t.val % 7]
    ∧ win0_2.index t = ![t.val / 7, t.val % 7]
    ∧ win0_3.index t = ![t.val / 7, 0] :=
  (by decide +kernel : ∀ t : Fin grid0.N, _)

theorem row_div (t : Fin cfg0.N) : (row t).val / 7 = t.val / 7 := by unfold row; dsimp only; omega

/-- What a point leaves of the product, at an index of its block, is the reference at the array index that this is. -/
theorem point (c : Dev nD) (t : Fin cfg0.N) (y) :
    pay2 (F := Ideal) (pay1 (iblk m c 0 (row t))) (iblk m c 1 t) y
      = REF (m ((c : Thread nD τ).loc main_arg0)) (m ((c : Thread nD τ).loc main_arg1))
          (((cfg0.win 2).blk t).view.emb y) := by
  have er := idx (row t)
  rw [row_div] at er
  pointwise [pay2, pay1, REF, val_main_v1, val_main_v0]
  blk_point [iblk, V, idx t, er]

/-- The same of the rounded rows. -/
theorem point_rows (c : Dev nD) (t : Fin cfg0.N) (y) :
    pay1 (F := Ideal) (iblk m c 0 (row t)) y
      = ROWS (m ((c : Thread nD τ).loc main_arg0)) (((cfg0.win 3).blk t).view.emb y) := by
  have er := idx (row t)
  rw [row_div] at er
  pointwise [pay1, ROWS, val_main_v2]
  blk_point [iblk, V, idx t, er]

/-- The product after the run is the reference's. -/
theorem final_2 (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The rounded rows after the run are the reference's. -/
theorem final_3 (c : Dev nD) : (dats m 0 c).arrAt 3 (cfgs 0).N
    = ROWS (m ((c : Thread nD τ).loc main_arg0)) := by
  refine (dats m 0 c).arrAt_eq_of_covers 3 _ (by decide +kernel) fun t _ y => ?_
  blk_simp
  rw [after0_3]
  exact point_rows m c t y

end Cert.ProjIdeal.Value

end
-- ==== Proof.FfnBwdBValue.lean ====
/- The gradient of the channel mixer's depthwise convolution in its input: what the kernel leaves is the reference's
   gradient. -/
module

public import proofs.«01_k».proof.Proof.Gen.FfnBwdBIdeal.Frame
public import proofs.«01_k».proof.Proof.Gen.FfnBwdBRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBwdBIdeal.Value

open Cert.FfnBwdBIdeal Cert.FfnBwdBIdeal.Gen
open Cert.FfnBwdBRefIdeal.Read

variable (m : (ℓ : Loc nD τ sig) → Buf (Elt Ideal) ℓ)

/-- The reference's gradient, over its arguments. -/
abbrev REF (a0 : FVec Ideal S8192x2816 .f32) (a1 : FVec Ideal S3x2816 .f32) : FVec Ideal S8192x2816 .bf16 :=
  val_main_v41 (F := Ideal) a0 a1

/-- The gradient's entry at row `r` of an array in which the incoming gradient lies: the three taps, over the row and the
    two after it. -/
def taps {n : ℕ} (w : FVec Ideal S3x2816 .f32) (x : FVec Ideal (⟨2, ![n, 2816]⟩ : Shape) .f32) (r : ℕ) (hr : r + 2 < n)
    (l : Fin 2816) : EReal :=
  w (ix2 2 l) * x (ix2 ⟨r, by omega⟩ l) + w (ix2 1 l) * x (ix2 ⟨r + 1, by omega⟩ l) + w (ix2 0 l) * x (ix2 ⟨r + 2, hr⟩ l)

/-- The payload of one store, at an index. -/
theorem pay (v14 : Vec Ideal S40x2816 .f32) (v15 v19 v25 : Vec Ideal S1x2816 .f32) (j : S32x2816.Idx) :
    k0_pay4 (F := Ideal) v14 v15 v19 v25 j
      = v15 (ix2 0 (j 1)) * v14 (ix2 ⟨(j 0).val, by have := (j 0).isLt; change _ < 32 at this; omega⟩ (j 1))
        + v19 (ix2 0 (j 1)) * v14 (ix2 ⟨(j 0).val + 1, by have := (j 0).isLt; change _ < 32 at this; omega⟩ (j 1))
        + v25 (ix2 0 (j 1)) * v14 (ix2 ⟨(j 0).val + 2, by have := (j 0).isLt; change _ < 32 at this; omega⟩ (j 1)) := by
  have hj := (j 0).isLt
  change _ < 32 at hj
  pointwise [k0_pay4]
  have e1 : ((j 0).val + 40 - 39) % 40 = (j 0).val + 1 := by omega
  have e2 : ((j 0).val + 40 - 38) % 40 = (j 0).val + 2 := by omega
  simp only [e1, e2]

section Loop

variable (𝒱 : Variants) (c : Dev nD) (bd : Option 𝒱.V) (i : grid0.Coords)
  (arg1 : Memref sig .tc .vmem S256x2816 .f32) (harg1 : arg1.IsWhole)
  (arg2 : Memref sig .tc .vmem S3x2816 .f32) (harg2 : arg2.IsWhole)
  (arg3 : Memref sig .tc .vmem S256x2816 .bf16) (harg3 : arg3.IsWhole)
  (arg4 : Memref sig .tc .vmem S264x2816 .f32) (harg4 : arg4.IsWhole)
  (X2 : BufTy.Contents (Elt Ideal) arg2.view.ty) (X4 : BufTy.Contents (Elt Ideal) arg4.view.ty)

/-- What one trip of the loop writes: its 32 rows of the gradient. -/
theorem trip (k : Fin k0_t1_loop.trips) :
    tripL_k0_t1 (F := Ideal) 𝒱 c bd i arg1 harg1 arg2 harg2 arg3 harg3 arg4 harg4 X2 X4 k
      = [⟨Rect.unit (s := S256x2816) (k0_off2 k) S32x2816.size (k0_off2_inb k),
          k0_pay4 (View.ld (arg4.view.read (Elt Ideal) X4) (Rect.unit (s := S264x2816) (k0_off1 k) S40x2816.size (k0_off1_inb k)))
            (View.ld (arg2.view.read (Elt Ideal) X2) (Rect.unit (s := S3x2816) ![2, 0] S1x2816.size inb_S3x2816_S1x2816_2_0))
            (View.ld (arg2.view.read (Elt Ideal) X2) (Rect.unit (s := S3x2816) ![1, 0] S1x2816.size inb_S3x2816_S1x2816_1_0))
            (View.ld (arg2.view.read (Elt Ideal) X2) (Rect.unit (s := S3x2816) ![0, 0] S1x2816.size inb_S3x2816_S1x2816_0_0))⟩] := by
  unfold tripL_k0_t1 trip_k0_t1
  rfl

/-- A piece of the trips before `n` is a piece of one of them. -/
theorem of_mem (p : View.Piece (Elt Ideal) S256x2816 .bf16) : ∀ n : ℕ,
    p ∈ pb_k0_t1 (F := Ideal) 𝒱 c bd i arg1 harg1 arg2 harg2 arg3 harg3 arg4 harg4 X2 X4 n →
      ∃ k, p ∈ tripL_k0_t1 (F := Ideal) 𝒱 c bd i arg1 harg1 arg2 harg2 arg3 harg3 arg4 harg4 X2 X4 k
  | 0, h => by rw [pb_k0_t1.eq_1] at h; exact absurd h List.not_mem_nil
  | n + 1, h => by
    rw [pb_k0_t1.eq_2] at h
    unfold pb_k0_t1Step at h
    split at h
    · next hn =>
      rcases List.mem_append.mp h with h | h
      · exact ⟨_, h⟩
      · exact of_mem p n h
    · exact of_mem p n h

/-- The piece of a trip is among those of the trips before any later one. -/
theorem mem_of (p : View.Piece (Elt Ideal) S256x2816 .bf16) (k : Fin k0_t1_loop.trips)
    (h : p ∈ tripL_k0_t1 (F := Ideal) 𝒱 c bd i arg1 harg1 arg2 harg2 arg3 harg3 arg4 harg4 X2 X4 k) : ∀ n : ℕ, k.val < n →
      p ∈ pb_k0_t1 (F := Ideal) 𝒱 c bd i arg1 harg1 arg2 harg2 arg3 harg3 arg4 harg4 X2 X4 n
  | 0, hn => absurd hn (Nat.not_lt_zero _)
  | n + 1, hn => by
    rw [pb_k0_t1.eq_2]
    unfold pb_k0_t1Step
    rcases Nat.lt_succ_iff_lt_or_eq.mp hn with hn | rfl
    · split
      · exact List.mem_append_right _ (mem_of p k h n hn)
      · exact mem_of p k h n hn
    · rw [dif_pos k.isLt]
      exact List.mem_append_left _ h

/-- The loop makes eight trips. -/
theorem trips_eq : k0_t1_loop.trips = 8 := by decide +kernel

/-- All trips together leave, in every row of the block, the three taps over the row and the two after it. -/
theorem loop (w : FVec Ideal S3x2816 .f32) (x : FVec Ideal S264x2816 .f32)
    (hw : arg2.view.read (Elt Ideal) X2 = w) (hx : arg4.view.read (Elt Ideal) X4 = x) (y : S256x2816.Idx) :
    View.canon (pb_k0_t1 (F := Ideal) 𝒱 c bd i arg1 harg1 arg2 harg2 arg3 harg3 arg4 harg4 X2 X4 k0_t1_loop.trips) y
      = taps w x (y 0).val (by have := (y 0).isLt; change _ < 256 at this; omega) (y 1) := by
  refine View.canon_apply_of_pieces (Val := Elt Ideal) (e := .bf16) (fun y : S256x2816.Idx =>
    taps w x (y 0).val (by have := (y 0).isLt; change _ < 256 at this; omega) (y 1)) _ (fun p hp j => ?_) y ?_
  · obtain ⟨k, hk⟩ := of_mem _ _ _ _ _ _ _ _ _ _ _ _ _ _ _ _ hp
    rw [trip, List.mem_singleton] at hk
    subst hk
    have hk8 : k.val < 8 := Nat.lt_of_lt_of_eq k.isLt trips_eq
    refine (pay _ _ _ _ j).trans ?_
    rw [hw, hx]
    unfold taps
    have e := k0_off1_eq k
    have e' := k0_off2_eq k
    have f0 : (((Rect.unit (s := S256x2816) (k0_off2 k) S32x2816.size (k0_off2_inb k)).emb j) 0).val
        = 32 * k.val + (j 0).val := by
      rw [Rect.emb_apply]
      have e0 : k0_off2 k 0 = 32 * k.val := congrFun e' 0
      show k0_off2 k 0 + 1 * (j 0).val = _
      rw [e0, Nat.one_mul]
    have f1 : (((Rect.unit (s := S256x2816) (k0_off2 k) S32x2816.size (k0_off2_inb k)).emb j) 1).val = 0 + (j 1).val := by
      rw [Rect.emb_apply]
      have e1 : k0_off2 k 1 = 0 := congrFun e' 1
      show k0_off2 k 1 + 1 * (j 1).val = _
      rw [e1, Nat.one_mul]
    have g0 : ∀ d, (((Rect.unit (s := S256x2816) (k0_off2 k) S32x2816.size (k0_off2_inb k)).emb j) 0).val + d
        = k0_off1 k 0 + ((j 0).val + d) := fun d => by
      have e0 : k0_off1 k 0 = 32 * k.val := congrFun e 0
      rw [f0, e0, Nat.add_assoc]
    have g1 : (((Rect.unit (s := S256x2816) (k0_off2 k) S32x2816.size (k0_off2_inb k)).emb j) 1).val
        = k0_off1 k 1 + (j 1).val := by
      have e1 : k0_off1 k 1 = 0 := congrFun e 1
      rw [f1, e1]
    refine congrArg₂ (fun a b : EReal => a + b) (congrArg₂ (fun a b : EReal => a + b) ?_ ?_) ?_
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 0
        · exact g1
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 1
        · exact g1
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 2
        · exact g1
  · have hy := (y 0).isLt
    change _ < 256 at hy
    have hy1 := (y 1).isLt
    change _ < 2816 at hy1
    let k : Fin k0_t1_loop.trips := ⟨(y 0).val / 32, by rw [trips_eq]; omega⟩
    refine ⟨_, mem_of _ _ _ _ _ _ _ _ _ _ _ _ _ _ _ k (by rw [trip]; exact List.mem_singleton_self _) _ k.isLt, ?_⟩
    refine (Rect.mem_set_unit (inb := k0_off2_inb k)).mpr fun a => ?_
    rw [k0_off2_eq k]
    fin_cases a
    · show 32 * ((y 0).val / 32) ≤ (y 0).val ∧ (y 0).val < 32 * ((y 0).val / 32) + 32
      omega
    · show 0 ≤ (y 1).val ∧ (y 1).val < 0 + 2816
      omega

end Loop

/-- Where each window's block lies at a grid point: the tiles are taken from the last to the first. -/
theorem idx : ∀ t : Fin cfg0.N, win0_0.index t = ![31 - t.val, 0]
    ∧ win0_1.index t = ![0, 0]
    ∧ win0_2.index t = ![31 - t.val, 0] ∧ t.val < 32 :=
  (by decide +kernel : ∀ t : Fin grid0.N, _)

/-- What the working buffer holds while a point is at work: the rows of its tile and the eight after them, zero after the
    last row. -/
def ext (c : Dev nD) (t : Fin cfg0.N) : FVec Ideal S264x2816 .f32 := fun i =>
  if h : 256 * (31 - t.val) + (i 0).val < 8192 then m ((c : Thread nD τ).loc main_arg0) (ix2 ⟨_, h⟩ (i 1)) else 0

/-- The working buffer at a row of the array. -/
theorem ext_lt (c : Dev nD) (t : Fin cfg0.N) (r : ℕ) (hr : r < 264) (l : Fin 2816) (h : 256 * (31 - t.val) + r < 8192) :
    ext m c t (ix2 ⟨r, hr⟩ l) = m ((c : Thread nD τ).loc main_arg0) (ix2 ⟨_, h⟩ l) := by
  unfold ext
  exact dif_pos h

/-- The working buffer after the array's last row. -/
theorem ext_ge (c : Dev nD) (t : Fin cfg0.N) (r : ℕ) (hr : r < 264) (l : Fin 2816) (h : ¬ 256 * (31 - t.val) + r < 8192) :
    ext m c t (ix2 ⟨r, hr⟩ l) = 0 := by
  unfold ext
  exact dif_neg h

/-- The tile's block of the incoming gradient, at an index. -/
theorem blk (c : Dev nD) (t : Fin cfg0.N) (r : Fin 256) (l : Fin 2816) : iblk m c 0 t (ix2 r l)
    = m ((c : Thread nD τ).loc main_arg0) (ix2 ⟨256 * (31 - t.val) + r.val, by omega⟩ l) := by
  have hN : t.val < 32 := (idx t).2.2.2
  blk_point [iblk, V, idx t]

/-- The weights' block is the weights. -/
theorem blk_w (c : Dev nD) (t : Fin cfg0.N) : iblk m c 1 t = m ((c : Thread nD τ).loc main_arg1) := by
  funext i
  blk_point [iblk, V, idx t]

section Stores

variable (u : FVec Ideal S256x2816 .f32) (v : FVec Ideal S8x2816 .f32)

/-- The two stores into the working buffer: the tile, and the eight rows after it. -/
abbrev stores : List (View.Piece (Elt Ideal) S264x2816 .f32) :=
  [⟨Rect.unit (s := S264x2816) ![0, 0] S256x2816.size inb_S264x2816_S256x2816_0_0, u⟩,
    ⟨Rect.unit (s := S264x2816) ![256, 0] S8x2816.size inb_S264x2816_S8x2816_256_0, v⟩]

/-- A row of the tile, read back. -/
theorem stores_tile (r : ℕ) (h : r < 256) (l : Fin 2816) :
    View.canon (stores u v) (ix2 ⟨r, by omega⟩ l) = u (ix2 ⟨r, h⟩ l) := by
  refine View.canon_eq_of_allAt _ _ _ ⟨_, List.mem_cons_self, ?_⟩
    (View.allAt_cons_unit _ _ _ _ _ (fun x hx => congrArg u ?_)
      (View.allAt_cons_unit _ _ _ _ _ (fun x hx => ?_) (View.allAt_nil _ _)))
  · have hl := l.isLt
    refine (Rect.mem_set_unit (inb := inb_S264x2816_S256x2816_0_0)).mpr fun a => ?_
    fin_cases a
    · show 0 ≤ r ∧ r < 0 + 256; omega
    · show 0 ≤ l.val ∧ l.val < 0 + 2816; omega
  · have h0 : r = 0 + (x 0).val := hx 0
    have h1 : l.val = 0 + (x 1).val := hx 1
    funext a
    fin_cases a
    · exact Fin.ext (show (x 0).val = r by omega)
    · exact Fin.ext (show (x 1).val = l.val by omega)
  · have h0 : r = 256 + (x 0).val := hx 0
    omega

/-- A row after it, read back. -/
theorem stores_after (r : ℕ) (h : r < 8) (l : Fin 2816) :
    View.canon (stores u v) (ix2 ⟨256 + r, by omega⟩ l) = v (ix2 ⟨r, h⟩ l) := by
  refine View.canon_eq_of_allAt _ _ _ ⟨_, List.mem_cons_of_mem _ List.mem_cons_self, ?_⟩
    (View.allAt_cons_unit _ _ _ _ _ (fun x hx => ?_)
      (View.allAt_cons_unit _ _ _ _ _ (fun x hx => congrArg v ?_) (View.allAt_nil _ _)))
  · have hl := l.isLt
    refine (Rect.mem_set_unit (inb := inb_S264x2816_S8x2816_256_0)).mpr fun a => ?_
    fin_cases a
    · show 256 ≤ 256 + r ∧ 256 + r < 256 + 8; omega
    · show 0 ≤ l.val ∧ l.val < 0 + 2816; omega
  · have h0 : 256 + r = 0 + (x 0).val := hx 0
    have h1 := (x 0).isLt
    change _ < 256 at h1
    omega
  · have h0 : 256 + r = 256 + (x 0).val := hx 0
    have h1 : l.val = 0 + (x 1).val := hx 1
    funext a
    fin_cases a
    · exact Fin.ext (show (x 0).val = r by omega)
    · exact Fin.ext (show (x 1).val = l.val by omega)

end Stores

/-- The first eight rows of the working buffer after a point are the first of its tile. -/
theorem head (c : Dev nD) (t : Fin cfg0.N) (r : ℕ) (h : r < 8) (l : Fin 2816) :
    (outsAt0 m c t.val t.isLt).2 (ix2 ⟨r, by omega⟩ l) = iblk m c 0 t (ix2 ⟨r, by omega⟩ l) := by
  have hN : t.val < 32 := (idx t).2.2.2
  by_cases h1 : 1 ≤ t.val
  · rw [outsAt0_B m c t (by omega) h1]; frame_out
    refine (stores_tile _ _ r (by omega) l).trans ?_
    pointwise [k0_pay3]
  · rw [outsAt0_A m c t (by omega) h1]; frame_out
    refine (stores_tile _ _ r (by omega) l).trans ?_
    pointwise [k0_pay3]

/-- The stores of a point are the working buffer `ext` once the rows after the tile are those of the next tile. -/
theorem stores_eq (c : Dev nD) (t : Fin cfg0.N) (v : FVec Ideal S8x2816 .f32)
    (hv : ∀ (r : ℕ) (h : r < 8) (l : Fin 2816), v (ix2 ⟨r, h⟩ l) = ext m c t (ix2 ⟨256 + r, by omega⟩ l)) :
    View.canon (stores (k0_pay3 (iblk m c 0 t)) v) = ext m c t := by
  have hN : t.val < 32 := (idx t).2.2.2
  funext i
  obtain ⟨⟨r, hr⟩, l, rfl⟩ : ∃ r l, i = ix2 r l := ⟨i 0, i 1, by ext a; fin_cases a <;> rfl⟩
  change r < 264 at hr
  by_cases h : r < 256
  · refine (stores_tile _ _ r h l).trans ?_
    have e : k0_pay3 (F := Ideal) (iblk m c 0 t) (ix2 ⟨r, h⟩ l) = iblk m c 0 t (ix2 ⟨r, h⟩ l) := by pointwise [k0_pay3]
    rw [e]
    refine (blk m c t ⟨r, h⟩ l).trans ?_
    exact (ext_lt m c t r hr l (by omega)).symm
  · obtain ⟨q, rfl⟩ := Nat.exists_eq_add_of_le (Nat.le_of_not_lt h)
    exact (stores_after _ _ q (by omega) l).trans (hv q (by omega) l)

/-- What a point leaves in its block of the result: the three taps of the working buffer. -/
theorem outs (c : Dev nD) (t : Fin cfg0.N) (y : S256x2816.Idx) :
    (outsAt0 m c t.val t.isLt).1 y = taps (m ((c : Thread nD τ).loc main_arg1)) (ext m c t) (y 0).val
      (by have := (y 0).isLt; change _ < 256 at this; omega) (y 1) := by
  have hN : t.val < 32 := (idx t).2.2.2
  by_cases h1 : 1 ≤ t.val
  · rw [outsAt0_B m c t (by omega) h1]; frame_out
    refine loop _ _ _ _ _ _ _ _ _ _ _ _ _ _ _ _ ?_ ?_ y
    · exact (Memref.IsWhole.read_unread _ _).trans (blk_w m c t)
    · rw [View.read_writes_junk_eq_canon]
      refine stores_eq m c t _ fun r h l => ?_
      let t' : Fin cfg0.N := ⟨t.val - 1, Nat.lt_of_le_of_lt (Nat.sub_le _ _) t.isLt⟩
      pointwise [k0_pay2]
      refine (congrFun (Memref.IsWhole.read_unread (Memref.isWhole_whole cc0_scratch0) _) _).trans ?_
      refine (head m c t' r h l).trans ((blk m c t' ⟨r, by omega⟩ l).trans ?_)
      have e : 256 * (31 - (t.val - 1)) + r = 256 * (31 - t.val) + (256 + r) := by omega
      refine Eq.trans ?_ (ext_lt m c t (256 + r) (by omega) l (by omega)).symm
      exact congrArg (fun q => m ((c : Thread nD τ).loc main_arg0) (ix2 q l)) (Fin.ext e)
  · rw [outsAt0_A m c t (by omega) h1]; frame_out
    refine loop _ _ _ _ _ _ _ _ _ _ _ _ _ _ _ _ ?_ ?_ y
    · exact (Memref.IsWhole.read_unread _ _).trans (blk_w m c t)
    · rw [View.read_writes_junk_eq_canon]
      refine stores_eq m c t _ fun r h l => ?_
      pointwise [k0_pay1]
      exact (ext_ge m c t (256 + r) (by omega) l (by omega)).symm

/-- The three taps of the working buffer are the reference's gradient, at the array index of the entry. -/
theorem ref (c : Dev nD) (t : Fin cfg0.N) (y : S256x2816.Idx) :
    taps (m ((c : Thread nD τ).loc main_arg1)) (ext m c t) (y 0).val
      (by have := (y 0).isLt; change _ < 256 at this; omega) (y 1)
      = REF (m ((c : Thread nD τ).loc main_arg0)) (m ((c : Thread nD τ).loc main_arg1)) (((cfg0.win 2).blk t).view.emb y) := by
  have hN : t.val < 32 := (idx t).2.2.2
  have hy := (y 0).isLt
  change _ < 256 at hy
  have he : ((cfg0.win 2).blk t).view.emb y = ix2 (⟨256 * (31 - t.val) + (y 0).val, by omega⟩ : Fin 8192) (y 1) := by
    blk_ext [idx t]
  rw [he]
  pointwise [taps, ext, REF, val_main_v41, val_main_v40, val_main_v38, val_main_v34, val_main_v30, val_main_v33,
    val_main_v37, val_main_v29, val_main_v28, val_main_v22, val_main_v20, val_main_v19, val_main_v27, val_main_v32,
    val_main_v31, val_main_v15, val_main_v13, val_main_v12, val_main_v26, val_main_v36, val_main_v35, val_main_v7,
    val_main_v5, val_main_v4, val_main_cst_3, val_main_cst_4, val_main_cst_5]
  have e1 : 2 + (256 * (31 - t.val) + (y 0).val) - 1 = 256 * (31 - t.val) + ((y 0).val + 1) := by omega
  have e2 : 2 + (256 * (31 - t.val) + (y 0).val) = 256 * (31 - t.val) + ((y 0).val + 2) := by omega
  have e3 : 1 ≤ 256 * (31 - t.val) + ((y 0).val + 2) := by omega
  simp only [e1]
  simp only [e2, e3, true_and]
  split_ifs <;> simp only [mul_zero]

/-- The array after the run is the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact (outs m c t y).trans (ref m c t y)

end Cert.FfnBwdBIdeal.Value

end
-- ==== Proof.FfnMidValue.lean ====
/- The middle of the channel mixer, the causal depthwise convolution, its gelu and the gate: what the kernel leaves is what
   the reference computes. -/
module

public import proofs.«01_k».proof.Proof.Gen.FfnMidIdeal.Frame
public import proofs.«01_k».proof.Proof.Gen.FfnMidRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnMidIdeal.Value

open Cert.FfnMidIdeal Cert.FfnMidIdeal.Gen
open Cert.FfnMidRefIdeal.Read

variable (m : (ℓ : Loc nD τ sig) → Buf (Elt Ideal) ℓ)

/-- The reference's result, over its arguments. -/
abbrev REF (a0 : FVec Ideal S8192x5632 .f32) (a1 : FVec Ideal S3x2816 .f32) (a2 : FVec Ideal S1x2816 .f32) :
    FVec Ideal S8192x2816 .bf16 :=
  val_main_v42 (F := Ideal) a0 a1 a2

/-- gelu as the kernel computes it, with the product of its two constants folded into one. -/
def gelu (u : EReal) : EReal :=
  u * (Ideal.ofBits FTy.f32 0x3F000000#32 + Ideal.ofBits FTy.f32 0x3F000000#32 * Ideal.tanh (u * (Ideal.ofBits FTy.f32 0x3F4C422A#32
    + Named.named (F := Ideal) κ "gelu_ca" (φ := .f32) 0x3D122279#32 * (u * u))))

/-- The word of a half. -/
theorem c_half : Ideal.ofBits FTy.f32 0x3F000000#32 = ((1 / 2 : ℝ) : EReal) := by
  simp [Ideal.ofBits, Ideal.ieee, -EReal.coe_mul]
  norm_num

/-- The word of one. -/
theorem c_one : Ideal.ofBits FTy.f32 0x3F800000#32 = ((1 : ℝ) : EReal) := by
  simp [Ideal.ofBits, Ideal.ieee, -EReal.coe_mul]
  norm_num

/-- The word of gelu's outer constant. -/
theorem c_c : Ideal.ofBits FTy.f32 0x3F4C422A#32 = ((6693141 / 8388608 : ℝ) : EReal) := by
  simp [Ideal.ofBits, Ideal.ieee, -EReal.coe_mul]
  norm_num

/-- The word of gelu's inner constant. -/
theorem c_a : Ideal.ofBits FTy.f32 0x3D372713#32 = ((12003091 / 268435456 : ℝ) : EReal) := by
  simp [Ideal.ofBits, Ideal.ieee, -EReal.coe_mul]
  norm_num

/-- The folded constant is the product of the two. -/
theorem c_ca : Named.named (F := Ideal) κ "gelu_ca" (φ := .f32) 0x3D122279#32
    = ((6693141 / 8388608 * (12003091 / 268435456) : ℝ) : EReal) :=
  (IdealRules.named_const.ideal_named_scalar _ _ _ (((80338380498831 / 2251799813685248 : ℝ)) : EReal) rfl).trans
    (congrArg _ (by norm_num))

/-- The kernel's gelu is the reference's, on every extended real. -/
theorem gelu_eq (u : EReal) : gelu u = u * (Ideal.ofBits FTy.f32 0x3F000000#32 * (Ideal.ofBits FTy.f32 0x3F800000#32
    + Ideal.tanh (Ideal.ofBits FTy.f32 0x3F4C422A#32 * (u + Ideal.ofBits FTy.f32 0x3D372713#32 * (u * u * u))))) := by
  unfold gelu
  rw [c_ca, c_half, c_one, c_c, c_a]
  have hp : (0 : ℝ) < 6693141 / 8388608 := by norm_num
  have hq : (0 : ℝ) < 12003091 / 268435456 := by norm_num
  have hpq : (0 : ℝ) < 6693141 / 8388608 * (12003091 / 268435456) := mul_pos hp hq
  induction u using EReal.rec with
  | bot =>
    have e1 : (⊥ : EReal) * ⊥ = ⊤ := rfl
    have e2 : (⊤ : EReal) * ⊥ = ⊥ := rfl
    have e3 : (⊥ : EReal) * ⊤ = ⊥ := rfl
    rw [e1, e2, EReal.coe_mul_top_of_pos hpq, EReal.coe_mul_bot_of_pos hq, EReal.coe_add_top, e3, EReal.bot_add,
      EReal.coe_mul_bot_of_pos hp, Ideal.tanh_bot]
    have e4 : (((1 / 2 : ℝ) : EReal) + ((1 / 2 : ℝ) : EReal) * -1) = 0 := by
      rw [show (-1 : EReal) = ((-1 : ℝ) : EReal) from rfl, ← EReal.coe_mul, ← EReal.coe_add]; norm_num
    have e5 : (((1 / 2 : ℝ) : EReal) * (((1 : ℝ) : EReal) + -1)) = 0 := by
      rw [show (-1 : EReal) = ((-1 : ℝ) : EReal) from rfl, ← EReal.coe_add, ← EReal.coe_mul]; norm_num
    rw [e4, e5]
  | top =>
    have e1 : (⊤ : EReal) * ⊤ = ⊤ := rfl
    rw [e1, EReal.coe_mul_top_of_pos hpq, EReal.coe_add_top, e1, EReal.coe_mul_top_of_pos hq, EReal.top_add_top,
      EReal.coe_mul_top_of_pos hp, Ideal.tanh_top]
    have e4 : (((1 / 2 : ℝ) : EReal) + ((1 / 2 : ℝ) : EReal) * 1) = ((1 : ℝ) : EReal) := by
      rw [show (1 : EReal) = ((1 : ℝ) : EReal) from rfl, ← EReal.coe_mul, ← EReal.coe_add]; norm_num
    have e5 : (((1 / 2 : ℝ) : EReal) * (((1 : ℝ) : EReal) + 1)) = ((1 : ℝ) : EReal) := by
      rw [show (1 : EReal) = ((1 : ℝ) : EReal) from rfl, ← EReal.coe_add, ← EReal.coe_mul]; norm_num
    rw [e4, e5]
  | coe u =>
    simp only [← EReal.coe_mul, ← EReal.coe_add, Ideal.tanh_coe]
    refine congrArg _ ?_
    have e : u * (6693141 / 8388608 + 6693141 / 8388608 * (12003091 / 268435456) * (u * u))
        = 6693141 / 8388608 * (u + 12003091 / 268435456 * (u * u * u)) := by ring
    rw [e]
    ring

/-- The convolution at row `r` of an array in which the input lies from row 8 on: the three taps, over the row and the two
    before it, and the bias. -/
def conv {n : ℕ} (w : FVec Ideal S3x2816 .f32) (b : FVec Ideal S1x2816 .f32) (x : FVec Ideal (⟨2, ![n, 2816]⟩ : Shape) .f32)
    (r : ℕ) (hr : r + 8 < n) (l : Fin 2816) : EReal :=
  w (ix2 0 l) * x (ix2 ⟨r + 6, by omega⟩ l) + w (ix2 1 l) * x (ix2 ⟨r + 7, by omega⟩ l) + w (ix2 2 l) * x (ix2 ⟨r + 8, hr⟩ l)
    + b (ix2 0 l)

/-- The payload of one store, at an index. -/
theorem pay (v14 : Vec Ideal S40x2816 .f32) (v20 v23 v27 v31 : Vec Ideal S1x2816 .f32) (v47 : Vec Ideal S32x2816 .f32)
    (j : S32x2816.Idx) :
    k0_pay4 (F := Ideal) (k0_pay5 v14 v20 v23 v27 v31 v47) j
      = gelu (v20 (ix2 0 (j 1)) * v14 (ix2 ⟨(j 0).val + 6, by have := (j 0).isLt; change _ < 32 at this; omega⟩ (j 1))
        + v23 (ix2 0 (j 1)) * v14 (ix2 ⟨(j 0).val + 7, by have := (j 0).isLt; change _ < 32 at this; omega⟩ (j 1))
        + v27 (ix2 0 (j 1)) * v14 (ix2 ⟨(j 0).val + 8, by have := (j 0).isLt; change _ < 32 at this; omega⟩ (j 1))
        + v31 (ix2 0 (j 1))) * v47 j := by
  have hj := (j 0).isLt
  change _ < 32 at hj
  unfold gelu
  pointwise [k0_pay4, k0_pay5]
  have e1 : (8 + (j 0).val + 40 - 2) % 40 = (j 0).val + 6 := by omega
  have e2 : (8 + (j 0).val + 40 - 1) % 40 = (j 0).val + 7 := by omega
  have e3 : 8 + (j 0).val = (j 0).val + 8 := by omega
  simp only [e1, e2]
  simp only [e3]
section Loop

variable (𝒱 : Variants) (c : Dev nD) (bd : Option 𝒱.V) (i : grid0.Coords)
  (arg1 : Memref sig .tc .vmem S256x2816 .f32) (harg1 : arg1.IsWhole)
  (arg2 : Memref sig .tc .vmem S256x2816 .f32) (harg2 : arg2.IsWhole)
  (arg3 : Memref sig .tc .vmem S3x2816 .f32) (harg3 : arg3.IsWhole)
  (arg4 : Memref sig .tc .vmem S1x2816 .f32) (harg4 : arg4.IsWhole)
  (arg5 : Memref sig .tc .vmem S256x2816 .bf16) (harg5 : arg5.IsWhole)
  (arg6 : Memref sig .tc .vmem S264x2816 .f32) (harg6 : arg6.IsWhole)
  (X2 : BufTy.Contents (Elt Ideal) arg2.view.ty) (X3 : BufTy.Contents (Elt Ideal) arg3.view.ty)
  (X4 : BufTy.Contents (Elt Ideal) arg4.view.ty) (X6 : BufTy.Contents (Elt Ideal) arg6.view.ty)

/-- What one trip of the loop writes: its 32 rows of the result. -/
theorem trip (k : Fin k0_t1_loop.trips) :
    tripL_k0_t1 (F := Ideal) 𝒱 c bd i arg1 harg1 arg2 harg2 arg3 harg3 arg4 harg4 arg5 harg5 arg6 harg6 X2 X3 X4 X6 k
      = [⟨Rect.unit (s := S256x2816) (k0_off2 k) S32x2816.size (k0_off2_inb k),
          k0_pay4 (k0_pay5 (View.ld (arg6.view.read (Elt Ideal) X6) (Rect.unit (s := S264x2816) (k0_off1 k) S40x2816.size (k0_off1_inb k)))
            (View.ld (arg3.view.read (Elt Ideal) X3) (Rect.unit (s := S3x2816) ![0, 0] S1x2816.size inb_S3x2816_S1x2816_0_0))
            (View.ld (arg3.view.read (Elt Ideal) X3) (Rect.unit (s := S3x2816) ![1, 0] S1x2816.size inb_S3x2816_S1x2816_1_0))
            (View.ld (arg3.view.read (Elt Ideal) X3) (Rect.unit (s := S3x2816) ![2, 0] S1x2816.size inb_S3x2816_S1x2816_2_0))
            (View.ld (arg4.view.read (Elt Ideal) X4) (Rect.unit (s := S1x2816) ![0, 0] S1x2816.size inb_S1x2816_S1x2816_0_0))
            (View.ld (arg2.view.read (Elt Ideal) X2) (Rect.unit (s := S256x2816) (k0_off2 k) S32x2816.size (k0_off2_inb k))))⟩] := by
  unfold tripL_k0_t1 trip_k0_t1
  rfl

/-- A piece of the trips before `n` is a piece of one of them. -/
theorem of_mem (p : View.Piece (Elt Ideal) S256x2816 .bf16) : ∀ n : ℕ,
    p ∈ pb_k0_t1 (F := Ideal) 𝒱 c bd i arg1 harg1 arg2 harg2 arg3 harg3 arg4 harg4 arg5 harg5 arg6 harg6 X2 X3 X4 X6 n →
      ∃ k, p ∈ tripL_k0_t1 (F := Ideal) 𝒱 c bd i arg1 harg1 arg2 harg2 arg3 harg3 arg4 harg4 arg5 harg5 arg6 harg6 X2 X3 X4 X6 k
  | 0, h => by rw [pb_k0_t1.eq_1] at h; exact absurd h List.not_mem_nil
  | n + 1, h => by
    rw [pb_k0_t1.eq_2] at h
    unfold pb_k0_t1Step at h
    split at h
    · next hn =>
      rcases List.mem_append.mp h with h | h
      · exact ⟨_, h⟩
      · exact of_mem p n h
    · exact of_mem p n h

/-- The piece of a trip is among those of the trips before any later one. -/
theorem mem_of (p : View.Piece (Elt Ideal) S256x2816 .bf16) (k : Fin k0_t1_loop.trips)
    (h : p ∈ tripL_k0_t1 (F := Ideal) 𝒱 c bd i arg1 harg1 arg2 harg2 arg3 harg3 arg4 harg4 arg5 harg5 arg6 harg6 X2 X3 X4 X6 k) : ∀ n : ℕ, k.val < n →
      p ∈ pb_k0_t1 (F := Ideal) 𝒱 c bd i arg1 harg1 arg2 harg2 arg3 harg3 arg4 harg4 arg5 harg5 arg6 harg6 X2 X3 X4 X6 n
  | 0, hn => absurd hn (Nat.not_lt_zero _)
  | n + 1, hn => by
    rw [pb_k0_t1.eq_2]
    unfold pb_k0_t1Step
    rcases Nat.lt_succ_iff_lt_or_eq.mp hn with hn | rfl
    · split
      · exact List.mem_append_right _ (mem_of p k h n hn)
      · exact mem_of p k h n hn
    · rw [dif_pos k.isLt]
      exact List.mem_append_left _ h

/-- The loop makes eight trips. -/
theorem trips_eq : k0_t1_loop.trips = 8 := by decide +kernel

/-- All trips together leave, in every row of the block, gelu of the convolution times the gate. -/
theorem loop (w : FVec Ideal S3x2816 .f32) (b : FVec Ideal S1x2816 .f32) (g : FVec Ideal S256x2816 .f32)
    (x : FVec Ideal S264x2816 .f32) (hg : arg2.view.read (Elt Ideal) X2 = g) (hw : arg3.view.read (Elt Ideal) X3 = w)
    (hb : arg4.view.read (Elt Ideal) X4 = b) (hx : arg6.view.read (Elt Ideal) X6 = x) (y : S256x2816.Idx) :
    View.canon (pb_k0_t1 (F := Ideal) 𝒱 c bd i arg1 harg1 arg2 harg2 arg3 harg3 arg4 harg4 arg5 harg5 arg6 harg6 X2 X3 X4 X6 k0_t1_loop.trips) y
      = gelu (conv w b x (y 0).val (by have := (y 0).isLt; change _ < 256 at this; omega) (y 1)) * g y := by
  refine View.canon_apply_of_pieces (Val := Elt Ideal) (e := .bf16) (fun y : S256x2816.Idx =>
    gelu (conv w b x (y 0).val (by have := (y 0).isLt; change _ < 256 at this; omega) (y 1)) * g y) _ (fun p hp j => ?_) y ?_
  · obtain ⟨k, hk⟩ := of_mem _ _ _ _ _ _ _ _ _ _ _ _ _ _ _ _ _ _ _ _ _ _ hp
    rw [trip, List.mem_singleton] at hk
    subst hk
    have hk8 : k.val < 8 := Nat.lt_of_lt_of_eq k.isLt trips_eq
    refine (pay _ _ _ _ _ _ j).trans ?_
    rw [hg, hw, hb, hx]
    unfold conv
    have e := k0_off1_eq k
    have e' := k0_off2_eq k
    have f0 : (((Rect.unit (s := S256x2816) (k0_off2 k) S32x2816.size (k0_off2_inb k)).emb j) 0).val
        = 32 * k.val + (j 0).val := by
      rw [Rect.emb_apply]
      have e0 : k0_off2 k 0 = 32 * k.val := congrFun e' 0
      show k0_off2 k 0 + 1 * (j 0).val = _
      rw [e0, Nat.one_mul]
    have f1 : (((Rect.unit (s := S256x2816) (k0_off2 k) S32x2816.size (k0_off2_inb k)).emb j) 1).val = 0 + (j 1).val := by
      rw [Rect.emb_apply]
      have e1 : k0_off2 k 1 = 0 := congrFun e' 1
      show k0_off2 k 1 + 1 * (j 1).val = _
      rw [e1, Nat.one_mul]
    have g0 : ∀ d, (((Rect.unit (s := S256x2816) (k0_off2 k) S32x2816.size (k0_off2_inb k)).emb j) 0).val + d
        = k0_off1 k 0 + ((j 0).val + d) := fun d => by
      have e0 : k0_off1 k 0 = 32 * k.val := congrFun e 0
      rw [f0, e0, Nat.add_assoc]
    have g1 : (((Rect.unit (s := S256x2816) (k0_off2 k) S32x2816.size (k0_off2_inb k)).emb j) 1).val
        = k0_off1 k 1 + (j 1).val := by
      have e1 : k0_off1 k 1 = 0 := congrFun e 1
      rw [f1, e1]
    refine congrArg₂ (fun a b : EReal => a * b) (congrArg gelu ?_) rfl
    refine congrArg₂ (fun a b : EReal => a + b) (congrArg₂ (fun a b : EReal => a + b)
      (congrArg₂ (fun a b : EReal => a + b) ?_ ?_) ?_) ?_
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 6
        · exact g1
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 7
        · exact g1
    · refine congrArg₂ (fun a b : EReal => a * b) (View.ld_unit_apply_of _ _ _ _ _ _ fun a => ?_)
        (View.ld_unit_apply_of _ _ _ _ _ _ fun a => ?_)
      · fin_cases a
        · rfl
        · exact f1
      · fin_cases a
        · exact g0 8
        · exact g1
    · refine View.ld_unit_apply_of _ _ _ _ _ _ fun a => ?_
      fin_cases a
      · rfl
      · exact f1
  · have hy := (y 0).isLt
    change _ < 256 at hy
    have hy1 := (y 1).isLt
    change _ < 2816 at hy1
    let k : Fin k0_t1_loop.trips := ⟨(y 0).val / 32, by rw [trips_eq]; omega⟩
    refine ⟨_, mem_of _ _ _ _ _ _ _ _ _ _ _ _ _ _ _ _ _ _ _ _ _ k (by rw [trip]; exact List.mem_singleton_self _) _ k.isLt, ?_⟩
    refine (Rect.mem_set_unit (inb := k0_off2_inb k)).mpr fun a => ?_
    rw [k0_off2_eq k]
    fin_cases a
    · show 32 * ((y 0).val / 32) ≤ (y 0).val ∧ (y 0).val < 32 * ((y 0).val / 32) + 32
      omega
    · show 0 ≤ (y 1).val ∧ (y 1).val < 0 + 2816
      omega

end Loop

/-- Where each window's block lies at a grid point. -/
theorem idx : ∀ t : Fin cfg0.N, win0_0.index t = ![t.val, 0]
    ∧ win0_1.index t = ![t.val, 1] ∧ win0_2.index t = ![0, 0] ∧ win0_3.index t = ![0, 0]
    ∧ win0_4.index t = ![t.val, 0] ∧ t.val < 32 :=
  (by decide +kernel : ∀ t : Fin grid0.N, _)

/-- What the working buffer holds while a point is at work: the eight rows before its tile, zero before the first row, and
    the rows of the tile. -/
def ext (c : Dev nD) (t : Fin cfg0.N) : FVec Ideal S264x2816 .f32 := fun i =>
  if h : 8 ≤ 256 * t.val + (i 0).val then m ((c : Thread nD τ).loc main_arg0)
    (ix2 ⟨256 * t.val + (i 0).val - 8, by
      have h1 : t.val < 32 := (idx t).2.2.2.2.2
      have h2 := (i 0).isLt
      change _ < 264 at h2
      omega⟩ ⟨(i 1).val, by have h2 := (i 1).isLt; change _ < 2816 at h2; omega⟩) else 0

/-- The working buffer at a row of the array. -/
theorem ext_ge (c : Dev nD) (t : Fin cfg0.N) (r : ℕ) (hr : r < 264) (l : Fin 2816) (h : 8 ≤ 256 * t.val + r)
    (h' : 256 * t.val + r - 8 < 8192) :
    ext m c t (ix2 ⟨r, hr⟩ l) = m ((c : Thread nD τ).loc main_arg0) (ix2 ⟨256 * t.val + r - 8, h'⟩ ⟨l.val, by omega⟩) := by
  unfold ext
  exact dif_pos h

/-- The working buffer before the array's first row. -/
theorem ext_lt (c : Dev nD) (t : Fin cfg0.N) (r : ℕ) (hr : r < 264) (l : Fin 2816) (h : ¬ 8 ≤ 256 * t.val + r) :
    ext m c t (ix2 ⟨r, hr⟩ l) = 0 := by
  unfold ext
  exact dif_neg h

/-- The tile's block of the convolution's input, at an index. -/
theorem blk (c : Dev nD) (t : Fin cfg0.N) (r : Fin 256) (l : Fin 2816) : iblk m c 0 t (ix2 r l)
    = m ((c : Thread nD τ).loc main_arg0) (ix2 ⟨256 * t.val + r.val, by have := (idx t).2.2.2.2.2; omega⟩ ⟨l.val, by omega⟩) := by
  have hN : t.val < 32 := (idx t).2.2.2.2.2
  blk_point [iblk, V, idx t]

/-- The tile's block of the gate, at an index. -/
theorem blk_g (c : Dev nD) (t : Fin cfg0.N) (y : S256x2816.Idx) : iblk m c 1 t y
    = m ((c : Thread nD τ).loc main_arg0) (ix2 ⟨256 * t.val + (y 0).val, by
        have := (idx t).2.2.2.2.2; have h := (y 0).isLt; change _ < 256 at h; omega⟩
      ⟨2816 + (y 1).val, by have h := (y 1).isLt; change _ < 2816 at h; omega⟩) := by
  have hN : t.val < 32 := (idx t).2.2.2.2.2
  have hy := (y 0).isLt
  change _ < 256 at hy
  have hy1 := (y 1).isLt
  change _ < 2816 at hy1
  blk_point [iblk, V, idx t]

/-- The weights' block is the weights. -/
theorem blk_w (c : Dev nD) (t : Fin cfg0.N) : iblk m c 2 t = m ((c : Thread nD τ).loc main_arg1) := by
  funext i
  blk_point [iblk, V, idx t]

/-- The bias's block is the bias. -/
theorem blk_b (c : Dev nD) (t : Fin cfg0.N) : iblk m c 3 t = m ((c : Thread nD τ).loc main_arg2) := by
  funext i
  blk_point [iblk, V, idx t]

section Stores

variable (u : FVec Ideal S256x2816 .f32) (v : FVec Ideal S8x2816 .f32)

/-- The two stores into the working buffer: the tile, and the eight rows before it. -/
abbrev stores : List (View.Piece (Elt Ideal) S264x2816 .f32) :=
  [⟨Rect.unit (s := S264x2816) ![8, 0] S256x2816.size inb_S264x2816_S256x2816_8_0, u⟩,
    ⟨Rect.unit (s := S264x2816) ![0, 0] S8x2816.size inb_S264x2816_S8x2816_0_0, v⟩]

/-- A row of the tile, read back. -/
theorem stores_tile (r : ℕ) (h : r < 256) (l : Fin 2816) :
    View.canon (stores u v) (ix2 ⟨8 + r, by omega⟩ l) = u (ix2 ⟨r, h⟩ l) := by
  refine View.canon_eq_of_allAt _ _ _ ⟨_, List.mem_cons_self, ?_⟩
    (View.allAt_cons_unit _ _ _ _ _ (fun x hx => congrArg u ?_)
      (View.allAt_cons_unit _ _ _ _ _ (fun x hx => ?_) (View.allAt_nil _ _)))
  · have hl := l.isLt
    refine (Rect.mem_set_unit (inb := inb_S264x2816_S256x2816_8_0)).mpr fun a => ?_
    fin_cases a
    · show 8 ≤ 8 + r ∧ 8 + r < 8 + 256; omega
    · show 0 ≤ l.val ∧ l.val < 0 + 2816; omega
  · have h0 : 8 + r = 8 + (x 0).val := hx 0
    have h1 : l.val = 0 + (x 1).val := hx 1
    funext a
    fin_cases a
    · exact Fin.ext (show (x 0).val = r by omega)
    · exact Fin.ext (show (x 1).val = l.val by omega)
  · have h0 : 8 + r = 0 + (x 0).val := hx 0
    have h1 := (x 0).isLt
    change _ < 8 at h1
    omega

/-- A row before it, read back. -/
theorem stores_before (r : ℕ) (h : r < 8) (l : Fin 2816) :
    View.canon (stores u v) (ix2 ⟨r, by omega⟩ l) = v (ix2 ⟨r, h⟩ l) := by
  refine View.canon_eq_of_allAt _ _ _ ⟨_, List.mem_cons_of_mem _ List.mem_cons_self, ?_⟩
    (View.allAt_cons_unit _ _ _ _ _ (fun x hx => ?_)
      (View.allAt_cons_unit _ _ _ _ _ (fun x hx => congrArg v ?_) (View.allAt_nil _ _)))
  · have hl := l.isLt
    refine (Rect.mem_set_unit (inb := inb_S264x2816_S8x2816_0_0)).mpr fun a => ?_
    fin_cases a
    · show 0 ≤ r ∧ r < 0 + 8; omega
    · show 0 ≤ l.val ∧ l.val < 0 + 2816; omega
  · have h0 : r = 8 + (x 0).val := hx 0
    omega
  · have h0 : r = 0 + (x 0).val := hx 0
    have h1 : l.val = 0 + (x 1).val := hx 1
    funext a
    fin_cases a
    · exact Fin.ext (show (x 0).val = r by omega)
    · exact Fin.ext (show (x 1).val = l.val by omega)

end Stores

/-- The last eight rows of the working buffer after a point are the last of its tile. -/
theorem tail (c : Dev nD) (t : Fin cfg0.N) (r : ℕ) (h : r < 8) (l : Fin 2816) :
    (outsAt0 m c t.val t.isLt).2 (ix2 ⟨256 + r, by omega⟩ l) = iblk m c 0 t (ix2 ⟨248 + r, by omega⟩ l) := by
  have hN : t.val < 32 := (idx t).2.2.2.2.2
  have e : (ix2 ⟨256 + r, by omega⟩ l : S264x2816.Idx) = ix2 ⟨8 + (248 + r), by omega⟩ l :=
    congrArg (fun q => ix2 q l) (Fin.ext (show 256 + r = 8 + (248 + r) by omega))
  rw [e]
  by_cases h1 : 1 ≤ t.val
  · rw [outsAt0_B m c t (by omega) h1]; frame_out
    refine (stores_tile _ _ (248 + r) (by omega) l).trans ?_
    pointwise [k0_pay3]
  · rw [outsAt0_A m c t (by omega) h1]; frame_out
    refine (stores_tile _ _ (248 + r) (by omega) l).trans ?_
    pointwise [k0_pay3]

/-- The stores of a point are the working buffer `ext` once the rows before the tile are those of the tile before. -/
theorem stores_eq (c : Dev nD) (t : Fin cfg0.N) (v : FVec Ideal S8x2816 .f32)
    (hv : ∀ (r : ℕ) (h : r < 8) (l : Fin 2816), v (ix2 ⟨r, h⟩ l) = ext m c t (ix2 ⟨r, by omega⟩ l)) :
    View.canon (stores (k0_pay3 (iblk m c 0 t)) v) = ext m c t := by
  have hN : t.val < 32 := (idx t).2.2.2.2.2
  funext i
  obtain ⟨⟨r, hr⟩, l, rfl⟩ : ∃ r l, i = ix2 r l := ⟨i 0, i 1, by ext a; fin_cases a <;> rfl⟩
  change r < 264 at hr
  by_cases h : r < 8
  · exact (stores_before _ _ r h l).trans (hv r h l)
  · obtain ⟨q, rfl⟩ := Nat.exists_eq_add_of_le (Nat.le_of_not_lt h)
    refine (stores_tile _ _ q (by omega) l).trans ?_
    have e : k0_pay3 (F := Ideal) (iblk m c 0 t) (ix2 ⟨q, by omega⟩ l) = iblk m c 0 t (ix2 ⟨q, by omega⟩ l) := by
      pointwise [k0_pay3]
    rw [e]
    refine (blk m c t ⟨q, by omega⟩ l).trans ?_
    refine Eq.trans ?_ (ext_ge m c t (8 + q) hr l (by omega) (by omega)).symm
    exact congrArg (fun p => m ((c : Thread nD τ).loc main_arg0) (ix2 p ⟨l.val, by omega⟩))
      (Fin.ext (show 256 * t.val + q = 256 * t.val + (8 + q) - 8 by omega))

/-- What a point leaves in its block of the result. -/
theorem outs (c : Dev nD) (t : Fin cfg0.N) (y : S256x2816.Idx) :
    (outsAt0 m c t.val t.isLt).1 y = gelu (conv (m ((c : Thread nD τ).loc main_arg1)) (m ((c : Thread nD τ).loc main_arg2))
      (ext m c t) (y 0).val (by have := (y 0).isLt; change _ < 256 at this; omega) (y 1)) * iblk m c 1 t y := by
  have hN : t.val < 32 := (idx t).2.2.2.2.2
  by_cases h1 : 1 ≤ t.val
  · rw [outsAt0_B m c t (by omega) h1]; frame_out
    refine loop _ _ _ _ _ _ _ _ _ _ _ _ _ _ _ _ _ _ _ _ _ _ _ _ ?_ ?_ ?_ ?_ y
    · exact Memref.IsWhole.read_unread _ _
    · exact (Memref.IsWhole.read_unread _ _).trans (blk_w m c t)
    · exact (Memref.IsWhole.read_unread _ _).trans (blk_b m c t)
    · rw [View.read_writes_junk_eq_canon]
      refine stores_eq m c t _ fun r h l => ?_
      let t' : Fin cfg0.N := ⟨t.val - 1, Nat.lt_of_le_of_lt (Nat.sub_le _ _) t.isLt⟩
      pointwise [k0_pay2]
      refine (congrFun (Memref.IsWhole.read_unread (Memref.isWhole_whole cc0_scratch0) _) _).trans ?_
      refine (tail m c t' r h l).trans ((blk m c t' ⟨248 + r, by omega⟩ l).trans ?_)
      refine Eq.trans ?_ (ext_ge m c t r (by omega) l (by omega) (by omega)).symm
      exact congrArg (fun q => m ((c : Thread nD τ).loc main_arg0) (ix2 q ⟨l.val, by omega⟩))
        (Fin.ext (show 256 * (t.val - 1) + (248 + r) = 256 * t.val + r - 8 by omega))
  · rw [outsAt0_A m c t (by omega) h1]; frame_out
    refine loop _ _ _ _ _ _ _ _ _ _ _ _ _ _ _ _ _ _ _ _ _ _ _ _ ?_ ?_ ?_ ?_ y
    · exact Memref.IsWhole.read_unread _ _
    · exact (Memref.IsWhole.read_unread _ _).trans (blk_w m c t)
    · exact (Memref.IsWhole.read_unread _ _).trans (blk_b m c t)
    · rw [View.read_writes_junk_eq_canon]
      refine stores_eq m c t _ fun r h l => ?_
      pointwise [k0_pay1]
      exact (ext_lt m c t r (by omega) l (by omega)).symm

/-- The reference's convolution, at an entry. -/
theorem ref_conv (c : Dev nD) (t : Fin cfg0.N) (y : S256x2816.Idx) (h : 256 * t.val + (y 0).val < 8192) :
    conv (m ((c : Thread nD τ).loc main_arg1)) (m ((c : Thread nD τ).loc main_arg2))
      (ext m c t) (y 0).val (by have := (y 0).isLt; change _ < 256 at this; omega) (y 1)
      = val_main_v27 (F := Ideal) (m ((c : Thread nD τ).loc main_arg0)) (m ((c : Thread nD τ).loc main_arg1))
        (m ((c : Thread nD τ).loc main_arg2)) (ix2 ⟨256 * t.val + (y 0).val, h⟩ (y 1)) := by
  have hN : t.val < 32 := (idx t).2.2.2.2.2
  have hy := (y 0).isLt
  change _ < 256 at hy
  pointwise [conv, ext, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v0, val_main_cst, val_main_cst_0]
  refine congrArg₂ (fun a b : EReal => a + b) (congrArg₂ (fun a b : EReal => a + b) (congrArg₂ (fun a b : EReal => a + b)
    (congrArg₂ (fun a b : EReal => a * b) rfl ?_) (congrArg₂ (fun a b : EReal => a * b) rfl ?_))
    (congrArg₂ (fun a b : EReal => a * b) rfl ?_)) rfl
  · by_cases h1 : 2 ≤ 256 * t.val + (y 0).val
    · rw [dif_pos (show 8 ≤ 256 * t.val + ((y 0).val + 6) by omega), dif_neg (show ¬ 256 * t.val + (y 0).val < 2 by omega)]
      exact congrArg (fun q => m ((c : Thread nD τ).loc main_arg0) (ix2 q ⟨(y 1).val, by have := (y 1).isLt; change _ < 2816 at this; omega⟩))
        (Fin.ext (show 256 * t.val + ((y 0).val + 6) - 8 = 256 * t.val + (y 0).val - 2 by omega))
    · rw [dif_neg (show ¬ 8 ≤ 256 * t.val + ((y 0).val + 6) by omega), dif_pos (show 256 * t.val + (y 0).val < 2 by omega)]
  · by_cases h1 : 1 ≤ 256 * t.val + (y 0).val
    · rw [dif_pos (show 8 ≤ 256 * t.val + ((y 0).val + 7) by omega), dif_neg (show ¬ 1 + (256 * t.val + (y 0).val) < 2 by omega)]
      exact congrArg (fun q => m ((c : Thread nD τ).loc main_arg0) (ix2 q ⟨(y 1).val, by have := (y 1).isLt; change _ < 2816 at this; omega⟩))
        (Fin.ext (show 256 * t.val + ((y 0).val + 7) - 8 = 1 + (256 * t.val + (y 0).val) - 2 by omega))
    · rw [dif_neg (show ¬ 8 ≤ 256 * t.val + ((y 0).val + 7) by omega), dif_pos (show 1 + (256 * t.val + (y 0).val) < 2 by omega)]
  · rw [dif_pos (show 8 ≤ 256 * t.val + ((y 0).val + 8) by omega)]
    exact congrArg (fun q => m ((c : Thread nD τ).loc main_arg0) (ix2 q ⟨(y 1).val, by have := (y 1).isLt; change _ < 2816 at this; omega⟩))
      (Fin.ext (show 256 * t.val + ((y 0).val + 8) - 8 = 256 * t.val + (y 0).val by omega))

/-- What a point leaves is the reference's result, at the array index of the entry. -/
theorem ref (c : Dev nD) (t : Fin cfg0.N) (y : S256x2816.Idx) :
    gelu (conv (m ((c : Thread nD τ).loc main_arg1)) (m ((c : Thread nD τ).loc main_arg2))
      (ext m c t) (y 0).val (by have := (y 0).isLt; change _ < 256 at this; omega) (y 1)) * iblk m c 1 t y
      = REF (m ((c : Thread nD τ).loc main_arg0)) (m ((c : Thread nD τ).loc main_arg1)) (m ((c : Thread nD τ).loc main_arg2))
        (((cfg0.win 4).blk t).view.emb y) := by
  have hN : t.val < 32 := (idx t).2.2.2.2.2
  have hy := (y 0).isLt
  change _ < 256 at hy
  have he : ((cfg0.win 4).blk t).view.emb y = ix2 (⟨256 * t.val + (y 0).val, by omega⟩ : Fin 8192) (y 1) := by
    blk_ext [idx t]
  rw [he, gelu_eq, ref_conv m c t y (by omega), blk_g]
  unfold REF
  generalize hb : val_main_v27 (F := Ideal) (m ((c : Thread nD τ).loc main_arg0)) (m ((c : Thread nD τ).loc main_arg1))
    (m ((c : Thread nD τ).loc main_arg2)) = b
  pointwise [val_main_v42, val_main_v41, val_main_v40, val_main_v39, val_main_v38, val_main_v37, val_main_v36,
    val_main_v35, val_main_v34, val_main_v33, val_main_v32, val_main_v31, val_main_v30, val_main_v29, val_main_v28,
    val_main_v1, val_main_cst_1, val_main_cst_2, val_main_cst_3, val_main_cst_4, hb]

/-- The array after the run is the reference's result. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact (outs m c t y).trans (ref m c t y)

end Cert.FfnMidIdeal.Value

end
-- ==== Proof.ConvFwdTaps.lean ====
/- The taps of the long convolution: what each group of 128 channels adds up at a point. -/
module

public import proofs.«01_k».proof.Proof.Gen.ConvFwdIdeal.Frame
public import Idealize.ShloMosaic.Lib.Pipeline.ValueKit
public import Idealize.ShloMosaic.Lib.Pointwise
public import Idealize.ShloMosaic.Lib.Claim

@[expose] public section

set_option maxHeartbeats 4000000
set_option maxRecDepth 65536

noncomputable section

open Idealize.ShloMosaic Idealize.ShloMosaic.TcCoe Idealize.SL.Sem
open Idealize.ShloMosaic.Pipeline (Dat)

namespace Cert.ConvFwdIdeal.Value

open Cert.ConvFwdIdeal Cert.ConvFwdIdeal.Gen

/-- The bias and the thirty-one taps, added in the order in which the kernel adds them. -/
def chain (b : EReal) (t : Fin 31 → EReal) : EReal :=
  b + t 6 + t 14 + t 22 + t 30 + t 7 + t 15 + t 23 + t 0
     + t 8 + t 16 + t 24 + t 1 + t 9 + t 17 + t 25 + t 2
     + t 10 + t 18 + t 26 + t 3 + t 11 + t 19 + t 27 + t 4
     + t 12 + t 20 + t 28 + t 5 + t 13 + t 21 + t 29

/-- The same sum with the taps in their own order, from zero, and the bias last. -/
theorem chain_eq (b : EReal) (t : Fin 31 → EReal) : chain b t
    = 0 + t 0 + t 1 + t 2 + t 3 + t 4 + t 5 + t 6 + t 7
     + t 8 + t 9 + t 10 + t 11 + t 12 + t 13 + t 14 + t 15
     + t 16 + t 17 + t 18 + t 19 + t 20 + t 21 + t 22 + t 23
     + t 24 + t 25 + t 26 + t 27 + t 28 + t 29 + t 30 + b := by
  unfold chain
  simp only [zero_add]
  ac_rfl

theorem rot8_1 (j : Fin 32) : (j.val + 8 + 64 - 63) % 64 = j.val + 9 := by omega
theorem rot16_1 (j : Fin 32) : (j.val + 16 + 64 - 63) % 64 = j.val + 17 := by omega
theorem rot24_1 (j : Fin 32) : (j.val + 24 + 64 - 63) % 64 = j.val + 25 := by omega
theorem rot0_2 (j : Fin 32) : (j.val + 64 - 62) % 64 = j.val + 2 := by omega
theorem rot8_2 (j : Fin 32) : (j.val + 8 + 64 - 62) % 64 = j.val + 10 := by omega
theorem rot16_2 (j : Fin 32) : (j.val + 16 + 64 - 62) % 64 = j.val + 18 := by omega
theorem rot24_2 (j : Fin 32) : (j.val + 24 + 64 - 62) % 64 = j.val + 26 := by omega
theorem rot0_3 (j : Fin 32) : (j.val + 64 - 61) % 64 = j.val + 3 := by omega
theorem rot8_3 (j : Fin 32) : (j.val + 8 + 64 - 61) % 64 = j.val + 11 := by omega
theorem rot16_3 (j : Fin 32) : (j.val + 16 + 64 - 61) % 64 = j.val + 19 := by omega
theorem rot24_3 (j : Fin 32) : (j.val + 24 + 64 - 61) % 64 = j.val + 27 := by omega
theorem rot0_4 (j : Fin 32) : (j.val + 64 - 60) % 64 = j.val + 4 := by omega
theorem rot8_4 (j : Fin 32) : (j.val + 8 + 64 - 60) % 64 = j.val + 12 := by omega
theorem rot16_4 (j : Fin 32) : (j.val + 16 + 64 - 60) % 64 = j.val + 20 := by omega
theorem rot24_4 (j : Fin 32) : (j.val + 24 + 64 - 60) % 64 = j.val + 28 := by omega
theorem rot0_5 (j : Fin 32) : (j.val + 64 - 59) % 64 = j.val + 5 := by omega
theorem rot8_5 (j : Fin 32) : (j.val + 8 + 64 - 59) % 64 = j.val + 13 := by omega
theorem rot16_5 (j : Fin 32) : (j.val + 16 + 64 - 59) % 64 = j.val + 21 := by omega
theorem rot24_5 (j : Fin 32) : (j.val + 24 + 64 - 59) % 64 = j.val + 29 := by omega
theorem rot0_6 (j : Fin 32) : (j.val + 64 - 58) % 64 = j.val + 6 := by omega
theorem rot8_6 (j : Fin 32) : (j.val + 8 + 64 - 58) % 64 = j.val + 14 := by omega
theorem rot16_6 (j : Fin 32) : (j.val + 16 + 64 - 58) % 64 = j.val + 22 := by omega
theorem rot24_6 (j : Fin 32) : (j.val + 24 + 64 - 58) % 64 = j.val + 30 := by omega
theorem rot0_7 (j : Fin 32) : (j.val + 64 - 57) % 64 = j.val + 7 := by omega
theorem rot8_7 (j : Fin 32) : (j.val + 8 + 64 - 57) % 64 = j.val + 15 := by omega
theorem rot16_7 (j : Fin 32) : (j.val + 16 + 64 - 57) % 64 = j.val + 23 := by omega
theorem rot24_7 (j : Fin 32) : (j.val + 24 + 64 - 57) % 64 = j.val + 31 := by omega
theorem fst8 (j : Fin 32) : 8 + j.val = j.val + 8 := by omega
theorem fst16 (j : Fin 32) : 16 + j.val = j.val + 16 := by omega
theorem fst24 (j : Fin 32) : 24 + j.val = j.val + 24 := by omega
theorem fst32 (j : Fin 32) : 32 + j.val = j.val + 32 := by omega

/-- The sum of channel group 0, from the window of the working buffer, the bias and the taps' weights. -/
def grp0 (W : Vec Ideal S64x128 .f32) (vb : Vec Ideal S1x128 .f32) (u : Fin 31 → Vec Ideal S1x128 .f32) : FVec Ideal S32x128 .f32 :=
  k0_pay17 (k0_pay15 W (k0_pay12 W (k0_pay9 W (k0_pay6 W vb (u 6) (u 14) (u 22) (u 30) (u 7) (u 15)) (k0_pay7 W) (u 23) (u 0) (u 8) (u 16) (u 24) (u 1) (u 9) (u 17)) (k0_pay10 W) (u 25) (u 2) (u 10) (u 18) (u 26) (u 3) (u 11) (u 19)) (k0_pay13 W) (u 27) (u 4) (u 12) (u 20) (u 28) (u 5) (u 13) (u 21)) (k0_pay16 W) (u 29)

/-- It is the chain of the taps. -/
theorem grp0_apply (W : Vec Ideal S64x128 .f32) (vb : Vec Ideal S1x128 .f32) (u : Fin 31 → Vec Ideal S1x128 .f32) (j : Fin 32) (l : Fin 128) :
    grp0 W vb u (ix2 j l) = chain (vb (ix2 0 l)) (fun k => u k (ix2 0 l) * W (ix2 ⟨j.val + (k.val + 2), by omega⟩ l)) := by
  have hj := j.isLt
  pointwise [grp0, chain, k0_pay5, k0_pay6, k0_pay7, k0_pay8, k0_pay9, k0_pay10, k0_pay11, k0_pay12, k0_pay13, k0_pay14, k0_pay15, k0_pay16, k0_pay17]
  simp only [rot8_1, rot16_1, rot24_1, rot0_2, rot8_2, rot16_2, rot24_2, rot0_3, rot8_3, rot16_3, rot24_3, rot0_4, rot8_4, rot16_4, rot24_4, rot0_5, rot8_5, rot16_5, rot24_5, rot0_6, rot8_6, rot16_6, rot24_6, rot0_7, rot8_7, rot16_7, rot24_7, fst8, fst16, fst24, fst32]

/-- The sum of channel group 1, from the window of the working buffer, the bias and the taps' weights. -/
def grp1 (W : Vec Ideal S64x128 .f32) (vb : Vec Ideal S1x128 .f32) (u : Fin 31 → Vec Ideal S1x128 .f32) : FVec Ideal S32x128 .f32 :=
  k0_pay34 (k0_pay31 W (k0_pay27 W (k0_pay23 W (k0_pay19 W vb (u 6) (u 14) (u 22) (u 30) (u 7) (u 15)) (k0_pay20 W) (k0_pay21 (u 23)) (u 0) (u 8) (u 16) (u 24) (u 1) (u 9) (u 17)) (k0_pay24 W) (k0_pay25 (u 25)) (u 2) (u 10) (u 18) (u 26) (u 3) (u 11) (u 19)) (k0_pay28 W) (k0_pay29 (u 27)) (u 4) (u 12) (u 20) (u 28) (u 5) (u 13) (u 21)) (k0_pay32 W) (k0_pay33 (u 29))

/-- It is the chain of the taps. -/
theorem grp1_apply (W : Vec Ideal S64x128 .f32) (vb : Vec Ideal S1x128 .f32) (u : Fin 31 → Vec Ideal S1x128 .f32) (j : Fin 32) (l : Fin 128) :
    grp1 W vb u (ix2 j l) = chain (vb (ix2 0 l)) (fun k => u k (ix2 0 l) * W (ix2 ⟨j.val + (k.val + 2), by omega⟩ l)) := by
  have hj := j.isLt
  pointwise [grp1, chain, k0_pay18, k0_pay19, k0_pay20, k0_pay21, k0_pay22, k0_pay23, k0_pay24, k0_pay25, k0_pay26, k0_pay27, k0_pay28, k0_pay29, k0_pay30, k0_pay31, k0_pay32, k0_pay33, k0_pay34]
  simp only [rot8_1, rot16_1, rot24_1, rot0_2, rot8_2, rot16_2, rot24_2, rot0_3, rot8_3, rot16_3, rot24_3, rot0_4, rot8_4, rot16_4, rot24_4, rot0_5, rot8_5, rot16_5, rot24_5, rot0_6, rot8_6, rot16_6, rot24_6, rot0_7, rot8_7, rot16_7, rot24_7, fst8, fst16, fst24, fst32]

/-- The sum of channel group 2, from the window of the working buffer, the bias and the taps' weights. -/
def grp2 (W : Vec Ideal S64x128 .f32) (vb : Vec Ideal S1x128 .f32) (u : Fin 31 → Vec Ideal S1x128 .f32) : FVec Ideal S32x128 .f32 :=
  k0_pay47 (k0_pay45 W (k0_pay42 W (k0_pay39 W (k0_pay36 W vb (u 6) (u 14) (u 22) (u 30) (u 7) (u 15)) (k0_pay37 W (u 23)) (u 0) (u 8) (u 16) (u 24) (u 1) (u 9) (u 17)) (k0_pay40 W (u 25)) (u 2) (u 10) (u 18) (u 26) (u 3) (u 11) (u 19)) (k0_pay43 W (u 27)) (u 4) (u 12) (u 20) (u 28) (u 5) (u 13) (u 21)) (k0_pay46 W (u 29))

/-- It is the chain of the taps. -/
theorem grp2_apply (W : Vec Ideal S64x128 .f32) (vb : Vec Ideal S1x128 .f32) (u : Fin 31 → Vec Ideal S1x128 .f32) (j : Fin 32) (l : Fin 128) :
    grp2 W vb u (ix2 j l) = chain (vb (ix2 0 l)) (fun k => u k (ix2 0 l) * W (ix2 ⟨j.val + (k.val + 2), by omega⟩ l)) := by
  have hj := j.isLt
  pointwise [grp2, chain, k0_pay35, k0_pay36, k0_pay37, k0_pay38, k0_pay39, k0_pay40, k0_pay41, k0_pay42, k0_pay43, k0_pay44, k0_pay45, k0_pay46, k0_pay47]
  simp only [rot8_1, rot16_1, rot24_1, rot0_2, rot8_2, rot16_2, rot24_2, rot0_3, rot8_3, rot16_3, rot24_3, rot0_4, rot8_4, rot16_4, rot24_4, rot0_5, rot8_5, rot16_5, rot24_5, rot0_6, rot8_6, rot16_6, rot24_6, rot0_7, rot8_7, rot16_7, rot24_7, fst8, fst16, fst24, fst32]

/-- The sum of channel group 3, from the window of the working buffer, the bias and the taps' weights. -/
def grp3 (W : Vec Ideal S64x128 .f32) (vb : Vec Ideal S1x128 .f32) (u : Fin 31 → Vec Ideal S1x128 .f32) : FVec Ideal S32x128 .f32 :=
  k0_pay51 W (k0_pay50 W (k0_pay49 W (k0_pay48 W vb (u 6) (u 14) (u 22) (u 30) (u 7) (u 15) (u 23)) (u 0) (u 8) (u 16) (u 24) (u 1) (u 9) (u 17) (u 25)) (u 2) (u 10) (u 18) (u 26) (u 3) (u 11) (u 19) (u 27)) (u 4) (u 12) (u 20) (u 28) (u 5) (u 13) (u 21) (u 29)

/-- It is the chain of the taps. -/
theorem grp3_apply (W : Vec Ideal S64x128 .f32) (vb : Vec Ideal S1x128 .f32) (u : Fin 31 → Vec Ideal S1x128 .f32) (j : Fin 32) (l : Fin 128) :
    grp3 W vb u (ix2 j l) = chain (vb (ix2 0 l)) (fun k => u k (ix2 0 l) * W (ix2 ⟨j.val + (k.val + 2), by omega⟩ l)) := by
  have hj := j.isLt
  pointwise [grp3, chain, k0_pay48, k0_pay49, k0_pay50, k0_pay51]
  simp only [rot8_1, rot16_1, rot24_1, rot0_2, rot8_2, rot16_2, rot24_2, rot0_3, rot8_3, rot16_3, rot24_3, rot0_4, rot8_4, rot16_4, rot24_4, rot0_5, rot8_5, rot16_5, rot24_5, rot0_6, rot8_6, rot16_6, rot24_6, rot0_7, rot8_7, rot16_7, rot24_7, fst8, fst16, fst24, fst32]

end Cert.ConvFwdIdeal.Value

end
-- ==== Proof.ConvFwdRefValue.lean ====
/- The reference of the convolution branch, at an entry. -/
module

public import proofs.«01_k».proof.Proof.Gen.ConvFwdRefIdeal.Read
public import proofs.«01_k».proof.Proof.ConvFwdTaps
public import Idealize.ShloMosaic.Lib.Pipeline.ValueKit
public import Idealize.ShloMosaic.Lib.Pointwise
public import Idealize.ShloMosaic.Lib.Claim

@[expose] public section

set_option maxHeartbeats 4000000
set_option maxRecDepth 65536

noncomputable section

open Idealize.ShloMosaic Idealize.ShloMosaic.TcCoe Idealize.SL.Sem
open Idealize.ShloMosaic.Pipeline (Dat)

namespace Cert.ConvFwdRefIdeal.Value

open Cert.ConvFwdRefIdeal Cert.ConvFwdRefIdeal.Read
open Cert.ConvFwdIdeal.Value (chain chain_eq)

/-- The rows the convolution reads: zeros before the first row, then the gated unit. -/
theorem before (x0 : FVec Ideal S8192x7168 .f32) (q : ℕ) (hq : q < 8222) (l : Fin 512) :
    val_main_v10 (F := Ideal) x0 (ix2 ⟨q, hq⟩ l)
      = if h : 30 ≤ q then val_main_v8 (F := Ideal) x0 (ix2 ⟨q - 30, by omega⟩ l) else 0 := by
  generalize hb : val_main_v8 (F := Ideal) x0 = b
  by_cases h : 30 ≤ q
  · rw [dif_pos h]
    pointwise [val_main_v10, val_main_v9, val_main_cst_1, hb]
    rw [dif_neg (by omega)]
  · rw [dif_neg h]
    pointwise [val_main_v10, val_main_v9, val_main_cst_1, hb]
    rw [dif_pos (by omega)]

/-- The convolution with its bias, at an entry. -/
theorem v168 (x0 : FVec Ideal S8192x7168 .f32) (x1 : FVec Ideal S31x512 .f32) (x2 : FVec Ideal S1x512 .f32) (r : Fin 8192) (l : Fin 512) :
    val_main_v168 (F := Ideal) x0 x1 x2 (ix2 r l)
      = chain (x2 (ix2 0 l)) (fun k => x1 (ix2 k l) * val_main_v10 (F := Ideal) x0 (ix2 ⟨r.val + k.val, by omega⟩ l)) := by
  rw [chain_eq]
  generalize hb : val_main_v10 (F := Ideal) x0 = b
  pointwise [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_2, hb]
  simp only [Nat.add_comm r.val]

end Cert.ConvFwdRefIdeal.Value

end
-- ==== Proof.ConvFwdValue.lean ====
/- The convolution branch: the gated unit, the causal depthwise convolution, its layer norm and its swish. What the kernel
   leaves is what the reference computes. -/
module

public import proofs.«01_k».proof.Proof.Gen.ConvFwdIdeal.Frame
public import proofs.«01_k».proof.Proof.ConvFwdTaps
public import proofs.«01_k».proof.Proof.ConvFwdRefValue
public import Idealize.ShloMosaic.Lib.Pipeline.ValueKit
public import Idealize.ShloMosaic.Lib.Pointwise
public import Idealize.ShloMosaic.Lib.Claim

@[expose] public section

set_option maxHeartbeats 4000000
set_option maxRecDepth 65536

noncomputable section

open Idealize.ShloMosaic Idealize.ShloMosaic.TcCoe Idealize.SL.Sem
open Idealize.ShloMosaic.Pipeline (Dat)

namespace Cert.ConvFwdIdeal.Value

open Cert.ConvFwdIdeal Cert.ConvFwdIdeal.Gen
open Cert.ConvFwdRefIdeal.Read

variable (m : (ℓ : Loc nD τ sig) → Buf (Elt Ideal) ℓ)

/-- The convolution at row `r` of a tile whose input lies from row 32 on: the thirty-one taps, over the row and the thirty
    before it, and the bias. -/
def conv (w : FVec Ideal S31x512 .f32) (b : FVec Ideal S1x512 .f32) (x : FVec Ideal S544x512 .f32) (r : ℕ) (hr : r < 512) (l : Fin 512) : EReal :=
  chain (b (ix2 0 l)) (fun k => w (ix2 k l) * x (ix2 ⟨r + (k.val + 2), by omega⟩ l))

theorem inb_w0 (k : Fin 31) : ∀ a, (![k.val, 0] : Fin 2 → Nat) a + S1x128.size a ≤ S31x512.size a := by
  intro a
  have hk := k.isLt
  fin_cases a
  · show k.val + 1 ≤ 31; omega
  · show 0 + 128 ≤ 512; omega

/-- The sum of channel group 0 in one trip, over what the buffers hold. -/
abbrev part0 (w : FVec Ideal S31x512 .f32) (b : FVec Ideal S1x512 .f32) (x : FVec Ideal S544x512 .f32) (k : Fin k0_t1_loop.trips) : FVec Ideal S32x128 .f32 :=
  grp0 (View.ld x (Rect.unit (s := S544x512) (k0_off1 k) S64x128.size (k0_off1_inb k)))
    (View.ld b (Rect.unit (s := S1x512) ![0, 0] S1x128.size inb_S1x512_S1x128_0_0))
    (fun q => View.ld w (Rect.unit (s := S31x512) ![q.val, 0] S1x128.size (inb_w0 q)))

/-- It is the convolution. -/
theorem part0_apply (w : FVec Ideal S31x512 .f32) (b : FVec Ideal S1x512 .f32) (x : FVec Ideal S544x512 .f32) (k : Fin k0_t1_loop.trips)
    (j : Fin 32) (l : Fin 128) (L : Fin 512) (hL : L.val = 0 + l.val) (hr : 32 * k.val + j.val < 512) :
    part0 w b x k (ix2 j l) = conv w b x (32 * k.val + j.val) hr L := by
  have e := k0_off1_eq k
  have e0 : k0_off1 k 0 = 32 * k.val := congrFun e 0
  have e1 : k0_off1 k 1 = 0 := congrFun e 1
  refine (grp0_apply _ _ _ j l).trans ?_
  unfold conv
  refine congrArg₂ chain (View.ld_unit_apply_of _ _ _ _ _ _ fun a => ?_) (funext fun q =>
    congrArg₂ (fun a b : EReal => a * b) (View.ld_unit_apply_of _ _ _ _ _ _ fun a => ?_) (View.ld_unit_apply_of _ _ _ _ _ _ fun a => ?_))
  · fin_cases a
    · rfl
    · exact hL
  · fin_cases a
    · rfl
    · exact hL
  · fin_cases a
    · show 32 * k.val + j.val + (q.val + 2) = k0_off1 k 0 + (j.val + (q.val + 2))
      omega
    · show L.val = k0_off1 k 1 + l.val
      omega

theorem inb_w1 (k : Fin 31) : ∀ a, (![k.val, 128] : Fin 2 → Nat) a + S1x128.size a ≤ S31x512.size a := by
  intro a
  have hk := k.isLt
  fin_cases a
  · show k.val + 1 ≤ 31; omega
  · show 128 + 128 ≤ 512; omega

/-- The sum of channel group 1 in one trip, over what the buffers hold. -/
abbrev part1 (w : FVec Ideal S31x512 .f32) (b : FVec Ideal S1x512 .f32) (x : FVec Ideal S544x512 .f32) (k : Fin k0_t1_loop.trips) : FVec Ideal S32x128 .f32 :=
  grp1 (View.ld x (Rect.unit (s := S544x512) (k0_off2 k) S64x128.size (k0_off2_inb k)))
    (View.ld b (Rect.unit (s := S1x512) ![0, 128] S1x128.size inb_S1x512_S1x128_0_128))
    (fun q => View.ld w (Rect.unit (s := S31x512) ![q.val, 128] S1x128.size (inb_w1 q)))

/-- It is the convolution. -/
theorem part1_apply (w : FVec Ideal S31x512 .f32) (b : FVec Ideal S1x512 .f32) (x : FVec Ideal S544x512 .f32) (k : Fin k0_t1_loop.trips)
    (j : Fin 32) (l : Fin 128) (L : Fin 512) (hL : L.val = 128 + l.val) (hr : 32 * k.val + j.val < 512) :
    part1 w b x k (ix2 j l) = conv w b x (32 * k.val + j.val) hr L := by
  have e := k0_off2_eq k
  have e0 : k0_off2 k 0 = 32 * k.val := congrFun e 0
  have e1 : k0_off2 k 1 = 128 := congrFun e 1
  refine (grp1_apply _ _ _ j l).trans ?_
  unfold conv
  refine congrArg₂ chain (View.ld_unit_apply_of _ _ _ _ _ _ fun a => ?_) (funext fun q =>
    congrArg₂ (fun a b : EReal => a * b) (View.ld_unit_apply_of _ _ _ _ _ _ fun a => ?_) (View.ld_unit_apply_of _ _ _ _ _ _ fun a => ?_))
  · fin_cases a
    · rfl
    · exact hL
  · fin_cases a
    · rfl
    · exact hL
  · fin_cases a
    · show 32 * k.val + j.val + (q.val + 2) = k0_off2 k 0 + (j.val + (q.val + 2))
      omega
    · show L.val = k0_off2 k 1 + l.val
      omega

theorem inb_w2 (k : Fin 31) : ∀ a, (![k.val, 256] : Fin 2 → Nat) a + S1x128.size a ≤ S31x512.size a := by
  intro a
  have hk := k.isLt
  fin_cases a
  · show k.val + 1 ≤ 31; omega
  · show 256 + 128 ≤ 512; omega

/-- The sum of channel group 2 in one trip, over what the buffers hold. -/
abbrev part2 (w : FVec Ideal S31x512 .f32) (b : FVec Ideal S1x512 .f32) (x : FVec Ideal S544x512 .f32) (k : Fin k0_t1_loop.trips) : FVec Ideal S32x128 .f32 :=
  grp2 (View.ld x (Rect.unit (s := S544x512) (k0_off3 k) S64x128.size (k0_off3_inb k)))
    (View.ld b (Rect.unit (s := S1x512) ![0, 256] S1x128.size inb_S1x512_S1x128_0_256))
    (fun q => View.ld w (Rect.unit (s := S31x512) ![q.val, 256] S1x128.size (inb_w2 q)))

/-- It is the convolution. -/
theorem part2_apply (w : FVec Ideal S31x512 .f32) (b : FVec Ideal S1x512 .f32) (x : FVec Ideal S544x512 .f32) (k : Fin k0_t1_loop.trips)
    (j : Fin 32) (l : Fin 128) (L : Fin 512) (hL : L.val = 256 + l.val) (hr : 32 * k.val + j.val < 512) :
    part2 w b x k (ix2 j l) = conv w b x (32 * k.val + j.val) hr L := by
  have e := k0_off3_eq k
  have e0 : k0_off3 k 0 = 32 * k.val := congrFun e 0
  have e1 : k0_off3 k 1 = 256 := congrFun e 1
  refine (grp2_apply _ _ _ j l).trans ?_
  unfold conv
  refine congrArg₂ chain (View.ld_unit_apply_of _ _ _ _ _ _ fun a => ?_) (funext fun q =>
    congrArg₂ (fun a b : EReal => a * b) (View.ld_unit_apply_of _ _ _ _ _ _ fun a => ?_) (View.ld_unit_apply_of _ _ _ _ _ _ fun a => ?_))
  · fin_cases a
    · rfl
    · exact hL
  · fin_cases a
    · rfl
    · exact hL
  · fin_cases a
    · show 32 * k.val + j.val + (q.val + 2) = k0_off3 k 0 + (j.val + (q.val + 2))
      omega
    · show L.val = k0_off3 k 1 + l.val
      omega

theorem inb_w3 (k : Fin 31) : ∀ a, (![k.val, 384] : Fin 2 → Nat) a + S1x128.size a ≤ S31x512.size a := by
  intro a
  have hk := k.isLt
  fin_cases a
  · show k.val + 1 ≤ 31; omega
  · show 384 + 128 ≤ 512; omega

/-- The sum of channel group 3 in one trip, over what the buffers hold. -/
abbrev part3 (w : FVec Ideal S31x512 .f32) (b : FVec Ideal S1x512 .f32) (x : FVec Ideal S544x512 .f32) (k : Fin k0_t1_loop.trips) : FVec Ideal S32x128 .f32 :=
  grp3 (View.ld x (Rect.unit (s := S544x512) (k0_off4 k) S64x128.size (k0_off4_inb k)))
    (View.ld b (Rect.unit (s := S1x512) ![0, 384] S1x128.size inb_S1x512_S1x128_0_384))
    (fun q => View.ld w (Rect.unit (s := S31x512) ![q.val, 384] S1x128.size (inb_w3 q)))

/-- It is the convolution. -/
theorem part3_apply (w : FVec Ideal S31x512 .f32) (b : FVec Ideal S1x512 .f32) (x : FVec Ideal S544x512 .f32) (k : Fin k0_t1_loop.trips)
    (j : Fin 32) (l : Fin 128) (L : Fin 512) (hL : L.val = 384 + l.val) (hr : 32 * k.val + j.val < 512) :
    part3 w b x k (ix2 j l) = conv w b x (32 * k.val + j.val) hr L := by
  have e := k0_off4_eq k
  have e0 : k0_off4 k 0 = 32 * k.val := congrFun e 0
  have e1 : k0_off4 k 1 = 384 := congrFun e 1
  refine (grp3_apply _ _ _ j l).trans ?_
  unfold conv
  refine congrArg₂ chain (View.ld_unit_apply_of _ _ _ _ _ _ fun a => ?_) (funext fun q =>
    congrArg₂ (fun a b : EReal => a * b) (View.ld_unit_apply_of _ _ _ _ _ _ fun a => ?_) (View.ld_unit_apply_of _ _ _ _ _ _ fun a => ?_))
  · fin_cases a
    · rfl
    · exact hL
  · fin_cases a
    · rfl
    · exact hL
  · fin_cases a
    · show 32 * k.val + j.val + (q.val + 2) = k0_off4 k 0 + (j.val + (q.val + 2))
      omega
    · show L.val = k0_off4 k 1 + l.val
      omega

/-- The four groups side by side. -/
theorem row (w : FVec Ideal S31x512 .f32) (b : FVec Ideal S1x512 .f32) (x : FVec Ideal S544x512 .f32) (k : Fin k0_t1_loop.trips)
    (j : Fin 32) (l : Fin 512) (hr : 32 * k.val + j.val < 512) :
    k0_pay52 (F := Ideal) (part0 w b x k) (part1 w b x k) (part2 w b x k) (part3 w b x k) (ix2 j l) = conv w b x (32 * k.val + j.val) hr l := by
  have h0 := fun l' hL => part0_apply w b x k j l' l hL hr
  have h1 := fun l' hL => part1_apply w b x k j l' l hL hr
  have h2 := fun l' hL => part2_apply w b x k j l' l hL hr
  have h3 := fun l' hL => part3_apply w b x k j l' l hL hr
  revert h0 h1 h2 h3
  generalize part0 w b x k = p0
  generalize part1 w b x k = p1
  generalize part2 w b x k = p2
  generalize part3 w b x k = p3
  generalize conv w b x (32 * k.val + j.val) hr l = z
  intro h0 h1 h2 h3
  have hl := l.isLt
  pointwise [k0_pay52]
  split_ifs
  all_goals first
    | exact h0 ⟨l.val, by omega⟩ (by show l.val = 0 + l.val; omega)
    | exact h1 ⟨l.val - 128, by omega⟩ (by show l.val = 128 + (l.val - 128); omega)
    | exact h2 ⟨l.val - 128 - 128, by omega⟩ (by show l.val = 256 + (l.val - 128 - 128); omega)
    | exact h3 ⟨l.val - 128 - 128 - 128, by omega⟩ (by show l.val = 384 + (l.val - 128 - 128 - 128); omega)

/-- The layer norm and the swish of a row, when the row is the reference's. -/
theorem norm (p0 p1 p2 p3 : FVec Ideal S32x128 .f32) (g be : FVec Ideal S1x512 .f32) (x0 : FVec Ideal S8192x7168 .f32)
    (x1 : FVec Ideal S31x512 .f32) (x2 : FVec Ideal S1x512 .f32) (j : Fin 32) (r : Fin 8192) (l : Fin 512)
    (h : ∀ l, k0_pay52 (F := Ideal) p0 p1 p2 p3 (ix2 j l) = val_main_v168 (F := Ideal) x0 x1 x2 (ix2 r l)) :
    k0_pay4 (F := Ideal) (k0_pay54 p0 p1 p2 p3 g be) (ix2 j l) = val_main_v198 (F := Ideal) x0 x1 x2 g be (ix2 r l) := by
  unfold k0_pay4 k0_pay54
  generalize k0_pay52 (F := Ideal) p0 p1 p2 p3 = b at h ⊢
  generalize hR : val_main_v168 (F := Ideal) x0 x1 x2 = R at h
  pointwise [Ideal.logistic, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_cst_3, val_main_cst_4, val_main_cst_5, val_main_cst_6, val_main_cst_7, val_main_cst_8, val_main_cst_9, hR, h]

section Loop

variable (𝒱 : Variants) (c : Dev nD) (bd : Option 𝒱.V) (i : grid0.Coords)
  (arg1 : Memref sig .tc .vmem S512x512 .f32) (harg1 : arg1.IsWhole)
  (arg2 : Memref sig .tc .vmem S512x512 .f32) (harg2 : arg2.IsWhole)
  (arg3 : Memref sig .tc .vmem S31x512 .f32) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S512x512 .f32) (harg7 : arg7.IsWhole)
  (arg8 : Memref sig .tc .vmem S512x512 .bf16) (harg8 : arg8.IsWhole)
  (arg9 : Memref sig .tc .vmem S544x512 .f32) (harg9 : arg9.IsWhole)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X9 : BufTy.Contents (Elt Ideal) arg9.view.ty)

/-- What one trip of the loop writes: its 32 rows of the convolution, and of the branch's result. -/
theorem trip (k : Fin k0_t1_loop.trips) :
    tripL_k0_t1 (F := Ideal) 𝒱 c bd i arg1 harg1 arg2 harg2 arg3 harg3 arg4 harg4 arg5 harg5 arg6 harg6 arg7 harg7 arg8 harg8 arg9 harg9 X3 X4 X5 X6 X9 k
      = ([⟨Rect.unit (s := S512x512) (k0_off5 k) S32x512.size (k0_off5_inb k), k0_pay53 (part0 (arg3.view.read (Elt Ideal) X3) (arg4.view.read (Elt Ideal) X4) (arg9.view.read (Elt Ideal) X9) k) (part1 (arg3.view.read (Elt Ideal) X3) (arg4.view.read (Elt Ideal) X4) (arg9.view.read (Elt Ideal) X9) k) (part2 (arg3.view.read (Elt Ideal) X3) (arg4.view.read (Elt Ideal) X4) (arg9.view.read (Elt Ideal) X9) k) (part3 (arg3.view.read (Elt Ideal) X3) (arg4.view.read (Elt Ideal) X4) (arg9.view.read (Elt Ideal) X9) k)⟩],
        [⟨Rect.unit (s := S512x512) (k0_off5 k) S32x512.size (k0_off5_inb k), k0_pay4 (k0_pay54 (part0 (arg3.view.read (Elt Ideal) X3) (arg4.view.read (Elt Ideal) X4) (arg9.view.read (Elt Ideal) X9) k) (part1 (arg3.view.read (Elt Ideal) X3) (arg4.view.read (Elt Ideal) X4) (arg9.view.read (Elt Ideal) X9) k) (part2 (arg3.view.read (Elt Ideal) X3) (arg4.view.read (Elt Ideal) X4) (arg9.view.read (Elt Ideal) X9) k) (part3 (arg3.view.read (Elt Ideal) X3) (arg4.view.read (Elt Ideal) X4) (arg9.view.read (Elt Ideal) X9) k)
          (View.ld (arg5.view.read (Elt Ideal) X5) (Rect.unit (s := S1x512) ![0, 0] S1x512.size inb_S1x512_S1x512_0_0))
          (View.ld (arg6.view.read (Elt Ideal) X6) (Rect.unit (s := S1x512) ![0, 0] S1x512.size inb_S1x512_S1x512_0_0)))⟩]) := by
  unfold tripL_k0_t1 trip_k0_t1
  rfl

/-- A piece of the trips before `n` is a piece of one of them. -/
theorem of_mem1 (p : View.Piece (Elt Ideal) S512x512 .f32) : ∀ n : ℕ,
    p ∈ (pb_k0_t1 (F := Ideal) 𝒱 c bd i arg1 harg1 arg2 harg2 arg3 harg3 arg4 harg4 arg5 harg5 arg6 harg6 arg7 harg7 arg8 harg8 arg9 harg9 X3 X4 X5 X6 X9 n).1 → ∃ k, p ∈ (tripL_k0_t1 (F := Ideal) 𝒱 c bd i arg1 harg1 arg2 harg2 arg3 harg3 arg4 harg4 arg5 harg5 arg6 harg6 arg7 harg7 arg8 harg8 arg9 harg9 X3 X4 X5 X6 X9 k).1
  | 0, h => by rw [pb_k0_t1.eq_1] at h; exact absurd h List.not_mem_nil
  | n + 1, h => by
    rw [pb_k0_t1.eq_2] at h
    unfold pb_k0_t1Step at h
    split at h
    · next hn =>
      rcases List.mem_append.mp h with h | h
      · exact ⟨_, h⟩
      · exact of_mem1 p n h
    · exact of_mem1 p n h

/-- The piece of a trip is among those of the trips before any later one. -/
theorem mem_of1 (p : View.Piece (Elt Ideal) S512x512 .f32) (k : Fin k0_t1_loop.trips)
    (h : p ∈ (tripL_k0_t1 (F := Ideal) 𝒱 c bd i arg1 harg1 arg2 harg2 arg3 harg3 arg4 harg4 arg5 harg5 arg6 harg6 arg7 harg7 arg8 harg8 arg9 harg9 X3 X4 X5 X6 X9 k).1) : ∀ n : ℕ, k.val < n →
      p ∈ (pb_k0_t1 (F := Ideal) 𝒱 c bd i arg1 harg1 arg2 harg2 arg3 harg3 arg4 harg4 arg5 harg5 arg6 harg6 arg7 harg7 arg8 harg8 arg9 harg9 X3 X4 X5 X6 X9 n).1
  | 0, hn => absurd hn (Nat.not_lt_zero _)
  | n + 1, hn => by
    rw [pb_k0_t1.eq_2]
    unfold pb_k0_t1Step
    rcases Nat.lt_succ_iff_lt_or_eq.mp hn with hn | rfl
    · split
      · exact List.mem_append_right _ (mem_of1 p k h n hn)
      · exact mem_of1 p k h n hn
    · rw [dif_pos k.isLt]
      exact List.mem_append_left _ h

/-- A piece of the trips before `n` is a piece of one of them. -/
theorem of_mem2 (p : View.Piece (Elt Ideal) S512x512 .bf16) : ∀ n : ℕ,
    p ∈ (pb_k0_t1 (F := Ideal) 𝒱 c bd i arg1 harg1 arg2 harg2 arg3 harg3 arg4 harg4 arg5 harg5 arg6 harg6 arg7 harg7 arg8 harg8 arg9 harg9 X3 X4 X5 X6 X9 n).2 → ∃ k, p ∈ (tripL_k0_t1 (F := Ideal) 𝒱 c bd i arg1 harg1 arg2 harg2 arg3 harg3 arg4 harg4 arg5 harg5 arg6 harg6 arg7 harg7 arg8 harg8 arg9 harg9 X3 X4 X5 X6 X9 k).2
  | 0, h => by rw [pb_k0_t1.eq_1] at h; exact absurd h List.not_mem_nil
  | n + 1, h => by
    rw [pb_k0_t1.eq_2] at h
    unfold pb_k0_t1Step at h
    split at h
    · next hn =>
      rcases List.mem_append.mp h with h | h
      · exact ⟨_, h⟩
      · exact of_mem2 p n h
    · exact of_mem2 p n h

/-- The piece of a trip is among those of the trips before any later one. -/
theorem mem_of2 (p : View.Piece (Elt Ideal) S512x512 .bf16) (k : Fin k0_t1_loop.trips)
    (h : p ∈ (tripL_k0_t1 (F := Ideal) 𝒱 c bd i arg1 harg1 arg2 harg2 arg3 harg3 arg4 harg4 arg5 harg5 arg6 harg6 arg7 harg7 arg8 harg8 arg9 harg9 X3 X4 X5 X6 X9 k).2) : ∀ n : ℕ, k.val < n →
      p ∈ (pb_k0_t1 (F := Ideal) 𝒱 c bd i arg1 harg1 arg2 harg2 arg3 harg3 arg4 harg4 arg5 harg5 arg6 harg6 arg7 harg7 arg8 harg8 arg9 harg9 X3 X4 X5 X6 X9 n).2
  | 0, hn => absurd hn (Nat.not_lt_zero _)
  | n + 1, hn => by
    rw [pb_k0_t1.eq_2]
    unfold pb_k0_t1Step
    rcases Nat.lt_succ_iff_lt_or_eq.mp hn with hn | rfl
    · split
      · exact List.mem_append_right _ (mem_of2 p k h n hn)
      · exact mem_of2 p k h n hn
    · rw [dif_pos k.isLt]
      exact List.mem_append_left _ h

/-- The loop makes sixteen trips. -/
theorem trips_eq : k0_t1_loop.trips = 16 := by decide +kernel

/-- Where a trip's rows lie in the tile. -/
theorem emb5 (k : Fin k0_t1_loop.trips) (j : S32x512.Idx) (hr : 32 * k.val + (j 0).val < 512) :
    (Rect.unit (s := S512x512) (k0_off5 k) S32x512.size (k0_off5_inb k)).emb j = ix2 ⟨32 * k.val + (j 0).val, hr⟩ (j 1) := by
  have e' := k0_off5_eq k
  have e0 : k0_off5 k 0 = 32 * k.val := congrFun e' 0
  have e1 : k0_off5 k 1 = 0 := congrFun e' 1
  funext a
  refine Fin.ext ?_
  rw [Rect.emb_apply]
  fin_cases a
  · show k0_off5 k 0 + 1 * (j 0).val = 32 * k.val + (j 0).val
    omega
  · show k0_off5 k 1 + 1 * (j 1).val = (j 1).val
    omega

/-- All trips together leave the convolution in every row of the tile. -/
theorem loop1 (w : FVec Ideal S31x512 .f32) (b : FVec Ideal S1x512 .f32) (x : FVec Ideal S544x512 .f32)
    (hw : (arg3.view.read (Elt Ideal) X3) = w) (hb : (arg4.view.read (Elt Ideal) X4) = b) (hx : (arg9.view.read (Elt Ideal) X9) = x) (y : S512x512.Idx) :
    View.canon (pb_k0_t1 (F := Ideal) 𝒱 c bd i arg1 harg1 arg2 harg2 arg3 harg3 arg4 harg4 arg5 harg5 arg6 harg6 arg7 harg7 arg8 harg8 arg9 harg9 X3 X4 X5 X6 X9 k0_t1_loop.trips).1 y = conv w b x (y 0).val (y 0).isLt (y 1) := by
  refine View.canon_apply_of_pieces (Val := Elt Ideal) (e := .f32) (fun y : S512x512.Idx =>
    conv w b x (y 0).val (y 0).isLt (y 1)) _ (fun p hp j => ?_) y ?_
  · obtain ⟨k, hk⟩ := of_mem1 _ _ _ _ _ _ _ _ _ _ _ _ _ _ _ _ _ _ _ _ _ _ _ _ _ _ _ _ _ hp
    rw [trip, List.mem_singleton] at hk
    subst hk
    have hk8 : k.val < 16 := Nat.lt_of_lt_of_eq k.isLt trips_eq
    have hj := (j 0).isLt
    change _ < 32 at hj
    have hr : 32 * k.val + (j 0).val < 512 := by omega
    dsimp only
    rw [emb5 k j hr]
    obtain ⟨j0, j1, rfl⟩ : ∃ r l, j = ix2 r l := ⟨j 0, j 1, by ext a; fin_cases a <;> rfl⟩
    rw [hw, hb, hx]
    have e : k0_pay53 (F := Ideal) (part0 w b x k) (part1 w b x k) (part2 w b x k) (part3 w b x k) (ix2 j0 j1) = k0_pay52 (F := Ideal) (part0 w b x k) (part1 w b x k) (part2 w b x k) (part3 w b x k) (ix2 j0 j1) := by
      unfold k0_pay53
      generalize k0_pay52 (F := Ideal) (part0 w b x k) (part1 w b x k) (part2 w b x k) (part3 w b x k) = p
      pointwise []
    exact e.trans (row w b x k j0 j1 hr)
  · have hy := (y 0).isLt
    change _ < 512 at hy
    have hy1 := (y 1).isLt
    change _ < 512 at hy1
    let k : Fin k0_t1_loop.trips := ⟨(y 0).val / 32, by rw [trips_eq]; omega⟩
    refine ⟨_, mem_of1 _ _ _ _ _ _ _ _ _ _ _ _ _ _ _ _ _ _ _ _ _ _ _ _ _ _ _ _ k (by rw [trip]; exact List.mem_singleton_self _) _ k.isLt, ?_⟩
    refine (Rect.mem_set_unit (inb := k0_off5_inb k)).mpr fun a => ?_
    rw [k0_off5_eq k]
    fin_cases a
    · show 32 * ((y 0).val / 32) ≤ (y 0).val ∧ (y 0).val < 32 * ((y 0).val / 32) + 32
      omega
    · show 0 ≤ (y 1).val ∧ (y 1).val < 0 + 512
      omega

/-- And the branch's result, when the convolution is the reference's. -/
theorem loop2 (w : FVec Ideal S31x512 .f32) (b : FVec Ideal S1x512 .f32) (x : FVec Ideal S544x512 .f32) (g be : FVec Ideal S1x512 .f32)
    (hw : (arg3.view.read (Elt Ideal) X3) = w) (hb : (arg4.view.read (Elt Ideal) X4) = b) (hg : (arg5.view.read (Elt Ideal) X5) = g) (hbe : (arg6.view.read (Elt Ideal) X6) = be) (hx : (arg9.view.read (Elt Ideal) X9) = x)
    (x0 : FVec Ideal S8192x7168 .f32) (f : Fin 512 → Fin 8192)
    (H : ∀ (r : ℕ) (hr : r < 512) (l : Fin 512), conv w b x r hr l = val_main_v168 (F := Ideal) x0 w b (ix2 (f ⟨r, hr⟩) l)) (y : S512x512.Idx) :
    View.canon (pb_k0_t1 (F := Ideal) 𝒱 c bd i arg1 harg1 arg2 harg2 arg3 harg3 arg4 harg4 arg5 harg5 arg6 harg6 arg7 harg7 arg8 harg8 arg9 harg9 X3 X4 X5 X6 X9 k0_t1_loop.trips).2 y = val_main_v198 (F := Ideal) x0 w b g be (ix2 (f (y 0)) (y 1)) := by
  refine View.canon_apply_of_pieces (Val := Elt Ideal) (e := .bf16) (fun y : S512x512.Idx =>
    val_main_v198 (F := Ideal) x0 w b g be (ix2 (f (y 0)) (y 1))) _ (fun p hp j => ?_) y ?_
  · obtain ⟨k, hk⟩ := of_mem2 _ _ _ _ _ _ _ _ _ _ _ _ _ _ _ _ _ _ _ _ _ _ _ _ _ _ _ _ _ hp
    rw [trip, List.mem_singleton] at hk
    subst hk
    have hk8 : k.val < 16 := Nat.lt_of_lt_of_eq k.isLt trips_eq
    have hj := (j 0).isLt
    change _ < 32 at hj
    have hr : 32 * k.val + (j 0).val < 512 := by omega
    dsimp only
    rw [emb5 k j hr]
    obtain ⟨j0, j1, rfl⟩ : ∃ r l, j = ix2 r l := ⟨j 0, j 1, by ext a; fin_cases a <;> rfl⟩
    rw [hw, hb, hg, hbe, hx]
    have eg : ∀ v : FVec Ideal S1x512 .f32, View.ld (Val := Elt Ideal) (e' := .f32) (S := S1x512) v (Rect.unit (s := S1x512) ![0, 0] S1x512.size inb_S1x512_S1x512_0_0) = v := fun v => by
      funext z
      refine View.ld_unit_apply_of (Val := Elt Ideal) (e := .f32) (S := S1x512) v ![0, 0] S1x512.size inb_S1x512_S1x512_0_0 z z fun a => ?_
      fin_cases a
      · exact (Nat.zero_add _).symm
      · exact (Nat.zero_add _).symm
    rw [eg, eg]
    exact norm _ _ _ _ g be x0 w b j0 (f ⟨32 * k.val + j0.val, hr⟩) j1 fun l => (row w b x k j0 l hr).trans (H _ hr l)
  · have hy := (y 0).isLt
    change _ < 512 at hy
    have hy1 := (y 1).isLt
    change _ < 512 at hy1
    let k : Fin k0_t1_loop.trips := ⟨(y 0).val / 32, by rw [trips_eq]; omega⟩
    refine ⟨_, mem_of2 _ _ _ _ _ _ _ _ _ _ _ _ _ _ _ _ _ _ _ _ _ _ _ _ _ _ _ _ k (by rw [trip]; exact List.mem_singleton_self _) _ k.isLt, ?_⟩
    refine (Rect.mem_set_unit (inb := k0_off5_inb k)).mpr fun a => ?_
    rw [k0_off5_eq k]
    fin_cases a
    · show 32 * ((y 0).val / 32) ≤ (y 0).val ∧ (y 0).val < 32 * ((y 0).val / 32) + 32
      omega
    · show 0 ≤ (y 1).val ∧ (y 1).val < 0 + 512
      omega

end Loop

/-- Where each window's block lies at a grid point. -/
theorem idx : ∀ t : Fin cfg0.N, win0_0.index t = ![t.val, 0]
    ∧ win0_1.index t = ![t.val, 1] ∧ win0_2.index t = ![0, 0] ∧ win0_3.index t = ![0, 0] ∧ win0_4.index t = ![0, 0]
    ∧ win0_5.index t = ![0, 0] ∧ win0_6.index t = ![t.val, 0] ∧ win0_7.index t = ![t.val, 0] ∧ t.val < 16 :=
  (by decide +kernel : ∀ t : Fin grid0.N, _)

theorem lt16 (t : Fin cfg0.N) : t.val < 16 := (idx t).2.2.2.2.2.2.2.2

/-- The gated unit, over the whole array. -/
abbrev glu (c : Dev nD) : FVec Ideal S8192x512 .f32 := val_main_v8 (F := Ideal) (m ((c : Thread nD τ).loc main_arg0))

/-- What the working buffer holds while a point is at work: the thirty-two rows of the gated unit before its tile, zero
    before the first row, and the rows of the tile. -/
def ext (c : Dev nD) (t : Fin cfg0.N) : FVec Ideal S544x512 .f32 := fun i =>
  if h : 32 ≤ 512 * t.val + (i 0).val then glu m c
    (ix2 ⟨512 * t.val + (i 0).val - 32, by
      have h1 := lt16 t
      have h2 := (i 0).isLt
      change _ < 544 at h2
      omega⟩ (i 1)) else 0

/-- The working buffer at a row of the array. -/
theorem ext_ge (c : Dev nD) (t : Fin cfg0.N) (r : ℕ) (hr : r < 544) (l : Fin 512) (h : 32 ≤ 512 * t.val + r)
    (h' : 512 * t.val + r - 32 < 8192) :
    ext m c t (ix2 ⟨r, hr⟩ l) = glu m c (ix2 ⟨512 * t.val + r - 32, h'⟩ l) := by
  unfold ext
  exact dif_pos h

/-- The working buffer before the array's first row. -/
theorem ext_lt (c : Dev nD) (t : Fin cfg0.N) (r : ℕ) (hr : r < 544) (l : Fin 512) (h : ¬ 32 ≤ 512 * t.val + r) :
    ext m c t (ix2 ⟨r, hr⟩ l) = 0 := by
  unfold ext
  exact dif_neg h

/-- The gated unit of the tile, at an index. -/
theorem tile (c : Dev nD) (t : Fin cfg0.N) (r : Fin 512) (l : Fin 512) : k0_pay3 (F := Ideal) (iblk m c 0 t) (iblk m c 1 t) (ix2 r l)
    = glu m c (ix2 ⟨512 * t.val + r.val, by have := lt16 t; omega⟩ l) := by
  have hN := lt16 t
  unfold glu
  pointwise [Ideal.logistic, k0_pay3, val_main_v8, val_main_v7, val_main_v6, val_main_v5, val_main_v4, val_main_v3, val_main_v2, val_main_v1,
    val_main_v0, val_main_cst, val_main_cst_0]
  blk_point [iblk, V, idx t]

/-- The weights' block is the whole array. -/
theorem blk_2 (c : Dev nD) (t : Fin cfg0.N) : iblk m c 2 t = m ((c : Thread nD τ).loc main_arg1) := by
  funext i
  blk_point [iblk, V, idx t]

/-- The bias's block is the whole array. -/
theorem blk_3 (c : Dev nD) (t : Fin cfg0.N) : iblk m c 3 t = m ((c : Thread nD τ).loc main_arg2) := by
  funext i
  blk_point [iblk, V, idx t]

/-- The gain's block is the whole array. -/
theorem blk_4 (c : Dev nD) (t : Fin cfg0.N) : iblk m c 4 t = m ((c : Thread nD τ).loc main_arg3) := by
  funext i
  blk_point [iblk, V, idx t]

/-- The shift's block is the whole array. -/
theorem blk_5 (c : Dev nD) (t : Fin cfg0.N) : iblk m c 5 t = m ((c : Thread nD τ).loc main_arg4) := by
  funext i
  blk_point [iblk, V, idx t]

section Stores

variable (u : FVec Ideal S512x512 .f32) (v : FVec Ideal S32x512 .f32)

/-- The two stores into the working buffer: the tile, and the thirty-two rows before it. -/
abbrev stores : List (View.Piece (Elt Ideal) S544x512 .f32) :=
  [⟨Rect.unit (s := S544x512) ![32, 0] S512x512.size inb_S544x512_S512x512_32_0, u⟩,
    ⟨Rect.unit (s := S544x512) ![0, 0] S32x512.size inb_S544x512_S32x512_0_0, v⟩]

/-- A row of the tile, read back. -/
theorem stores_tile (r : ℕ) (h : r < 512) (l : Fin 512) :
    View.canon (stores u v) (ix2 ⟨32 + r, by omega⟩ l) = u (ix2 ⟨r, h⟩ l) := by
  refine View.canon_eq_of_allAt _ _ _ ⟨_, List.mem_cons_self, ?_⟩
    (View.allAt_cons_unit _ _ _ _ _ (fun x hx => congrArg u ?_)
      (View.allAt_cons_unit _ _ _ _ _ (fun x hx => ?_) (View.allAt_nil _ _)))
  · have hl := l.isLt
    refine (Rect.mem_set_unit (inb := inb_S544x512_S512x512_32_0)).mpr fun a => ?_
    fin_cases a
    · show 32 ≤ 32 + r ∧ 32 + r < 32 + 512; omega
    · show 0 ≤ l.val ∧ l.val < 0 + 512; omega
  · have h0 : 32 + r = 32 + (x 0).val := hx 0
    have h1 : l.val = 0 + (x 1).val := hx 1
    funext a
    fin_cases a
    · exact Fin.ext (show (x 0).val = r by omega)
    · exact Fin.ext (show (x 1).val = l.val by omega)
  · have h0 : 32 + r = 0 + (x 0).val := hx 0
    have h1 := (x 0).isLt
    change _ < 32 at h1
    omega

/-- A row before it, read back. -/
theorem stores_before (r : ℕ) (h : r < 32) (l : Fin 512) :
    View.canon (stores u v) (ix2 ⟨r, by omega⟩ l) = v (ix2 ⟨r, h⟩ l) := by
  refine View.canon_eq_of_allAt _ _ _ ⟨_, List.mem_cons_of_mem _ List.mem_cons_self, ?_⟩
    (View.allAt_cons_unit _ _ _ _ _ (fun x hx => ?_)
      (View.allAt_cons_unit _ _ _ _ _ (fun x hx => congrArg v ?_) (View.allAt_nil _ _)))
  · have hl := l.isLt
    refine (Rect.mem_set_unit (inb := inb_S544x512_S32x512_0_0)).mpr fun a => ?_
    fin_cases a
    · show 0 ≤ r ∧ r < 0 + 32; omega
    · show 0 ≤ l.val ∧ l.val < 0 + 512; omega
  · have h0 : r = 32 + (x 0).val := hx 0
    omega
  · have h0 : r = 0 + (x 0).val := hx 0
    have h1 : l.val = 0 + (x 1).val := hx 1
    funext a
    fin_cases a
    · exact Fin.ext (show (x 0).val = r by omega)
    · exact Fin.ext (show (x 1).val = l.val by omega)

end Stores

/-- The last thirty-two rows of the working buffer after a point are the last of its tile. -/
theorem tail (c : Dev nD) (t : Fin cfg0.N) (r : ℕ) (h : r < 32) (l : Fin 512) :
    (outsAt0 m c t.val t.isLt).2.2 (ix2 ⟨512 + r, by omega⟩ l) = k0_pay3 (F := Ideal) (iblk m c 0 t) (iblk m c 1 t) (ix2 ⟨480 + r, by omega⟩ l) := by
  have hN := lt16 t
  have e : (ix2 ⟨512 + r, by omega⟩ l : S544x512.Idx) = ix2 ⟨32 + (480 + r), by omega⟩ l :=
    congrArg (fun q => ix2 q l) (Fin.ext (show 512 + r = 32 + (480 + r) by omega))
  rw [e]
  by_cases h1 : 1 ≤ t.val
  · rw [outsAt0_B m c t (by omega) h1]; frame_out
    exact stores_tile _ _ (480 + r) (by omega) l
  · rw [outsAt0_A m c t (by omega) h1]; frame_out
    exact stores_tile _ _ (480 + r) (by omega) l

/-- The stores of a point are the working buffer `ext` once the rows before the tile are those of the tile before. -/
theorem stores_eq (c : Dev nD) (t : Fin cfg0.N) (v : FVec Ideal S32x512 .f32)
    (hv : ∀ (r : ℕ) (h : r < 32) (l : Fin 512), v (ix2 ⟨r, h⟩ l) = ext m c t (ix2 ⟨r, by omega⟩ l)) :
    View.canon (stores (k0_pay3 (iblk m c 0 t) (iblk m c 1 t)) v) = ext m c t := by
  have hN := lt16 t
  funext i
  obtain ⟨⟨r, hr⟩, l, rfl⟩ : ∃ r l, i = ix2 r l := ⟨i 0, i 1, by ext a; fin_cases a <;> rfl⟩
  change r < 544 at hr
  by_cases h : r < 32
  · exact (stores_before _ _ r h l).trans (hv r h l)
  · obtain ⟨q, rfl⟩ := Nat.exists_eq_add_of_le (Nat.le_of_not_lt h)
    refine (stores_tile _ _ q (by omega) l).trans ?_
    refine (tile m c t ⟨q, by omega⟩ l).trans ?_
    refine Eq.trans ?_ (ext_ge m c t (32 + q) hr l (by omega) (by omega)).symm
    exact congrArg (fun p => glu m c (ix2 p l))
      (Fin.ext (show 512 * t.val + q = 512 * t.val + (32 + q) - 32 by omega))

/-- The reference's convolution over the rows of a tile. -/
theorem ref_conv (c : Dev nD) (t : Fin cfg0.N) (r : ℕ) (hr : r < 512) (l : Fin 512) (h : 512 * t.val + r < 8192) :
    conv (m ((c : Thread nD τ).loc main_arg1)) (m ((c : Thread nD τ).loc main_arg2)) (ext m c t) r hr l
      = val_main_v168 (F := Ideal) (m ((c : Thread nD τ).loc main_arg0)) (m ((c : Thread nD τ).loc main_arg1)) (m ((c : Thread nD τ).loc main_arg2)) (ix2 ⟨512 * t.val + r, h⟩ l) := by
  rw [Cert.ConvFwdRefIdeal.Value.v168]
  unfold conv
  refine congrArg₂ chain rfl (funext fun k => congrArg₂ (fun a b : EReal => a * b) rfl ?_)
  have hN := lt16 t
  have hk := k.isLt
  rw [Cert.ConvFwdRefIdeal.Value.before]
  by_cases h1 : 30 ≤ 512 * t.val + r + k.val
  · rw [dif_pos h1, ext_ge m c t _ _ _ (by omega) (by omega)]
    exact congrArg (fun p => glu m c (ix2 p l))
      (Fin.ext (show 512 * t.val + (r + (k.val + 2)) - 32 = 512 * t.val + r + k.val - 30 by omega))
  · rw [dif_neg h1, ext_lt m c t _ _ _ (by omega)]

/-- The row of the array at a row of a tile. -/
abbrev arow (t : Fin cfg0.N) (r : Fin 512) : Fin 8192 := ⟨512 * t.val + r.val, by have := lt16 t; omega⟩

/-- What a point leaves in its block of the convolution. -/
theorem outs1 (c : Dev nD) (t : Fin cfg0.N) (y : S512x512.Idx) :
    (outsAt0 m c t.val t.isLt).1 y = conv (m ((c : Thread nD τ).loc main_arg1)) (m ((c : Thread nD τ).loc main_arg2)) (ext m c t) (y 0).val (y 0).isLt (y 1) := by
  have hN := lt16 t
  by_cases h1 : 1 ≤ t.val
  · rw [outsAt0_B m c t (by omega) h1]; frame_out
    refine loop1 _ _ _ _ _ _ _ _ _ _ _ _ _ _ _ _ _ _ _ _ _ _ _ _ _ _ _ _ _ _ ?_ ?_ ?_ y
    · exact (Memref.IsWhole.read_unread _ _).trans (blk_2 m c t)
    · exact (Memref.IsWhole.read_unread _ _).trans (blk_3 m c t)
    · rw [View.read_writes_junk_eq_canon]
      refine stores_eq m c t _ fun r h l => ?_
      let t' : Fin cfg0.N := ⟨t.val - 1, Nat.lt_of_le_of_lt (Nat.sub_le _ _) t.isLt⟩
      pointwise [k0_pay2]
      refine (congrFun (Memref.IsWhole.read_unread (Memref.isWhole_whole cc0_scratch0) _) _).trans ?_
      refine (tail m c t' r h l).trans ((tile m c t' ⟨480 + r, by omega⟩ l).trans ?_)
      refine Eq.trans ?_ (ext_ge m c t r (by omega) l (by omega) (by omega)).symm
      exact congrArg (fun q => glu m c (ix2 q l))
        (Fin.ext (show 512 * (t.val - 1) + (480 + r) = 512 * t.val + r - 32 by omega))
  · rw [outsAt0_A m c t (by omega) h1]; frame_out
    refine loop1 _ _ _ _ _ _ _ _ _ _ _ _ _ _ _ _ _ _ _ _ _ _ _ _ _ _ _ _ _ _ ?_ ?_ ?_ y
    · exact (Memref.IsWhole.read_unread _ _).trans (blk_2 m c t)
    · exact (Memref.IsWhole.read_unread _ _).trans (blk_3 m c t)
    · rw [View.read_writes_junk_eq_canon]
      refine stores_eq m c t _ fun r h l => ?_
      pointwise [k0_pay1]
      exact (ext_lt m c t r (by omega) l (by omega)).symm

/-- What a point leaves in its block of the branch's result. -/
theorem outs2 (c : Dev nD) (t : Fin cfg0.N) (y : S512x512.Idx) :
    (outsAt0 m c t.val t.isLt).2.1 y = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (arow t (y 0)) (y 1)) := by
  have hN := lt16 t
  by_cases h1 : 1 ≤ t.val
  · rw [outsAt0_B m c t (by omega) h1]; frame_out
    refine loop2 _ _ _ _ _ _ _ _ _ _ _ _ _ _ _ _ _ _ _ _ _ _ _ _ _ _ _ (m ((c : Thread nD τ).loc main_arg1)) (m ((c : Thread nD τ).loc main_arg2)) (ext m c t) (m ((c : Thread nD τ).loc main_arg3)) (m ((c : Thread nD τ).loc main_arg4)) ?_ ?_ ?_ ?_ ?_ (m ((c : Thread nD τ).loc main_arg0)) (arow t) ?_ y
    · exact (Memref.IsWhole.read_unread _ _).trans (blk_2 m c t)
    · exact (Memref.IsWhole.read_unread _ _).trans (blk_3 m c t)
    · exact (Memref.IsWhole.read_unread _ _).trans (blk_4 m c t)
    · exact (Memref.IsWhole.read_unread _ _).trans (blk_5 m c t)
    · rw [View.read_writes_junk_eq_canon]
      refine stores_eq m c t _ fun r h l => ?_
      let t' : Fin cfg0.N := ⟨t.val - 1, Nat.lt_of_le_of_lt (Nat.sub_le _ _) t.isLt⟩
      pointwise [k0_pay2]
      refine (congrFun (Memref.IsWhole.read_unread (Memref.isWhole_whole cc0_scratch0) _) _).trans ?_
      refine (tail m c t' r h l).trans ((tile m c t' ⟨480 + r, by omega⟩ l).trans ?_)
      refine Eq.trans ?_ (ext_ge m c t r (by omega) l (by omega) (by omega)).symm
      exact congrArg (fun q => glu m c (ix2 q l))
        (Fin.ext (show 512 * (t.val - 1) + (480 + r) = 512 * t.val + r - 32 by omega))
    · exact fun r hr l => ref_conv m c t r hr l (by omega)
  · rw [outsAt0_A m c t (by omega) h1]; frame_out
    refine loop2 _ _ _ _ _ _ _ _ _ _ _ _ _ _ _ _ _ _ _ _ _ _ _ _ _ _ _ (m ((c : Thread nD τ).loc main_arg1)) (m ((c : Thread nD τ).loc main_arg2)) (ext m c t) (m ((c : Thread nD τ).loc main_arg3)) (m ((c : Thread nD τ).loc main_arg4)) ?_ ?_ ?_ ?_ ?_ (m ((c : Thread nD τ).loc main_arg0)) (arow t) ?_ y
    · exact (Memref.IsWhole.read_unread _ _).trans (blk_2 m c t)
    · exact (Memref.IsWhole.read_unread _ _).trans (blk_3 m c t)
    · exact (Memref.IsWhole.read_unread _ _).trans (blk_4 m c t)
    · exact (Memref.IsWhole.read_unread _ _).trans (blk_5 m c t)
    · rw [View.read_writes_junk_eq_canon]
      refine stores_eq m c t _ fun r h l => ?_
      pointwise [k0_pay1]
      exact (ext_lt m c t r (by omega) l (by omega)).symm
    · exact fun r hr l => ref_conv m c t r hr l (by omega)

/-- The convolution's array after the run is the reference's. -/
theorem final_6 (c : Dev nD) : (dats m 0 c).arrAt 6 (cfgs 0).N = val_main_v168 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have hN := lt16 t
  have hy := (y 0).isLt
  change _ < 512 at hy
  have he : ((cfg0.win 6).blk t).view.emb y = ix2 (arow t (y 0)) (y 1) := by
    blk_ext [idx t]
  rw [he]
  exact (outs1 m c t y).trans (ref_conv m c t _ _ _ _)

/-- The branch's result after the run is the reference's. -/
theorem final_7 (c : Dev nD) : (dats m 0 c).arrAt 7 (cfgs 0).N = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  have hN := lt16 t
  have hy := (y 0).isLt
  change _ < 512 at hy
  have he : ((cfg0.win 7).blk t).view.emb y = ix2 (arow t (y 0)) (y 1) := by
    blk_ext [idx t]
  rw [he]
  exact outs2 m c t y

end Cert.ConvFwdIdeal.Value

end
-- ==== Proof.FfnInBwdPre.lean ====
/- What the precondition of the gradient of the normalised input product says: every entry of every argument is a real. -/
module

public import proofs.«01_k».proof.Pre_inputs_finite
public import proofs.«01_k».proof.Proof.NormGrad
public import Idealize.ShloMosaic.Lib.Pointwise

@[expose] public section

open Idealize.ShloMosaic

namespace Cert.Finite

/-- An entry whose absolute value compares below infinity is a real. -/
theorem of_lt {x : EReal}
    (h : FloatOps.cmpf (F := Ideal) (φ := .f32) .olt (FloatOps.hostAbsf (F := Ideal) (φ := .f32) x)
      (Ideal.ofBits .f32 0x7F800000#32) = 1#1) :
    ∃ r : ℝ, x = (r : EReal) := by
  have ht : Ideal.ofBits FTy.f32 0x7F800000#32 = ⊤ := by simp [Ideal.ofBits, Ideal.ieee]
  rw [ht] at h
  refine NormGrad.real_of_abs_lt ?_
  change BitVec.ofBool (decide (max x (-x) < ⊤)) = 1#1 at h
  by_contra hc
  rw [decide_eq_false hc] at h
  exact absurd h (by decide)

variable [Cert.Pre_inputs_finite.Facts]

open Cert.Pre_inputs_finite in
/-- Where the predicate holds of the arguments, each of their entries is a real. -/
theorem reals (a0 : FVec Ideal S8192x1024 .f32) (a1 a2 : FVec Ideal S8192x2816 .bf16) (a3 : FVec Ideal S1024x5632 .bf16)
    (a4 : FVec Ideal S8192x1024 .f32) (a5 : FVec Ideal S1x1024 .f32)
    (h : (fn (F := Ideal) a0 a1 a2 a3 a4 a5).1 = (fun _ => 1#1) ∧ (fn (F := Ideal) a0 a1 a2 a3 a4 a5).2.1 = (fun _ => 1#1)
      ∧ (fn (F := Ideal) a0 a1 a2 a3 a4 a5).2.2.1 = (fun _ => 1#1) ∧ (fn (F := Ideal) a0 a1 a2 a3 a4 a5).2.2.2.1 = (fun _ => 1#1)
      ∧ (fn (F := Ideal) a0 a1 a2 a3 a4 a5).2.2.2.2.1 = (fun _ => 1#1) ∧ (fn (F := Ideal) a0 a1 a2 a3 a4 a5).2.2.2.2.2 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) :=
  ⟨fun i => of_lt (congrFun h.1 i), fun i => of_lt (congrFun h.2.1 i), fun i => of_lt (congrFun h.2.2.1 i),
    fun i => of_lt (congrFun h.2.2.2.1 i), fun i => of_lt (congrFun h.2.2.2.2.1 i), fun i => of_lt (congrFun h.2.2.2.2.2 i)⟩

end Cert.Finite
-- ==== Proof.FfnOutLossPre.lean ====
/- What the precondition of the loss head says: every entry of every argument is a real. -/
module

public import proofs.«01_k».proof.Pre_head_inputs_finite
public import proofs.«01_k».proof.Proof.FfnInBwdPre
public import Idealize.ShloMosaic.Lib.Pointwise

@[expose] public section

open Idealize.ShloMosaic

namespace Cert.HeadFinite

variable [Cert.Pre_head_inputs_finite.Facts]

open Cert.Pre_head_inputs_finite in
/-- Where the predicate holds of the arguments, each of their entries is a real. -/
theorem reals (a0 : FVec Ideal S8192x2816 .bf16) (a1 a2 : FVec Ideal S8192x1024 .f32) (a3 : FVec Ideal S2816x1024 .bf16)
    (a4 a5 : FVec Ideal S1x1024 .f32)
    (h : (fn (F := Ideal) a0 a1 a2 a3 a4 a5).1 = (fun _ => 1#1) ∧ (fn (F := Ideal) a0 a1 a2 a3 a4 a5).2.1 = (fun _ => 1#1)
      ∧ (fn (F := Ideal) a0 a1 a2 a3 a4 a5).2.2.1 = (fun _ => 1#1) ∧ (fn (F := Ideal) a0 a1 a2 a3 a4 a5).2.2.2.1 = (fun _ => 1#1)
      ∧ (fn (F := Ideal) a0 a1 a2 a3 a4 a5).2.2.2.2.1 = (fun _ => 1#1) ∧ (fn (F := Ideal) a0 a1 a2 a3 a4 a5).2.2.2.2.2 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) :=
  ⟨fun i => Cert.Finite.of_lt (congrFun h.1 i), fun i => Cert.Finite.of_lt (congrFun h.2.1 i),
    fun i => Cert.Finite.of_lt (congrFun h.2.2.1 i), fun i => Cert.Finite.of_lt (congrFun h.2.2.2.1 i),
    fun i => Cert.Finite.of_lt (congrFun h.2.2.2.2.1 i), fun i => Cert.Finite.of_lt (congrFun h.2.2.2.2.2 i)⟩

end Cert.HeadFinite
-- ==== Proof.lean ====
/- The certificate: each program's facts and frame, and for each call the claim that what it leaves is what the
   reference computes, from the module that proves its value. -/
module

public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import proofs.«01_k».proof.Proof.MergeBwdValue
public import proofs.«01_k».proof.Proof.Gen.GradWIn.Frame
public import proofs.«01_k».proof.Proof.Gen.GradWInIdeal.Frame
public import proofs.«01_k».proof.Proof.Gen.GradWInRefIdeal.Run
public import proofs.«01_k».proof.Proof.Gen.GradWInRefIdeal.Read
public import proofs.«01_k».proof.Proof.GradWInValue
public import proofs.«01_k».proof.Proof.Gen.GradXFirst.Frame
public import proofs.«01_k».proof.Proof.Gen.GradXFirstIdeal.Frame
public import proofs.«01_k».proof.Proof.Gen.GradXFirstRefIdeal.Run
public import proofs.«01_k».proof.Proof.Gen.GradXFirstRefIdeal.Read
public import proofs.«01_k».proof.Proof.GradXFirstValue
public import proofs.«01_k».proof.Proof.Gen.GradXSecond.Frame
public import proofs.«01_k».proof.Proof.Gen.GradXSecondIdeal.Frame
public import proofs.«01_k».proof.Proof.Gen.GradXSecondRefIdeal.Run
public import proofs.«01_k».proof.Proof.Gen.GradXSecondRefIdeal.Read
public import proofs.«01_k».proof.Proof.GradXSecondValue
public import proofs.«01_k».proof.Proof.Gen.FfnIn.Frame
public import proofs.«01_k».proof.Proof.Gen.FfnInIdeal.Frame
public import proofs.«01_k».proof.Proof.Gen.FfnInRefIdeal.Run
public import proofs.«01_k».proof.Proof.Gen.FfnInRefIdeal.Read
public import proofs.«01_k».proof.Proof.FfnInValue
public import proofs.«01_k».proof.Proof.Gen.GradWFfnIn.Frame
public import proofs.«01_k».proof.Proof.Gen.GradWFfnInIdeal.Frame
public import proofs.«01_k».proof.Proof.Gen.GradWFfnInRefIdeal.Run
public import proofs.«01_k».proof.Proof.Gen.GradWFfnInRefIdeal.Read
public import proofs.«01_k».proof.Proof.GradWFfnInValue
public import proofs.«01_k».proof.Proof.Gen.GradWFfnOut.Frame
public import proofs.«01_k».proof.Proof.Gen.GradWFfnOutIdeal.Frame
public import proofs.«01_k».proof.Proof.Gen.GradWFfnOutRefIdeal.Run
public import proofs.«01_k».proof.Proof.Gen.GradWFfnOutRefIdeal.Read
public import proofs.«01_k».proof.Proof.GradWFfnOutValue
public import proofs.«01_k».proof.Proof.Gen.GradWOut.Frame
public import proofs.«01_k».proof.Proof.Gen.GradWOutIdeal.Frame
public import proofs.«01_k».proof.Proof.Gen.GradWOutRefIdeal.Run
public import proofs.«01_k».proof.Proof.Gen.GradWOutRefIdeal.Read
public import proofs.«01_k».proof.Proof.GradWOutValue
public import proofs.«01_k».proof.Proof.Gen.GradWConvOut.Frame
public import proofs.«01_k».proof.Proof.Gen.GradWConvOutIdeal.Frame
public import proofs.«01_k».proof.Proof.Gen.GradWConvOutRefIdeal.Run
public import proofs.«01_k».proof.Proof.Gen.GradWConvOutRefIdeal.Read
public import proofs.«01_k».proof.Proof.GradWConvOutValue
public import proofs.«01_k».proof.Proof.Gen.GradWHgrnOut.Frame
public import proofs.«01_k».proof.Proof.Gen.GradWHgrnOutIdeal.Frame
public import proofs.«01_k».proof.Proof.Gen.GradWHgrnOutRefIdeal.Run
public import proofs.«01_k».proof.Proof.Gen.GradWHgrnOutRefIdeal.Read
public import proofs.«01_k».proof.Proof.GradWHgrnOutValue
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.MergeFwdRefIdeal.Read
public import proofs.«01_k».proof.Proof.MergeFwdValue
public import proofs.«01_k».proof.Proof.Gen.FfnInBwd.Frame
public import proofs.«01_k».proof.Proof.Gen.FfnInBwdIdeal.Frame
public import proofs.«01_k».proof.Proof.Gen.FfnInBwdRefIdeal.Run
public import proofs.«01_k».proof.Proof.Gen.FfnInBwdRefIdeal.Read
public import proofs.«01_k».proof.Proof.FfnInBwdValue
public import proofs.«01_k».proof.Proof.Gen.FfnOutLoss.Frame
public import proofs.«01_k».proof.Proof.Gen.FfnOutLossIdeal.Frame
public import proofs.«01_k».proof.Proof.Gen.FfnOutLossRefIdeal.Run
public import proofs.«01_k».proof.Proof.Gen.FfnOutLossRefIdeal.Read
public import proofs.«01_k».proof.Proof.FfnOutLossValue
public import proofs.«01_k».proof.Proof.Gen.AdamwWIn.Frame
public import proofs.«01_k».proof.Proof.Gen.AdamwWInIdeal.Frame
public import proofs.«01_k».proof.Proof.Gen.AdamwWInRefIdeal.Run
public import proofs.«01_k».proof.Proof.Gen.AdamwWInRefIdeal.Read
public import proofs.«01_k».proof.Proof.AdamwWInValue
public import proofs.«01_k».proof.Proof.Gen.AdamwWConvDw.Frame
public import proofs.«01_k».proof.Proof.Gen.AdamwWConvDwIdeal.Frame
public import proofs.«01_k».proof.Proof.Gen.AdamwWConvDwRefIdeal.Run
public import proofs.«01_k».proof.Proof.Gen.AdamwWConvDwRefIdeal.Read
public import proofs.«01_k».proof.Proof.AdamwWConvDwValue
public import proofs.«01_k».proof.Proof.Gen.AdamwWConvOut.Frame
public import proofs.«01_k».proof.Proof.Gen.AdamwWConvOutIdeal.Frame
public import proofs.«01_k».proof.Proof.Gen.AdamwWConvOutRefIdeal.Run
public import proofs.«01_k».proof.Proof.Gen.AdamwWConvOutRefIdeal.Read
public import proofs.«01_k».proof.Proof.AdamwWConvOutValue
public import proofs.«01_k».proof.Proof.Gen.AdamwWOut.Frame
public import proofs.«01_k».proof.Proof.Gen.AdamwWOutIdeal.Frame
public import proofs.«01_k».proof.Proof.Gen.AdamwWOutRefIdeal.Run
public import proofs.«01_k».proof.Proof.Gen.AdamwWOutRefIdeal.Read
public import proofs.«01_k».proof.Proof.AdamwWOutValue
public import proofs.«01_k».proof.Proof.Gen.AdamwWFfnIn.Frame
public import proofs.«01_k».proof.Proof.Gen.AdamwWFfnInIdeal.Frame
public import proofs.«01_k».proof.Proof.Gen.AdamwWFfnInRefIdeal.Run
public import proofs.«01_k».proof.Proof.Gen.AdamwWFfnInRefIdeal.Read
public import proofs.«01_k».proof.Proof.AdamwWFfnInValue
public import proofs.«01_k».proof.Proof.Gen.AdamwWFfnDw.Frame
public import proofs.«01_k».proof.Proof.Gen.AdamwWFfnDwIdeal.Frame
public import proofs.«01_k».proof.Proof.Gen.AdamwWFfnDwRefIdeal.Run
public import proofs.«01_k».proof.Proof.Gen.AdamwWFfnDwRefIdeal.Read
public import proofs.«01_k».proof.Proof.AdamwWFfnDwValue
public import proofs.«01_k».proof.Proof.Gen.AdamwWFfnOut.Frame
public import proofs.«01_k».proof.Proof.Gen.AdamwWFfnOutIdeal.Frame
public import proofs.«01_k».proof.Proof.Gen.AdamwWFfnOutRefIdeal.Run
public import proofs.«01_k».proof.Proof.Gen.AdamwWFfnOutRefIdeal.Read
public import proofs.«01_k».proof.Proof.AdamwWFfnOutValue
public import proofs.«01_k».proof.Proof.Gen.AdamwSmall.Frame
public import proofs.«01_k».proof.Proof.Gen.AdamwSmallIdeal.Frame
public import proofs.«01_k».proof.Proof.Gen.AdamwSmallRefIdeal.Run
public import proofs.«01_k».proof.Proof.Gen.AdamwSmallRefIdeal.Read
public import proofs.«01_k».proof.Proof.AdamwSmallValue
public import proofs.«01_k».proof.Proof.ProjFrame
public import proofs.«01_k».proof.Proof.ProjIdealFrame
public import proofs.«01_k».proof.Proof.Gen.ProjRefIdeal.Run
public import proofs.«01_k».proof.Proof.Gen.ProjRefIdeal.Read
public import proofs.«01_k».proof.Proof.ProjValue
public import proofs.«01_k».proof.Proof.Gen.FfnBwdB.Frame
public import proofs.«01_k».proof.Proof.Gen.FfnBwdBIdeal.Frame
public import proofs.«01_k».proof.Proof.Gen.FfnBwdBRefIdeal.Run
public import proofs.«01_k».proof.Proof.Gen.FfnBwdBRefIdeal.Read
public import proofs.«01_k».proof.Proof.FfnBwdBValue
public import proofs.«01_k».proof.Proof.Gen.FfnMid.Frame
public import proofs.«01_k».proof.Proof.Gen.FfnMidIdeal.Frame
public import proofs.«01_k».proof.Proof.Gen.FfnMidRefIdeal.Run
public import proofs.«01_k».proof.Proof.Gen.FfnMidRefIdeal.Read
public import proofs.«01_k».proof.Proof.FfnMidValue
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.ConvFwdRefIdeal.Read
public import proofs.«01_k».proof.Proof.ConvFwdValue
public import proofs.«01_k».proof.Proof.Gen.On_merge_written
public import proofs.«01_k».proof.Proof.Gen.On_first_rows
public import proofs.«01_k».proof.Proof.FfnInBwdPre
public import proofs.«01_k».proof.Proof.Gen.Pre_inputs_finite
public import proofs.«01_k».proof.Proof.FfnOutLossPre
public import proofs.«01_k».proof.Proof.Gen.Pre_head_inputs_finite
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of `MergeBwd` runs and leaves its arguments as they were. -/
theorem ref_MergeBwd : Cert.quiescent_MergeBwdRefIdeal := fun m ρ _ =>
  (θ_run Cert.MergeBwdRefIdeal.defs _ _).mono (fun r h => ⟨fun c => (h c).2.2.2.2,
      Idealize.ShloMosaic.sem_eq_zero_of_no_sems (by decide) r.2⟩)
    (Cert.MergeBwdRefIdeal.Value.run (F := Ideal) m ρ)

/-- The mask selects, of the seven blocks of the projection's gradient, the two of the gates. -/
theorem merge_written_block (a0 : FVec Ideal Cert.On_merge_written.S8192x1024 .bf16) (a1 : FVec Ideal Cert.On_merge_written.S2x8192x1024 .f32)
    (a2 : FVec Ideal Cert.On_merge_written.S8192x7168 .f32) (a3 : FVec Ideal Cert.On_merge_written.S1024x1024 .bf16)
    (a4 : FVec Ideal Cert.On_merge_written.S512x1024 .bf16) (a5 : FVec Ideal Cert.On_merge_written.S1024x1024 .bf16)
    (i : Cert.On_merge_written.S7x8192x1024.Idx)
    (h : (Cert.On_merge_written.fn (F := Ideal) a0 a1 a2 a3 a4 a5).1 i = 1#1) : 4 ≤ (i 0).val ∧ (i 0).val < 6 := by
  have k : ∀ n : Fin 7, IntOp.ori (IntOp.cmpi .eq (BitVec.ofNat 32 n.val) 4#32) (IntOp.cmpi .eq (BitVec.ofNat 32 n.val) 5#32) = 1#1
      → 4 ≤ n.val ∧ n.val < 6 := by decide
  exact k (i 0) h

/-- The backward pass of the merge leaves, in the blocks it writes, what its reference computes. -/
theorem alg_MergeBwd : Cert.algebraic_MergeBwdIdeal_MergeBwdRefIdeal_on_merge_written := by
  intro m g m' g' hpre hagree
  refine ⟨fun c => (Cert.MergeBwdIdeal.Gen.dats m 0 c).arrAt 7 (Cert.MergeBwdIdeal.cfgs 0).N,
    fun c => (Cert.MergeBwdIdeal.Gen.dats m 0 c).arrAt 8 (Cert.MergeBwdIdeal.cfgs 0).N,
    fun c => (Cert.MergeBwdIdeal.Gen.dats m 0 c).arrAt 9 (Cert.MergeBwdIdeal.cfgs 0).N,
    fun c => (Cert.MergeBwdIdeal.Gen.dats m 0 c).arrAt 10 (Cert.MergeBwdIdeal.cfgs 0).N, ?_, ?_⟩
  · exact (θ_run Cert.MergeBwdIdeal.defs _ _).mono (fun r h c => ⟨fun i _ => congrFun ((h.1 c).1 7) i,
        fun i _ => congrFun ((h.1 c).1 8) i, fun i _ => congrFun ((h.1 c).1 9) i, fun i _ => congrFun ((h.1 c).1 10) i, h.2 c⟩)
      (θ_run_and (Cert.MergeBwdIdeal.Gen.run_main m g) (Cert.MergeBwdIdeal.Gen.unchanged m g))
  · refine (θ_run Cert.MergeBwdRefIdeal.defs _ _).mono (fun r h c => ?_) (Cert.MergeBwdRefIdeal.Value.run (F := Ideal) m' g')
    obtain ⟨h0, h1, h2, h3, hr⟩ := h c
    obtain ⟨e0, e1, e2, e3, e4, e5⟩ := hagree c
    replace h0 := h0.trans (Cert.MergeBwdRefIdeal.Read.val_main_v51_eq m' c)
    replace h1 := h1.trans (Cert.MergeBwdRefIdeal.Read.val_main_v55_eq _ _ _)
    replace h2 := h2.trans (Cert.MergeBwdRefIdeal.Read.val_main_v40_eq _ _ _ _)
    replace h3 := h3.trans (Cert.MergeBwdRefIdeal.Read.val_main_v44_eq _ _ _ _)
    rw [e0, e1, e2, e3] at h0
    rw [e0, e2, e3] at h1
    rw [e0, e2, e3, e4] at h2
    rw [e0, e2, e3, e5] at h3
    refine ⟨fun i hi => (congrFun h0 i).trans ?_, fun i _ => congrFun (h1.trans (Cert.MergeBwdIdeal.Value.final_8 m c).symm) i,
      fun i _ => congrFun (h2.trans (Cert.MergeBwdIdeal.Value.final_9 m c).symm) i,
      fun i _ => congrFun (h3.trans (Cert.MergeBwdIdeal.Value.final_10 m c).symm) i, hr⟩
    have hi := merge_written_block _ _ _ _ _ _ i hi
    refine Eq.trans ?_ (congrFun (Cert.MergeBwdIdeal.Value.final_7 m c) i).symm
    exact (if_pos hi).symm

/-- The reference of `GradWIn` runs and leaves its arguments as they were. -/
theorem ref_GradWIn : Cert.quiescent_GradWInRefIdeal := fun m ρ _ =>
  (θ_run Cert.GradWInRefIdeal.defs _ _).mono (fun r h => ⟨fun c => (h c).2,
      Idealize.ShloMosaic.sem_eq_zero_of_no_sems (by decide) r.2⟩)
    (Cert.GradWInRefIdeal.Value.run (F := Ideal) m ρ)

/-- The call `GradWIn` leaves what its reference computes. -/
theorem alg_GradWIn : Cert.algebraic_GradWInIdeal_GradWInRefIdeal := by
  pair_intro
  · run_from Cert.GradWInIdeal.Gen.run_main m g
  · run_from Cert.GradWInRefIdeal.Value.run m' g'
    exact (Cert.GradWInIdeal.Value.final m c).symm

/-- The reference of `GradXFirst` runs and leaves its arguments as they were. -/
theorem ref_GradXFirst : Cert.quiescent_GradXFirstRefIdeal := fun m ρ _ =>
  (θ_run Cert.GradXFirstRefIdeal.defs _ _).mono (fun r h => ⟨fun c => (h c).2,
      Idealize.ShloMosaic.sem_eq_zero_of_no_sems (by decide) r.2⟩)
    (Cert.GradXFirstRefIdeal.Value.run (F := Ideal) m ρ)

/-- The mask selects the first half of the rows. -/
theorem first_rows_lt (a0 : FVec Ideal Cert.On_first_rows.S7x8192x1024 .bf16) (a1 : FVec Ideal Cert.On_first_rows.S1024x7168 .bf16)
    (a2 : FVec Ideal Cert.On_first_rows.S8192x1024 .f32) (i : Cert.On_first_rows.S8192x1024.Idx)
    (h : Cert.On_first_rows.fn (F := Ideal) a0 a1 a2 i = 1#1) : (i 0).val < 4096 := by
  have hn : (i 0).val < 8192 := (i 0).isLt
  change IntOp.cmpi .slt (BitVec.ofNat 32 (i 0).val) 4096#32 = 1#1 at h
  revert h hn
  generalize (i 0).val = n
  intro hn h
  by_contra hc
  have h1 : (BitVec.ofNat 32 n).toInt = n := by
    rw [BitVec.toInt_eq_toNat_of_lt] <;> simp [BitVec.toNat_ofNat] <;> omega
  have h2 : (BitVec.ofNat 32 n).slt 4096#32 = false := by
    have h3 : (4096#32).toInt = 4096 := by decide
    exact decide_eq_false (by rw [h1, h3]; omega)
  change BitVec.ofBool ((BitVec.ofNat 32 n).slt 4096#32) = 1#1 at h
  rw [h2] at h
  exact absurd h (by decide)

/-- The first call of the gradient of the activations leaves, in the rows it writes, what its reference computes. -/
theorem alg_GradXFirst : Cert.algebraic_GradXFirstIdeal_GradXFirstRefIdeal_on_first_rows := by
  intro m g m' g' hpre hagree
  refine ⟨fun c => (Cert.GradXFirstIdeal.Gen.dats m 0 c).arrAt 3 (Cert.GradXFirstIdeal.cfgs 0).N, ?_, ?_⟩
  · exact (θ_run Cert.GradXFirstIdeal.defs _ _).mono (fun r h c => ⟨fun i _ => congrFun ((h.1 c).1 3) i, h.2 c⟩)
      (θ_run_and (Cert.GradXFirstIdeal.Gen.run_main m g) (Cert.GradXFirstIdeal.Gen.unchanged m g))
  · refine (θ_run Cert.GradXFirstRefIdeal.defs _ _).mono (fun r h c => ?_) (Cert.GradXFirstRefIdeal.Value.run (F := Ideal) m' g')
    obtain ⟨h0, hr⟩ := h c
    obtain ⟨e0, e1, e2⟩ := hagree c
    refine ⟨fun i hi => ?_, hr⟩
    have hi := first_rows_lt _ _ _ i hi
    replace h0 := h0.trans (Cert.GradXFirstRefIdeal.Read.val_main_v24_eq _ _ _)
    rw [e0, e1, e2] at h0
    refine (congrFun h0 i).trans (Eq.trans ?_ (congrFun (Cert.GradXFirstIdeal.Value.final m c) i).symm)
    exact (if_pos hi).symm

/-- The reference of `GradXSecond` runs and leaves its arguments as they were. -/
theorem ref_GradXSecond : Cert.quiescent_GradXSecondRefIdeal := fun m ρ _ =>
  (θ_run Cert.GradXSecondRefIdeal.defs _ _).mono (fun r h => ⟨fun c => (h c).2,
      Idealize.ShloMosaic.sem_eq_zero_of_no_sems (by decide) r.2⟩)
    (Cert.GradXSecondRefIdeal.Value.run (F := Ideal) m ρ)

/-- The second call of the gradient of the activations leaves what its reference computes. -/
theorem alg_GradXSecond : Cert.algebraic_GradXSecondIdeal_GradXSecondRefIdeal := by
  intro m g m' g' hpre hagree
  refine ⟨fun c => (Cert.GradXSecondIdeal.Gen.dats m 0 c).arrAt 3 (Cert.GradXSecondIdeal.cfgs 0).N, ?_, ?_⟩
  · exact (θ_run Cert.GradXSecondIdeal.defs _ _).mono (fun r h c => ⟨(h.1 c).1 3, h.2 c⟩)
      (θ_run_and (Cert.GradXSecondIdeal.Gen.run_main m g) (Cert.GradXSecondIdeal.Gen.unchanged m g))
  · refine (θ_run Cert.GradXSecondRefIdeal.defs _ _).mono (fun r h c => ?_) (Cert.GradXSecondRefIdeal.Value.run (F := Ideal) m' g')
    obtain ⟨h0, hr⟩ := h c
    obtain ⟨e0, e1, e2, e3⟩ := hagree c
    replace h0 := h0.trans (Cert.GradXSecondRefIdeal.Read.val_main_v27_eq _ _ _ _)
    rw [e0, e1, e2, e3] at h0
    exact ⟨h0.trans (Cert.GradXSecondIdeal.Value.whole m c).symm, hr⟩

/-- The reference of `FfnIn` runs and leaves its arguments as they were. -/
theorem ref_FfnIn : Cert.quiescent_FfnInRefIdeal := fun m ρ _ =>
  (θ_run Cert.FfnInRefIdeal.defs _ _).mono (fun r h => ⟨fun c => (h c).2,
      Idealize.ShloMosaic.sem_eq_zero_of_no_sems (by decide) r.2⟩)
    (Cert.FfnInRefIdeal.Value.run (F := Ideal) m ρ)

/-- The call `FfnIn` leaves what its reference computes. -/
theorem alg_FfnIn : Cert.algebraic_FfnInIdeal_FfnInRefIdeal := by
  pair_intro
  · run_from Cert.FfnInIdeal.Gen.run_main m g
  · run_from Cert.FfnInRefIdeal.Value.run m' g'
    exact (Cert.FfnInIdeal.Value.final m c).symm

/-- The reference of `GradWFfnIn` runs and leaves its arguments as they were. -/
theorem ref_GradWFfnIn : Cert.quiescent_GradWFfnInRefIdeal := fun m ρ _ =>
  (θ_run Cert.GradWFfnInRefIdeal.defs _ _).mono (fun r h => ⟨fun c => (h c).2,
      Idealize.ShloMosaic.sem_eq_zero_of_no_sems (by decide) r.2⟩)
    (Cert.GradWFfnInRefIdeal.Value.run (F := Ideal) m ρ)

/-- The gradient of the first weight of the feed-forward layer is what its reference computes. -/
theorem alg_GradWFfnIn : Cert.algebraic_GradWFfnInIdeal_GradWFfnInRefIdeal := by
  intro m g m' g' hpre hagree
  refine ⟨fun c => (Cert.GradWFfnInIdeal.Gen.dats m 0 c).arrAt 3 (Cert.GradWFfnInIdeal.cfgs 0).N, ?_, ?_⟩
  · exact (θ_run Cert.GradWFfnInIdeal.defs _ _).mono (fun r h c => ⟨(h.1 c).1 3, h.2 c⟩)
      (θ_run_and (Cert.GradWFfnInIdeal.Gen.run_main m g) (Cert.GradWFfnInIdeal.Gen.unchanged m g))
  · refine (θ_run Cert.GradWFfnInRefIdeal.defs _ _).mono (fun r h c => ?_) (Cert.GradWFfnInRefIdeal.Value.run (F := Ideal) m' g')
    obtain ⟨h0, hr⟩ := h c
    obtain ⟨e0, e1, e2⟩ := hagree c
    replace h0 := h0.trans (Cert.GradWFfnInRefIdeal.Read.val_main_v6_eq _ _ _)
    rw [e0, e1, e2] at h0
    exact ⟨h0.trans (Cert.GradWFfnInIdeal.Value.final m c).symm, hr⟩

/-- The reference of `GradWFfnOut` runs and leaves its arguments as they were. -/
theorem ref_GradWFfnOut : Cert.quiescent_GradWFfnOutRefIdeal := fun m ρ _ =>
  (θ_run Cert.GradWFfnOutRefIdeal.defs _ _).mono (fun r h => ⟨fun c => (h c).2,
      Idealize.ShloMosaic.sem_eq_zero_of_no_sems (by decide) r.2⟩)
    (Cert.GradWFfnOutRefIdeal.Value.run (F := Ideal) m ρ)

/-- The call `GradWFfnOut` leaves what its reference computes. -/
theorem alg_GradWFfnOut : Cert.algebraic_GradWFfnOutIdeal_GradWFfnOutRefIdeal := by
  pair_intro
  · run_from Cert.GradWFfnOutIdeal.Gen.run_main m g
  · run_from Cert.GradWFfnOutRefIdeal.Value.run m' g'
    exact (Cert.GradWFfnOutIdeal.Value.final m c).symm

/-- The reference of `GradWOut` runs and leaves its arguments as they were. -/
theorem ref_GradWOut : Cert.quiescent_GradWOutRefIdeal := fun m ρ _ =>
  (θ_run Cert.GradWOutRefIdeal.defs _ _).mono (fun r h => ⟨fun c => (h c).2,
      Idealize.ShloMosaic.sem_eq_zero_of_no_sems (by decide) r.2⟩)
    (Cert.GradWOutRefIdeal.Value.run (F := Ideal) m ρ)

/-- The call `GradWOut` leaves what its reference computes. -/
theorem alg_GradWOut : Cert.algebraic_GradWOutIdeal_GradWOutRefIdeal := by
  pair_intro
  · run_from Cert.GradWOutIdeal.Gen.run_main m g
  · run_from Cert.GradWOutRefIdeal.Value.run m' g'
    exact (Cert.GradWOutIdeal.Value.final m c).symm

/-- The reference of `GradWConvOut` runs and leaves its arguments as they were. -/
theorem ref_GradWConvOut : Cert.quiescent_GradWConvOutRefIdeal := fun m ρ _ =>
  (θ_run Cert.GradWConvOutRefIdeal.defs _ _).mono (fun r h => ⟨fun c => (h c).2,
      Idealize.ShloMosaic.sem_eq_zero_of_no_sems (by decide) r.2⟩)
    (Cert.GradWConvOutRefIdeal.Value.run (F := Ideal) m ρ)

/-- The call `GradWConvOut` leaves what its reference computes. -/
theorem alg_GradWConvOut : Cert.algebraic_GradWConvOutIdeal_GradWConvOutRefIdeal := by
  pair_intro
  · run_from Cert.GradWConvOutIdeal.Gen.run_main m g
  · run_from Cert.GradWConvOutRefIdeal.Value.run m' g'
    exact (Cert.GradWConvOutIdeal.Value.final m c).symm

/-- The reference of `GradWHgrnOut` runs and leaves its arguments as they were. -/
theorem ref_GradWHgrnOut : Cert.quiescent_GradWHgrnOutRefIdeal := fun m ρ _ =>
  (θ_run Cert.GradWHgrnOutRefIdeal.defs _ _).mono (fun r h => ⟨fun c => (h c).2,
      Idealize.ShloMosaic.sem_eq_zero_of_no_sems (by decide) r.2⟩)
    (Cert.GradWHgrnOutRefIdeal.Value.run (F := Ideal) m ρ)

/-- The call `GradWHgrnOut` leaves what its reference computes. -/
theorem alg_GradWHgrnOut : Cert.algebraic_GradWHgrnOutIdeal_GradWHgrnOutRefIdeal := by
  pair_intro
  · run_from Cert.GradWHgrnOutIdeal.Gen.run_main m g
  · run_from Cert.GradWHgrnOutRefIdeal.Value.run m' g'
    exact (Cert.GradWHgrnOutIdeal.Value.final m c).symm

/-- The reference of `MergeFwd` runs and leaves its arguments as they were. -/
theorem ref_MergeFwd : Cert.quiescent_MergeFwdRefIdeal := fun m ρ _ =>
  (θ_run Cert.MergeFwdRefIdeal.defs _ _).mono (fun r h => ⟨fun c => (h c).2.2.2.2.2,
      Idealize.ShloMosaic.sem_eq_zero_of_no_sems (by decide) r.2⟩)
    (Cert.MergeFwdRefIdeal.Value.run (F := Ideal) m ρ)

/-- The forward gated merge leaves what its reference computes. -/
theorem alg_MergeFwd : Cert.algebraic_MergeFwdIdeal_MergeFwdRefIdeal := by
  intro m g m' g' hpre hagree
  refine ⟨fun c => (Cert.MergeFwdIdeal.Gen.dats m 0 c).arrAt 10 (Cert.MergeFwdIdeal.cfgs 0).N,
    fun c => (Cert.MergeFwdIdeal.Gen.dats m 0 c).arrAt 11 (Cert.MergeFwdIdeal.cfgs 0).N,
    fun c => (Cert.MergeFwdIdeal.Gen.dats m 0 c).arrAt 12 (Cert.MergeFwdIdeal.cfgs 0).N,
    fun c => (Cert.MergeFwdIdeal.Gen.dats m 0 c).arrAt 13 (Cert.MergeFwdIdeal.cfgs 0).N,
    fun c => (Cert.MergeFwdIdeal.Gen.dats m 0 c).arrAt 14 (Cert.MergeFwdIdeal.cfgs 0).N, ?_, ?_⟩
  · exact (θ_run Cert.MergeFwdIdeal.defs _ _).mono (fun r h c => ⟨(h.1 c).1 10, (h.1 c).1 11, (h.1 c).1 12, (h.1 c).1 13, (h.1 c).1 14, h.2 c⟩)
      (θ_run_and (Cert.MergeFwdIdeal.Gen.run_main m g) (Cert.MergeFwdIdeal.Gen.unchanged m g))
  · refine (θ_run Cert.MergeFwdRefIdeal.defs _ _).mono (fun r h c => ?_) (Cert.MergeFwdRefIdeal.Value.run (F := Ideal) m' g')
    obtain ⟨h0, h1, h2, h3, h4, hr⟩ := h c
    obtain ⟨e0, e1, e2, e3, e4, e5, e6, e7, e8⟩ := hagree c
    replace h0 := h0.trans (Cert.MergeFwdRefIdeal.Read.val_main_v52_eq _ _ _ _)
    rw [e0, e1, e4, e5] at h0
    replace h1 := h1.trans (Cert.MergeFwdRefIdeal.Read.val_main_v21_eq _ _ _ _ _)
    rw [e0, e1, e2, e4, e5] at h1
    replace h2 := h2.trans (Cert.MergeFwdRefIdeal.Read.val_main_v27_eq _ _ _ _ _ _ _)
    rw [e0, e1, e2, e3, e4, e5, e6] at h2
    replace h3 := h3.trans (Cert.MergeFwdRefIdeal.Read.val_main_v49_eq m' c)
    rw [e0, e1, e2, e3, e4, e5, e6, e7, e8] at h3
    replace h4 := h4.trans (Cert.MergeFwdRefIdeal.Read.val_main_v53_eq m' c)
    rw [e0, e1, e2, e3, e4, e5, e6, e7, e8] at h4
    exact ⟨h0.trans (Cert.MergeFwdIdeal.Value.final_10 m c).symm,
      h1.trans (Cert.MergeFwdIdeal.Value.final_11 m c).symm,
      h2.trans (Cert.MergeFwdIdeal.Value.final_12 m c).symm,
      h3.trans (Cert.MergeFwdIdeal.Value.final_13 m c).symm,
      h4.trans (Cert.MergeFwdIdeal.Value.final_14 m c).symm, hr⟩

/-- The reference of `FfnInBwd` runs and leaves its arguments as they were. -/
theorem ref_FfnInBwd : Cert.quiescent_FfnInBwdRefIdeal := fun m ρ _ =>
  (θ_run Cert.FfnInBwdRefIdeal.defs _ _).mono (fun r h => ⟨fun c => (h c).2.2.2.2,
      Idealize.ShloMosaic.sem_eq_zero_of_no_sems (by decide) r.2⟩)
    (Cert.FfnInBwdRefIdeal.Value.run (F := Ideal) m ρ)

/-- The gradient of the normalised input product is what its reference computes, on finite arguments. -/
theorem alg_FfnInBwd : Cert.algebraic_FfnInBwdIdeal_FfnInBwdRefIdeal_pre_inputs_finite := by
  intro m g m' g' hpre hagree
  have hreal : ∀ c, Cert.FfnInBwdIdeal.Value.Reals m c := fun c => by
    obtain ⟨h0, h1, h2, h3, h4, h5⟩ := Cert.Finite.reals _ _ _ _ _ _ (hpre c)
    exact ⟨h0, h1, h2, h3, h4, h5⟩
  refine ⟨fun c => (Cert.FfnInBwdIdeal.Gen.dats m 0 c).arrAt 7 (Cert.FfnInBwdIdeal.cfgs 0).N,
    fun c => (Cert.FfnInBwdIdeal.Gen.dats m 0 c).arrAt 8 (Cert.FfnInBwdIdeal.cfgs 0).N,
    fun c => (Cert.FfnInBwdIdeal.Gen.dats m 0 c).arrAt 9 (Cert.FfnInBwdIdeal.cfgs 0).N,
    fun c => (Cert.FfnInBwdIdeal.Gen.dats m 0 c).arrAt 10 (Cert.FfnInBwdIdeal.cfgs 0).N, ?_, ?_⟩
  · exact (θ_run Cert.FfnInBwdIdeal.defs _ _).mono (fun r h c => ⟨(h.1 c).1 7, (h.1 c).1 8, (h.1 c).1 9, (h.1 c).1 10, h.2 c⟩)
      (θ_run_and (Cert.FfnInBwdIdeal.Gen.run_main m g) (Cert.FfnInBwdIdeal.Gen.unchanged m g))
  · refine (θ_run Cert.FfnInBwdRefIdeal.defs _ _).mono (fun r h c => ?_) (Cert.FfnInBwdRefIdeal.Value.run (F := Ideal) m' g')
    obtain ⟨h0, h1, h2, h3, hr⟩ := h c
    obtain ⟨e0, e1, e2, e3, e4, e5⟩ := hagree c
    replace h0 := h0.trans (Cert.FfnInBwdRefIdeal.Read.val_main_v69_eq m' c)
    rw [e0, e1, e2, e3, e4, e5] at h0
    replace h1 := h1.trans (Cert.FfnInBwdRefIdeal.Read.val_main_v70_eq m' c)
    rw [e0, e1, e2, e3, e4, e5] at h1
    replace h2 := h2.trans (Cert.FfnInBwdRefIdeal.Read.val_main_v43_eq _ _ _ _ _)
    rw [e0, e1, e2, e3, e4] at h2
    replace h3 := h3.trans (Cert.FfnInBwdRefIdeal.Read.val_main_v40_eq _ _ _ _)
    rw [e0, e1, e2, e3] at h3
    exact ⟨h0.trans (Cert.FfnInBwdIdeal.Value.final_7 m c (hreal c)).symm,
      h1.trans (Cert.FfnInBwdIdeal.Value.final_8 m c (hreal c)).symm,
      h2.trans (Cert.FfnInBwdIdeal.Value.final_9 m c).symm,
      h3.trans (Cert.FfnInBwdIdeal.Value.final_10 m c).symm, hr⟩

/-- The reference of `FfnOutLoss` runs and leaves its arguments as they were. -/
theorem ref_FfnOutLoss : Cert.quiescent_FfnOutLossRefIdeal := fun m ρ _ =>
  (θ_run Cert.FfnOutLossRefIdeal.defs _ _).mono (fun r h => ⟨fun c => (h c).2.2.2.2.2,
      Idealize.ShloMosaic.sem_eq_zero_of_no_sems (by decide) r.2⟩)
    (Cert.FfnOutLossRefIdeal.Value.run (F := Ideal) m ρ)

/-- The loss head leaves what its reference computes, on finite arguments. -/
theorem alg_FfnOutLoss : Cert.algebraic_FfnOutLossIdeal_FfnOutLossRefIdeal_pre_head_inputs_finite := by
  intro m g m' g' hpre hagree
  have hreal : ∀ c, Cert.FfnOutLossIdeal.Value.Reals m c := fun c => by
    obtain ⟨h0, h1, h2, h3, h4, h5⟩ := Cert.HeadFinite.reals _ _ _ _ _ _ (hpre c)
    exact ⟨h0, h1, h2, h3, h4, h5⟩
  refine ⟨fun c => (Cert.FfnOutLossIdeal.Gen.dats m 0 c).arrAt 6 (Cert.FfnOutLossIdeal.cfgs 0).N,
    fun c => (Cert.FfnOutLossIdeal.Gen.dats m 0 c).arrAt 7 (Cert.FfnOutLossIdeal.cfgs 0).N,
    fun c => (Cert.FfnOutLossIdeal.Gen.dats m 0 c).arrAt 8 (Cert.FfnOutLossIdeal.cfgs 0).N,
    fun c => (Cert.FfnOutLossIdeal.Gen.dats m 0 c).arrAt 9 (Cert.FfnOutLossIdeal.cfgs 0).N,
    fun c => (Cert.FfnOutLossIdeal.Gen.dats m 0 c).arrAt 10 (Cert.FfnOutLossIdeal.cfgs 0).N, ?_, ?_⟩
  · exact (θ_run Cert.FfnOutLossIdeal.defs _ _).mono (fun r h c => ⟨(h.1 c).1 6, (h.1 c).1 7, (h.1 c).1 8, (h.1 c).1 9, (h.1 c).1 10, h.2 c⟩)
      (θ_run_and (Cert.FfnOutLossIdeal.Gen.run_main m g) (Cert.FfnOutLossIdeal.Gen.unchanged m g))
  · refine (θ_run Cert.FfnOutLossRefIdeal.defs _ _).mono (fun r h c => ?_) (Cert.FfnOutLossRefIdeal.Value.run (F := Ideal) m' g')
    obtain ⟨h0, h1, h2, h3, h4, hr⟩ := h c
    obtain ⟨e0, e1, e2, e3, e4, e5⟩ := hagree c
    replace h0 := h0.trans (Cert.FfnOutLossRefIdeal.Read.val_main_v78_eq m' c)
    rw [e0, e1, e2, e3, e4, e5] at h0
    replace h1 := h1.trans (Cert.FfnOutLossRefIdeal.Read.val_main_v79_eq m' c)
    rw [e0, e1, e2, e3, e4, e5] at h1
    replace h2 := h2.trans (Cert.FfnOutLossRefIdeal.Read.val_main_v80_eq m' c)
    rw [e0, e1, e2, e3, e4, e5] at h2
    replace h3 := h3.trans (Cert.FfnOutLossRefIdeal.Read.val_main_v52_eq m' c)
    rw [e0, e1, e2, e3, e4, e5] at h3
    replace h4 := h4.trans (Cert.FfnOutLossRefIdeal.Read.val_main_v49_eq m' c)
    rw [e0, e1, e2, e3, e4, e5] at h4
    exact ⟨h0.trans (Cert.FfnOutLossIdeal.Value.final_6 m c (hreal c)).symm,
      h1.trans (Cert.FfnOutLossIdeal.Value.final_7 m c (hreal c)).symm,
      h2.trans (Cert.FfnOutLossIdeal.Value.final_8 m c).symm,
      h3.trans (Cert.FfnOutLossIdeal.Value.final_9 m c).symm,
      h4.trans (Cert.FfnOutLossIdeal.Value.final_10 m c).symm, hr⟩

/-- The reference of `AdamwWIn` runs and leaves its arguments as they were. -/
theorem ref_AdamwWIn : Cert.quiescent_AdamwWInRefIdeal := fun m ρ _ =>
  (θ_run Cert.AdamwWInRefIdeal.defs _ _).mono (fun r h => ⟨fun c => (h c).2.2.2,
      Idealize.ShloMosaic.sem_eq_zero_of_no_sems (by decide) r.2⟩)
    (Cert.AdamwWInRefIdeal.Value.run (F := Ideal) m ρ)

/-- The call `AdamwWIn` leaves what its reference computes. -/
theorem alg_AdamwWIn : Cert.algebraic_AdamwWInIdeal_AdamwWInRefIdeal := by
  pair_intro
  · run_from Cert.AdamwWInIdeal.Gen.run_main m g
  · run_from Cert.AdamwWInRefIdeal.Value.run m' g'
    · exact (Cert.AdamwWInIdeal.Value.final_4 m c).symm
    · exact (Cert.AdamwWInIdeal.Value.final_5 m c).symm
    · exact (Cert.AdamwWInIdeal.Value.final_6 m c).symm

/-- The reference of `AdamwWConvDw` runs and leaves its arguments as they were. -/
theorem ref_AdamwWConvDw : Cert.quiescent_AdamwWConvDwRefIdeal := fun m ρ _ =>
  (θ_run Cert.AdamwWConvDwRefIdeal.defs _ _).mono (fun r h => ⟨fun c => (h c).2.2.2,
      Idealize.ShloMosaic.sem_eq_zero_of_no_sems (by decide) r.2⟩)
    (Cert.AdamwWConvDwRefIdeal.Value.run (F := Ideal) m ρ)

/-- The call `AdamwWConvDw` leaves what its reference computes. -/
theorem alg_AdamwWConvDw : Cert.algebraic_AdamwWConvDwIdeal_AdamwWConvDwRefIdeal := by
  pair_intro
  · run_from Cert.AdamwWConvDwIdeal.Gen.run_main m g
  · run_from Cert.AdamwWConvDwRefIdeal.Value.run m' g'
    · exact (Cert.AdamwWConvDwIdeal.Value.final_4 m c).symm
    · exact (Cert.AdamwWConvDwIdeal.Value.final_5 m c).symm
    · exact (Cert.AdamwWConvDwIdeal.Value.final_6 m c).symm

/-- The reference of `AdamwWConvOut` runs and leaves its arguments as they were. -/
theorem ref_AdamwWConvOut : Cert.quiescent_AdamwWConvOutRefIdeal := fun m ρ _ =>
  (θ_run Cert.AdamwWConvOutRefIdeal.defs _ _).mono (fun r h => ⟨fun c => (h c).2.2.2,
      Idealize.ShloMosaic.sem_eq_zero_of_no_sems (by decide) r.2⟩)
    (Cert.AdamwWConvOutRefIdeal.Value.run (F := Ideal) m ρ)

/-- The call `AdamwWConvOut` leaves what its reference computes. -/
theorem alg_AdamwWConvOut : Cert.algebraic_AdamwWConvOutIdeal_AdamwWConvOutRefIdeal := by
  pair_intro
  · run_from Cert.AdamwWConvOutIdeal.Gen.run_main m g
  · run_from Cert.AdamwWConvOutRefIdeal.Value.run m' g'
    · exact (Cert.AdamwWConvOutIdeal.Value.final_4 m c).symm
    · exact (Cert.AdamwWConvOutIdeal.Value.final_5 m c).symm
    · exact (Cert.AdamwWConvOutIdeal.Value.final_6 m c).symm

/-- The reference of `AdamwWOut` runs and leaves its arguments as they were. -/
theorem ref_AdamwWOut : Cert.quiescent_AdamwWOutRefIdeal := fun m ρ _ =>
  (θ_run Cert.AdamwWOutRefIdeal.defs _ _).mono (fun r h => ⟨fun c => (h c).2.2.2,
      Idealize.ShloMosaic.sem_eq_zero_of_no_sems (by decide) r.2⟩)
    (Cert.AdamwWOutRefIdeal.Value.run (F := Ideal) m ρ)

/-- The call `AdamwWOut` leaves what its reference computes. -/
theorem alg_AdamwWOut : Cert.algebraic_AdamwWOutIdeal_AdamwWOutRefIdeal := by
  pair_intro
  · run_from Cert.AdamwWOutIdeal.Gen.run_main m g
  · run_from Cert.AdamwWOutRefIdeal.Value.run m' g'
    · exact (Cert.AdamwWOutIdeal.Value.final_4 m c).symm
    · exact (Cert.AdamwWOutIdeal.Value.final_5 m c).symm
    · exact (Cert.AdamwWOutIdeal.Value.final_6 m c).symm

/-- The reference of `AdamwWFfnIn` runs and leaves its arguments as they were. -/
theorem ref_AdamwWFfnIn : Cert.quiescent_AdamwWFfnInRefIdeal := fun m ρ _ =>
  (θ_run Cert.AdamwWFfnInRefIdeal.defs _ _).mono (fun r h => ⟨fun c => (h c).2.2.2,
      Idealize.ShloMosaic.sem_eq_zero_of_no_sems (by decide) r.2⟩)
    (Cert.AdamwWFfnInRefIdeal.Value.run (F := Ideal) m ρ)

/-- The call `AdamwWFfnIn` leaves what its reference computes. -/
theorem alg_AdamwWFfnIn : Cert.algebraic_AdamwWFfnInIdeal_AdamwWFfnInRefIdeal := by
  pair_intro
  · run_from Cert.AdamwWFfnInIdeal.Gen.run_main m g
  · run_from Cert.AdamwWFfnInRefIdeal.Value.run m' g'
    · exact (Cert.AdamwWFfnInIdeal.Value.final_4 m c).symm
    · exact (Cert.AdamwWFfnInIdeal.Value.final_5 m c).symm
    · exact (Cert.AdamwWFfnInIdeal.Value.final_6 m c).symm

/-- The reference of `AdamwWFfnDw` runs and leaves its arguments as they were. -/
theorem ref_AdamwWFfnDw : Cert.quiescent_AdamwWFfnDwRefIdeal := fun m ρ _ =>
  (θ_run Cert.AdamwWFfnDwRefIdeal.defs _ _).mono (fun r h => ⟨fun c => (h c).2.2.2,
      Idealize.ShloMosaic.sem_eq_zero_of_no_sems (by decide) r.2⟩)
    (Cert.AdamwWFfnDwRefIdeal.Value.run (F := Ideal) m ρ)

/-- The call `AdamwWFfnDw` leaves what its reference computes. -/
theorem alg_AdamwWFfnDw : Cert.algebraic_AdamwWFfnDwIdeal_AdamwWFfnDwRefIdeal := by
  pair_intro
  · run_from Cert.AdamwWFfnDwIdeal.Gen.run_main m g
  · run_from Cert.AdamwWFfnDwRefIdeal.Value.run m' g'
    · exact (Cert.AdamwWFfnDwIdeal.Value.final_4 m c).symm
    · exact (Cert.AdamwWFfnDwIdeal.Value.final_5 m c).symm
    · exact (Cert.AdamwWFfnDwIdeal.Value.final_6 m c).symm

/-- The reference of `AdamwWFfnOut` runs and leaves its arguments as they were. -/
theorem ref_AdamwWFfnOut : Cert.quiescent_AdamwWFfnOutRefIdeal := fun m ρ _ =>
  (θ_run Cert.AdamwWFfnOutRefIdeal.defs _ _).mono (fun r h => ⟨fun c => (h c).2.2.2,
      Idealize.ShloMosaic.sem_eq_zero_of_no_sems (by decide) r.2⟩)
    (Cert.AdamwWFfnOutRefIdeal.Value.run (F := Ideal) m ρ)

/-- The call `AdamwWFfnOut` leaves what its reference computes. -/
theorem alg_AdamwWFfnOut : Cert.algebraic_AdamwWFfnOutIdeal_AdamwWFfnOutRefIdeal := by
  pair_intro
  · run_from Cert.AdamwWFfnOutIdeal.Gen.run_main m g
  · run_from Cert.AdamwWFfnOutRefIdeal.Value.run m' g'
    · exact (Cert.AdamwWFfnOutIdeal.Value.final_4 m c).symm
    · exact (Cert.AdamwWFfnOutIdeal.Value.final_5 m c).symm
    · exact (Cert.AdamwWFfnOutIdeal.Value.final_6 m c).symm

/-- The reference of `AdamwSmall` runs and leaves its arguments as they were. -/
theorem ref_AdamwSmall : Cert.quiescent_AdamwSmallRefIdeal := fun m ρ _ =>
  (θ_run Cert.AdamwSmallRefIdeal.defs _ _).mono (fun r h => ⟨fun c => (h c).2.2.2,
      Idealize.ShloMosaic.sem_eq_zero_of_no_sems (by decide) r.2⟩)
    (Cert.AdamwSmallRefIdeal.Value.run (F := Ideal) m ρ)

/-- The call `AdamwSmall` leaves what its reference computes. -/
theorem alg_AdamwSmall : Cert.algebraic_AdamwSmallIdeal_AdamwSmallRefIdeal := by
  pair_intro
  · run_from Cert.AdamwSmallIdeal.Gen.run_main m g
  · run_from Cert.AdamwSmallRefIdeal.Value.run m' g'
    · exact (Cert.AdamwSmallIdeal.Value.final_4 m c).symm
    · exact (Cert.AdamwSmallIdeal.Value.final_5 m c).symm
    · exact (Cert.AdamwSmallIdeal.Value.final_6 m c).symm

/-- The reference of `Proj` runs and leaves its arguments as they were. -/
theorem ref_Proj : Cert.quiescent_ProjRefIdeal := fun m ρ _ =>
  (θ_run Cert.ProjRefIdeal.defs _ _).mono (fun r h => ⟨fun c => (h c).2.2,
      Idealize.ShloMosaic.sem_eq_zero_of_no_sems (by decide) r.2⟩)
    (Cert.ProjRefIdeal.Value.run (F := Ideal) m ρ)

/-- The call `Proj` leaves what its reference computes. -/
theorem alg_Proj : Cert.algebraic_ProjIdeal_ProjRefIdeal := by
  pair_intro
  · run_from Cert.ProjIdeal.Body.run_main m g
  · run_from Cert.ProjRefIdeal.Value.run m' g'
    · exact (Cert.ProjIdeal.Value.final_2 m c).symm
    · exact (Cert.ProjIdeal.Value.final_3 m c).symm

/-- The reference of `FfnBwdB` runs and leaves its arguments as they were. -/
theorem ref_FfnBwdB : Cert.quiescent_FfnBwdBRefIdeal := fun m ρ _ =>
  (θ_run Cert.FfnBwdBRefIdeal.defs _ _).mono (fun r h => ⟨fun c => (h c).2,
      Idealize.ShloMosaic.sem_eq_zero_of_no_sems (by decide) r.2⟩)
    (Cert.FfnBwdBRefIdeal.Value.run (F := Ideal) m ρ)

/-- The call `FfnBwdB` leaves what its reference computes. -/
theorem alg_FfnBwdB : Cert.algebraic_FfnBwdBIdeal_FfnBwdBRefIdeal := by
  pair_intro
  · run_from Cert.FfnBwdBIdeal.Gen.run_main m g
  · run_from Cert.FfnBwdBRefIdeal.Value.run m' g'
    exact (Cert.FfnBwdBIdeal.Value.final m c).symm

/-- The reference of `FfnMid` runs and leaves its arguments as they were. -/
theorem ref_FfnMid : Cert.quiescent_FfnMidRefIdeal := fun m ρ _ =>
  (θ_run Cert.FfnMidRefIdeal.defs _ _).mono (fun r h => ⟨fun c => (h c).2,
      Idealize.ShloMosaic.sem_eq_zero_of_no_sems (by decide) r.2⟩)
    (Cert.FfnMidRefIdeal.Value.run (F := Ideal) m ρ)

/-- The middle of the channel mixer leaves what its reference computes. -/
theorem alg_FfnMid : Cert.algebraic_FfnMidIdeal_FfnMidRefIdeal := by
  intro m g m' g' hpre hagree
  refine ⟨fun c => (Cert.FfnMidIdeal.Gen.dats m 0 c).arrAt 4 (Cert.FfnMidIdeal.cfgs 0).N, ?_, ?_⟩
  · exact (θ_run Cert.FfnMidIdeal.defs _ _).mono (fun r h c => ⟨(h.1 c).1 4, h.2 c⟩)
      (θ_run_and (Cert.FfnMidIdeal.Gen.run_main m g) (Cert.FfnMidIdeal.Gen.unchanged m g))
  · refine (θ_run Cert.FfnMidRefIdeal.defs _ _).mono (fun r h c => ?_) (Cert.FfnMidRefIdeal.Value.run (F := Ideal) m' g')
    obtain ⟨h0, hr⟩ := h c
    obtain ⟨e0, e1, e2⟩ := hagree c
    replace h0 := h0.trans (Cert.FfnMidRefIdeal.Read.val_main_v42_eq m' c)
    rw [e0, e1, e2] at h0
    exact ⟨h0.trans (Cert.FfnMidIdeal.Value.final m c).symm, hr⟩

/-- The one named constant of `FfnMid`: the product of gelu's two constants. -/
theorem preserves_FfnMid : Cert.preserves_FfnMid_FfnMidIdeal :=
  IdealRules.named_const.statement Cert.FfnMidIdeal.κ "gelu_ca" .f32 0x3D122279#32
    ((80338380498831 / 2251799813685248 : ℝ) : EReal) rfl

/-- The reference of `ConvFwd` runs and leaves its arguments as they were. -/
theorem ref_ConvFwd : Cert.quiescent_ConvFwdRefIdeal := fun m ρ _ =>
  (θ_run Cert.ConvFwdRefIdeal.defs _ _).mono (fun r h => ⟨fun c => (h c).2.2,
      Idealize.ShloMosaic.sem_eq_zero_of_no_sems (by decide) r.2⟩)
    (Cert.ConvFwdRefIdeal.Value.run (F := Ideal) m ρ)

/-- The convolution branch leaves what its reference computes. -/
theorem alg_ConvFwd : Cert.algebraic_ConvFwdIdeal_ConvFwdRefIdeal := by
  intro m g m' g' hpre hagree
  refine ⟨fun c => (Cert.ConvFwdIdeal.Gen.dats m 0 c).arrAt 6 (Cert.ConvFwdIdeal.cfgs 0).N,
    fun c => (Cert.ConvFwdIdeal.Gen.dats m 0 c).arrAt 7 (Cert.ConvFwdIdeal.cfgs 0).N, ?_, ?_⟩
  · exact (θ_run Cert.ConvFwdIdeal.defs _ _).mono (fun r h c => ⟨(h.1 c).1 6, (h.1 c).1 7, h.2 c⟩)
      (θ_run_and (Cert.ConvFwdIdeal.Gen.run_main m g) (Cert.ConvFwdIdeal.Gen.unchanged m g))
  · refine (θ_run Cert.ConvFwdRefIdeal.defs _ _).mono (fun r h c => ?_) (Cert.ConvFwdRefIdeal.Value.run (F := Ideal) m' g')
    obtain ⟨h0, h1, hr⟩ := h c
    obtain ⟨e0, e1, e2, e3, e4⟩ := hagree c
    replace h0 := h0.trans (Cert.ConvFwdRefIdeal.Read.val_main_v168_eq _)
    change _ = Cert.ConvFwdRefIdeal.Read.val_main_v168 (F := Ideal) (m' ((c.tc : Thread Cert.ConvFwdRefIdeal.nD Cert.ConvFwdRefIdeal.τ).loc Cert.ConvFwdRefIdeal.main_arg0))
      (m' ((c.tc : Thread Cert.ConvFwdRefIdeal.nD Cert.ConvFwdRefIdeal.τ).loc Cert.ConvFwdRefIdeal.main_arg1))
      (m' ((c.tc : Thread Cert.ConvFwdRefIdeal.nD Cert.ConvFwdRefIdeal.τ).loc Cert.ConvFwdRefIdeal.main_arg2)) at h0
    rw [e0, e1, e2] at h0
    replace h1 := h1.trans (Cert.ConvFwdRefIdeal.Read.val_main_v198_eq _)
    change _ = Cert.ConvFwdRefIdeal.Read.val_main_v198 (F := Ideal) (m' ((c.tc : Thread Cert.ConvFwdRefIdeal.nD Cert.ConvFwdRefIdeal.τ).loc Cert.ConvFwdRefIdeal.main_arg0))
      (m' ((c.tc : Thread Cert.ConvFwdRefIdeal.nD Cert.ConvFwdRefIdeal.τ).loc Cert.ConvFwdRefIdeal.main_arg1))
      (m' ((c.tc : Thread Cert.ConvFwdRefIdeal.nD Cert.ConvFwdRefIdeal.τ).loc Cert.ConvFwdRefIdeal.main_arg2))
      (m' ((c.tc : Thread Cert.ConvFwdRefIdeal.nD Cert.ConvFwdRefIdeal.τ).loc Cert.ConvFwdRefIdeal.main_arg3))
      (m' ((c.tc : Thread Cert.ConvFwdRefIdeal.nD Cert.ConvFwdRefIdeal.τ).loc Cert.ConvFwdRefIdeal.main_arg4)) at h1
    rw [e0, e1, e2, e3, e4] at h1
    exact ⟨h0.trans (Cert.ConvFwdIdeal.Value.final_6 m c).symm, h1.trans (Cert.ConvFwdIdeal.Value.final_7 m c).symm, hr⟩

/-- Everything the certificate states. -/
theorem claim : Cert.Claim := ⟨Cert.MergeBwd.Gen.facts, Cert.MergeBwdIdeal.Gen.facts, Cert.MergeBwdRefIdeal.Gen.facts, Cert.GradWIn.Gen.facts, Cert.GradWInIdeal.Gen.facts, Cert.GradWInRefIdeal.Gen.facts, Cert.GradXFirst.Gen.facts, Cert.GradXFirstIdeal.Gen.facts, Cert.GradXFirstRefIdeal.Gen.facts, Cert.GradXSecond.Gen.facts, Cert.GradXSecondIdeal.Gen.facts, Cert.GradXSecondRefIdeal.Gen.facts, Cert.FfnIn.Gen.facts, Cert.FfnInIdeal.Gen.facts, Cert.FfnInRefIdeal.Gen.facts, Cert.GradWFfnIn.Gen.facts, Cert.GradWFfnInIdeal.Gen.facts, Cert.GradWFfnInRefIdeal.Gen.facts, Cert.GradWFfnOut.Gen.facts, Cert.GradWFfnOutIdeal.Gen.facts, Cert.GradWFfnOutRefIdeal.Gen.facts, Cert.GradWOut.Gen.facts, Cert.GradWOutIdeal.Gen.facts, Cert.GradWOutRefIdeal.Gen.facts, Cert.GradWConvOut.Gen.facts, Cert.GradWConvOutIdeal.Gen.facts, Cert.GradWConvOutRefIdeal.Gen.facts, Cert.GradWHgrnOut.Gen.facts, Cert.GradWHgrnOutIdeal.Gen.facts, Cert.GradWHgrnOutRefIdeal.Gen.facts, Cert.MergeFwd.Gen.facts, Cert.MergeFwdIdeal.Gen.facts, Cert.MergeFwdRefIdeal.Gen.facts, Cert.FfnInBwd.Gen.facts, Cert.FfnInBwdIdeal.Gen.facts, Cert.FfnInBwdRefIdeal.Gen.facts, Cert.FfnOutLoss.Gen.facts, Cert.FfnOutLossIdeal.Gen.facts, Cert.FfnOutLossRefIdeal.Gen.facts, Cert.AdamwWIn.Gen.facts, Cert.AdamwWInIdeal.Gen.facts, Cert.AdamwWInRefIdeal.Gen.facts, Cert.AdamwWConvDw.Gen.facts, Cert.AdamwWConvDwIdeal.Gen.facts, Cert.AdamwWConvDwRefIdeal.Gen.facts, Cert.AdamwWConvOut.Gen.facts, Cert.AdamwWConvOutIdeal.Gen.facts, Cert.AdamwWConvOutRefIdeal.Gen.facts, Cert.AdamwWOut.Gen.facts, Cert.AdamwWOutIdeal.Gen.facts, Cert.AdamwWOutRefIdeal.Gen.facts, Cert.AdamwWFfnIn.Gen.facts, Cert.AdamwWFfnInIdeal.Gen.facts, Cert.AdamwWFfnInRefIdeal.Gen.facts, Cert.AdamwWFfnDw.Gen.facts, Cert.AdamwWFfnDwIdeal.Gen.facts, Cert.AdamwWFfnDwRefIdeal.Gen.facts, Cert.AdamwWFfnOut.Gen.facts, Cert.AdamwWFfnOutIdeal.Gen.facts, Cert.AdamwWFfnOutRefIdeal.Gen.facts, Cert.AdamwSmall.Gen.facts, Cert.AdamwSmallIdeal.Gen.facts, Cert.AdamwSmallRefIdeal.Gen.facts, Cert.Proj.Gen.facts, Cert.ProjIdeal.Gen.facts, Cert.ProjRefIdeal.Gen.facts, Cert.FfnBwdB.Gen.facts, Cert.FfnBwdBIdeal.Gen.facts, Cert.FfnBwdBRefIdeal.Gen.facts, Cert.FfnMid.Gen.facts, Cert.FfnMidIdeal.Gen.facts, Cert.FfnMidRefIdeal.Gen.facts, Cert.ConvFwd.Gen.facts, Cert.ConvFwdIdeal.Gen.facts, Cert.ConvFwdRefIdeal.Gen.facts, Cert.Pre_inputs_finite.Gen.facts, Cert.Pre_head_inputs_finite.Gen.facts, Cert.On_merge_written.Gen.facts, Cert.On_first_rows.Gen.facts,
  fun m ρ _ => Cert.MergeBwd.Gen.frame m ρ,
  fun m ρ _ => Cert.MergeBwdIdeal.Gen.frame m ρ,
  ref_MergeBwd,
  fun m ρ _ => Cert.GradWIn.Gen.frame m ρ,
  fun m ρ _ => Cert.GradWInIdeal.Gen.frame m ρ,
  ref_GradWIn,
  fun m ρ _ => Cert.GradXFirst.Gen.frame m ρ,
  fun m ρ _ => Cert.GradXFirstIdeal.Gen.frame m ρ,
  ref_GradXFirst,
  fun m ρ _ => Cert.GradXSecond.Gen.frame m ρ,
  fun m ρ _ => Cert.GradXSecondIdeal.Gen.frame m ρ,
  ref_GradXSecond,
  fun m ρ _ => Cert.FfnIn.Gen.frame m ρ,
  fun m ρ _ => Cert.FfnInIdeal.Gen.frame m ρ,
  ref_FfnIn,
  fun m ρ _ => Cert.GradWFfnIn.Gen.frame m ρ,
  fun m ρ _ => Cert.GradWFfnInIdeal.Gen.frame m ρ,
  ref_GradWFfnIn,
  fun m ρ _ => Cert.GradWFfnOut.Gen.frame m ρ,
  fun m ρ _ => Cert.GradWFfnOutIdeal.Gen.frame m ρ,
  ref_GradWFfnOut,
  fun m ρ _ => Cert.GradWOut.Gen.frame m ρ,
  fun m ρ _ => Cert.GradWOutIdeal.Gen.frame m ρ,
  ref_GradWOut,
  fun m ρ _ => Cert.GradWConvOut.Gen.frame m ρ,
  fun m ρ _ => Cert.GradWConvOutIdeal.Gen.frame m ρ,
  ref_GradWConvOut,
  fun m ρ _ => Cert.GradWHgrnOut.Gen.frame m ρ,
  fun m ρ _ => Cert.GradWHgrnOutIdeal.Gen.frame m ρ,
  ref_GradWHgrnOut,
  fun m ρ _ => Cert.MergeFwd.Gen.frame m ρ,
  fun m ρ _ => Cert.MergeFwdIdeal.Gen.frame m ρ,
  ref_MergeFwd,
  fun m ρ _ => Cert.FfnInBwd.Gen.frame m ρ,
  fun m ρ _ => Cert.FfnInBwdIdeal.Gen.frame m ρ,
  fun m ρ _ => Cert.FfnInBwdIdeal.Gen.frame m ρ,
  ref_FfnInBwd,
  fun m ρ _ => ref_FfnInBwd m ρ trivial,
  fun m ρ _ => Cert.FfnOutLoss.Gen.frame m ρ,
  fun m ρ _ => Cert.FfnOutLossIdeal.Gen.frame m ρ,
  fun m ρ _ => Cert.FfnOutLossIdeal.Gen.frame m ρ,
  ref_FfnOutLoss,
  fun m ρ _ => ref_FfnOutLoss m ρ trivial,
  fun m ρ _ => Cert.AdamwWIn.Gen.frame m ρ,
  fun m ρ _ => Cert.AdamwWInIdeal.Gen.frame m ρ,
  ref_AdamwWIn,
  fun m ρ _ => Cert.AdamwWConvDw.Gen.frame m ρ,
  fun m ρ _ => Cert.AdamwWConvDwIdeal.Gen.frame m ρ,
  ref_AdamwWConvDw,
  fun m ρ _ => Cert.AdamwWConvOut.Gen.frame m ρ,
  fun m ρ _ => Cert.AdamwWConvOutIdeal.Gen.frame m ρ,
  ref_AdamwWConvOut,
  fun m ρ _ => Cert.AdamwWOut.Gen.frame m ρ,
  fun m ρ _ => Cert.AdamwWOutIdeal.Gen.frame m ρ,
  ref_AdamwWOut,
  fun m ρ _ => Cert.AdamwWFfnIn.Gen.frame m ρ,
  fun m ρ _ => Cert.AdamwWFfnInIdeal.Gen.frame m ρ,
  ref_AdamwWFfnIn,
  fun m ρ _ => Cert.AdamwWFfnDw.Gen.frame m ρ,
  fun m ρ _ => Cert.AdamwWFfnDwIdeal.Gen.frame m ρ,
  ref_AdamwWFfnDw,
  fun m ρ _ => Cert.AdamwWFfnOut.Gen.frame m ρ,
  fun m ρ _ => Cert.AdamwWFfnOutIdeal.Gen.frame m ρ,
  ref_AdamwWFfnOut,
  fun m ρ _ => Cert.AdamwSmall.Gen.frame m ρ,
  fun m ρ _ => Cert.AdamwSmallIdeal.Gen.frame m ρ,
  ref_AdamwSmall,
  fun m ρ _ => Cert.Proj.Body.frame m ρ,
  fun m ρ _ => Cert.ProjIdeal.Body.frame m ρ,
  ref_Proj,
  fun m ρ _ => Cert.FfnBwdB.Gen.frame m ρ,
  fun m ρ _ => Cert.FfnBwdBIdeal.Gen.frame m ρ,
  ref_FfnBwdB,
  fun m ρ _ => Cert.FfnMid.Gen.frame m ρ,
  fun m ρ _ => Cert.FfnMidIdeal.Gen.frame m ρ,
  ref_FfnMid,
  fun m ρ _ => Cert.ConvFwd.Gen.frame m ρ,
  fun m ρ _ => Cert.ConvFwdIdeal.Gen.frame m ρ,
  ref_ConvFwd,
  trivial,
  alg_MergeBwd,
  trivial,
  alg_GradWIn,
  trivial,
  alg_GradXFirst,
  trivial,
  alg_GradXSecond,
  trivial,
  alg_FfnIn,
  trivial,
  alg_GradWFfnIn,
  trivial,
  alg_GradWFfnOut,
  trivial,
  alg_GradWOut,
  trivial,
  alg_GradWConvOut,
  trivial,
  alg_GradWHgrnOut,
  trivial,
  alg_MergeFwd,
  trivial,
  alg_FfnInBwd,
  trivial,
  alg_FfnOutLoss,
  trivial,
  alg_AdamwWIn,
  trivial,
  alg_AdamwWConvDw,
  trivial,
  alg_AdamwWConvOut,
  trivial,
  alg_AdamwWOut,
  trivial,
  alg_AdamwWFfnIn,
  trivial,
  alg_AdamwWFfnDw,
  trivial,
  alg_AdamwWFfnOut,
  trivial,
  alg_AdamwSmall,
  trivial,
  alg_Proj,
  trivial,
  alg_FfnBwdB,
  preserves_FfnMid,
  alg_FfnMid,
  trivial,
  alg_ConvFwd⟩

end Cert.Proof

end
